-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x8192 : Shape := ⟨2, ![128, 8192]⟩
abbrev S128x128 : Shape := ⟨2, ![128, 128]⟩
abbrev S3x128x2176 : Shape := ⟨3, ![3, 128, 2176]⟩
abbrev S8192x14336 : Shape := ⟨2, ![8192, 14336]⟩
abbrev S14336 : Shape := ⟨1, ![14336]⟩
abbrev S30240x8192 : Shape := ⟨2, ![30240, 8192]⟩
abbrev S120x8192 : Shape := ⟨2, ![120, 8192]⟩
abbrev S7168x8192 : Shape := ⟨2, ![7168, 8192]⟩
abbrev S8192 : Shape := ⟨1, ![8192]⟩
abbrev S704 : Shape := ⟨1, ![704]⟩
abbrev S45 : Shape := ⟨1, ![45]⟩
abbrev S1x14336 : Shape := ⟨2, ![1, 14336]⟩
abbrev S1x8192 : Shape := ⟨2, ![1, 8192]⟩
abbrev S120x7168 : Shape := ⟨2, ![120, 7168]⟩
abbrev S1x120 : Shape := ⟨2, ![1, 120]⟩
abbrev S2x120x512 : Shape := ⟨3, ![2, 120, 512]⟩
abbrev S106496x256 : Shape := ⟨2, ![106496, 256]⟩
abbrev S64 : Shape := ⟨1, ![64]⟩
abbrev S_ : Shape := ⟨0, ![]⟩
abbrev S2x2 : Shape := ⟨2, ![2, 2]⟩
abbrev S1 : Shape := ⟨1, ![1]⟩
abbrev S2176x256 : Shape := ⟨2, ![2176, 256]⟩
abbrev S8192x256 : Shape := ⟨2, ![8192, 256]⟩
abbrev S7168x256 : Shape := ⟨2, ![7168, 256]⟩
abbrev S1x256 : Shape := ⟨2, ![1, 256]⟩
abbrev S1x512 : Shape := ⟨2, ![1, 512]⟩
abbrev S8192x512 : Shape := ⟨2, ![8192, 512]⟩
abbrev S128x512 : Shape := ⟨2, ![128, 512]⟩
abbrev S1x128x2176 : Shape := ⟨3, ![1, 128, 2176]⟩
abbrev S128x2176 : Shape := ⟨2, ![128, 2176]⟩
abbrev S128x256 : Shape := ⟨2, ![128, 256]⟩
abbrev S128x1 : Shape := ⟨2, ![128, 1]⟩
abbrev S120x256 : Shape := ⟨2, ![120, 256]⟩
abbrev S32x128 : Shape := ⟨2, ![32, 128]⟩
abbrev S32x1024 : Shape := ⟨2, ![32, 1024]⟩
abbrev S32 : Shape := ⟨1, ![32]⟩
abbrev S32x1 : Shape := ⟨2, ![32, 1]⟩
abbrev S24x128 : Shape := ⟨2, ![24, 128]⟩
abbrev S24x1024 : Shape := ⟨2, ![24, 1024]⟩
abbrev S24 : Shape := ⟨1, ![24]⟩
abbrev S24x1 : Shape := ⟨2, ![24, 1]⟩
abbrev S7168x512 : Shape := ⟨2, ![7168, 512]⟩
abbrev S128x7168 : Shape := ⟨2, ![128, 7168]⟩
abbrev S2176x512 : Shape := ⟨2, ![2176, 512]⟩
abbrev S1x1 : Shape := ⟨2, ![1, 1]⟩
abbrev S120x512 : Shape := ⟨2, ![120, 512]⟩
abbrev S1x120x512 : Shape := ⟨3, ![1, 120, 512]⟩

abbrev nBuf : Space → Nat
  | .hbm => 18
  | .vmem => 16
  | .smem => 2
  | _ => 0

abbrev bufTy : (tb : Table) → Fin (tcTables nBuf tb) → BufTy
  | .hbm, ⟨0, _⟩ => ⟨S128x8192, .fp8e4m3⟩
  | .hbm, ⟨1, _⟩ => ⟨S128x128, .f32⟩
  | .hbm, ⟨2, _⟩ => ⟨S3x128x2176, .bf16⟩
  | .hbm, ⟨3, _⟩ => ⟨S8192x14336, .fp8e4m3⟩
  | .hbm, ⟨4, _⟩ => ⟨S14336, .f32⟩
  | .hbm, ⟨5, _⟩ => ⟨S30240x8192, .i8⟩
  | .hbm, ⟨6, _⟩ => ⟨S120x8192, .f32⟩
  | .hbm, ⟨7, _⟩ => ⟨S7168x8192, .fp8e4m3⟩
  | .hbm, ⟨8, _⟩ => ⟨S8192, .f32⟩
  | .hbm, ⟨9, _⟩ => ⟨S704, .i32⟩
  | .hbm, ⟨10, _⟩ => ⟨S45, .i32⟩
  | .hbm, ⟨11, _⟩ => ⟨S1x14336, .f32⟩
  | .hbm, ⟨12, _⟩ => ⟨S1x8192, .f32⟩
  | .hbm, ⟨13, _⟩ => ⟨S120x7168, .f32⟩
  | .hbm, ⟨14, _⟩ => ⟨S120x7168, .fp8e4m3⟩
  | .hbm, ⟨15, _⟩ => ⟨S1x120, .f32⟩
  | .hbm, ⟨16, _⟩ => ⟨S120x8192, .bf16⟩
  | .hbm, ⟨17, _⟩ => ⟨S120x8192, .f32⟩
  | .local _ .vmem, ⟨0, _⟩ => ⟨S1x14336, .f32⟩
  | .local _ .vmem, ⟨1, _⟩ => ⟨S128x8192, .fp8e4m3⟩
  | .local _ .vmem, ⟨2, _⟩ => ⟨S128x128, .f32⟩
  | .local _ .vmem, ⟨3, _⟩ => ⟨S3x128x2176, .bf16⟩
  | .local _ .vmem, ⟨4, _⟩ => ⟨S1x8192, .f32⟩
  | .local _ .vmem, ⟨5, _⟩ => ⟨S120x8192, .f32⟩
  | .local _ .vmem, ⟨6, _⟩ => ⟨S120x7168, .f32⟩
  | .local _ .vmem, ⟨7, _⟩ => ⟨S1x120, .f32⟩
  | .local _ .vmem, ⟨8, _⟩ => ⟨S128x8192, .bf16⟩
  | .local _ .vmem, ⟨9, _⟩ => ⟨S128x8192, .fp8e4m3⟩
  | .local _ .vmem, ⟨10, _⟩ => ⟨S120x8192, .fp8e4m3⟩
  | .local _ .vmem, ⟨11, _⟩ => ⟨S2x120x512, .bf16⟩
  | .local _ .vmem, ⟨12, _⟩ => ⟨S2x120x512, .f32⟩
  | .local _ .vmem, ⟨13, _⟩ => ⟨S128x128, .f32⟩
  | .local _ .vmem, ⟨14, _⟩ => ⟨S106496x256, .fp8e4m3⟩
  | .local _ .vmem, ⟨15, _⟩ => ⟨S106496x256, .i8⟩
  | .local _ .smem, ⟨0, _⟩ => ⟨S704, .i32⟩
  | .local _ .smem, ⟨1, _⟩ => ⟨S45, .i32⟩
  | _, _ => ⟨S128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop (v0 : BitVec 32) : Scf.Loop 32 :=
  let c0_i32_0 : BitVec 32 := 0#32
  let v1 : BitVec 32 := Scalar.subi v0 c0_i32_0
  let c1_i32 : BitVec 32 := 1#32
  let v3 : BitVec 32 := Scalar.divsi v1 c1_i32
  let v4 : BitVec 32 := Scalar.muli v3 c1_i32
  let v5 : BitVec 32 := Scalar.addi c0_i32_0 v4
  let c1_i32_1 : BitVec 32 := 1#32
  ⟨c0_i32_0, v5, c1_i32_1⟩

def k0_off1 (v0 : BitVec 32) (k0_t1 : Fin (k0_t1_loop v0).trips) (c0_i32_95 : BitVec 32) : Fin 1 → Nat :=
  let c4_i32 : BitVec 32 := 4#32
  let c0_i32_0 : BitVec 32 := 0#32
  let c1_i32_1 : BitVec 32 := 1#32
  let arg27 : BitVec 32 := Scf.iv c0_i32_0 c1_i32_1 k0_t1
  let v114 : BitVec 32 := Scalar.muli c4_i32 arg27
  let v115 : BitVec 32 := Scalar.addi v114 c0_i32_95
  let v116 : Index := Scalar.indexCast v115
  ![v116.toNat]
def k0_mult1 (v129 : BitVec 32) : BitVec 32 :=
  v129
def k0_cond1 (v117 : BitVec 32) : BitVec 1 :=
  let c0_i32_101 : BitVec 32 := 0#32
  let v130 : BitVec 1 := Scalar.cmpi .eq v117 c0_i32_101
  let v131 : BitVec 32 := Scalar.extui v130
  let c0_i32_102 : BitVec 32 := 0#32
  let v132 : BitVec 1 := Scalar.cmpi .ne v131 c0_i32_102
  v132

def k0_mult2 (v121 : BitVec 32) : BitVec 32 :=
  v121

def k0_mult3 (v125 : BitVec 32) : BitVec 32 :=
  v125

def k0_off2 (v0 : BitVec 32) (k0_t1 : Fin (k0_t1_loop v0).trips) : Fin 1 → Nat :=
  let c0_i32_0 : BitVec 32 := 0#32
  let c1_i32_1 : BitVec 32 := 1#32
  let arg27 : BitVec 32 := Scf.iv c0_i32_0 c1_i32_1 k0_t1
  let c64_i32 : BitVec 32 := 64#32
  let v142 : BitVec 32 := Scalar.remsi arg27 c64_i32
  ![v142.toNat]

def k0_off3 (v129 : BitVec 32) : Fin 2 → Nat :=
  let v139 : BitVec 32 := v129
  let c0_i32_107 : BitVec 32 := 0#32
  ![v139.toNat, 0]
def k0_off4 (v121 : BitVec 32) (v125 : BitVec 32) : Fin 2 → Nat :=
  let v140 : BitVec 32 := v121
  let v141 : BitVec 32 := v125
  ![v140.toNat, v141.toNat]
def k0_mult4 (v129 : BitVec 32) : BitVec 32 :=
  v129
def k0_cond2 (v117 : BitVec 32) : BitVec 1 :=
  let c3_i32_103 : BitVec 32 := 3#32
  let v133 : BitVec 1 := Scalar.cmpi .eq v117 c3_i32_103
  let v134 : BitVec 32 := Scalar.extui v133
  let c0_i32_104 : BitVec 32 := 0#32
  let v135 : BitVec 1 := Scalar.cmpi .ne v134 c0_i32_104
  v135

def k0_mult5 (v121 : BitVec 32) : BitVec 32 :=
  v121
def k0_mult6 (v125 : BitVec 32) : BitVec 32 :=
  v125
def k0_off5 (v0 : BitVec 32) (k0_t1 : Fin (k0_t1_loop v0).trips) : Fin 1 → Nat :=
  let c0_i32_0 : BitVec 32 := 0#32
  let c1_i32_1 : BitVec 32 := 1#32
  let arg27 : BitVec 32 := Scf.iv c0_i32_0 c1_i32_1 k0_t1
  let c64_i32 : BitVec 32 := 64#32
  let v142 : BitVec 32 := Scalar.remsi arg27 c64_i32
  ![v142.toNat]
def k0_off6 (v129 : BitVec 32) : Fin 2 → Nat :=
  let v139 : BitVec 32 := v129
  let c0_i32_107 : BitVec 32 := 0#32
  ![v139.toNat, 0]
def k0_off7 (v121 : BitVec 32) (v125 : BitVec 32) : Fin 2 → Nat :=
  let v140 : BitVec 32 := v121
  let v141 : BitVec 32 := v125
  ![v140.toNat, v141.toNat]
def k0_mult7 (v129 : BitVec 32) : BitVec 32 :=
  v129
def k0_cond3 (v117 : BitVec 32) : BitVec 1 :=
  let c4_i32_105 : BitVec 32 := 4#32
  let v136 : BitVec 1 := Scalar.cmpi .eq v117 c4_i32_105
  let v137 : BitVec 32 := Scalar.extui v136
  let c0_i32_106 : BitVec 32 := 0#32
  let v138 : BitVec 1 := Scalar.cmpi .ne v137 c0_i32_106
  v138

def k0_mult8 (v121 : BitVec 32) : BitVec 32 :=
  v121

def k0_chk3 (v117 : BitVec 32) (v121 : BitVec 32) : Prop :=
  (∀ (k0_h1 : k0_cond1 v117 = 1#1), 32 ∣ (k0_mult2 v121).toNat) ∧
  (∀ (k0_h2 : k0_cond2 v117 = 1#1), 32 ∣ (k0_mult5 v121).toNat) ∧
  (∀ (k0_h3 : k0_cond3 v117 = 1#1), 32 ∣ (k0_mult8 v121).toNat)
theorem k0_mult2_dvd : ∀ (v117 : BitVec 32) (v121 : BitVec 32) (k0_hw3 : k0_chk3 v117 v121), ∀ (k0_h1 : k0_cond1 v117 = 1#1), 32 ∣ (k0_mult2 v121).toNat := fun v117 v121 k0_hw3 k0_h1 => k0_hw3.1 k0_h1
theorem k0_mult5_dvd : ∀ (v117 : BitVec 32) (v121 : BitVec 32) (k0_hw3 : k0_chk3 v117 v121), ∀ (k0_h2 : k0_cond2 v117 = 1#1), 32 ∣ (k0_mult5 v121).toNat := fun v117 v121 k0_hw3 k0_h2 => k0_hw3.2.1 k0_h2
theorem k0_mult8_dvd : ∀ (v117 : BitVec 32) (v121 : BitVec 32) (k0_hw3 : k0_chk3 v117 v121), ∀ (k0_h3 : k0_cond3 v117 = 1#1), 32 ∣ (k0_mult8 v121).toNat := fun v117 v121 k0_hw3 k0_h3 => k0_hw3.2.2 k0_h3

def k0_mult9 (v125 : BitVec 32) : BitVec 32 :=
  v125
def k0_off8 (v0 : BitVec 32) (k0_t1 : Fin (k0_t1_loop v0).trips) : Fin 1 → Nat :=
  let c0_i32_0 : BitVec 32 := 0#32
  let c1_i32_1 : BitVec 32 := 1#32
  let arg27 : BitVec 32 := Scf.iv c0_i32_0 c1_i32_1 k0_t1
  let c64_i32 : BitVec 32 := 64#32
  let v142 : BitVec 32 := Scalar.remsi arg27 c64_i32
  ![v142.toNat]

def k0_chk5 (v0 : BitVec 32) (k0_t1 : Fin (k0_t1_loop v0).trips) (v117 : BitVec 32) : Prop :=
  (∀ (k0_h1 : k0_cond1 v117 = 1#1), ∀ a, (k0_off2 v0 k0_t1) a + S1.size a ≤ S64.size a) ∧
  (∀ (k0_h2 : k0_cond2 v117 = 1#1), ∀ a, (k0_off5 v0 k0_t1) a + S1.size a ≤ S64.size a) ∧
  (∀ (k0_h3 : k0_cond3 v117 = 1#1), ∀ a, (k0_off8 v0 k0_t1) a + S1.size a ≤ S64.size a)
theorem k0_off2_inb : ∀ (v0 : BitVec 32) (k0_t1 : Fin (k0_t1_loop v0).trips) (v117 : BitVec 32) (k0_hw5 : k0_chk5 v0 k0_t1 v117), ∀ (k0_h1 : k0_cond1 v117 = 1#1), ∀ a, (k0_off2 v0 k0_t1) a + S1.size a ≤ S64.size a := fun v0 k0_t1 v117 k0_hw5 k0_h1 => k0_hw5.1 k0_h1
theorem k0_off5_inb : ∀ (v0 : BitVec 32) (k0_t1 : Fin (k0_t1_loop v0).trips) (v117 : BitVec 32) (k0_hw5 : k0_chk5 v0 k0_t1 v117), ∀ (k0_h2 : k0_cond2 v117 = 1#1), ∀ a, (k0_off5 v0 k0_t1) a + S1.size a ≤ S64.size a := fun v0 k0_t1 v117 k0_hw5 k0_h2 => k0_hw5.2.1 k0_h2
theorem k0_off8_inb : ∀ (v0 : BitVec 32) (k0_t1 : Fin (k0_t1_loop v0).trips) (v117 : BitVec 32) (k0_hw5 : k0_chk5 v0 k0_t1 v117), ∀ (k0_h3 : k0_cond3 v117 = 1#1), ∀ a, (k0_off8 v0 k0_t1) a + S1.size a ≤ S64.size a := fun v0 k0_t1 v117 k0_hw5 k0_h3 => k0_hw5.2.2 k0_h3

def k0_off9 (v129 : BitVec 32) : Fin 2 → Nat :=
  let v139 : BitVec 32 := v129
  let c0_i32_107 : BitVec 32 := 0#32
  ![v139.toNat, 0]
def k0_off10 (v121 : BitVec 32) (v125 : BitVec 32) : Fin 2 → Nat :=
  let v140 : BitVec 32 := v121
  let v141 : BitVec 32 := v125
  ![v140.toNat, v141.toNat]

def k0_chk4 (v117 : BitVec 32) (v121 : BitVec 32) (v125 : BitVec 32) : Prop :=
  (∀ (k0_h1 : k0_cond1 v117 = 1#1), 256 ∣ (k0_mult3 v125).toNat) ∧
  (∀ (k0_h1 : k0_cond1 v117 = 1#1), ∀ a, (k0_off4 v121 v125) a + S2176x256.size a ≤ S30240x8192.size a) ∧
  (∀ (k0_h1 : k0_cond1 v117 = 1#1), ∀ (hinb : ∀ a, (k0_off4 v121 v125) a + S2176x256.size a ≤ S30240x8192.size a), (Rect.unit (s := S30240x8192) (k0_off4 v121 v125) S2176x256.size hinb).WholeWords (EltTy.packing .i8)) ∧
  (∀ (k0_h2 : k0_cond2 v117 = 1#1), 256 ∣ (k0_mult6 v125).toNat) ∧
  (∀ (k0_h2 : k0_cond2 v117 = 1#1), ∀ a, (k0_off7 v121 v125) a + S8192x256.size a ≤ S8192x14336.size a) ∧
  (∀ (k0_h2 : k0_cond2 v117 = 1#1), ∀ (hinb : ∀ a, (k0_off7 v121 v125) a + S8192x256.size a ≤ S8192x14336.size a), (Rect.unit (s := S8192x14336) (k0_off7 v121 v125) S8192x256.size hinb).WholeWords (EltTy.packing .fp8e4m3)) ∧
  (∀ (k0_h3 : k0_cond3 v117 = 1#1), 256 ∣ (k0_mult9 v125).toNat) ∧
  (∀ (k0_h3 : k0_cond3 v117 = 1#1), ∀ a, (k0_off10 v121 v125) a + S7168x256.size a ≤ S7168x8192.size a) ∧
  (∀ (k0_h3 : k0_cond3 v117 = 1#1), ∀ (hinb : ∀ a, (k0_off10 v121 v125) a + S7168x256.size a ≤ S7168x8192.size a), (Rect.unit (s := S7168x8192) (k0_off10 v121 v125) S7168x256.size hinb).WholeWords (EltTy.packing .fp8e4m3))
theorem k0_mult3_dvd : ∀ (v117 : BitVec 32) (v121 : BitVec 32) (v125 : BitVec 32) (k0_hw4 : k0_chk4 v117 v121 v125), ∀ (k0_h1 : k0_cond1 v117 = 1#1), 256 ∣ (k0_mult3 v125).toNat := fun v117 v121 v125 k0_hw4 k0_h1 => k0_hw4.1 k0_h1
theorem k0_off4_inb : ∀ (v117 : BitVec 32) (v121 : BitVec 32) (v125 : BitVec 32) (k0_hw4 : k0_chk4 v117 v121 v125), ∀ (k0_h1 : k0_cond1 v117 = 1#1), ∀ a, (k0_off4 v121 v125) a + S2176x256.size a ≤ S30240x8192.size a := fun v117 v121 v125 k0_hw4 k0_h1 => k0_hw4.2.1 k0_h1
theorem k0_off4_wordsi8 : ∀ (v117 : BitVec 32) (v121 : BitVec 32) (v125 : BitVec 32) (k0_hw4 : k0_chk4 v117 v121 v125), ∀ (k0_h1 : k0_cond1 v117 = 1#1), (Rect.unit (s := S30240x8192) (k0_off4 v121 v125) S2176x256.size (k0_off4_inb v117 v121 v125 k0_hw4 k0_h1)).WholeWords (EltTy.packing .i8) := fun v117 v121 v125 k0_hw4 k0_h1 => k0_hw4.2.2.1 k0_h1 (k0_off4_inb v117 v121 v125 k0_hw4 k0_h1)
theorem k0_mult6_dvd : ∀ (v117 : BitVec 32) (v121 : BitVec 32) (v125 : BitVec 32) (k0_hw4 : k0_chk4 v117 v121 v125), ∀ (k0_h2 : k0_cond2 v117 = 1#1), 256 ∣ (k0_mult6 v125).toNat := fun v117 v121 v125 k0_hw4 k0_h2 => k0_hw4.2.2.2.1 k0_h2
theorem k0_off7_inb : ∀ (v117 : BitVec 32) (v121 : BitVec 32) (v125 : BitVec 32) (k0_hw4 : k0_chk4 v117 v121 v125), ∀ (k0_h2 : k0_cond2 v117 = 1#1), ∀ a, (k0_off7 v121 v125) a + S8192x256.size a ≤ S8192x14336.size a := fun v117 v121 v125 k0_hw4 k0_h2 => k0_hw4.2.2.2.2.1 k0_h2
theorem k0_off7_wordsfp8e4m3 : ∀ (v117 : BitVec 32) (v121 : BitVec 32) (v125 : BitVec 32) (k0_hw4 : k0_chk4 v117 v121 v125), ∀ (k0_h2 : k0_cond2 v117 = 1#1), (Rect.unit (s := S8192x14336) (k0_off7 v121 v125) S8192x256.size (k0_off7_inb v117 v121 v125 k0_hw4 k0_h2)).WholeWords (EltTy.packing .fp8e4m3) := fun v117 v121 v125 k0_hw4 k0_h2 => k0_hw4.2.2.2.2.2.1 k0_h2 (k0_off7_inb v117 v121 v125 k0_hw4 k0_h2)
theorem k0_mult9_dvd : ∀ (v117 : BitVec 32) (v121 : BitVec 32) (v125 : BitVec 32) (k0_hw4 : k0_chk4 v117 v121 v125), ∀ (k0_h3 : k0_cond3 v117 = 1#1), 256 ∣ (k0_mult9 v125).toNat := fun v117 v121 v125 k0_hw4 k0_h3 => k0_hw4.2.2.2.2.2.2.1 k0_h3
theorem k0_off10_inb : ∀ (v117 : BitVec 32) (v121 : BitVec 32) (v125 : BitVec 32) (k0_hw4 : k0_chk4 v117 v121 v125), ∀ (k0_h3 : k0_cond3 v117 = 1#1), ∀ a, (k0_off10 v121 v125) a + S7168x256.size a ≤ S7168x8192.size a := fun v117 v121 v125 k0_hw4 k0_h3 => k0_hw4.2.2.2.2.2.2.2.1 k0_h3
theorem k0_off10_wordsfp8e4m3 : ∀ (v117 : BitVec 32) (v121 : BitVec 32) (v125 : BitVec 32) (k0_hw4 : k0_chk4 v117 v121 v125), ∀ (k0_h3 : k0_cond3 v117 = 1#1), (Rect.unit (s := S7168x8192) (k0_off10 v121 v125) S7168x256.size (k0_off10_inb v117 v121 v125 k0_hw4 k0_h3)).WholeWords (EltTy.packing .fp8e4m3) := fun v117 v121 v125 k0_hw4 k0_h3 => k0_hw4.2.2.2.2.2.2.2.2 k0_h3 (k0_off10_inb v117 v121 v125 k0_hw4 k0_h3)

def k0_chk2 (v117 : BitVec 32) (v129 : BitVec 32) : Prop :=
  (∀ (k0_h1 : k0_cond1 v117 = 1#1), 32 ∣ (k0_mult1 v129).toNat) ∧
  (∀ (k0_h1 : k0_cond1 v117 = 1#1), ∀ a, (k0_off3 v129) a + S2176x256.size a ≤ S106496x256.size a) ∧
  (∀ (k0_h1 : k0_cond1 v117 = 1#1), ∀ (hinb : ∀ a, (k0_off3 v129) a + S2176x256.size a ≤ S106496x256.size a), (Rect.unit (s := S106496x256) (k0_off3 v129) S2176x256.size hinb).WholeWords (EltTy.packing .i8)) ∧
  (∀ (k0_h2 : k0_cond2 v117 = 1#1), 32 ∣ (k0_mult4 v129).toNat) ∧
  (∀ (k0_h2 : k0_cond2 v117 = 1#1), ∀ a, (k0_off6 v129) a + S8192x256.size a ≤ S106496x256.size a) ∧
  (∀ (k0_h2 : k0_cond2 v117 = 1#1), ∀ (hinb : ∀ a, (k0_off6 v129) a + S8192x256.size a ≤ S106496x256.size a), (Rect.unit (s := S106496x256) (k0_off6 v129) S8192x256.size hinb).WholeWords (EltTy.packing .fp8e4m3)) ∧
  (∀ (k0_h3 : k0_cond3 v117 = 1#1), 32 ∣ (k0_mult7 v129).toNat) ∧
  (∀ (k0_h3 : k0_cond3 v117 = 1#1), ∀ a, (k0_off9 v129) a + S7168x256.size a ≤ S106496x256.size a) ∧
  (∀ (k0_h3 : k0_cond3 v117 = 1#1), ∀ (hinb : ∀ a, (k0_off9 v129) a + S7168x256.size a ≤ S106496x256.size a), (Rect.unit (s := S106496x256) (k0_off9 v129) S7168x256.size hinb).WholeWords (EltTy.packing .fp8e4m3))
theorem k0_mult1_dvd : ∀ (v117 : BitVec 32) (v129 : BitVec 32) (k0_hw2 : k0_chk2 v117 v129), ∀ (k0_h1 : k0_cond1 v117 = 1#1), 32 ∣ (k0_mult1 v129).toNat := fun v117 v129 k0_hw2 k0_h1 => k0_hw2.1 k0_h1
theorem k0_off3_inb : ∀ (v117 : BitVec 32) (v129 : BitVec 32) (k0_hw2 : k0_chk2 v117 v129), ∀ (k0_h1 : k0_cond1 v117 = 1#1), ∀ a, (k0_off3 v129) a + S2176x256.size a ≤ S106496x256.size a := fun v117 v129 k0_hw2 k0_h1 => k0_hw2.2.1 k0_h1
theorem k0_off3_wordsi8 : ∀ (v117 : BitVec 32) (v129 : BitVec 32) (k0_hw2 : k0_chk2 v117 v129), ∀ (k0_h1 : k0_cond1 v117 = 1#1), (Rect.unit (s := S106496x256) (k0_off3 v129) S2176x256.size (k0_off3_inb v117 v129 k0_hw2 k0_h1)).WholeWords (EltTy.packing .i8) := fun v117 v129 k0_hw2 k0_h1 => k0_hw2.2.2.1 k0_h1 (k0_off3_inb v117 v129 k0_hw2 k0_h1)
theorem k0_mult4_dvd : ∀ (v117 : BitVec 32) (v129 : BitVec 32) (k0_hw2 : k0_chk2 v117 v129), ∀ (k0_h2 : k0_cond2 v117 = 1#1), 32 ∣ (k0_mult4 v129).toNat := fun v117 v129 k0_hw2 k0_h2 => k0_hw2.2.2.2.1 k0_h2
theorem k0_off6_inb : ∀ (v117 : BitVec 32) (v129 : BitVec 32) (k0_hw2 : k0_chk2 v117 v129), ∀ (k0_h2 : k0_cond2 v117 = 1#1), ∀ a, (k0_off6 v129) a + S8192x256.size a ≤ S106496x256.size a := fun v117 v129 k0_hw2 k0_h2 => k0_hw2.2.2.2.2.1 k0_h2
theorem k0_off6_wordsfp8e4m3 : ∀ (v117 : BitVec 32) (v129 : BitVec 32) (k0_hw2 : k0_chk2 v117 v129), ∀ (k0_h2 : k0_cond2 v117 = 1#1), (Rect.unit (s := S106496x256) (k0_off6 v129) S8192x256.size (k0_off6_inb v117 v129 k0_hw2 k0_h2)).WholeWords (EltTy.packing .fp8e4m3) := fun v117 v129 k0_hw2 k0_h2 => k0_hw2.2.2.2.2.2.1 k0_h2 (k0_off6_inb v117 v129 k0_hw2 k0_h2)
theorem k0_mult7_dvd : ∀ (v117 : BitVec 32) (v129 : BitVec 32) (k0_hw2 : k0_chk2 v117 v129), ∀ (k0_h3 : k0_cond3 v117 = 1#1), 32 ∣ (k0_mult7 v129).toNat := fun v117 v129 k0_hw2 k0_h3 => k0_hw2.2.2.2.2.2.2.1 k0_h3
theorem k0_off9_inb : ∀ (v117 : BitVec 32) (v129 : BitVec 32) (k0_hw2 : k0_chk2 v117 v129), ∀ (k0_h3 : k0_cond3 v117 = 1#1), ∀ a, (k0_off9 v129) a + S7168x256.size a ≤ S106496x256.size a := fun v117 v129 k0_hw2 k0_h3 => k0_hw2.2.2.2.2.2.2.2.1 k0_h3
theorem k0_off9_wordsfp8e4m3 : ∀ (v117 : BitVec 32) (v129 : BitVec 32) (k0_hw2 : k0_chk2 v117 v129), ∀ (k0_h3 : k0_cond3 v117 = 1#1), (Rect.unit (s := S106496x256) (k0_off9 v129) S7168x256.size (k0_off9_inb v117 v129 k0_hw2 k0_h3)).WholeWords (EltTy.packing .fp8e4m3) := fun v117 v129 k0_hw2 k0_h3 => k0_hw2.2.2.2.2.2.2.2.2 k0_h3 (k0_off9_inb v117 v129 k0_hw2 k0_h3)

@[reducible] def k0_t2_loop (v0 : BitVec 32) : Scf.Loop 32 :=
  let c0_i32_0 : BitVec 32 := 0#32
  let v1 : BitVec 32 := Scalar.subi v0 c0_i32_0
  let c1_i32 : BitVec 32 := 1#32
  let v3 : BitVec 32 := Scalar.divsi v1 c1_i32
  let v4 : BitVec 32 := Scalar.muli v3 c1_i32
  let v5 : BitVec 32 := Scalar.addi c0_i32_0 v4
  let v2 : BitVec 32 := Scalar.addi c0_i32_0 v1
  let c1_i32_2 : BitVec 32 := 1#32
  ⟨v5, v2, c1_i32_2⟩
def k0_off11 (v0 : BitVec 32) (k0_t2 : Fin (k0_t2_loop v0).trips) (c0_i32_95 : BitVec 32) : Fin 1 → Nat :=
  let c4_i32 : BitVec 32 := 4#32
  let c0_i32_0 : BitVec 32 := 0#32
  let v1 : BitVec 32 := Scalar.subi v0 c0_i32_0
  let c1_i32 : BitVec 32 := 1#32
  let v3 : BitVec 32 := Scalar.divsi v1 c1_i32
  let v4 : BitVec 32 := Scalar.muli v3 c1_i32
  let v5 : BitVec 32 := Scalar.addi c0_i32_0 v4
  let c1_i32_2 : BitVec 32 := 1#32
  let arg27 : BitVec 32 := Scf.iv v5 c1_i32_2 k0_t2
  let v114 : BitVec 32 := Scalar.muli c4_i32 arg27
  let v115 : BitVec 32 := Scalar.addi v114 c0_i32_95
  let v116 : Index := Scalar.indexCast v115
  ![v116.toNat]

def k0_chk1 (v0 : BitVec 32) : Prop :=
  ((k0_t1_loop v0).OK) ∧
  (∀ k0_t1 : Fin (k0_t1_loop v0).trips, ∀ (r : Fin 4), ∀ a, (k0_off1 v0 k0_t1 (BitVec.ofNat 32 r.val)) a + S1.size a ≤ S704.size a) ∧
  ((k0_t2_loop v0).OK) ∧
  (∀ k0_t2 : Fin (k0_t2_loop v0).trips, ∀ (r : Fin 4), ∀ a, (k0_off11 v0 k0_t2 (BitVec.ofNat 32 r.val)) a + S1.size a ≤ S704.size a)
theorem k0_t1_ok : ∀ (v0 : BitVec 32) (k0_hw1 : k0_chk1 v0), (k0_t1_loop v0).OK := fun v0 k0_hw1 => k0_hw1.1
theorem k0_off1_inb : ∀ (v0 : BitVec 32) (k0_hw1 : k0_chk1 v0) (k0_t1 : Fin (k0_t1_loop v0).trips), ∀ (r : Fin 4), ∀ a, (k0_off1 v0 k0_t1 (BitVec.ofNat 32 r.val)) a + S1.size a ≤ S704.size a := fun v0 k0_hw1 k0_t1 r => k0_hw1.2.1 k0_t1 r
theorem k0_t2_ok : ∀ (v0 : BitVec 32) (k0_hw1 : k0_chk1 v0), (k0_t2_loop v0).OK := fun v0 k0_hw1 => k0_hw1.2.2.1
theorem k0_off11_inb : ∀ (v0 : BitVec 32) (k0_hw1 : k0_chk1 v0) (k0_t2 : Fin (k0_t2_loop v0).trips), ∀ (r : Fin 4), ∀ a, (k0_off11 v0 k0_t2 (BitVec.ofNat 32 r.val)) a + S1.size a ≤ S704.size a := fun v0 k0_hw1 k0_t2 r => k0_hw1.2.2.2 k0_t2 r

def k0_mult10 (v129 : BitVec 32) : BitVec 32 :=
  v129
def k0_cond4 (v117 : BitVec 32) : BitVec 1 :=
  let c0_i32_101 : BitVec 32 := 0#32
  let v130 : BitVec 1 := Scalar.cmpi .eq v117 c0_i32_101
  let v131 : BitVec 32 := Scalar.extui v130
  let c0_i32_102 : BitVec 32 := 0#32
  let v132 : BitVec 1 := Scalar.cmpi .ne v131 c0_i32_102
  v132

def k0_mult11 (v121 : BitVec 32) : BitVec 32 :=
  v121

def k0_mult12 (v125 : BitVec 32) : BitVec 32 :=
  v125

def k0_off12 (v0 : BitVec 32) (k0_t2 : Fin (k0_t2_loop v0).trips) : Fin 1 → Nat :=
  let c0_i32_0 : BitVec 32 := 0#32
  let v1 : BitVec 32 := Scalar.subi v0 c0_i32_0
  let c1_i32 : BitVec 32 := 1#32
  let v3 : BitVec 32 := Scalar.divsi v1 c1_i32
  let v4 : BitVec 32 := Scalar.muli v3 c1_i32
  let v5 : BitVec 32 := Scalar.addi c0_i32_0 v4
  let c1_i32_2 : BitVec 32 := 1#32
  let arg27 : BitVec 32 := Scf.iv v5 c1_i32_2 k0_t2
  let c64_i32 : BitVec 32 := 64#32
  let v142 : BitVec 32 := Scalar.remsi arg27 c64_i32
  ![v142.toNat]

def k0_off13 (v129 : BitVec 32) : Fin 2 → Nat :=
  let v139 : BitVec 32 := v129
  let c0_i32_107 : BitVec 32 := 0#32
  ![v139.toNat, 0]
def k0_off14 (v121 : BitVec 32) (v125 : BitVec 32) : Fin 2 → Nat :=
  let v140 : BitVec 32 := v121
  let v141 : BitVec 32 := v125
  ![v140.toNat, v141.toNat]
def k0_mult13 (v129 : BitVec 32) : BitVec 32 :=
  v129
def k0_cond5 (v117 : BitVec 32) : BitVec 1 :=
  let c3_i32_103 : BitVec 32 := 3#32
  let v133 : BitVec 1 := Scalar.cmpi .eq v117 c3_i32_103
  let v134 : BitVec 32 := Scalar.extui v133
  let c0_i32_104 : BitVec 32 := 0#32
  let v135 : BitVec 1 := Scalar.cmpi .ne v134 c0_i32_104
  v135

def k0_mult14 (v121 : BitVec 32) : BitVec 32 :=
  v121
def k0_mult15 (v125 : BitVec 32) : BitVec 32 :=
  v125
def k0_off15 (v0 : BitVec 32) (k0_t2 : Fin (k0_t2_loop v0).trips) : Fin 1 → Nat :=
  let c0_i32_0 : BitVec 32 := 0#32
  let v1 : BitVec 32 := Scalar.subi v0 c0_i32_0
  let c1_i32 : BitVec 32 := 1#32
  let v3 : BitVec 32 := Scalar.divsi v1 c1_i32
  let v4 : BitVec 32 := Scalar.muli v3 c1_i32
  let v5 : BitVec 32 := Scalar.addi c0_i32_0 v4
  let c1_i32_2 : BitVec 32 := 1#32
  let arg27 : BitVec 32 := Scf.iv v5 c1_i32_2 k0_t2
  let c64_i32 : BitVec 32 := 64#32
  let v142 : BitVec 32 := Scalar.remsi arg27 c64_i32
  ![v142.toNat]
def k0_off16 (v129 : BitVec 32) : Fin 2 → Nat :=
  let v139 : BitVec 32 := v129
  let c0_i32_107 : BitVec 32 := 0#32
  ![v139.toNat, 0]
def k0_off17 (v121 : BitVec 32) (v125 : BitVec 32) : Fin 2 → Nat :=
  let v140 : BitVec 32 := v121
  let v141 : BitVec 32 := v125
  ![v140.toNat, v141.toNat]
def k0_mult16 (v129 : BitVec 32) : BitVec 32 :=
  v129
def k0_cond6 (v117 : BitVec 32) : BitVec 1 :=
  let c4_i32_105 : BitVec 32 := 4#32
  let v136 : BitVec 1 := Scalar.cmpi .eq v117 c4_i32_105
  let v137 : BitVec 32 := Scalar.extui v136
  let c0_i32_106 : BitVec 32 := 0#32
  let v138 : BitVec 1 := Scalar.cmpi .ne v137 c0_i32_106
  v138

def k0_mult17 (v121 : BitVec 32) : BitVec 32 :=
  v121

def k0_chk7 (v117 : BitVec 32) (v121 : BitVec 32) : Prop :=
  (∀ (k0_h4 : k0_cond4 v117 = 1#1), 32 ∣ (k0_mult11 v121).toNat) ∧
  (∀ (k0_h5 : k0_cond5 v117 = 1#1), 32 ∣ (k0_mult14 v121).toNat) ∧
  (∀ (k0_h6 : k0_cond6 v117 = 1#1), 32 ∣ (k0_mult17 v121).toNat)
theorem k0_mult11_dvd : ∀ (v117 : BitVec 32) (v121 : BitVec 32) (k0_hw7 : k0_chk7 v117 v121), ∀ (k0_h4 : k0_cond4 v117 = 1#1), 32 ∣ (k0_mult11 v121).toNat := fun v117 v121 k0_hw7 k0_h4 => k0_hw7.1 k0_h4
theorem k0_mult14_dvd : ∀ (v117 : BitVec 32) (v121 : BitVec 32) (k0_hw7 : k0_chk7 v117 v121), ∀ (k0_h5 : k0_cond5 v117 = 1#1), 32 ∣ (k0_mult14 v121).toNat := fun v117 v121 k0_hw7 k0_h5 => k0_hw7.2.1 k0_h5
theorem k0_mult17_dvd : ∀ (v117 : BitVec 32) (v121 : BitVec 32) (k0_hw7 : k0_chk7 v117 v121), ∀ (k0_h6 : k0_cond6 v117 = 1#1), 32 ∣ (k0_mult17 v121).toNat := fun v117 v121 k0_hw7 k0_h6 => k0_hw7.2.2 k0_h6

def k0_mult18 (v125 : BitVec 32) : BitVec 32 :=
  v125
def k0_off18 (v0 : BitVec 32) (k0_t2 : Fin (k0_t2_loop v0).trips) : Fin 1 → Nat :=
  let c0_i32_0 : BitVec 32 := 0#32
  let v1 : BitVec 32 := Scalar.subi v0 c0_i32_0
  let c1_i32 : BitVec 32 := 1#32
  let v3 : BitVec 32 := Scalar.divsi v1 c1_i32
  let v4 : BitVec 32 := Scalar.muli v3 c1_i32
  let v5 : BitVec 32 := Scalar.addi c0_i32_0 v4
  let c1_i32_2 : BitVec 32 := 1#32
  let arg27 : BitVec 32 := Scf.iv v5 c1_i32_2 k0_t2
  let c64_i32 : BitVec 32 := 64#32
  let v142 : BitVec 32 := Scalar.remsi arg27 c64_i32
  ![v142.toNat]

def k0_chk9 (v0 : BitVec 32) (k0_t2 : Fin (k0_t2_loop v0).trips) (v117 : BitVec 32) : Prop :=
  (∀ (k0_h4 : k0_cond4 v117 = 1#1), ∀ a, (k0_off12 v0 k0_t2) a + S1.size a ≤ S64.size a) ∧
  (∀ (k0_h5 : k0_cond5 v117 = 1#1), ∀ a, (k0_off15 v0 k0_t2) a + S1.size a ≤ S64.size a) ∧
  (∀ (k0_h6 : k0_cond6 v117 = 1#1), ∀ a, (k0_off18 v0 k0_t2) a + S1.size a ≤ S64.size a)
theorem k0_off12_inb : ∀ (v0 : BitVec 32) (k0_t2 : Fin (k0_t2_loop v0).trips) (v117 : BitVec 32) (k0_hw9 : k0_chk9 v0 k0_t2 v117), ∀ (k0_h4 : k0_cond4 v117 = 1#1), ∀ a, (k0_off12 v0 k0_t2) a + S1.size a ≤ S64.size a := fun v0 k0_t2 v117 k0_hw9 k0_h4 => k0_hw9.1 k0_h4
theorem k0_off15_inb : ∀ (v0 : BitVec 32) (k0_t2 : Fin (k0_t2_loop v0).trips) (v117 : BitVec 32) (k0_hw9 : k0_chk9 v0 k0_t2 v117), ∀ (k0_h5 : k0_cond5 v117 = 1#1), ∀ a, (k0_off15 v0 k0_t2) a + S1.size a ≤ S64.size a := fun v0 k0_t2 v117 k0_hw9 k0_h5 => k0_hw9.2.1 k0_h5
theorem k0_off18_inb : ∀ (v0 : BitVec 32) (k0_t2 : Fin (k0_t2_loop v0).trips) (v117 : BitVec 32) (k0_hw9 : k0_chk9 v0 k0_t2 v117), ∀ (k0_h6 : k0_cond6 v117 = 1#1), ∀ a, (k0_off18 v0 k0_t2) a + S1.size a ≤ S64.size a := fun v0 k0_t2 v117 k0_hw9 k0_h6 => k0_hw9.2.2 k0_h6

def k0_off19 (v129 : BitVec 32) : Fin 2 → Nat :=
  let v139 : BitVec 32 := v129
  let c0_i32_107 : BitVec 32 := 0#32
  ![v139.toNat, 0]
def k0_off20 (v121 : BitVec 32) (v125 : BitVec 32) : Fin 2 → Nat :=
  let v140 : BitVec 32 := v121
  let v141 : BitVec 32 := v125
  ![v140.toNat, v141.toNat]

def k0_chk8 (v117 : BitVec 32) (v121 : BitVec 32) (v125 : BitVec 32) : Prop :=
  (∀ (k0_h4 : k0_cond4 v117 = 1#1), 256 ∣ (k0_mult12 v125).toNat) ∧
  (∀ (k0_h4 : k0_cond4 v117 = 1#1), ∀ a, (k0_off14 v121 v125) a + S2176x256.size a ≤ S30240x8192.size a) ∧
  (∀ (k0_h4 : k0_cond4 v117 = 1#1), ∀ (hinb : ∀ a, (k0_off14 v121 v125) a + S2176x256.size a ≤ S30240x8192.size a), (Rect.unit (s := S30240x8192) (k0_off14 v121 v125) S2176x256.size hinb).WholeWords (EltTy.packing .i8)) ∧
  (∀ (k0_h5 : k0_cond5 v117 = 1#1), 256 ∣ (k0_mult15 v125).toNat) ∧
  (∀ (k0_h5 : k0_cond5 v117 = 1#1), ∀ a, (k0_off17 v121 v125) a + S8192x256.size a ≤ S8192x14336.size a) ∧
  (∀ (k0_h5 : k0_cond5 v117 = 1#1), ∀ (hinb : ∀ a, (k0_off17 v121 v125) a + S8192x256.size a ≤ S8192x14336.size a), (Rect.unit (s := S8192x14336) (k0_off17 v121 v125) S8192x256.size hinb).WholeWords (EltTy.packing .fp8e4m3)) ∧
  (∀ (k0_h6 : k0_cond6 v117 = 1#1), 256 ∣ (k0_mult18 v125).toNat) ∧
  (∀ (k0_h6 : k0_cond6 v117 = 1#1), ∀ a, (k0_off20 v121 v125) a + S7168x256.size a ≤ S7168x8192.size a) ∧
  (∀ (k0_h6 : k0_cond6 v117 = 1#1), ∀ (hinb : ∀ a, (k0_off20 v121 v125) a + S7168x256.size a ≤ S7168x8192.size a), (Rect.unit (s := S7168x8192) (k0_off20 v121 v125) S7168x256.size hinb).WholeWords (EltTy.packing .fp8e4m3))
theorem k0_mult12_dvd : ∀ (v117 : BitVec 32) (v121 : BitVec 32) (v125 : BitVec 32) (k0_hw8 : k0_chk8 v117 v121 v125), ∀ (k0_h4 : k0_cond4 v117 = 1#1), 256 ∣ (k0_mult12 v125).toNat := fun v117 v121 v125 k0_hw8 k0_h4 => k0_hw8.1 k0_h4
theorem k0_off14_inb : ∀ (v117 : BitVec 32) (v121 : BitVec 32) (v125 : BitVec 32) (k0_hw8 : k0_chk8 v117 v121 v125), ∀ (k0_h4 : k0_cond4 v117 = 1#1), ∀ a, (k0_off14 v121 v125) a + S2176x256.size a ≤ S30240x8192.size a := fun v117 v121 v125 k0_hw8 k0_h4 => k0_hw8.2.1 k0_h4
theorem k0_off14_wordsi8 : ∀ (v117 : BitVec 32) (v121 : BitVec 32) (v125 : BitVec 32) (k0_hw8 : k0_chk8 v117 v121 v125), ∀ (k0_h4 : k0_cond4 v117 = 1#1), (Rect.unit (s := S30240x8192) (k0_off14 v121 v125) S2176x256.size (k0_off14_inb v117 v121 v125 k0_hw8 k0_h4)).WholeWords (EltTy.packing .i8) := fun v117 v121 v125 k0_hw8 k0_h4 => k0_hw8.2.2.1 k0_h4 (k0_off14_inb v117 v121 v125 k0_hw8 k0_h4)
theorem k0_mult15_dvd : ∀ (v117 : BitVec 32) (v121 : BitVec 32) (v125 : BitVec 32) (k0_hw8 : k0_chk8 v117 v121 v125), ∀ (k0_h5 : k0_cond5 v117 = 1#1), 256 ∣ (k0_mult15 v125).toNat := fun v117 v121 v125 k0_hw8 k0_h5 => k0_hw8.2.2.2.1 k0_h5
theorem k0_off17_inb : ∀ (v117 : BitVec 32) (v121 : BitVec 32) (v125 : BitVec 32) (k0_hw8 : k0_chk8 v117 v121 v125), ∀ (k0_h5 : k0_cond5 v117 = 1#1), ∀ a, (k0_off17 v121 v125) a + S8192x256.size a ≤ S8192x14336.size a := fun v117 v121 v125 k0_hw8 k0_h5 => k0_hw8.2.2.2.2.1 k0_h5
theorem k0_off17_wordsfp8e4m3 : ∀ (v117 : BitVec 32) (v121 : BitVec 32) (v125 : BitVec 32) (k0_hw8 : k0_chk8 v117 v121 v125), ∀ (k0_h5 : k0_cond5 v117 = 1#1), (Rect.unit (s := S8192x14336) (k0_off17 v121 v125) S8192x256.size (k0_off17_inb v117 v121 v125 k0_hw8 k0_h5)).WholeWords (EltTy.packing .fp8e4m3) := fun v117 v121 v125 k0_hw8 k0_h5 => k0_hw8.2.2.2.2.2.1 k0_h5 (k0_off17_inb v117 v121 v125 k0_hw8 k0_h5)
theorem k0_mult18_dvd : ∀ (v117 : BitVec 32) (v121 : BitVec 32) (v125 : BitVec 32) (k0_hw8 : k0_chk8 v117 v121 v125), ∀ (k0_h6 : k0_cond6 v117 = 1#1), 256 ∣ (k0_mult18 v125).toNat := fun v117 v121 v125 k0_hw8 k0_h6 => k0_hw8.2.2.2.2.2.2.1 k0_h6
theorem k0_off20_inb : ∀ (v117 : BitVec 32) (v121 : BitVec 32) (v125 : BitVec 32) (k0_hw8 : k0_chk8 v117 v121 v125), ∀ (k0_h6 : k0_cond6 v117 = 1#1), ∀ a, (k0_off20 v121 v125) a + S7168x256.size a ≤ S7168x8192.size a := fun v117 v121 v125 k0_hw8 k0_h6 => k0_hw8.2.2.2.2.2.2.2.1 k0_h6
theorem k0_off20_wordsfp8e4m3 : ∀ (v117 : BitVec 32) (v121 : BitVec 32) (v125 : BitVec 32) (k0_hw8 : k0_chk8 v117 v121 v125), ∀ (k0_h6 : k0_cond6 v117 = 1#1), (Rect.unit (s := S7168x8192) (k0_off20 v121 v125) S7168x256.size (k0_off20_inb v117 v121 v125 k0_hw8 k0_h6)).WholeWords (EltTy.packing .fp8e4m3) := fun v117 v121 v125 k0_hw8 k0_h6 => k0_hw8.2.2.2.2.2.2.2.2 k0_h6 (k0_off20_inb v117 v121 v125 k0_hw8 k0_h6)

def k0_chk6 (v117 : BitVec 32) (v129 : BitVec 32) : Prop :=
  (∀ (k0_h4 : k0_cond4 v117 = 1#1), 32 ∣ (k0_mult10 v129).toNat) ∧
  (∀ (k0_h4 : k0_cond4 v117 = 1#1), ∀ a, (k0_off13 v129) a + S2176x256.size a ≤ S106496x256.size a) ∧
  (∀ (k0_h4 : k0_cond4 v117 = 1#1), ∀ (hinb : ∀ a, (k0_off13 v129) a + S2176x256.size a ≤ S106496x256.size a), (Rect.unit (s := S106496x256) (k0_off13 v129) S2176x256.size hinb).WholeWords (EltTy.packing .i8)) ∧
  (∀ (k0_h5 : k0_cond5 v117 = 1#1), 32 ∣ (k0_mult13 v129).toNat) ∧
  (∀ (k0_h5 : k0_cond5 v117 = 1#1), ∀ a, (k0_off16 v129) a + S8192x256.size a ≤ S106496x256.size a) ∧
  (∀ (k0_h5 : k0_cond5 v117 = 1#1), ∀ (hinb : ∀ a, (k0_off16 v129) a + S8192x256.size a ≤ S106496x256.size a), (Rect.unit (s := S106496x256) (k0_off16 v129) S8192x256.size hinb).WholeWords (EltTy.packing .fp8e4m3)) ∧
  (∀ (k0_h6 : k0_cond6 v117 = 1#1), 32 ∣ (k0_mult16 v129).toNat) ∧
  (∀ (k0_h6 : k0_cond6 v117 = 1#1), ∀ a, (k0_off19 v129) a + S7168x256.size a ≤ S106496x256.size a) ∧
  (∀ (k0_h6 : k0_cond6 v117 = 1#1), ∀ (hinb : ∀ a, (k0_off19 v129) a + S7168x256.size a ≤ S106496x256.size a), (Rect.unit (s := S106496x256) (k0_off19 v129) S7168x256.size hinb).WholeWords (EltTy.packing .fp8e4m3))
theorem k0_mult10_dvd : ∀ (v117 : BitVec 32) (v129 : BitVec 32) (k0_hw6 : k0_chk6 v117 v129), ∀ (k0_h4 : k0_cond4 v117 = 1#1), 32 ∣ (k0_mult10 v129).toNat := fun v117 v129 k0_hw6 k0_h4 => k0_hw6.1 k0_h4
theorem k0_off13_inb : ∀ (v117 : BitVec 32) (v129 : BitVec 32) (k0_hw6 : k0_chk6 v117 v129), ∀ (k0_h4 : k0_cond4 v117 = 1#1), ∀ a, (k0_off13 v129) a + S2176x256.size a ≤ S106496x256.size a := fun v117 v129 k0_hw6 k0_h4 => k0_hw6.2.1 k0_h4
theorem k0_off13_wordsi8 : ∀ (v117 : BitVec 32) (v129 : BitVec 32) (k0_hw6 : k0_chk6 v117 v129), ∀ (k0_h4 : k0_cond4 v117 = 1#1), (Rect.unit (s := S106496x256) (k0_off13 v129) S2176x256.size (k0_off13_inb v117 v129 k0_hw6 k0_h4)).WholeWords (EltTy.packing .i8) := fun v117 v129 k0_hw6 k0_h4 => k0_hw6.2.2.1 k0_h4 (k0_off13_inb v117 v129 k0_hw6 k0_h4)
theorem k0_mult13_dvd : ∀ (v117 : BitVec 32) (v129 : BitVec 32) (k0_hw6 : k0_chk6 v117 v129), ∀ (k0_h5 : k0_cond5 v117 = 1#1), 32 ∣ (k0_mult13 v129).toNat := fun v117 v129 k0_hw6 k0_h5 => k0_hw6.2.2.2.1 k0_h5
theorem k0_off16_inb : ∀ (v117 : BitVec 32) (v129 : BitVec 32) (k0_hw6 : k0_chk6 v117 v129), ∀ (k0_h5 : k0_cond5 v117 = 1#1), ∀ a, (k0_off16 v129) a + S8192x256.size a ≤ S106496x256.size a := fun v117 v129 k0_hw6 k0_h5 => k0_hw6.2.2.2.2.1 k0_h5
theorem k0_off16_wordsfp8e4m3 : ∀ (v117 : BitVec 32) (v129 : BitVec 32) (k0_hw6 : k0_chk6 v117 v129), ∀ (k0_h5 : k0_cond5 v117 = 1#1), (Rect.unit (s := S106496x256) (k0_off16 v129) S8192x256.size (k0_off16_inb v117 v129 k0_hw6 k0_h5)).WholeWords (EltTy.packing .fp8e4m3) := fun v117 v129 k0_hw6 k0_h5 => k0_hw6.2.2.2.2.2.1 k0_h5 (k0_off16_inb v117 v129 k0_hw6 k0_h5)
theorem k0_mult16_dvd : ∀ (v117 : BitVec 32) (v129 : BitVec 32) (k0_hw6 : k0_chk6 v117 v129), ∀ (k0_h6 : k0_cond6 v117 = 1#1), 32 ∣ (k0_mult16 v129).toNat := fun v117 v129 k0_hw6 k0_h6 => k0_hw6.2.2.2.2.2.2.1 k0_h6
theorem k0_off19_inb : ∀ (v117 : BitVec 32) (v129 : BitVec 32) (k0_hw6 : k0_chk6 v117 v129), ∀ (k0_h6 : k0_cond6 v117 = 1#1), ∀ a, (k0_off19 v129) a + S7168x256.size a ≤ S106496x256.size a := fun v117 v129 k0_hw6 k0_h6 => k0_hw6.2.2.2.2.2.2.2.1 k0_h6
theorem k0_off19_wordsfp8e4m3 : ∀ (v117 : BitVec 32) (v129 : BitVec 32) (k0_hw6 : k0_chk6 v117 v129), ∀ (k0_h6 : k0_cond6 v117 = 1#1), (Rect.unit (s := S106496x256) (k0_off19 v129) S7168x256.size (k0_off19_inb v117 v129 k0_hw6 k0_h6)).WholeWords (EltTy.packing .fp8e4m3) := fun v117 v129 k0_hw6 k0_h6 => k0_hw6.2.2.2.2.2.2.2.2 k0_h6 (k0_off19_inb v117 v129 k0_hw6 k0_h6)

@[reducible] def k0_t3_loop : Scf.Loop 32 :=
  let c0_i32_8 : BitVec 32 := 0#32
  let c28_i32 : BitVec 32 := 28#32
  let v14 : BitVec 32 := Scalar.addi c0_i32_8 c28_i32
  let c1_i32_9 : BitVec 32 := 1#32
  ⟨c0_i32_8, v14, c1_i32_9⟩
def k0_mult19 (k0_t3 : Fin k0_t3_loop.trips) : BitVec 32 :=
  let c0_i32_8 : BitVec 32 := 0#32
  let c1_i32_9 : BitVec 32 := 1#32
  let arg27 : BitVec 32 := Scf.iv c0_i32_8 c1_i32_9 k0_t3
  let c256_i32 : BitVec 32 := 256#32
  let v114 : BitVec 32 := Scalar.muli arg27 c256_i32
  v114
def k0_off21 (k0_t3 : Fin k0_t3_loop.trips) : Fin 2 → Nat :=
  let c0_95 : Index := 0#32
  let c0_i32_8 : BitVec 32 := 0#32
  let c1_i32_9 : BitVec 32 := 1#32
  let arg27 : BitVec 32 := Scf.iv c0_i32_8 c1_i32_9 k0_t3
  let c256_i32 : BitVec 32 := 256#32
  let v114 : BitVec 32 := Scalar.muli arg27 c256_i32
  let v115 : BitVec 32 := v114
  let v116 : Index := Scalar.indexCast v115
  ![0, v116.toNat]
def k0_mult20 (k0_t3 : Fin k0_t3_loop.trips) : BitVec 32 :=
  let c7168_i32_97 : BitVec 32 := 7168#32
  let c0_i32_8 : BitVec 32 := 0#32
  let c1_i32_9 : BitVec 32 := 1#32
  let arg27 : BitVec 32 := Scf.iv c0_i32_8 c1_i32_9 k0_t3
  let c256_i32_96 : BitVec 32 := 256#32
  let v119 : BitVec 32 := Scalar.muli arg27 c256_i32_96
  let v120 : BitVec 32 := Scalar.addi c7168_i32_97 v119
  v120
def k0_off22 (k0_t3 : Fin k0_t3_loop.trips) : Fin 2 → Nat :=
  let c0_98 : Index := 0#32
  let c7168_i32_97 : BitVec 32 := 7168#32
  let c0_i32_8 : BitVec 32 := 0#32
  let c1_i32_9 : BitVec 32 := 1#32
  let arg27 : BitVec 32 := Scf.iv c0_i32_8 c1_i32_9 k0_t3
  let c256_i32_96 : BitVec 32 := 256#32
  let v119 : BitVec 32 := Scalar.muli arg27 c256_i32_96
  let v120 : BitVec 32 := Scalar.addi c7168_i32_97 v119
  let v121 : BitVec 32 := v120
  let v122 : Index := Scalar.indexCast v121
  ![0, v122.toNat]
def k0_off23 (k0_t3 : Fin k0_t3_loop.trips) : Fin 1 → Nat :=
  let c4_i32_101 : BitVec 32 := 4#32
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c0_i32_100 : BitVec 32 := 0#32
  let v128 : BitVec 32 := Scalar.addi v127 c0_i32_100
  let v129 : BitVec 32 := Scalar.muli c4_i32_101 v128
  let c3_i32 : BitVec 32 := 3#32
  let v130 : BitVec 32 := Scalar.addi v129 c3_i32
  let v131 : Index := Scalar.indexCast v130
  ![v131.toNat]
def k0_mult21 (v132 : BitVec 32) : BitVec 32 :=
  v132

def k0_mult22 : BitVec 32 :=
  let c0_i32_102 : BitVec 32 := 0#32
  c0_i32_102
def k0_mult23 : BitVec 32 :=
  let c0_i32_103 : BitVec 32 := 0#32
  c0_i32_103
def k0_off24 (k0_t3 : Fin k0_t3_loop.trips) : Fin 1 → Nat :=
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c0_i32_100 : BitVec 32 := 0#32
  let v128 : BitVec 32 := Scalar.addi v127 c0_i32_100
  let c64_i32 : BitVec 32 := 64#32
  let v136 : BitVec 32 := Scalar.remsi v128 c64_i32
  ![v136.toNat]
def k0_off25 (v132 : BitVec 32) : Fin 2 → Nat :=
  let v133 : BitVec 32 := v132
  let c0_i32_104 : BitVec 32 := 0#32
  ![v133.toNat, 0]

def k0_chk10 (v132 : BitVec 32) : Prop :=
  (32 ∣ (k0_mult21 v132).toNat) ∧
  (∀ a, (k0_off25 v132) a + S8192x256.size a ≤ S106496x256.size a) ∧
  (∀ (hinb : ∀ a, (k0_off25 v132) a + S8192x256.size a ≤ S106496x256.size a), (Rect.unit (s := S106496x256) (k0_off25 v132) S8192x256.size hinb).WholeWords (EltTy.packing .fp8e4m3))
theorem k0_mult21_dvd : ∀ (v132 : BitVec 32) (k0_hw10 : k0_chk10 v132), 32 ∣ (k0_mult21 v132).toNat := fun v132 k0_hw10 => k0_hw10.1
theorem k0_off25_inb : ∀ (v132 : BitVec 32) (k0_hw10 : k0_chk10 v132), ∀ a, (k0_off25 v132) a + S8192x256.size a ≤ S106496x256.size a := fun v132 k0_hw10 => k0_hw10.2.1
theorem k0_off25_wordsfp8e4m3 : ∀ (v132 : BitVec 32) (k0_hw10 : k0_chk10 v132), (Rect.unit (s := S106496x256) (k0_off25 v132) S8192x256.size (k0_off25_inb v132 k0_hw10)).WholeWords (EltTy.packing .fp8e4m3) := fun v132 k0_hw10 => k0_hw10.2.2 (k0_off25_inb v132 k0_hw10)

def k0_off26 (k0_t3 : Fin k0_t3_loop.trips) : Fin 1 → Nat :=
  let c4_i32_105 : BitVec 32 := 4#32
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c0_i32_100 : BitVec 32 := 0#32
  let v128 : BitVec 32 := Scalar.addi v127 c0_i32_100
  let v141 : BitVec 32 := Scalar.muli c4_i32_105 v128
  let c3_i32_106 : BitVec 32 := 3#32
  let v142 : BitVec 32 := Scalar.addi v141 c3_i32_106
  let v143 : Index := Scalar.indexCast v142
  ![v143.toNat]
def k0_mult24 (v144 : BitVec 32) : BitVec 32 :=
  v144

def k0_off27 (k0_t3 : Fin k0_t3_loop.trips) : Fin 1 → Nat :=
  let c4_i32_108 : BitVec 32 := 4#32
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c1_i32_107 : BitVec 32 := 1#32
  let v146 : BitVec 32 := Scalar.addi v127 c1_i32_107
  let v147 : BitVec 32 := Scalar.muli c4_i32_108 v146
  let c3_i32_109 : BitVec 32 := 3#32
  let v148 : BitVec 32 := Scalar.addi v147 c3_i32_109
  let v149 : Index := Scalar.indexCast v148
  ![v149.toNat]
def k0_mult25 (v150 : BitVec 32) : BitVec 32 :=
  v150

def k0_mult26 : BitVec 32 :=
  let c0_i32_110 : BitVec 32 := 0#32
  c0_i32_110
def k0_mult27 : BitVec 32 :=
  let c0_i32_111 : BitVec 32 := 0#32
  c0_i32_111
def k0_off28 (k0_t3 : Fin k0_t3_loop.trips) : Fin 1 → Nat :=
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c1_i32_107 : BitVec 32 := 1#32
  let v146 : BitVec 32 := Scalar.addi v127 c1_i32_107
  let c64_i32_112 : BitVec 32 := 64#32
  let v154 : BitVec 32 := Scalar.remsi v146 c64_i32_112
  ![v154.toNat]
def k0_off29 (v150 : BitVec 32) : Fin 2 → Nat :=
  let v151 : BitVec 32 := v150
  let c0_i32_113 : BitVec 32 := 0#32
  ![v151.toNat, 0]

def k0_chk12 (v150 : BitVec 32) : Prop :=
  (32 ∣ (k0_mult25 v150).toNat) ∧
  (∀ a, (k0_off29 v150) a + S2176x256.size a ≤ S106496x256.size a) ∧
  (∀ (hinb : ∀ a, (k0_off29 v150) a + S2176x256.size a ≤ S106496x256.size a), (Rect.unit (s := S106496x256) (k0_off29 v150) S2176x256.size hinb).WholeWords (EltTy.packing .i8))
theorem k0_mult25_dvd : ∀ (v150 : BitVec 32) (k0_hw12 : k0_chk12 v150), 32 ∣ (k0_mult25 v150).toNat := fun v150 k0_hw12 => k0_hw12.1
theorem k0_off29_inb : ∀ (v150 : BitVec 32) (k0_hw12 : k0_chk12 v150), ∀ a, (k0_off29 v150) a + S2176x256.size a ≤ S106496x256.size a := fun v150 k0_hw12 => k0_hw12.2.1
theorem k0_off29_wordsi8 : ∀ (v150 : BitVec 32) (k0_hw12 : k0_chk12 v150), (Rect.unit (s := S106496x256) (k0_off29 v150) S2176x256.size (k0_off29_inb v150 k0_hw12)).WholeWords (EltTy.packing .i8) := fun v150 k0_hw12 => k0_hw12.2.2 (k0_off29_inb v150 k0_hw12)

def k0_off30 (k0_t3 : Fin k0_t3_loop.trips) : Fin 1 → Nat :=
  let c4_i32_114 : BitVec 32 := 4#32
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c1_i32_107 : BitVec 32 := 1#32
  let v146 : BitVec 32 := Scalar.addi v127 c1_i32_107
  let v159 : BitVec 32 := Scalar.muli c4_i32_114 v146
  let c3_i32_115 : BitVec 32 := 3#32
  let v160 : BitVec 32 := Scalar.addi v159 c3_i32_115
  let v161 : Index := Scalar.indexCast v160
  ![v161.toNat]
def k0_mult28 (v162 : BitVec 32) : BitVec 32 :=
  v162

def k0_off31 (k0_t3 : Fin k0_t3_loop.trips) : Fin 1 → Nat :=
  let c4_i32_117 : BitVec 32 := 4#32
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c2_i32_116 : BitVec 32 := 2#32
  let v164 : BitVec 32 := Scalar.addi v127 c2_i32_116
  let v165 : BitVec 32 := Scalar.muli c4_i32_117 v164
  let c3_i32_118 : BitVec 32 := 3#32
  let v166 : BitVec 32 := Scalar.addi v165 c3_i32_118
  let v167 : Index := Scalar.indexCast v166
  ![v167.toNat]
def k0_mult29 (v168 : BitVec 32) : BitVec 32 :=
  v168

def k0_mult30 : BitVec 32 :=
  let c0_i32_119 : BitVec 32 := 0#32
  c0_i32_119
def k0_mult31 : BitVec 32 :=
  let c0_i32_120 : BitVec 32 := 0#32
  c0_i32_120
def k0_off32 (k0_t3 : Fin k0_t3_loop.trips) : Fin 1 → Nat :=
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c2_i32_116 : BitVec 32 := 2#32
  let v164 : BitVec 32 := Scalar.addi v127 c2_i32_116
  let c64_i32_121 : BitVec 32 := 64#32
  let v172 : BitVec 32 := Scalar.remsi v164 c64_i32_121
  ![v172.toNat]
def k0_off33 (v168 : BitVec 32) : Fin 2 → Nat :=
  let v169 : BitVec 32 := v168
  let c0_i32_122 : BitVec 32 := 0#32
  ![v169.toNat, 0]

def k0_chk14 (v168 : BitVec 32) : Prop :=
  (32 ∣ (k0_mult29 v168).toNat) ∧
  (∀ a, (k0_off33 v168) a + S8192x256.size a ≤ S106496x256.size a) ∧
  (∀ (hinb : ∀ a, (k0_off33 v168) a + S8192x256.size a ≤ S106496x256.size a), (Rect.unit (s := S106496x256) (k0_off33 v168) S8192x256.size hinb).WholeWords (EltTy.packing .fp8e4m3))
theorem k0_mult29_dvd : ∀ (v168 : BitVec 32) (k0_hw14 : k0_chk14 v168), 32 ∣ (k0_mult29 v168).toNat := fun v168 k0_hw14 => k0_hw14.1
theorem k0_off33_inb : ∀ (v168 : BitVec 32) (k0_hw14 : k0_chk14 v168), ∀ a, (k0_off33 v168) a + S8192x256.size a ≤ S106496x256.size a := fun v168 k0_hw14 => k0_hw14.2.1
theorem k0_off33_wordsfp8e4m3 : ∀ (v168 : BitVec 32) (k0_hw14 : k0_chk14 v168), (Rect.unit (s := S106496x256) (k0_off33 v168) S8192x256.size (k0_off33_inb v168 k0_hw14)).WholeWords (EltTy.packing .fp8e4m3) := fun v168 k0_hw14 => k0_hw14.2.2 (k0_off33_inb v168 k0_hw14)

def k0_off34 (k0_t3 : Fin k0_t3_loop.trips) : Fin 1 → Nat :=
  let c4_i32_123 : BitVec 32 := 4#32
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c2_i32_116 : BitVec 32 := 2#32
  let v164 : BitVec 32 := Scalar.addi v127 c2_i32_116
  let v177 : BitVec 32 := Scalar.muli c4_i32_123 v164
  let c3_i32_124 : BitVec 32 := 3#32
  let v178 : BitVec 32 := Scalar.addi v177 c3_i32_124
  let v179 : Index := Scalar.indexCast v178
  ![v179.toNat]
def k0_mult32 (v180 : BitVec 32) : BitVec 32 :=
  v180

def k0_off35 (k0_t3 : Fin k0_t3_loop.trips) : Fin 1 → Nat :=
  let c4_i32_126 : BitVec 32 := 4#32
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c3_i32_125 : BitVec 32 := 3#32
  let v182 : BitVec 32 := Scalar.addi v127 c3_i32_125
  let v183 : BitVec 32 := Scalar.muli c4_i32_126 v182
  let c3_i32_127 : BitVec 32 := 3#32
  let v184 : BitVec 32 := Scalar.addi v183 c3_i32_127
  let v185 : Index := Scalar.indexCast v184
  ![v185.toNat]
def k0_mult33 (v186 : BitVec 32) : BitVec 32 :=
  v186

def k0_mult34 : BitVec 32 :=
  let c0_i32_128 : BitVec 32 := 0#32
  c0_i32_128
def k0_mult35 : BitVec 32 :=
  let c0_i32_129 : BitVec 32 := 0#32
  c0_i32_129
def k0_off36 (k0_t3 : Fin k0_t3_loop.trips) : Fin 1 → Nat :=
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c3_i32_125 : BitVec 32 := 3#32
  let v182 : BitVec 32 := Scalar.addi v127 c3_i32_125
  let c64_i32_130 : BitVec 32 := 64#32
  let v190 : BitVec 32 := Scalar.remsi v182 c64_i32_130
  ![v190.toNat]
def k0_off37 (v186 : BitVec 32) : Fin 2 → Nat :=
  let v187 : BitVec 32 := v186
  let c0_i32_131 : BitVec 32 := 0#32
  ![v187.toNat, 0]

def k0_chk16 (v186 : BitVec 32) : Prop :=
  (32 ∣ (k0_mult33 v186).toNat) ∧
  (∀ a, (k0_off37 v186) a + S2176x256.size a ≤ S106496x256.size a) ∧
  (∀ (hinb : ∀ a, (k0_off37 v186) a + S2176x256.size a ≤ S106496x256.size a), (Rect.unit (s := S106496x256) (k0_off37 v186) S2176x256.size hinb).WholeWords (EltTy.packing .i8))
theorem k0_mult33_dvd : ∀ (v186 : BitVec 32) (k0_hw16 : k0_chk16 v186), 32 ∣ (k0_mult33 v186).toNat := fun v186 k0_hw16 => k0_hw16.1
theorem k0_off37_inb : ∀ (v186 : BitVec 32) (k0_hw16 : k0_chk16 v186), ∀ a, (k0_off37 v186) a + S2176x256.size a ≤ S106496x256.size a := fun v186 k0_hw16 => k0_hw16.2.1
theorem k0_off37_wordsi8 : ∀ (v186 : BitVec 32) (k0_hw16 : k0_chk16 v186), (Rect.unit (s := S106496x256) (k0_off37 v186) S2176x256.size (k0_off37_inb v186 k0_hw16)).WholeWords (EltTy.packing .i8) := fun v186 k0_hw16 => k0_hw16.2.2 (k0_off37_inb v186 k0_hw16)

def k0_off38 (k0_t3 : Fin k0_t3_loop.trips) : Fin 1 → Nat :=
  let c4_i32_132 : BitVec 32 := 4#32
  let c0_i32_99 : BitVec 32 := 0#32
  let c4_i32 : BitVec 32 := 4#32
  let c0_i32_8 : BitVec 32 := 0#32
  let c1_i32_9 : BitVec 32 := 1#32
  let arg27 : BitVec 32 := Scf.iv c0_i32_8 c1_i32_9 k0_t3
  let v126 : BitVec 32 := Scalar.muli c4_i32 arg27
  let v127 : BitVec 32 := Scalar.addi c0_i32_99 v126
  let c3_i32_125 : BitVec 32 := 3#32
  let v182 : BitVec 32 := Scalar.addi v127 c3_i32_125
  let v195 : BitVec 32 := Scalar.muli c4_i32_132 v182
  let c3_i32_133 : BitVec 32 := 3#32
  let v196 : BitVec 32 := Scalar.addi v195 c3_i32_133
  let v197 : Index := Scalar.indexCast v196
  ![v197.toNat]
def k0_mult36 (v198 : BitVec 32) : BitVec 32 :=
  v198

def k0_off39 (v144 : BitVec 32) : Fin 2 → Nat :=
  let v145 : BitVec 32 := v144
  let v200 : Index := Scalar.indexCast v145
  let c0_134 : Index := 0#32
  ![v200.toNat, 0]

def k0_chk11 (v144 : BitVec 32) : Prop :=
  (32 ∣ (k0_mult24 v144).toNat) ∧
  (∀ a, (k0_off39 v144) a + S8192x256.size a ≤ S106496x256.size a)
theorem k0_mult24_dvd : ∀ (v144 : BitVec 32) (k0_hw11 : k0_chk11 v144), 32 ∣ (k0_mult24 v144).toNat := fun v144 k0_hw11 => k0_hw11.1
theorem k0_off39_inb : ∀ (v144 : BitVec 32) (k0_hw11 : k0_chk11 v144), ∀ a, (k0_off39 v144) a + S8192x256.size a ≤ S106496x256.size a := fun v144 k0_hw11 => k0_hw11.2

def k0_off40 (v180 : BitVec 32) : Fin 2 → Nat :=
  let v181 : BitVec 32 := v180
  let v202 : Index := Scalar.indexCast v181
  let c0_135 : Index := 0#32
  ![v202.toNat, 0]

def k0_chk15 (v180 : BitVec 32) : Prop :=
  (32 ∣ (k0_mult32 v180).toNat) ∧
  (∀ a, (k0_off40 v180) a + S8192x256.size a ≤ S106496x256.size a)
theorem k0_mult32_dvd : ∀ (v180 : BitVec 32) (k0_hw15 : k0_chk15 v180), 32 ∣ (k0_mult32 v180).toNat := fun v180 k0_hw15 => k0_hw15.1
theorem k0_off40_inb : ∀ (v180 : BitVec 32) (k0_hw15 : k0_chk15 v180), ∀ a, (k0_off40 v180) a + S8192x256.size a ≤ S106496x256.size a := fun v180 k0_hw15 => k0_hw15.2

def k0_off41 (v162 : BitVec 32) : Fin 2 → Nat :=
  let v163 : BitVec 32 := v162
  let v207 : Index := Scalar.indexCast v163
  let c0_139 : Index := 0#32
  ![v207.toNat, 0]

def k0_chk13 (v162 : BitVec 32) : Prop :=
  (32 ∣ (k0_mult28 v162).toNat) ∧
  (∀ a, (k0_off41 v162) a + S2176x256.size a ≤ S106496x256.size a)
theorem k0_mult28_dvd : ∀ (v162 : BitVec 32) (k0_hw13 : k0_chk13 v162), 32 ∣ (k0_mult28 v162).toNat := fun v162 k0_hw13 => k0_hw13.1
theorem k0_off41_inb : ∀ (v162 : BitVec 32) (k0_hw13 : k0_chk13 v162), ∀ a, (k0_off41 v162) a + S2176x256.size a ≤ S106496x256.size a := fun v162 k0_hw13 => k0_hw13.2

def k0_off42 (v198 : BitVec 32) : Fin 2 → Nat :=
  let v199 : BitVec 32 := v198
  let v210 : Index := Scalar.indexCast v199
  let c0_140 : Index := 0#32
  ![v210.toNat, 0]

def k0_chk17 (v198 : BitVec 32) : Prop :=
  (32 ∣ (k0_mult36 v198).toNat) ∧
  (∀ a, (k0_off42 v198) a + S2176x256.size a ≤ S106496x256.size a)
theorem k0_mult36_dvd : ∀ (v198 : BitVec 32) (k0_hw17 : k0_chk17 v198), 32 ∣ (k0_mult36 v198).toNat := fun v198 k0_hw17 => k0_hw17.1
theorem k0_off42_inb : ∀ (v198 : BitVec 32) (k0_hw17 : k0_chk17 v198), ∀ a, (k0_off42 v198) a + S2176x256.size a ≤ S106496x256.size a := fun v198 k0_hw17 => k0_hw17.2

def k0_off43 (k0_t3 : Fin k0_t3_loop.trips) : Fin 2 → Nat :=
  let c0_150 : Index := 0#32
  let c0_i32_8 : BitVec 32 := 0#32
  let c1_i32_9 : BitVec 32 := 1#32
  let arg27 : BitVec 32 := Scf.iv c0_i32_8 c1_i32_9 k0_t3
  let c256_i32 : BitVec 32 := 256#32
  let v114 : BitVec 32 := Scalar.muli arg27 c256_i32
  let v115 : BitVec 32 := v114
  let v232 : Index := Scalar.indexCast v115
  ![0, v232.toNat]
def k0_off44 (k0_t3 : Fin k0_t3_loop.trips) : Fin 1 → Nat :=
  let c0_i32_151 : BitVec 32 := 0#32
  let c0_i32_8 : BitVec 32 := 0#32
  let c1_i32_9 : BitVec 32 := 1#32
  let arg27 : BitVec 32 := Scf.iv c0_i32_8 c1_i32_9 k0_t3
  let v234 : BitVec 32 := Scalar.addi c0_i32_151 arg27
  let v235 : Index := Scalar.indexCast v234
  ![v235.toNat]
def k0_off45 (k0_t3 : Fin k0_t3_loop.trips) : Fin 1 → Nat :=
  let c0_i32_151 : BitVec 32 := 0#32
  let c0_i32_8 : BitVec 32 := 0#32
  let c1_i32_9 : BitVec 32 := 1#32
  let arg27 : BitVec 32 := Scf.iv c0_i32_8 c1_i32_9 k0_t3
  let v234 : BitVec 32 := Scalar.addi c0_i32_151 arg27
  let c1_i32_152 : BitVec 32 := 1#32
  let v237 : BitVec 32 := Scalar.addi v234 c1_i32_152
  let v238 : Index := Scalar.indexCast v237
  ![v238.toNat]
@[reducible] def k0_t4_loop (v236 : BitVec 32) (v239 : BitVec 32) : Scf.Loop 32 :=
  let v240 : BitVec 32 := Scalar.subi v239 v236
  let c1_i32_154 : BitVec 32 := 1#32
  let v242 : BitVec 32 := Scalar.divsi v240 c1_i32_154
  let v243 : BitVec 32 := Scalar.muli v242 c1_i32_154
  let v244 : BitVec 32 := Scalar.addi v236 v243
  let c1_i32_155 : BitVec 32 := 1#32
  ⟨v236, v244, c1_i32_155⟩

def k0_off46 (v236 : BitVec 32) (v239 : BitVec 32) (k0_t4 : Fin (k0_t4_loop v236 v239).trips) (c0_i32_158 : BitVec 32) : Fin 1 → Nat :=
  let c4_i32_157 : BitVec 32 := 4#32
  let c1_i32_155 : BitVec 32 := 1#32
  let arg28 : BitVec 32 := Scf.iv v236 c1_i32_155 k0_t4
  let v245 : BitVec 32 := Scalar.muli c4_i32_157 arg28
  let v246 : BitVec 32 := Scalar.addi v245 c0_i32_158
  let v247 : Index := Scalar.indexCast v246
  ![v247.toNat]
def k0_mult37 (v260 : BitVec 32) : BitVec 32 :=
  v260
def k0_cond7 (v248 : BitVec 32) : BitVec 1 :=
  let c0_i32_165 : BitVec 32 := 0#32
  let v261 : BitVec 1 := Scalar.cmpi .eq v248 c0_i32_165
  let v262 : BitVec 32 := Scalar.extui v261
  let c0_i32_166 : BitVec 32 := 0#32
  let v263 : BitVec 1 := Scalar.cmpi .ne v262 c0_i32_166
  v263

def k0_mult38 (v252 : BitVec 32) : BitVec 32 :=
  v252

def k0_mult39 (v256 : BitVec 32) : BitVec 32 :=
  v256

def k0_off47 (v236 : BitVec 32) (v239 : BitVec 32) (k0_t4 : Fin (k0_t4_loop v236 v239).trips) : Fin 1 → Nat :=
  let c1_i32_155 : BitVec 32 := 1#32
  let arg28 : BitVec 32 := Scf.iv v236 c1_i32_155 k0_t4
  let c64_i32_171 : BitVec 32 := 64#32
  let v273 : BitVec 32 := Scalar.remsi arg28 c64_i32_171
  ![v273.toNat]

def k0_off48 (v260 : BitVec 32) : Fin 2 → Nat :=
  let v270 : BitVec 32 := v260
  let c0_i32_172 : BitVec 32 := 0#32
  ![v270.toNat, 0]
def k0_off49 (v252 : BitVec 32) (v256 : BitVec 32) : Fin 2 → Nat :=
  let v271 : BitVec 32 := v252
  let v272 : BitVec 32 := v256
  ![v271.toNat, v272.toNat]
def k0_mult40 (v260 : BitVec 32) : BitVec 32 :=
  v260
def k0_cond8 (v248 : BitVec 32) : BitVec 1 :=
  let c3_i32_167 : BitVec 32 := 3#32
  let v264 : BitVec 1 := Scalar.cmpi .eq v248 c3_i32_167
  let v265 : BitVec 32 := Scalar.extui v264
  let c0_i32_168 : BitVec 32 := 0#32
  let v266 : BitVec 1 := Scalar.cmpi .ne v265 c0_i32_168
  v266

def k0_mult41 (v252 : BitVec 32) : BitVec 32 :=
  v252
def k0_mult42 (v256 : BitVec 32) : BitVec 32 :=
  v256
def k0_off50 (v236 : BitVec 32) (v239 : BitVec 32) (k0_t4 : Fin (k0_t4_loop v236 v239).trips) : Fin 1 → Nat :=
  let c1_i32_155 : BitVec 32 := 1#32
  let arg28 : BitVec 32 := Scf.iv v236 c1_i32_155 k0_t4
  let c64_i32_171 : BitVec 32 := 64#32
  let v273 : BitVec 32 := Scalar.remsi arg28 c64_i32_171
  ![v273.toNat]
def k0_off51 (v260 : BitVec 32) : Fin 2 → Nat :=
  let v270 : BitVec 32 := v260
  let c0_i32_172 : BitVec 32 := 0#32
  ![v270.toNat, 0]
def k0_off52 (v252 : BitVec 32) (v256 : BitVec 32) : Fin 2 → Nat :=
  let v271 : BitVec 32 := v252
  let v272 : BitVec 32 := v256
  ![v271.toNat, v272.toNat]
def k0_mult43 (v260 : BitVec 32) : BitVec 32 :=
  v260
def k0_cond9 (v248 : BitVec 32) : BitVec 1 :=
  let c4_i32_169 : BitVec 32 := 4#32
  let v267 : BitVec 1 := Scalar.cmpi .eq v248 c4_i32_169
  let v268 : BitVec 32 := Scalar.extui v267
  let c0_i32_170 : BitVec 32 := 0#32
  let v269 : BitVec 1 := Scalar.cmpi .ne v268 c0_i32_170
  v269

def k0_mult44 (v252 : BitVec 32) : BitVec 32 :=
  v252

def k0_chk20 (v248 : BitVec 32) (v252 : BitVec 32) : Prop :=
  (∀ (k0_h7 : k0_cond7 v248 = 1#1), 32 ∣ (k0_mult38 v252).toNat) ∧
  (∀ (k0_h8 : k0_cond8 v248 = 1#1), 32 ∣ (k0_mult41 v252).toNat) ∧
  (∀ (k0_h9 : k0_cond9 v248 = 1#1), 32 ∣ (k0_mult44 v252).toNat)
theorem k0_mult38_dvd : ∀ (v248 : BitVec 32) (v252 : BitVec 32) (k0_hw20 : k0_chk20 v248 v252), ∀ (k0_h7 : k0_cond7 v248 = 1#1), 32 ∣ (k0_mult38 v252).toNat := fun v248 v252 k0_hw20 k0_h7 => k0_hw20.1 k0_h7
theorem k0_mult41_dvd : ∀ (v248 : BitVec 32) (v252 : BitVec 32) (k0_hw20 : k0_chk20 v248 v252), ∀ (k0_h8 : k0_cond8 v248 = 1#1), 32 ∣ (k0_mult41 v252).toNat := fun v248 v252 k0_hw20 k0_h8 => k0_hw20.2.1 k0_h8
theorem k0_mult44_dvd : ∀ (v248 : BitVec 32) (v252 : BitVec 32) (k0_hw20 : k0_chk20 v248 v252), ∀ (k0_h9 : k0_cond9 v248 = 1#1), 32 ∣ (k0_mult44 v252).toNat := fun v248 v252 k0_hw20 k0_h9 => k0_hw20.2.2 k0_h9

def k0_mult45 (v256 : BitVec 32) : BitVec 32 :=
  v256
def k0_off53 (v236 : BitVec 32) (v239 : BitVec 32) (k0_t4 : Fin (k0_t4_loop v236 v239).trips) : Fin 1 → Nat :=
  let c1_i32_155 : BitVec 32 := 1#32
  let arg28 : BitVec 32 := Scf.iv v236 c1_i32_155 k0_t4
  let c64_i32_171 : BitVec 32 := 64#32
  let v273 : BitVec 32 := Scalar.remsi arg28 c64_i32_171
  ![v273.toNat]

def k0_chk22 (v236 : BitVec 32) (v239 : BitVec 32) (k0_t4 : Fin (k0_t4_loop v236 v239).trips) (v248 : BitVec 32) : Prop :=
  (∀ (k0_h7 : k0_cond7 v248 = 1#1), ∀ a, (k0_off47 v236 v239 k0_t4) a + S1.size a ≤ S64.size a) ∧
  (∀ (k0_h8 : k0_cond8 v248 = 1#1), ∀ a, (k0_off50 v236 v239 k0_t4) a + S1.size a ≤ S64.size a) ∧
  (∀ (k0_h9 : k0_cond9 v248 = 1#1), ∀ a, (k0_off53 v236 v239 k0_t4) a + S1.size a ≤ S64.size a)
theorem k0_off47_inb : ∀ (v236 : BitVec 32) (v239 : BitVec 32) (k0_t4 : Fin (k0_t4_loop v236 v239).trips) (v248 : BitVec 32) (k0_hw22 : k0_chk22 v236 v239 k0_t4 v248), ∀ (k0_h7 : k0_cond7 v248 = 1#1), ∀ a, (k0_off47 v236 v239 k0_t4) a + S1.size a ≤ S64.size a := fun v236 v239 k0_t4 v248 k0_hw22 k0_h7 => k0_hw22.1 k0_h7
theorem k0_off50_inb : ∀ (v236 : BitVec 32) (v239 : BitVec 32) (k0_t4 : Fin (k0_t4_loop v236 v239).trips) (v248 : BitVec 32) (k0_hw22 : k0_chk22 v236 v239 k0_t4 v248), ∀ (k0_h8 : k0_cond8 v248 = 1#1), ∀ a, (k0_off50 v236 v239 k0_t4) a + S1.size a ≤ S64.size a := fun v236 v239 k0_t4 v248 k0_hw22 k0_h8 => k0_hw22.2.1 k0_h8
theorem k0_off53_inb : ∀ (v236 : BitVec 32) (v239 : BitVec 32) (k0_t4 : Fin (k0_t4_loop v236 v239).trips) (v248 : BitVec 32) (k0_hw22 : k0_chk22 v236 v239 k0_t4 v248), ∀ (k0_h9 : k0_cond9 v248 = 1#1), ∀ a, (k0_off53 v236 v239 k0_t4) a + S1.size a ≤ S64.size a := fun v236 v239 k0_t4 v248 k0_hw22 k0_h9 => k0_hw22.2.2 k0_h9

def k0_off54 (v260 : BitVec 32) : Fin 2 → Nat :=
  let v270 : BitVec 32 := v260
  let c0_i32_172 : BitVec 32 := 0#32
  ![v270.toNat, 0]
def k0_off55 (v252 : BitVec 32) (v256 : BitVec 32) : Fin 2 → Nat :=
  let v271 : BitVec 32 := v252
  let v272 : BitVec 32 := v256
  ![v271.toNat, v272.toNat]

def k0_chk21 (v248 : BitVec 32) (v252 : BitVec 32) (v256 : BitVec 32) : Prop :=
  (∀ (k0_h7 : k0_cond7 v248 = 1#1), 256 ∣ (k0_mult39 v256).toNat) ∧
  (∀ (k0_h7 : k0_cond7 v248 = 1#1), ∀ a, (k0_off49 v252 v256) a + S2176x256.size a ≤ S30240x8192.size a) ∧
  (∀ (k0_h7 : k0_cond7 v248 = 1#1), ∀ (hinb : ∀ a, (k0_off49 v252 v256) a + S2176x256.size a ≤ S30240x8192.size a), (Rect.unit (s := S30240x8192) (k0_off49 v252 v256) S2176x256.size hinb).WholeWords (EltTy.packing .i8)) ∧
  (∀ (k0_h8 : k0_cond8 v248 = 1#1), 256 ∣ (k0_mult42 v256).toNat) ∧
  (∀ (k0_h8 : k0_cond8 v248 = 1#1), ∀ a, (k0_off52 v252 v256) a + S8192x256.size a ≤ S8192x14336.size a) ∧
  (∀ (k0_h8 : k0_cond8 v248 = 1#1), ∀ (hinb : ∀ a, (k0_off52 v252 v256) a + S8192x256.size a ≤ S8192x14336.size a), (Rect.unit (s := S8192x14336) (k0_off52 v252 v256) S8192x256.size hinb).WholeWords (EltTy.packing .fp8e4m3)) ∧
  (∀ (k0_h9 : k0_cond9 v248 = 1#1), 256 ∣ (k0_mult45 v256).toNat) ∧
  (∀ (k0_h9 : k0_cond9 v248 = 1#1), ∀ a, (k0_off55 v252 v256) a + S7168x256.size a ≤ S7168x8192.size a) ∧
  (∀ (k0_h9 : k0_cond9 v248 = 1#1), ∀ (hinb : ∀ a, (k0_off55 v252 v256) a + S7168x256.size a ≤ S7168x8192.size a), (Rect.unit (s := S7168x8192) (k0_off55 v252 v256) S7168x256.size hinb).WholeWords (EltTy.packing .fp8e4m3))
theorem k0_mult39_dvd : ∀ (v248 : BitVec 32) (v252 : BitVec 32) (v256 : BitVec 32) (k0_hw21 : k0_chk21 v248 v252 v256), ∀ (k0_h7 : k0_cond7 v248 = 1#1), 256 ∣ (k0_mult39 v256).toNat := fun v248 v252 v256 k0_hw21 k0_h7 => k0_hw21.1 k0_h7
theorem k0_off49_inb : ∀ (v248 : BitVec 32) (v252 : BitVec 32) (v256 : BitVec 32) (k0_hw21 : k0_chk21 v248 v252 v256), ∀ (k0_h7 : k0_cond7 v248 = 1#1), ∀ a, (k0_off49 v252 v256) a + S2176x256.size a ≤ S30240x8192.size a := fun v248 v252 v256 k0_hw21 k0_h7 => k0_hw21.2.1 k0_h7
theorem k0_off49_wordsi8 : ∀ (v248 : BitVec 32) (v252 : BitVec 32) (v256 : BitVec 32) (k0_hw21 : k0_chk21 v248 v252 v256), ∀ (k0_h7 : k0_cond7 v248 = 1#1), (Rect.unit (s := S30240x8192) (k0_off49 v252 v256) S2176x256.size (k0_off49_inb v248 v252 v256 k0_hw21 k0_h7)).WholeWords (EltTy.packing .i8) := fun v248 v252 v256 k0_hw21 k0_h7 => k0_hw21.2.2.1 k0_h7 (k0_off49_inb v248 v252 v256 k0_hw21 k0_h7)
theorem k0_mult42_dvd : ∀ (v248 : BitVec 32) (v252 : BitVec 32) (v256 : BitVec 32) (k0_hw21 : k0_chk21 v248 v252 v256), ∀ (k0_h8 : k0_cond8 v248 = 1#1), 256 ∣ (k0_mult42 v256).toNat := fun v248 v252 v256 k0_hw21 k0_h8 => k0_hw21.2.2.2.1 k0_h8
theorem k0_off52_inb : ∀ (v248 : BitVec 32) (v252 : BitVec 32) (v256 : BitVec 32) (k0_hw21 : k0_chk21 v248 v252 v256), ∀ (k0_h8 : k0_cond8 v248 = 1#1), ∀ a, (k0_off52 v252 v256) a + S8192x256.size a ≤ S8192x14336.size a := fun v248 v252 v256 k0_hw21 k0_h8 => k0_hw21.2.2.2.2.1 k0_h8
theorem k0_off52_wordsfp8e4m3 : ∀ (v248 : BitVec 32) (v252 : BitVec 32) (v256 : BitVec 32) (k0_hw21 : k0_chk21 v248 v252 v256), ∀ (k0_h8 : k0_cond8 v248 = 1#1), (Rect.unit (s := S8192x14336) (k0_off52 v252 v256) S8192x256.size (k0_off52_inb v248 v252 v256 k0_hw21 k0_h8)).WholeWords (EltTy.packing .fp8e4m3) := fun v248 v252 v256 k0_hw21 k0_h8 => k0_hw21.2.2.2.2.2.1 k0_h8 (k0_off52_inb v248 v252 v256 k0_hw21 k0_h8)
theorem k0_mult45_dvd : ∀ (v248 : BitVec 32) (v252 : BitVec 32) (v256 : BitVec 32) (k0_hw21 : k0_chk21 v248 v252 v256), ∀ (k0_h9 : k0_cond9 v248 = 1#1), 256 ∣ (k0_mult45 v256).toNat := fun v248 v252 v256 k0_hw21 k0_h9 => k0_hw21.2.2.2.2.2.2.1 k0_h9
theorem k0_off55_inb : ∀ (v248 : BitVec 32) (v252 : BitVec 32) (v256 : BitVec 32) (k0_hw21 : k0_chk21 v248 v252 v256), ∀ (k0_h9 : k0_cond9 v248 = 1#1), ∀ a, (k0_off55 v252 v256) a + S7168x256.size a ≤ S7168x8192.size a := fun v248 v252 v256 k0_hw21 k0_h9 => k0_hw21.2.2.2.2.2.2.2.1 k0_h9
theorem k0_off55_wordsfp8e4m3 : ∀ (v248 : BitVec 32) (v252 : BitVec 32) (v256 : BitVec 32) (k0_hw21 : k0_chk21 v248 v252 v256), ∀ (k0_h9 : k0_cond9 v248 = 1#1), (Rect.unit (s := S7168x8192) (k0_off55 v252 v256) S7168x256.size (k0_off55_inb v248 v252 v256 k0_hw21 k0_h9)).WholeWords (EltTy.packing .fp8e4m3) := fun v248 v252 v256 k0_hw21 k0_h9 => k0_hw21.2.2.2.2.2.2.2.2 k0_h9 (k0_off55_inb v248 v252 v256 k0_hw21 k0_h9)

def k0_chk19 (v248 : BitVec 32) (v260 : BitVec 32) : Prop :=
  (∀ (k0_h7 : k0_cond7 v248 = 1#1), 32 ∣ (k0_mult37 v260).toNat) ∧
  (∀ (k0_h7 : k0_cond7 v248 = 1#1), ∀ a, (k0_off48 v260) a + S2176x256.size a ≤ S106496x256.size a) ∧
  (∀ (k0_h7 : k0_cond7 v248 = 1#1), ∀ (hinb : ∀ a, (k0_off48 v260) a + S2176x256.size a ≤ S106496x256.size a), (Rect.unit (s := S106496x256) (k0_off48 v260) S2176x256.size hinb).WholeWords (EltTy.packing .i8)) ∧
  (∀ (k0_h8 : k0_cond8 v248 = 1#1), 32 ∣ (k0_mult40 v260).toNat) ∧
  (∀ (k0_h8 : k0_cond8 v248 = 1#1), ∀ a, (k0_off51 v260) a + S8192x256.size a ≤ S106496x256.size a) ∧
  (∀ (k0_h8 : k0_cond8 v248 = 1#1), ∀ (hinb : ∀ a, (k0_off51 v260) a + S8192x256.size a ≤ S106496x256.size a), (Rect.unit (s := S106496x256) (k0_off51 v260) S8192x256.size hinb).WholeWords (EltTy.packing .fp8e4m3)) ∧
  (∀ (k0_h9 : k0_cond9 v248 = 1#1), 32 ∣ (k0_mult43 v260).toNat) ∧
  (∀ (k0_h9 : k0_cond9 v248 = 1#1), ∀ a, (k0_off54 v260) a + S7168x256.size a ≤ S106496x256.size a) ∧
  (∀ (k0_h9 : k0_cond9 v248 = 1#1), ∀ (hinb : ∀ a, (k0_off54 v260) a + S7168x256.size a ≤ S106496x256.size a), (Rect.unit (s := S106496x256) (k0_off54 v260) S7168x256.size hinb).WholeWords (EltTy.packing .fp8e4m3))
theorem k0_mult37_dvd : ∀ (v248 : BitVec 32) (v260 : BitVec 32) (k0_hw19 : k0_chk19 v248 v260), ∀ (k0_h7 : k0_cond7 v248 = 1#1), 32 ∣ (k0_mult37 v260).toNat := fun v248 v260 k0_hw19 k0_h7 => k0_hw19.1 k0_h7
theorem k0_off48_inb : ∀ (v248 : BitVec 32) (v260 : BitVec 32) (k0_hw19 : k0_chk19 v248 v260), ∀ (k0_h7 : k0_cond7 v248 = 1#1), ∀ a, (k0_off48 v260) a + S2176x256.size a ≤ S106496x256.size a := fun v248 v260 k0_hw19 k0_h7 => k0_hw19.2.1 k0_h7
theorem k0_off48_wordsi8 : ∀ (v248 : BitVec 32) (v260 : BitVec 32) (k0_hw19 : k0_chk19 v248 v260), ∀ (k0_h7 : k0_cond7 v248 = 1#1), (Rect.unit (s := S106496x256) (k0_off48 v260) S2176x256.size (k0_off48_inb v248 v260 k0_hw19 k0_h7)).WholeWords (EltTy.packing .i8) := fun v248 v260 k0_hw19 k0_h7 => k0_hw19.2.2.1 k0_h7 (k0_off48_inb v248 v260 k0_hw19 k0_h7)
theorem k0_mult40_dvd : ∀ (v248 : BitVec 32) (v260 : BitVec 32) (k0_hw19 : k0_chk19 v248 v260), ∀ (k0_h8 : k0_cond8 v248 = 1#1), 32 ∣ (k0_mult40 v260).toNat := fun v248 v260 k0_hw19 k0_h8 => k0_hw19.2.2.2.1 k0_h8
theorem k0_off51_inb : ∀ (v248 : BitVec 32) (v260 : BitVec 32) (k0_hw19 : k0_chk19 v248 v260), ∀ (k0_h8 : k0_cond8 v248 = 1#1), ∀ a, (k0_off51 v260) a + S8192x256.size a ≤ S106496x256.size a := fun v248 v260 k0_hw19 k0_h8 => k0_hw19.2.2.2.2.1 k0_h8
theorem k0_off51_wordsfp8e4m3 : ∀ (v248 : BitVec 32) (v260 : BitVec 32) (k0_hw19 : k0_chk19 v248 v260), ∀ (k0_h8 : k0_cond8 v248 = 1#1), (Rect.unit (s := S106496x256) (k0_off51 v260) S8192x256.size (k0_off51_inb v248 v260 k0_hw19 k0_h8)).WholeWords (EltTy.packing .fp8e4m3) := fun v248 v260 k0_hw19 k0_h8 => k0_hw19.2.2.2.2.2.1 k0_h8 (k0_off51_inb v248 v260 k0_hw19 k0_h8)
theorem k0_mult43_dvd : ∀ (v248 : BitVec 32) (v260 : BitVec 32) (k0_hw19 : k0_chk19 v248 v260), ∀ (k0_h9 : k0_cond9 v248 = 1#1), 32 ∣ (k0_mult43 v260).toNat := fun v248 v260 k0_hw19 k0_h9 => k0_hw19.2.2.2.2.2.2.1 k0_h9
theorem k0_off54_inb : ∀ (v248 : BitVec 32) (v260 : BitVec 32) (k0_hw19 : k0_chk19 v248 v260), ∀ (k0_h9 : k0_cond9 v248 = 1#1), ∀ a, (k0_off54 v260) a + S7168x256.size a ≤ S106496x256.size a := fun v248 v260 k0_hw19 k0_h9 => k0_hw19.2.2.2.2.2.2.2.1 k0_h9
theorem k0_off54_wordsfp8e4m3 : ∀ (v248 : BitVec 32) (v260 : BitVec 32) (k0_hw19 : k0_chk19 v248 v260), ∀ (k0_h9 : k0_cond9 v248 = 1#1), (Rect.unit (s := S106496x256) (k0_off54 v260) S7168x256.size (k0_off54_inb v248 v260 k0_hw19 k0_h9)).WholeWords (EltTy.packing .fp8e4m3) := fun v248 v260 k0_hw19 k0_h9 => k0_hw19.2.2.2.2.2.2.2.2 k0_h9 (k0_off54_inb v248 v260 k0_hw19 k0_h9)

@[reducible] def k0_t5_loop (v236 : BitVec 32) (v239 : BitVec 32) : Scf.Loop 32 :=
  let v240 : BitVec 32 := Scalar.subi v239 v236
  let c1_i32_154 : BitVec 32 := 1#32
  let v242 : BitVec 32 := Scalar.divsi v240 c1_i32_154
  let v243 : BitVec 32 := Scalar.muli v242 c1_i32_154
  let v244 : BitVec 32 := Scalar.addi v236 v243
  let v241 : BitVec 32 := Scalar.addi v236 v240
  let c1_i32_156 : BitVec 32 := 1#32
  ⟨v244, v241, c1_i32_156⟩
def k0_off56 (v236 : BitVec 32) (v239 : BitVec 32) (k0_t5 : Fin (k0_t5_loop v236 v239).trips) (c0_i32_158 : BitVec 32) : Fin 1 → Nat :=
  let c4_i32_157 : BitVec 32 := 4#32
  let v240 : BitVec 32 := Scalar.subi v239 v236
  let c1_i32_154 : BitVec 32 := 1#32
  let v242 : BitVec 32 := Scalar.divsi v240 c1_i32_154
  let v243 : BitVec 32 := Scalar.muli v242 c1_i32_154
  let v244 : BitVec 32 := Scalar.addi v236 v243
  let c1_i32_156 : BitVec 32 := 1#32
  let arg28 : BitVec 32 := Scf.iv v244 c1_i32_156 k0_t5
  let v245 : BitVec 32 := Scalar.muli c4_i32_157 arg28
  let v246 : BitVec 32 := Scalar.addi v245 c0_i32_158
  let v247 : Index := Scalar.indexCast v246
  ![v247.toNat]

def k0_chk18 (v236 : BitVec 32) (v239 : BitVec 32) : Prop :=
  ((k0_t4_loop v236 v239).OK) ∧
  (∀ k0_t4 : Fin (k0_t4_loop v236 v239).trips, ∀ (r : Fin 4), ∀ a, (k0_off46 v236 v239 k0_t4 (BitVec.ofNat 32 r.val)) a + S1.size a ≤ S704.size a) ∧
  ((k0_t5_loop v236 v239).OK) ∧
  (∀ k0_t5 : Fin (k0_t5_loop v236 v239).trips, ∀ (r : Fin 4), ∀ a, (k0_off56 v236 v239 k0_t5 (BitVec.ofNat 32 r.val)) a + S1.size a ≤ S704.size a)
theorem k0_t4_ok : ∀ (v236 : BitVec 32) (v239 : BitVec 32) (k0_hw18 : k0_chk18 v236 v239), (k0_t4_loop v236 v239).OK := fun v236 v239 k0_hw18 => k0_hw18.1
theorem k0_off46_inb : ∀ (v236 : BitVec 32) (v239 : BitVec 32) (k0_hw18 : k0_chk18 v236 v239) (k0_t4 : Fin (k0_t4_loop v236 v239).trips), ∀ (r : Fin 4), ∀ a, (k0_off46 v236 v239 k0_t4 (BitVec.ofNat 32 r.val)) a + S1.size a ≤ S704.size a := fun v236 v239 k0_hw18 k0_t4 r => k0_hw18.2.1 k0_t4 r
theorem k0_t5_ok : ∀ (v236 : BitVec 32) (v239 : BitVec 32) (k0_hw18 : k0_chk18 v236 v239), (k0_t5_loop v236 v239).OK := fun v236 v239 k0_hw18 => k0_hw18.2.2.1
theorem k0_off56_inb : ∀ (v236 : BitVec 32) (v239 : BitVec 32) (k0_hw18 : k0_chk18 v236 v239) (k0_t5 : Fin (k0_t5_loop v236 v239).trips), ∀ (r : Fin 4), ∀ a, (k0_off56 v236 v239 k0_t5 (BitVec.ofNat 32 r.val)) a + S1.size a ≤ S704.size a := fun v236 v239 k0_hw18 k0_t5 r => k0_hw18.2.2.2 k0_t5 r

def k0_mult46 (v260 : BitVec 32) : BitVec 32 :=
  v260
def k0_cond10 (v248 : BitVec 32) : BitVec 1 :=
  let c0_i32_165 : BitVec 32 := 0#32
  let v261 : BitVec 1 := Scalar.cmpi .eq v248 c0_i32_165
  let v262 : BitVec 32 := Scalar.extui v261
  let c0_i32_166 : BitVec 32 := 0#32
  let v263 : BitVec 1 := Scalar.cmpi .ne v262 c0_i32_166
  v263

def k0_mult47 (v252 : BitVec 32) : BitVec 32 :=
  v252

def k0_mult48 (v256 : BitVec 32) : BitVec 32 :=
  v256

def k0_off57 (v236 : BitVec 32) (v239 : BitVec 32) (k0_t5 : Fin (k0_t5_loop v236 v239).trips) : Fin 1 → Nat :=
  let v240 : BitVec 32 := Scalar.subi v239 v236
  let c1_i32_154 : BitVec 32 := 1#32
  let v242 : BitVec 32 := Scalar.divsi v240 c1_i32_154
  let v243 : BitVec 32 := Scalar.muli v242 c1_i32_154
  let v244 : BitVec 32 := Scalar.addi v236 v243
  let c1_i32_156 : BitVec 32 := 1#32
  let arg28 : BitVec 32 := Scf.iv v244 c1_i32_156 k0_t5
  let c64_i32_171 : BitVec 32 := 64#32
  let v273 : BitVec 32 := Scalar.remsi arg28 c64_i32_171
  ![v273.toNat]

def k0_off58 (v260 : BitVec 32) : Fin 2 → Nat :=
  let v270 : BitVec 32 := v260
  let c0_i32_172 : BitVec 32 := 0#32
  ![v270.toNat, 0]
def k0_off59 (v252 : BitVec 32) (v256 : BitVec 32) : Fin 2 → Nat :=
  let v271 : BitVec 32 := v252
  let v272 : BitVec 32 := v256
  ![v271.toNat, v272.toNat]
def k0_mult49 (v260 : BitVec 32) : BitVec 32 :=
  v260
def k0_cond11 (v248 : BitVec 32) : BitVec 1 :=
  let c3_i32_167 : BitVec 32 := 3#32
  let v264 : BitVec 1 := Scalar.cmpi .eq v248 c3_i32_167
  let v265 : BitVec 32 := Scalar.extui v264
  let c0_i32_168 : BitVec 32 := 0#32
  let v266 : BitVec 1 := Scalar.cmpi .ne v265 c0_i32_168
  v266

def k0_mult50 (v252 : BitVec 32) : BitVec 32 :=
  v252
def k0_mult51 (v256 : BitVec 32) : BitVec 32 :=
  v256
def k0_off60 (v236 : BitVec 32) (v239 : BitVec 32) (k0_t5 : Fin (k0_t5_loop v236 v239).trips) : Fin 1 → Nat :=
  let v240 : BitVec 32 := Scalar.subi v239 v236
  let c1_i32_154 : BitVec 32 := 1#32
  let v242 : BitVec 32 := Scalar.divsi v240 c1_i32_154
  let v243 : BitVec 32 := Scalar.muli v242 c1_i32_154
  let v244 : BitVec 32 := Scalar.addi v236 v243
  let c1_i32_156 : BitVec 32 := 1#32
  let arg28 : BitVec 32 := Scf.iv v244 c1_i32_156 k0_t5
  let c64_i32_171 : BitVec 32 := 64#32
  let v273 : BitVec 32 := Scalar.remsi arg28 c64_i32_171
  ![v273.toNat]
def k0_off61 (v260 : BitVec 32) : Fin 2 → Nat :=
  let v270 : BitVec 32 := v260
  let c0_i32_172 : BitVec 32 := 0#32
  ![v270.toNat, 0]
def k0_off62 (v252 : BitVec 32) (v256 : BitVec 32) : Fin 2 → Nat :=
  let v271 : BitVec 32 := v252
  let v272 : BitVec 32 := v256
  ![v271.toNat, v272.toNat]
def k0_mult52 (v260 : BitVec 32) : BitVec 32 :=
  v260
def k0_cond12 (v248 : BitVec 32) : BitVec 1 :=
  let c4_i32_169 : BitVec 32 := 4#32
  let v267 : BitVec 1 := Scalar.cmpi .eq v248 c4_i32_169
  let v268 : BitVec 32 := Scalar.extui v267
  let c0_i32_170 : BitVec 32 := 0#32
  let v269 : BitVec 1 := Scalar.cmpi .ne v268 c0_i32_170
  v269

def k0_mult53 (v252 : BitVec 32) : BitVec 32 :=
  v252

def k0_chk24 (v248 : BitVec 32) (v252 : BitVec 32) : Prop :=
  (∀ (k0_h10 : k0_cond10 v248 = 1#1), 32 ∣ (k0_mult47 v252).toNat) ∧
  (∀ (k0_h11 : k0_cond11 v248 = 1#1), 32 ∣ (k0_mult50 v252).toNat) ∧
  (∀ (k0_h12 : k0_cond12 v248 = 1#1), 32 ∣ (k0_mult53 v252).toNat)
theorem k0_mult47_dvd : ∀ (v248 : BitVec 32) (v252 : BitVec 32) (k0_hw24 : k0_chk24 v248 v252), ∀ (k0_h10 : k0_cond10 v248 = 1#1), 32 ∣ (k0_mult47 v252).toNat := fun v248 v252 k0_hw24 k0_h10 => k0_hw24.1 k0_h10
theorem k0_mult50_dvd : ∀ (v248 : BitVec 32) (v252 : BitVec 32) (k0_hw24 : k0_chk24 v248 v252), ∀ (k0_h11 : k0_cond11 v248 = 1#1), 32 ∣ (k0_mult50 v252).toNat := fun v248 v252 k0_hw24 k0_h11 => k0_hw24.2.1 k0_h11
theorem k0_mult53_dvd : ∀ (v248 : BitVec 32) (v252 : BitVec 32) (k0_hw24 : k0_chk24 v248 v252), ∀ (k0_h12 : k0_cond12 v248 = 1#1), 32 ∣ (k0_mult53 v252).toNat := fun v248 v252 k0_hw24 k0_h12 => k0_hw24.2.2 k0_h12

def k0_mult54 (v256 : BitVec 32) : BitVec 32 :=
  v256
def k0_off63 (v236 : BitVec 32) (v239 : BitVec 32) (k0_t5 : Fin (k0_t5_loop v236 v239).trips) : Fin 1 → Nat :=
  let v240 : BitVec 32 := Scalar.subi v239 v236
  let c1_i32_154 : BitVec 32 := 1#32
  let v242 : BitVec 32 := Scalar.divsi v240 c1_i32_154
  let v243 : BitVec 32 := Scalar.muli v242 c1_i32_154
  let v244 : BitVec 32 := Scalar.addi v236 v243
  let c1_i32_156 : BitVec 32 := 1#32
  let arg28 : BitVec 32 := Scf.iv v244 c1_i32_156 k0_t5
  let c64_i32_171 : BitVec 32 := 64#32
  let v273 : BitVec 32 := Scalar.remsi arg28 c64_i32_171
  ![v273.toNat]

def k0_chk26 (v236 : BitVec 32) (v239 : BitVec 32) (k0_t5 : Fin (k0_t5_loop v236 v239).trips) (v248 : BitVec 32) : Prop :=
  (∀ (k0_h10 : k0_cond10 v248 = 1#1), ∀ a, (k0_off57 v236 v239 k0_t5) a + S1.size a ≤ S64.size a) ∧
  (∀ (k0_h11 : k0_cond11 v248 = 1#1), ∀ a, (k0_off60 v236 v239 k0_t5) a + S1.size a ≤ S64.size a) ∧
  (∀ (k0_h12 : k0_cond12 v248 = 1#1), ∀ a, (k0_off63 v236 v239 k0_t5) a + S1.size a ≤ S64.size a)
theorem k0_off57_inb : ∀ (v236 : BitVec 32) (v239 : BitVec 32) (k0_t5 : Fin (k0_t5_loop v236 v239).trips) (v248 : BitVec 32) (k0_hw26 : k0_chk26 v236 v239 k0_t5 v248), ∀ (k0_h10 : k0_cond10 v248 = 1#1), ∀ a, (k0_off57 v236 v239 k0_t5) a + S1.size a ≤ S64.size a := fun v236 v239 k0_t5 v248 k0_hw26 k0_h10 => k0_hw26.1 k0_h10
theorem k0_off60_inb : ∀ (v236 : BitVec 32) (v239 : BitVec 32) (k0_t5 : Fin (k0_t5_loop v236 v239).trips) (v248 : BitVec 32) (k0_hw26 : k0_chk26 v236 v239 k0_t5 v248), ∀ (k0_h11 : k0_cond11 v248 = 1#1), ∀ a, (k0_off60 v236 v239 k0_t5) a + S1.size a ≤ S64.size a := fun v236 v239 k0_t5 v248 k0_hw26 k0_h11 => k0_hw26.2.1 k0_h11
theorem k0_off63_inb : ∀ (v236 : BitVec 32) (v239 : BitVec 32) (k0_t5 : Fin (k0_t5_loop v236 v239).trips) (v248 : BitVec 32) (k0_hw26 : k0_chk26 v236 v239 k0_t5 v248), ∀ (k0_h12 : k0_cond12 v248 = 1#1), ∀ a, (k0_off63 v236 v239 k0_t5) a + S1.size a ≤ S64.size a := fun v236 v239 k0_t5 v248 k0_hw26 k0_h12 => k0_hw26.2.2 k0_h12

def k0_off64 (v260 : BitVec 32) : Fin 2 → Nat :=
  let v270 : BitVec 32 := v260
  let c0_i32_172 : BitVec 32 := 0#32
  ![v270.toNat, 0]
def k0_off65 (v252 : BitVec 32) (v256 : BitVec 32) : Fin 2 → Nat :=
  let v271 : BitVec 32 := v252
  let v272 : BitVec 32 := v256
  ![v271.toNat, v272.toNat]

def k0_chk25 (v248 : BitVec 32) (v252 : BitVec 32) (v256 : BitVec 32) : Prop :=
  (∀ (k0_h10 : k0_cond10 v248 = 1#1), 256 ∣ (k0_mult48 v256).toNat) ∧
  (∀ (k0_h10 : k0_cond10 v248 = 1#1), ∀ a, (k0_off59 v252 v256) a + S2176x256.size a ≤ S30240x8192.size a) ∧
  (∀ (k0_h10 : k0_cond10 v248 = 1#1), ∀ (hinb : ∀ a, (k0_off59 v252 v256) a + S2176x256.size a ≤ S30240x8192.size a), (Rect.unit (s := S30240x8192) (k0_off59 v252 v256) S2176x256.size hinb).WholeWords (EltTy.packing .i8)) ∧
  (∀ (k0_h11 : k0_cond11 v248 = 1#1), 256 ∣ (k0_mult51 v256).toNat) ∧
  (∀ (k0_h11 : k0_cond11 v248 = 1#1), ∀ a, (k0_off62 v252 v256) a + S8192x256.size a ≤ S8192x14336.size a) ∧
  (∀ (k0_h11 : k0_cond11 v248 = 1#1), ∀ (hinb : ∀ a, (k0_off62 v252 v256) a + S8192x256.size a ≤ S8192x14336.size a), (Rect.unit (s := S8192x14336) (k0_off62 v252 v256) S8192x256.size hinb).WholeWords (EltTy.packing .fp8e4m3)) ∧
  (∀ (k0_h12 : k0_cond12 v248 = 1#1), 256 ∣ (k0_mult54 v256).toNat) ∧
  (∀ (k0_h12 : k0_cond12 v248 = 1#1), ∀ a, (k0_off65 v252 v256) a + S7168x256.size a ≤ S7168x8192.size a) ∧
  (∀ (k0_h12 : k0_cond12 v248 = 1#1), ∀ (hinb : ∀ a, (k0_off65 v252 v256) a + S7168x256.size a ≤ S7168x8192.size a), (Rect.unit (s := S7168x8192) (k0_off65 v252 v256) S7168x256.size hinb).WholeWords (EltTy.packing .fp8e4m3))
theorem k0_mult48_dvd : ∀ (v248 : BitVec 32) (v252 : BitVec 32) (v256 : BitVec 32) (k0_hw25 : k0_chk25 v248 v252 v256), ∀ (k0_h10 : k0_cond10 v248 = 1#1), 256 ∣ (k0_mult48 v256).toNat := fun v248 v252 v256 k0_hw25 k0_h10 => k0_hw25.1 k0_h10
theorem k0_off59_inb : ∀ (v248 : BitVec 32) (v252 : BitVec 32) (v256 : BitVec 32) (k0_hw25 : k0_chk25 v248 v252 v256), ∀ (k0_h10 : k0_cond10 v248 = 1#1), ∀ a, (k0_off59 v252 v256) a + S2176x256.size a ≤ S30240x8192.size a := fun v248 v252 v256 k0_hw25 k0_h10 => k0_hw25.2.1 k0_h10
theorem k0_off59_wordsi8 : ∀ (v248 : BitVec 32) (v252 : BitVec 32) (v256 : BitVec 32) (k0_hw25 : k0_chk25 v248 v252 v256), ∀ (k0_h10 : k0_cond10 v248 = 1#1), (Rect.unit (s := S30240x8192) (k0_off59 v252 v256) S2176x256.size (k0_off59_inb v248 v252 v256 k0_hw25 k0_h10)).WholeWords (EltTy.packing .i8) := fun v248 v252 v256 k0_hw25 k0_h10 => k0_hw25.2.2.1 k0_h10 (k0_off59_inb v248 v252 v256 k0_hw25 k0_h10)
theorem k0_mult51_dvd : ∀ (v248 : BitVec 32) (v252 : BitVec 32) (v256 : BitVec 32) (k0_hw25 : k0_chk25 v248 v252 v256), ∀ (k0_h11 : k0_cond11 v248 = 1#1), 256 ∣ (k0_mult51 v256).toNat := fun v248 v252 v256 k0_hw25 k0_h11 => k0_hw25.2.2.2.1 k0_h11
theorem k0_off62_inb : ∀ (v248 : BitVec 32) (v252 : BitVec 32) (v256 : BitVec 32) (k0_hw25 : k0_chk25 v248 v252 v256), ∀ (k0_h11 : k0_cond11 v248 = 1#1), ∀ a, (k0_off62 v252 v256) a + S8192x256.size a ≤ S8192x14336.size a := fun v248 v252 v256 k0_hw25 k0_h11 => k0_hw25.2.2.2.2.1 k0_h11
theorem k0_off62_wordsfp8e4m3 : ∀ (v248 : BitVec 32) (v252 : BitVec 32) (v256 : BitVec 32) (k0_hw25 : k0_chk25 v248 v252 v256), ∀ (k0_h11 : k0_cond11 v248 = 1#1), (Rect.unit (s := S8192x14336) (k0_off62 v252 v256) S8192x256.size (k0_off62_inb v248 v252 v256 k0_hw25 k0_h11)).WholeWords (EltTy.packing .fp8e4m3) := fun v248 v252 v256 k0_hw25 k0_h11 => k0_hw25.2.2.2.2.2.1 k0_h11 (k0_off62_inb v248 v252 v256 k0_hw25 k0_h11)
theorem k0_mult54_dvd : ∀ (v248 : BitVec 32) (v252 : BitVec 32) (v256 : BitVec 32) (k0_hw25 : k0_chk25 v248 v252 v256), ∀ (k0_h12 : k0_cond12 v248 = 1#1), 256 ∣ (k0_mult54 v256).toNat := fun v248 v252 v256 k0_hw25 k0_h12 => k0_hw25.2.2.2.2.2.2.1 k0_h12
theorem k0_off65_inb : ∀ (v248 : BitVec 32) (v252 : BitVec 32) (v256 : BitVec 32) (k0_hw25 : k0_chk25 v248 v252 v256), ∀ (k0_h12 : k0_cond12 v248 = 1#1), ∀ a, (k0_off65 v252 v256) a + S7168x256.size a ≤ S7168x8192.size a := fun v248 v252 v256 k0_hw25 k0_h12 => k0_hw25.2.2.2.2.2.2.2.1 k0_h12
theorem k0_off65_wordsfp8e4m3 : ∀ (v248 : BitVec 32) (v252 : BitVec 32) (v256 : BitVec 32) (k0_hw25 : k0_chk25 v248 v252 v256), ∀ (k0_h12 : k0_cond12 v248 = 1#1), (Rect.unit (s := S7168x8192) (k0_off65 v252 v256) S7168x256.size (k0_off65_inb v248 v252 v256 k0_hw25 k0_h12)).WholeWords (EltTy.packing .fp8e4m3) := fun v248 v252 v256 k0_hw25 k0_h12 => k0_hw25.2.2.2.2.2.2.2.2 k0_h12 (k0_off65_inb v248 v252 v256 k0_hw25 k0_h12)

def k0_chk23 (v248 : BitVec 32) (v260 : BitVec 32) : Prop :=
  (∀ (k0_h10 : k0_cond10 v248 = 1#1), 32 ∣ (k0_mult46 v260).toNat) ∧
  (∀ (k0_h10 : k0_cond10 v248 = 1#1), ∀ a, (k0_off58 v260) a + S2176x256.size a ≤ S106496x256.size a) ∧
  (∀ (k0_h10 : k0_cond10 v248 = 1#1), ∀ (hinb : ∀ a, (k0_off58 v260) a + S2176x256.size a ≤ S106496x256.size a), (Rect.unit (s := S106496x256) (k0_off58 v260) S2176x256.size hinb).WholeWords (EltTy.packing .i8)) ∧
  (∀ (k0_h11 : k0_cond11 v248 = 1#1), 32 ∣ (k0_mult49 v260).toNat) ∧
  (∀ (k0_h11 : k0_cond11 v248 = 1#1), ∀ a, (k0_off61 v260) a + S8192x256.size a ≤ S106496x256.size a) ∧
  (∀ (k0_h11 : k0_cond11 v248 = 1#1), ∀ (hinb : ∀ a, (k0_off61 v260) a + S8192x256.size a ≤ S106496x256.size a), (Rect.unit (s := S106496x256) (k0_off61 v260) S8192x256.size hinb).WholeWords (EltTy.packing .fp8e4m3)) ∧
  (∀ (k0_h12 : k0_cond12 v248 = 1#1), 32 ∣ (k0_mult52 v260).toNat) ∧
  (∀ (k0_h12 : k0_cond12 v248 = 1#1), ∀ a, (k0_off64 v260) a + S7168x256.size a ≤ S106496x256.size a) ∧
  (∀ (k0_h12 : k0_cond12 v248 = 1#1), ∀ (hinb : ∀ a, (k0_off64 v260) a + S7168x256.size a ≤ S106496x256.size a), (Rect.unit (s := S106496x256) (k0_off64 v260) S7168x256.size hinb).WholeWords (EltTy.packing .fp8e4m3))
theorem k0_mult46_dvd : ∀ (v248 : BitVec 32) (v260 : BitVec 32) (k0_hw23 : k0_chk23 v248 v260), ∀ (k0_h10 : k0_cond10 v248 = 1#1), 32 ∣ (k0_mult46 v260).toNat := fun v248 v260 k0_hw23 k0_h10 => k0_hw23.1 k0_h10
theorem k0_off58_inb : ∀ (v248 : BitVec 32) (v260 : BitVec 32) (k0_hw23 : k0_chk23 v248 v260), ∀ (k0_h10 : k0_cond10 v248 = 1#1), ∀ a, (k0_off58 v260) a + S2176x256.size a ≤ S106496x256.size a := fun v248 v260 k0_hw23 k0_h10 => k0_hw23.2.1 k0_h10
theorem k0_off58_wordsi8 : ∀ (v248 : BitVec 32) (v260 : BitVec 32) (k0_hw23 : k0_chk23 v248 v260), ∀ (k0_h10 : k0_cond10 v248 = 1#1), (Rect.unit (s := S106496x256) (k0_off58 v260) S2176x256.size (k0_off58_inb v248 v260 k0_hw23 k0_h10)).WholeWords (EltTy.packing .i8) := fun v248 v260 k0_hw23 k0_h10 => k0_hw23.2.2.1 k0_h10 (k0_off58_inb v248 v260 k0_hw23 k0_h10)
theorem k0_mult49_dvd : ∀ (v248 : BitVec 32) (v260 : BitVec 32) (k0_hw23 : k0_chk23 v248 v260), ∀ (k0_h11 : k0_cond11 v248 = 1#1), 32 ∣ (k0_mult49 v260).toNat := fun v248 v260 k0_hw23 k0_h11 => k0_hw23.2.2.2.1 k0_h11
theorem k0_off61_inb : ∀ (v248 : BitVec 32) (v260 : BitVec 32) (k0_hw23 : k0_chk23 v248 v260), ∀ (k0_h11 : k0_cond11 v248 = 1#1), ∀ a, (k0_off61 v260) a + S8192x256.size a ≤ S106496x256.size a := fun v248 v260 k0_hw23 k0_h11 => k0_hw23.2.2.2.2.1 k0_h11
theorem k0_off61_wordsfp8e4m3 : ∀ (v248 : BitVec 32) (v260 : BitVec 32) (k0_hw23 : k0_chk23 v248 v260), ∀ (k0_h11 : k0_cond11 v248 = 1#1), (Rect.unit (s := S106496x256) (k0_off61 v260) S8192x256.size (k0_off61_inb v248 v260 k0_hw23 k0_h11)).WholeWords (EltTy.packing .fp8e4m3) := fun v248 v260 k0_hw23 k0_h11 => k0_hw23.2.2.2.2.2.1 k0_h11 (k0_off61_inb v248 v260 k0_hw23 k0_h11)
theorem k0_mult52_dvd : ∀ (v248 : BitVec 32) (v260 : BitVec 32) (k0_hw23 : k0_chk23 v248 v260), ∀ (k0_h12 : k0_cond12 v248 = 1#1), 32 ∣ (k0_mult52 v260).toNat := fun v248 v260 k0_hw23 k0_h12 => k0_hw23.2.2.2.2.2.2.1 k0_h12
theorem k0_off64_inb : ∀ (v248 : BitVec 32) (v260 : BitVec 32) (k0_hw23 : k0_chk23 v248 v260), ∀ (k0_h12 : k0_cond12 v248 = 1#1), ∀ a, (k0_off64 v260) a + S7168x256.size a ≤ S106496x256.size a := fun v248 v260 k0_hw23 k0_h12 => k0_hw23.2.2.2.2.2.2.2.1 k0_h12
theorem k0_off64_wordsfp8e4m3 : ∀ (v248 : BitVec 32) (v260 : BitVec 32) (k0_hw23 : k0_chk23 v248 v260), ∀ (k0_h12 : k0_cond12 v248 = 1#1), (Rect.unit (s := S106496x256) (k0_off64 v260) S7168x256.size (k0_off64_inb v248 v260 k0_hw23 k0_h12)).WholeWords (EltTy.packing .fp8e4m3) := fun v248 v260 k0_hw23 k0_h12 => k0_hw23.2.2.2.2.2.2.2.2 k0_h12 (k0_off64_inb v248 v260 k0_hw23 k0_h12)

@[reducible] def k0_t6_loop : Scf.Loop 32 :=
  let c0_i32_12 : BitVec 32 := 0#32
  let c7_i32 : BitVec 32 := 7#32
  let v16 : BitVec 32 := Scalar.addi c0_i32_12 c7_i32
  let c1_i32_13 : BitVec 32 := 1#32
  ⟨c0_i32_12, v16, c1_i32_13⟩
def k0_mult55 (k0_t6 : Fin k0_t6_loop.trips) : BitVec 32 :=
  let c0_i32_12 : BitVec 32 := 0#32
  let c1_i32_13 : BitVec 32 := 1#32
  let arg27 : BitVec 32 := Scf.iv c0_i32_12 c1_i32_13 k0_t6
  let c1024_i32 : BitVec 32 := 1024#32
  let v114 : BitVec 32 := Scalar.muli arg27 c1024_i32
  v114
def k0_off66 (k0_t6 : Fin k0_t6_loop.trips) : Fin 2 → Nat :=
  let c0_95 : Index := 0#32
  let c0_i32_12 : BitVec 32 := 0#32
  let c1_i32_13 : BitVec 32 := 1#32
  let arg27 : BitVec 32 := Scf.iv c0_i32_12 c1_i32_13 k0_t6
  let c1024_i32 : BitVec 32 := 1024#32
  let v114 : BitVec 32 := Scalar.muli arg27 c1024_i32
  let v115 : BitVec 32 := v114
  let v116 : Index := Scalar.indexCast v115
  ![0, v116.toNat]
def k0_mult56 (k0_t6 : Fin k0_t6_loop.trips) : BitVec 32 :=
  let c0_i32_12 : BitVec 32 := 0#32
  let c1_i32_13 : BitVec 32 := 1#32
  let arg27 : BitVec 32 := Scf.iv c0_i32_12 c1_i32_13 k0_t6
  let c1024_i32_96 : BitVec 32 := 1024#32
  let v120 : BitVec 32 := Scalar.muli arg27 c1024_i32_96
  v120
def k0_off67 (k0_t6 : Fin k0_t6_loop.trips) : Fin 2 → Nat :=
  let c0_97 : Index := 0#32
  let c0_i32_12 : BitVec 32 := 0#32
  let c1_i32_13 : BitVec 32 := 1#32
  let arg27 : BitVec 32 := Scf.iv c0_i32_12 c1_i32_13 k0_t6
  let c1024_i32_96 : BitVec 32 := 1024#32
  let v120 : BitVec 32 := Scalar.muli arg27 c1024_i32_96
  let v121 : BitVec 32 := v120
  let v122 : Index := Scalar.indexCast v121
  ![0, v122.toNat]
@[reducible] def k0_t7_loop : Scf.Loop 32 :=
  let c0_i32_21 : BitVec 32 := 0#32
  let c7_i32_22 : BitVec 32 := 7#32
  let v31 : BitVec 32 := Scalar.addi c0_i32_21 c7_i32_22
  let c1_i32_23 : BitVec 32 := 1#32
  ⟨c0_i32_21, v31, c1_i32_23⟩
def k0_mult57 (k0_t7 : Fin k0_t7_loop.trips) : BitVec 32 :=
  let c0_i32_21 : BitVec 32 := 0#32
  let c1_i32_23 : BitVec 32 := 1#32
  let arg27 : BitVec 32 := Scf.iv c0_i32_21 c1_i32_23 k0_t7
  let c1024_i32 : BitVec 32 := 1024#32
  let v115 : BitVec 32 := Scalar.muli arg27 c1024_i32
  v115
def k0_off68 (k0_t7 : Fin k0_t7_loop.trips) : Fin 2 → Nat :=
  let c0_97 : Index := 0#32
  let c0_i32_21 : BitVec 32 := 0#32
  let c1_i32_23 : BitVec 32 := 1#32
  let arg27 : BitVec 32 := Scf.iv c0_i32_21 c1_i32_23 k0_t7
  let c1024_i32 : BitVec 32 := 1024#32
  let v115 : BitVec 32 := Scalar.muli arg27 c1024_i32
  let v116 : BitVec 32 := v115
  let v117 : Index := Scalar.indexCast v116
  ![0, v117.toNat]
def k0_mult58 (k0_t7 : Fin k0_t7_loop.trips) : BitVec 32 :=
  let c0_i32_21 : BitVec 32 := 0#32
  let c1_i32_23 : BitVec 32 := 1#32
  let arg27 : BitVec 32 := Scf.iv c0_i32_21 c1_i32_23 k0_t7
  let c1024_i32_114 : BitVec 32 := 1024#32
  let v170 : BitVec 32 := Scalar.muli arg27 c1024_i32_114
  v170
def k0_off69 (k0_t7 : Fin k0_t7_loop.trips) : Fin 2 → Nat :=
  let c0_115 : Index := 0#32
  let c0_i32_21 : BitVec 32 := 0#32
  let c1_i32_23 : BitVec 32 := 1#32
  let arg27 : BitVec 32 := Scf.iv c0_i32_21 c1_i32_23 k0_t7
  let c1024_i32_114 : BitVec 32 := 1024#32
  let v170 : BitVec 32 := Scalar.muli arg27 c1024_i32_114
  let v171 : BitVec 32 := v170
  let v172 : Index := Scalar.indexCast v171
  ![0, v172.toNat]
def k0_off70 (k0_t7 : Fin k0_t7_loop.trips) : Fin 2 → Nat :=
  let c0_116 : Index := 0#32
  let c0_i32_21 : BitVec 32 := 0#32
  let c1_i32_23 : BitVec 32 := 1#32
  let arg27 : BitVec 32 := Scf.iv c0_i32_21 c1_i32_23 k0_t7
  let c1024_i32_114 : BitVec 32 := 1024#32
  let v170 : BitVec 32 := Scalar.muli arg27 c1024_i32_114
  let v171 : BitVec 32 := v170
  let v176 : Index := Scalar.indexCast v171
  ![0, v176.toNat]
@[reducible] def k0_t8_loop : Scf.Loop 32 :=
  let c0_i32_26 : BitVec 32 := 0#32
  let c7_i32_27 : BitVec 32 := 7#32
  let v33 : BitVec 32 := Scalar.addi c0_i32_26 c7_i32_27
  let c1_i32_28 : BitVec 32 := 1#32
  ⟨c0_i32_26, v33, c1_i32_28⟩
def k0_mult59 (k0_t8 : Fin k0_t8_loop.trips) : BitVec 32 :=
  let c0_i32_26 : BitVec 32 := 0#32
  let c1_i32_28 : BitVec 32 := 1#32
  let arg27 : BitVec 32 := Scf.iv c0_i32_26 c1_i32_28 k0_t8
  let c1024_i32 : BitVec 32 := 1024#32
  let v114 : BitVec 32 := Scalar.muli arg27 c1024_i32
  v114
def k0_off71 (k0_t8 : Fin k0_t8_loop.trips) : Fin 2 → Nat :=
  let c32_95 : Index := 32#32
  let c0_i32_26 : BitVec 32 := 0#32
  let c1_i32_28 : BitVec 32 := 1#32
  let arg27 : BitVec 32 := Scf.iv c0_i32_26 c1_i32_28 k0_t8
  let c1024_i32 : BitVec 32 := 1024#32
  let v114 : BitVec 32 := Scalar.muli arg27 c1024_i32
  let v115 : BitVec 32 := v114
  let v116 : Index := Scalar.indexCast v115
  ![32, v116.toNat]
def k0_mult60 (k0_t8 : Fin k0_t8_loop.trips) : BitVec 32 :=
  let c0_i32_26 : BitVec 32 := 0#32
  let c1_i32_28 : BitVec 32 := 1#32
  let arg27 : BitVec 32 := Scf.iv c0_i32_26 c1_i32_28 k0_t8
  let c1024_i32_96 : BitVec 32 := 1024#32
  let v120 : BitVec 32 := Scalar.muli arg27 c1024_i32_96
  v120
def k0_off72 (k0_t8 : Fin k0_t8_loop.trips) : Fin 2 → Nat :=
  let c32_97 : Index := 32#32
  let c0_i32_26 : BitVec 32 := 0#32
  let c1_i32_28 : BitVec 32 := 1#32
  let arg27 : BitVec 32 := Scf.iv c0_i32_26 c1_i32_28 k0_t8
  let c1024_i32_96 : BitVec 32 := 1024#32
  let v120 : BitVec 32 := Scalar.muli arg27 c1024_i32_96
  let v121 : BitVec 32 := v120
  let v122 : Index := Scalar.indexCast v121
  ![32, v122.toNat]
@[reducible] def k0_t9_loop : Scf.Loop 32 :=
  let c0_i32_35 : BitVec 32 := 0#32
  let c7_i32_36 : BitVec 32 := 7#32
  let v48 : BitVec 32 := Scalar.addi c0_i32_35 c7_i32_36
  let c1_i32_37 : BitVec 32 := 1#32
  ⟨c0_i32_35, v48, c1_i32_37⟩
def k0_mult61 (k0_t9 : Fin k0_t9_loop.trips) : BitVec 32 :=
  let c0_i32_35 : BitVec 32 := 0#32
  let c1_i32_37 : BitVec 32 := 1#32
  let arg27 : BitVec 32 := Scf.iv c0_i32_35 c1_i32_37 k0_t9
  let c1024_i32 : BitVec 32 := 1024#32
  let v115 : BitVec 32 := Scalar.muli arg27 c1024_i32
  v115
def k0_off73 (k0_t9 : Fin k0_t9_loop.trips) : Fin 2 → Nat :=
  let c32_97 : Index := 32#32
  let c0_i32_35 : BitVec 32 := 0#32
  let c1_i32_37 : BitVec 32 := 1#32
  let arg27 : BitVec 32 := Scf.iv c0_i32_35 c1_i32_37 k0_t9
  let c1024_i32 : BitVec 32 := 1024#32
  let v115 : BitVec 32 := Scalar.muli arg27 c1024_i32
  let v116 : BitVec 32 := v115
  let v117 : Index := Scalar.indexCast v116
  ![32, v117.toNat]
def k0_mult62 (k0_t9 : Fin k0_t9_loop.trips) : BitVec 32 :=
  let c0_i32_35 : BitVec 32 := 0#32
  let c1_i32_37 : BitVec 32 := 1#32
  let arg27 : BitVec 32 := Scf.iv c0_i32_35 c1_i32_37 k0_t9
  let c1024_i32_114 : BitVec 32 := 1024#32
  let v170 : BitVec 32 := Scalar.muli arg27 c1024_i32_114
  v170
def k0_off74 (k0_t9 : Fin k0_t9_loop.trips) : Fin 2 → Nat :=
  let c32_115 : Index := 32#32
  let c0_i32_35 : BitVec 32 := 0#32
  let c1_i32_37 : BitVec 32 := 1#32
  let arg27 : BitVec 32 := Scf.iv c0_i32_35 c1_i32_37 k0_t9
  let c1024_i32_114 : BitVec 32 := 1024#32
  let v170 : BitVec 32 := Scalar.muli arg27 c1024_i32_114
  let v171 : BitVec 32 := v170
  let v172 : Index := Scalar.indexCast v171
  ![32, v172.toNat]
def k0_off75 (k0_t9 : Fin k0_t9_loop.trips) : Fin 2 → Nat :=
  let c32_116 : Index := 32#32
  let c0_i32_35 : BitVec 32 := 0#32
  let c1_i32_37 : BitVec 32 := 1#32
  let arg27 : BitVec 32 := Scf.iv c0_i32_35 c1_i32_37 k0_t9
  let c1024_i32_114 : BitVec 32 := 1024#32
  let v170 : BitVec 32 := Scalar.muli arg27 c1024_i32_114
  let v171 : BitVec 32 := v170
  let v176 : Index := Scalar.indexCast v171
  ![32, v176.toNat]
@[reducible] def k0_t10_loop : Scf.Loop 32 :=
  let c0_i32_40 : BitVec 32 := 0#32
  let c7_i32_41 : BitVec 32 := 7#32
  let v50 : BitVec 32 := Scalar.addi c0_i32_40 c7_i32_41
  let c1_i32_42 : BitVec 32 := 1#32
  ⟨c0_i32_40, v50, c1_i32_42⟩
def k0_mult63 (k0_t10 : Fin k0_t10_loop.trips) : BitVec 32 :=
  let c0_i32_40 : BitVec 32 := 0#32
  let c1_i32_42 : BitVec 32 := 1#32
  let arg27 : BitVec 32 := Scf.iv c0_i32_40 c1_i32_42 k0_t10
  let c1024_i32 : BitVec 32 := 1024#32
  let v114 : BitVec 32 := Scalar.muli arg27 c1024_i32
  v114
def k0_off76 (k0_t10 : Fin k0_t10_loop.trips) : Fin 2 → Nat :=
  let c64_95 : Index := 64#32
  let c0_i32_40 : BitVec 32 := 0#32
  let c1_i32_42 : BitVec 32 := 1#32
  let arg27 : BitVec 32 := Scf.iv c0_i32_40 c1_i32_42 k0_t10
  let c1024_i32 : BitVec 32 := 1024#32
  let v114 : BitVec 32 := Scalar.muli arg27 c1024_i32
  let v115 : BitVec 32 := v114
  let v116 : Index := Scalar.indexCast v115
  ![64, v116.toNat]
def k0_mult64 (k0_t10 : Fin k0_t10_loop.trips) : BitVec 32 :=
  let c0_i32_40 : BitVec 32 := 0#32
  let c1_i32_42 : BitVec 32 := 1#32
  let arg27 : BitVec 32 := Scf.iv c0_i32_40 c1_i32_42 k0_t10
  let c1024_i32_96 : BitVec 32 := 1024#32
  let v120 : BitVec 32 := Scalar.muli arg27 c1024_i32_96
  v120
def k0_off77 (k0_t10 : Fin k0_t10_loop.trips) : Fin 2 → Nat :=
  let c64_97 : Index := 64#32
  let c0_i32_40 : BitVec 32 := 0#32
  let c1_i32_42 : BitVec 32 := 1#32
  let arg27 : BitVec 32 := Scf.iv c0_i32_40 c1_i32_42 k0_t10
  let c1024_i32_96 : BitVec 32 := 1024#32
  let v120 : BitVec 32 := Scalar.muli arg27 c1024_i32_96
  let v121 : BitVec 32 := v120
  let v122 : Index := Scalar.indexCast v121
  ![64, v122.toNat]
@[reducible] def k0_t11_loop : Scf.Loop 32 :=
  let c0_i32_49 : BitVec 32 := 0#32
  let c7_i32_50 : BitVec 32 := 7#32
  let v65 : BitVec 32 := Scalar.addi c0_i32_49 c7_i32_50
  let c1_i32_51 : BitVec 32 := 1#32
  ⟨c0_i32_49, v65, c1_i32_51⟩
def k0_mult65 (k0_t11 : Fin k0_t11_loop.trips) : BitVec 32 :=
  let c0_i32_49 : BitVec 32 := 0#32
  let c1_i32_51 : BitVec 32 := 1#32
  let arg27 : BitVec 32 := Scf.iv c0_i32_49 c1_i32_51 k0_t11
  let c1024_i32 : BitVec 32 := 1024#32
  let v115 : BitVec 32 := Scalar.muli arg27 c1024_i32
  v115
def k0_off78 (k0_t11 : Fin k0_t11_loop.trips) : Fin 2 → Nat :=
  let c64_97 : Index := 64#32
  let c0_i32_49 : BitVec 32 := 0#32
  let c1_i32_51 : BitVec 32 := 1#32
  let arg27 : BitVec 32 := Scf.iv c0_i32_49 c1_i32_51 k0_t11
  let c1024_i32 : BitVec 32 := 1024#32
  let v115 : BitVec 32 := Scalar.muli arg27 c1024_i32
  let v116 : BitVec 32 := v115
  let v117 : Index := Scalar.indexCast v116
  ![64, v117.toNat]
def k0_mult66 (k0_t11 : Fin k0_t11_loop.trips) : BitVec 32 :=
  let c0_i32_49 : BitVec 32 := 0#32
  let c1_i32_51 : BitVec 32 := 1#32
  let arg27 : BitVec 32 := Scf.iv c0_i32_49 c1_i32_51 k0_t11
  let c1024_i32_114 : BitVec 32 := 1024#32
  let v170 : BitVec 32 := Scalar.muli arg27 c1024_i32_114
  v170
def k0_off79 (k0_t11 : Fin k0_t11_loop.trips) : Fin 2 → Nat :=
  let c64_115 : Index := 64#32
  let c0_i32_49 : BitVec 32 := 0#32
  let c1_i32_51 : BitVec 32 := 1#32
  let arg27 : BitVec 32 := Scf.iv c0_i32_49 c1_i32_51 k0_t11
  let c1024_i32_114 : BitVec 32 := 1024#32
  let v170 : BitVec 32 := Scalar.muli arg27 c1024_i32_114
  let v171 : BitVec 32 := v170
  let v172 : Index := Scalar.indexCast v171
  ![64, v172.toNat]
def k0_off80 (k0_t11 : Fin k0_t11_loop.trips) : Fin 2 → Nat :=
  let c64_116 : Index := 64#32
  let c0_i32_49 : BitVec 32 := 0#32
  let c1_i32_51 : BitVec 32 := 1#32
  let arg27 : BitVec 32 := Scf.iv c0_i32_49 c1_i32_51 k0_t11
  let c1024_i32_114 : BitVec 32 := 1024#32
  let v170 : BitVec 32 := Scalar.muli arg27 c1024_i32_114
  let v171 : BitVec 32 := v170
  let v176 : Index := Scalar.indexCast v171
  ![64, v176.toNat]
@[reducible] def k0_t12_loop : Scf.Loop 32 :=
  let c0_i32_54 : BitVec 32 := 0#32
  let c7_i32_55 : BitVec 32 := 7#32
  let v67 : BitVec 32 := Scalar.addi c0_i32_54 c7_i32_55
  let c1_i32_56 : BitVec 32 := 1#32
  ⟨c0_i32_54, v67, c1_i32_56⟩
def k0_mult67 (k0_t12 : Fin k0_t12_loop.trips) : BitVec 32 :=
  let c0_i32_54 : BitVec 32 := 0#32
  let c1_i32_56 : BitVec 32 := 1#32
  let arg27 : BitVec 32 := Scf.iv c0_i32_54 c1_i32_56 k0_t12
  let c1024_i32 : BitVec 32 := 1024#32
  let v114 : BitVec 32 := Scalar.muli arg27 c1024_i32
  v114
def k0_off81 (k0_t12 : Fin k0_t12_loop.trips) : Fin 2 → Nat :=
  let c96_95 : Index := 96#32
  let c0_i32_54 : BitVec 32 := 0#32
  let c1_i32_56 : BitVec 32 := 1#32
  let arg27 : BitVec 32 := Scf.iv c0_i32_54 c1_i32_56 k0_t12
  let c1024_i32 : BitVec 32 := 1024#32
  let v114 : BitVec 32 := Scalar.muli arg27 c1024_i32
  let v115 : BitVec 32 := v114
  let v116 : Index := Scalar.indexCast v115
  ![96, v116.toNat]
def k0_mult68 (k0_t12 : Fin k0_t12_loop.trips) : BitVec 32 :=
  let c0_i32_54 : BitVec 32 := 0#32
  let c1_i32_56 : BitVec 32 := 1#32
  let arg27 : BitVec 32 := Scf.iv c0_i32_54 c1_i32_56 k0_t12
  let c1024_i32_96 : BitVec 32 := 1024#32
  let v120 : BitVec 32 := Scalar.muli arg27 c1024_i32_96
  v120
def k0_off82 (k0_t12 : Fin k0_t12_loop.trips) : Fin 2 → Nat :=
  let c96_97 : Index := 96#32
  let c0_i32_54 : BitVec 32 := 0#32
  let c1_i32_56 : BitVec 32 := 1#32
  let arg27 : BitVec 32 := Scf.iv c0_i32_54 c1_i32_56 k0_t12
  let c1024_i32_96 : BitVec 32 := 1024#32
  let v120 : BitVec 32 := Scalar.muli arg27 c1024_i32_96
  let v121 : BitVec 32 := v120
  let v122 : Index := Scalar.indexCast v121
  ![96, v122.toNat]
@[reducible] def k0_t13_loop : Scf.Loop 32 :=
  let c0_i32_63 : BitVec 32 := 0#32
  let c7_i32_64 : BitVec 32 := 7#32
  let v82 : BitVec 32 := Scalar.addi c0_i32_63 c7_i32_64
  let c1_i32_65 : BitVec 32 := 1#32
  ⟨c0_i32_63, v82, c1_i32_65⟩
def k0_mult69 (k0_t13 : Fin k0_t13_loop.trips) : BitVec 32 :=
  let c0_i32_63 : BitVec 32 := 0#32
  let c1_i32_65 : BitVec 32 := 1#32
  let arg27 : BitVec 32 := Scf.iv c0_i32_63 c1_i32_65 k0_t13
  let c1024_i32 : BitVec 32 := 1024#32
  let v115 : BitVec 32 := Scalar.muli arg27 c1024_i32
  v115
def k0_off83 (k0_t13 : Fin k0_t13_loop.trips) : Fin 2 → Nat :=
  let c96_97 : Index := 96#32
  let c0_i32_63 : BitVec 32 := 0#32
  let c1_i32_65 : BitVec 32 := 1#32
  let arg27 : BitVec 32 := Scf.iv c0_i32_63 c1_i32_65 k0_t13
  let c1024_i32 : BitVec 32 := 1024#32
  let v115 : BitVec 32 := Scalar.muli arg27 c1024_i32
  let v116 : BitVec 32 := v115
  let v117 : Index := Scalar.indexCast v116
  ![96, v117.toNat]
def k0_mult70 (k0_t13 : Fin k0_t13_loop.trips) : BitVec 32 :=
  let c0_i32_63 : BitVec 32 := 0#32
  let c1_i32_65 : BitVec 32 := 1#32
  let arg27 : BitVec 32 := Scf.iv c0_i32_63 c1_i32_65 k0_t13
  let c1024_i32_114 : BitVec 32 := 1024#32
  let v170 : BitVec 32 := Scalar.muli arg27 c1024_i32_114
  v170
def k0_off84 (k0_t13 : Fin k0_t13_loop.trips) : Fin 2 → Nat :=
  let c96_115 : Index := 96#32
  let c0_i32_63 : BitVec 32 := 0#32
  let c1_i32_65 : BitVec 32 := 1#32
  let arg27 : BitVec 32 := Scf.iv c0_i32_63 c1_i32_65 k0_t13
  let c1024_i32_114 : BitVec 32 := 1024#32
  let v170 : BitVec 32 := Scalar.muli arg27 c1024_i32_114
  let v171 : BitVec 32 := v170
  let v172 : Index := Scalar.indexCast v171
  ![96, v172.toNat]
def k0_off85 (k0_t13 : Fin k0_t13_loop.trips) : Fin 2 → Nat :=
  let c96_116 : Index := 96#32
  let c0_i32_63 : BitVec 32 := 0#32
  let c1_i32_65 : BitVec 32 := 1#32
  let arg27 : BitVec 32 := Scf.iv c0_i32_63 c1_i32_65 k0_t13
  let c1024_i32_114 : BitVec 32 := 1024#32
  let v170 : BitVec 32 := Scalar.muli arg27 c1024_i32_114
  let v171 : BitVec 32 := v170
  let v176 : Index := Scalar.indexCast v171
  ![96, v176.toNat]
@[reducible] def k0_t14_loop : Scf.Loop 32 :=
  let c0_i32_73 : BitVec 32 := 0#32
  let c16_i32 : BitVec 32 := 16#32
  let v88 : BitVec 32 := Scalar.addi c0_i32_73 c16_i32
  let c1_i32_74 : BitVec 32 := 1#32
  ⟨c0_i32_73, v88, c1_i32_74⟩
def k0_mult71 (k0_t14 : Fin k0_t14_loop.trips) : BitVec 32 :=
  let c0_i32_73 : BitVec 32 := 0#32
  let c1_i32_74 : BitVec 32 := 1#32
  let arg27 : BitVec 32 := Scf.iv c0_i32_73 c1_i32_74 k0_t14
  let c512_i32 : BitVec 32 := 512#32
  let v114 : BitVec 32 := Scalar.muli arg27 c512_i32
  v114
def k0_off86 (k0_t14 : Fin k0_t14_loop.trips) : Fin 2 → Nat :=
  let c0_96 : Index := 0#32
  let c0_i32_73 : BitVec 32 := 0#32
  let c1_i32_74 : BitVec 32 := 1#32
  let arg27 : BitVec 32 := Scf.iv c0_i32_73 c1_i32_74 k0_t14
  let c512_i32 : BitVec 32 := 512#32
  let v114 : BitVec 32 := Scalar.muli arg27 c512_i32
  let v115 : BitVec 32 := v114
  let v119 : Index := Scalar.indexCast v115
  ![0, v119.toNat]
def k0_off87 (k0_t14 : Fin k0_t14_loop.trips) : Fin 1 → Nat :=
  let c4_i32_98 : BitVec 32 := 4#32
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c0_i32_97 : BitVec 32 := 0#32
  let v122 : BitVec 32 := Scalar.addi v118 c0_i32_97
  let v123 : BitVec 32 := Scalar.muli c4_i32_98 v122
  let c3_i32 : BitVec 32 := 3#32
  let v124 : BitVec 32 := Scalar.addi v123 c3_i32
  let v125 : Index := Scalar.indexCast v124
  ![v125.toNat]
def k0_mult72 (v126 : BitVec 32) : BitVec 32 :=
  v126

def k0_mult73 : BitVec 32 :=
  let c0_i32_99 : BitVec 32 := 0#32
  c0_i32_99
def k0_mult74 : BitVec 32 :=
  let c0_i32_100 : BitVec 32 := 0#32
  c0_i32_100
def k0_off88 (k0_t14 : Fin k0_t14_loop.trips) : Fin 1 → Nat :=
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c0_i32_97 : BitVec 32 := 0#32
  let v122 : BitVec 32 := Scalar.addi v118 c0_i32_97
  let c64_i32 : BitVec 32 := 64#32
  let v130 : BitVec 32 := Scalar.remsi v122 c64_i32
  ![v130.toNat]
def k0_off89 (v126 : BitVec 32) : Fin 2 → Nat :=
  let v127 : BitVec 32 := v126
  let c0_i32_101 : BitVec 32 := 0#32
  ![v127.toNat, 0]

def k0_chk27 (v126 : BitVec 32) : Prop :=
  (32 ∣ (k0_mult72 v126).toNat) ∧
  (∀ a, (k0_off89 v126) a + S7168x256.size a ≤ S106496x256.size a) ∧
  (∀ (hinb : ∀ a, (k0_off89 v126) a + S7168x256.size a ≤ S106496x256.size a), (Rect.unit (s := S106496x256) (k0_off89 v126) S7168x256.size hinb).WholeWords (EltTy.packing .fp8e4m3))
theorem k0_mult72_dvd : ∀ (v126 : BitVec 32) (k0_hw27 : k0_chk27 v126), 32 ∣ (k0_mult72 v126).toNat := fun v126 k0_hw27 => k0_hw27.1
theorem k0_off89_inb : ∀ (v126 : BitVec 32) (k0_hw27 : k0_chk27 v126), ∀ a, (k0_off89 v126) a + S7168x256.size a ≤ S106496x256.size a := fun v126 k0_hw27 => k0_hw27.2.1
theorem k0_off89_wordsfp8e4m3 : ∀ (v126 : BitVec 32) (k0_hw27 : k0_chk27 v126), (Rect.unit (s := S106496x256) (k0_off89 v126) S7168x256.size (k0_off89_inb v126 k0_hw27)).WholeWords (EltTy.packing .fp8e4m3) := fun v126 k0_hw27 => k0_hw27.2.2 (k0_off89_inb v126 k0_hw27)

def k0_off90 (k0_t14 : Fin k0_t14_loop.trips) : Fin 1 → Nat :=
  let c4_i32_102 : BitVec 32 := 4#32
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c0_i32_97 : BitVec 32 := 0#32
  let v122 : BitVec 32 := Scalar.addi v118 c0_i32_97
  let v135 : BitVec 32 := Scalar.muli c4_i32_102 v122
  let c3_i32_103 : BitVec 32 := 3#32
  let v136 : BitVec 32 := Scalar.addi v135 c3_i32_103
  let v137 : Index := Scalar.indexCast v136
  ![v137.toNat]
def k0_mult75 (v138 : BitVec 32) : BitVec 32 :=
  v138

def k0_off91 (k0_t14 : Fin k0_t14_loop.trips) : Fin 1 → Nat :=
  let c4_i32_105 : BitVec 32 := 4#32
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c1_i32_104 : BitVec 32 := 1#32
  let v140 : BitVec 32 := Scalar.addi v118 c1_i32_104
  let v141 : BitVec 32 := Scalar.muli c4_i32_105 v140
  let c3_i32_106 : BitVec 32 := 3#32
  let v142 : BitVec 32 := Scalar.addi v141 c3_i32_106
  let v143 : Index := Scalar.indexCast v142
  ![v143.toNat]
def k0_mult76 (v144 : BitVec 32) : BitVec 32 :=
  v144

def k0_mult77 : BitVec 32 :=
  let c0_i32_107 : BitVec 32 := 0#32
  c0_i32_107
def k0_mult78 : BitVec 32 :=
  let c0_i32_108 : BitVec 32 := 0#32
  c0_i32_108
def k0_off92 (k0_t14 : Fin k0_t14_loop.trips) : Fin 1 → Nat :=
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c1_i32_104 : BitVec 32 := 1#32
  let v140 : BitVec 32 := Scalar.addi v118 c1_i32_104
  let c64_i32_109 : BitVec 32 := 64#32
  let v148 : BitVec 32 := Scalar.remsi v140 c64_i32_109
  ![v148.toNat]
def k0_off93 (v144 : BitVec 32) : Fin 2 → Nat :=
  let v145 : BitVec 32 := v144
  let c0_i32_110 : BitVec 32 := 0#32
  ![v145.toNat, 0]

def k0_chk29 (v144 : BitVec 32) : Prop :=
  (32 ∣ (k0_mult76 v144).toNat) ∧
  (∀ a, (k0_off93 v144) a + S2176x256.size a ≤ S106496x256.size a) ∧
  (∀ (hinb : ∀ a, (k0_off93 v144) a + S2176x256.size a ≤ S106496x256.size a), (Rect.unit (s := S106496x256) (k0_off93 v144) S2176x256.size hinb).WholeWords (EltTy.packing .i8))
theorem k0_mult76_dvd : ∀ (v144 : BitVec 32) (k0_hw29 : k0_chk29 v144), 32 ∣ (k0_mult76 v144).toNat := fun v144 k0_hw29 => k0_hw29.1
theorem k0_off93_inb : ∀ (v144 : BitVec 32) (k0_hw29 : k0_chk29 v144), ∀ a, (k0_off93 v144) a + S2176x256.size a ≤ S106496x256.size a := fun v144 k0_hw29 => k0_hw29.2.1
theorem k0_off93_wordsi8 : ∀ (v144 : BitVec 32) (k0_hw29 : k0_chk29 v144), (Rect.unit (s := S106496x256) (k0_off93 v144) S2176x256.size (k0_off93_inb v144 k0_hw29)).WholeWords (EltTy.packing .i8) := fun v144 k0_hw29 => k0_hw29.2.2 (k0_off93_inb v144 k0_hw29)

def k0_off94 (k0_t14 : Fin k0_t14_loop.trips) : Fin 1 → Nat :=
  let c4_i32_111 : BitVec 32 := 4#32
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c1_i32_104 : BitVec 32 := 1#32
  let v140 : BitVec 32 := Scalar.addi v118 c1_i32_104
  let v153 : BitVec 32 := Scalar.muli c4_i32_111 v140
  let c3_i32_112 : BitVec 32 := 3#32
  let v154 : BitVec 32 := Scalar.addi v153 c3_i32_112
  let v155 : Index := Scalar.indexCast v154
  ![v155.toNat]
def k0_mult79 (v156 : BitVec 32) : BitVec 32 :=
  v156

def k0_off95 (k0_t14 : Fin k0_t14_loop.trips) : Fin 1 → Nat :=
  let c4_i32_114 : BitVec 32 := 4#32
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c2_i32_113 : BitVec 32 := 2#32
  let v158 : BitVec 32 := Scalar.addi v118 c2_i32_113
  let v159 : BitVec 32 := Scalar.muli c4_i32_114 v158
  let c3_i32_115 : BitVec 32 := 3#32
  let v160 : BitVec 32 := Scalar.addi v159 c3_i32_115
  let v161 : Index := Scalar.indexCast v160
  ![v161.toNat]
def k0_mult80 (v162 : BitVec 32) : BitVec 32 :=
  v162

def k0_mult81 : BitVec 32 :=
  let c0_i32_116 : BitVec 32 := 0#32
  c0_i32_116
def k0_mult82 : BitVec 32 :=
  let c0_i32_117 : BitVec 32 := 0#32
  c0_i32_117
def k0_off96 (k0_t14 : Fin k0_t14_loop.trips) : Fin 1 → Nat :=
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c2_i32_113 : BitVec 32 := 2#32
  let v158 : BitVec 32 := Scalar.addi v118 c2_i32_113
  let c64_i32_118 : BitVec 32 := 64#32
  let v166 : BitVec 32 := Scalar.remsi v158 c64_i32_118
  ![v166.toNat]
def k0_off97 (v162 : BitVec 32) : Fin 2 → Nat :=
  let v163 : BitVec 32 := v162
  let c0_i32_119 : BitVec 32 := 0#32
  ![v163.toNat, 0]

def k0_chk31 (v162 : BitVec 32) : Prop :=
  (32 ∣ (k0_mult80 v162).toNat) ∧
  (∀ a, (k0_off97 v162) a + S7168x256.size a ≤ S106496x256.size a) ∧
  (∀ (hinb : ∀ a, (k0_off97 v162) a + S7168x256.size a ≤ S106496x256.size a), (Rect.unit (s := S106496x256) (k0_off97 v162) S7168x256.size hinb).WholeWords (EltTy.packing .fp8e4m3))
theorem k0_mult80_dvd : ∀ (v162 : BitVec 32) (k0_hw31 : k0_chk31 v162), 32 ∣ (k0_mult80 v162).toNat := fun v162 k0_hw31 => k0_hw31.1
theorem k0_off97_inb : ∀ (v162 : BitVec 32) (k0_hw31 : k0_chk31 v162), ∀ a, (k0_off97 v162) a + S7168x256.size a ≤ S106496x256.size a := fun v162 k0_hw31 => k0_hw31.2.1
theorem k0_off97_wordsfp8e4m3 : ∀ (v162 : BitVec 32) (k0_hw31 : k0_chk31 v162), (Rect.unit (s := S106496x256) (k0_off97 v162) S7168x256.size (k0_off97_inb v162 k0_hw31)).WholeWords (EltTy.packing .fp8e4m3) := fun v162 k0_hw31 => k0_hw31.2.2 (k0_off97_inb v162 k0_hw31)

def k0_off98 (k0_t14 : Fin k0_t14_loop.trips) : Fin 1 → Nat :=
  let c4_i32_120 : BitVec 32 := 4#32
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c2_i32_113 : BitVec 32 := 2#32
  let v158 : BitVec 32 := Scalar.addi v118 c2_i32_113
  let v171 : BitVec 32 := Scalar.muli c4_i32_120 v158
  let c3_i32_121 : BitVec 32 := 3#32
  let v172 : BitVec 32 := Scalar.addi v171 c3_i32_121
  let v173 : Index := Scalar.indexCast v172
  ![v173.toNat]
def k0_mult83 (v174 : BitVec 32) : BitVec 32 :=
  v174

def k0_off99 (k0_t14 : Fin k0_t14_loop.trips) : Fin 1 → Nat :=
  let c4_i32_123 : BitVec 32 := 4#32
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c3_i32_122 : BitVec 32 := 3#32
  let v176 : BitVec 32 := Scalar.addi v118 c3_i32_122
  let v177 : BitVec 32 := Scalar.muli c4_i32_123 v176
  let c3_i32_124 : BitVec 32 := 3#32
  let v178 : BitVec 32 := Scalar.addi v177 c3_i32_124
  let v179 : Index := Scalar.indexCast v178
  ![v179.toNat]
def k0_mult84 (v180 : BitVec 32) : BitVec 32 :=
  v180

def k0_mult85 : BitVec 32 :=
  let c0_i32_125 : BitVec 32 := 0#32
  c0_i32_125
def k0_mult86 : BitVec 32 :=
  let c0_i32_126 : BitVec 32 := 0#32
  c0_i32_126
def k0_off100 (k0_t14 : Fin k0_t14_loop.trips) : Fin 1 → Nat :=
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c3_i32_122 : BitVec 32 := 3#32
  let v176 : BitVec 32 := Scalar.addi v118 c3_i32_122
  let c64_i32_127 : BitVec 32 := 64#32
  let v184 : BitVec 32 := Scalar.remsi v176 c64_i32_127
  ![v184.toNat]
def k0_off101 (v180 : BitVec 32) : Fin 2 → Nat :=
  let v181 : BitVec 32 := v180
  let c0_i32_128 : BitVec 32 := 0#32
  ![v181.toNat, 0]

def k0_chk33 (v180 : BitVec 32) : Prop :=
  (32 ∣ (k0_mult84 v180).toNat) ∧
  (∀ a, (k0_off101 v180) a + S2176x256.size a ≤ S106496x256.size a) ∧
  (∀ (hinb : ∀ a, (k0_off101 v180) a + S2176x256.size a ≤ S106496x256.size a), (Rect.unit (s := S106496x256) (k0_off101 v180) S2176x256.size hinb).WholeWords (EltTy.packing .i8))
theorem k0_mult84_dvd : ∀ (v180 : BitVec 32) (k0_hw33 : k0_chk33 v180), 32 ∣ (k0_mult84 v180).toNat := fun v180 k0_hw33 => k0_hw33.1
theorem k0_off101_inb : ∀ (v180 : BitVec 32) (k0_hw33 : k0_chk33 v180), ∀ a, (k0_off101 v180) a + S2176x256.size a ≤ S106496x256.size a := fun v180 k0_hw33 => k0_hw33.2.1
theorem k0_off101_wordsi8 : ∀ (v180 : BitVec 32) (k0_hw33 : k0_chk33 v180), (Rect.unit (s := S106496x256) (k0_off101 v180) S2176x256.size (k0_off101_inb v180 k0_hw33)).WholeWords (EltTy.packing .i8) := fun v180 k0_hw33 => k0_hw33.2.2 (k0_off101_inb v180 k0_hw33)

def k0_off102 (k0_t14 : Fin k0_t14_loop.trips) : Fin 1 → Nat :=
  let c4_i32_129 : BitVec 32 := 4#32
  let c112_i32 : BitVec 32 := 112#32
  let c4_i32 : BitVec 32 := 4#32
  let c0_i32_73 : BitVec 32 := 0#32
  let c1_i32_74 : BitVec 32 := 1#32
  let arg27 : BitVec 32 := Scf.iv c0_i32_73 c1_i32_74 k0_t14
  let v117 : BitVec 32 := Scalar.muli c4_i32 arg27
  let v118 : BitVec 32 := Scalar.addi c112_i32 v117
  let c3_i32_122 : BitVec 32 := 3#32
  let v176 : BitVec 32 := Scalar.addi v118 c3_i32_122
  let v189 : BitVec 32 := Scalar.muli c4_i32_129 v176
  let c3_i32_130 : BitVec 32 := 3#32
  let v190 : BitVec 32 := Scalar.addi v189 c3_i32_130
  let v191 : Index := Scalar.indexCast v190
  ![v191.toNat]
def k0_mult87 (v192 : BitVec 32) : BitVec 32 :=
  v192

def k0_off103 (v138 : BitVec 32) : Fin 2 → Nat :=
  let v139 : BitVec 32 := v138
  let v194 : Index := Scalar.indexCast v139
  let c0_131 : Index := 0#32
  ![v194.toNat, 0]

def k0_chk28 (v138 : BitVec 32) : Prop :=
  (32 ∣ (k0_mult75 v138).toNat) ∧
  (∀ a, (k0_off103 v138) a + S7168x256.size a ≤ S106496x256.size a)
theorem k0_mult75_dvd : ∀ (v138 : BitVec 32) (k0_hw28 : k0_chk28 v138), 32 ∣ (k0_mult75 v138).toNat := fun v138 k0_hw28 => k0_hw28.1
theorem k0_off103_inb : ∀ (v138 : BitVec 32) (k0_hw28 : k0_chk28 v138), ∀ a, (k0_off103 v138) a + S7168x256.size a ≤ S106496x256.size a := fun v138 k0_hw28 => k0_hw28.2

def k0_off104 (v174 : BitVec 32) : Fin 2 → Nat :=
  let v175 : BitVec 32 := v174
  let v196 : Index := Scalar.indexCast v175
  let c0_132 : Index := 0#32
  ![v196.toNat, 0]

def k0_chk32 (v174 : BitVec 32) : Prop :=
  (32 ∣ (k0_mult83 v174).toNat) ∧
  (∀ a, (k0_off104 v174) a + S7168x256.size a ≤ S106496x256.size a)
theorem k0_mult83_dvd : ∀ (v174 : BitVec 32) (k0_hw32 : k0_chk32 v174), 32 ∣ (k0_mult83 v174).toNat := fun v174 k0_hw32 => k0_hw32.1
theorem k0_off104_inb : ∀ (v174 : BitVec 32) (k0_hw32 : k0_chk32 v174), ∀ a, (k0_off104 v174) a + S7168x256.size a ≤ S106496x256.size a := fun v174 k0_hw32 => k0_hw32.2

def k0_off105 (v156 : BitVec 32) : Fin 2 → Nat :=
  let v157 : BitVec 32 := v156
  let v201 : Index := Scalar.indexCast v157
  let c0_136 : Index := 0#32
  ![v201.toNat, 0]

def k0_chk30 (v156 : BitVec 32) : Prop :=
  (32 ∣ (k0_mult79 v156).toNat) ∧
  (∀ a, (k0_off105 v156) a + S2176x256.size a ≤ S106496x256.size a)
theorem k0_mult79_dvd : ∀ (v156 : BitVec 32) (k0_hw30 : k0_chk30 v156), 32 ∣ (k0_mult79 v156).toNat := fun v156 k0_hw30 => k0_hw30.1
theorem k0_off105_inb : ∀ (v156 : BitVec 32) (k0_hw30 : k0_chk30 v156), ∀ a, (k0_off105 v156) a + S2176x256.size a ≤ S106496x256.size a := fun v156 k0_hw30 => k0_hw30.2

def k0_off106 (v192 : BitVec 32) : Fin 2 → Nat :=
  let v193 : BitVec 32 := v192
  let v204 : Index := Scalar.indexCast v193
  let c0_137 : Index := 0#32
  ![v204.toNat, 0]

def k0_chk34 (v192 : BitVec 32) : Prop :=
  (32 ∣ (k0_mult87 v192).toNat) ∧
  (∀ a, (k0_off106 v192) a + S2176x256.size a ≤ S106496x256.size a)
theorem k0_mult87_dvd : ∀ (v192 : BitVec 32) (k0_hw34 : k0_chk34 v192), 32 ∣ (k0_mult87 v192).toNat := fun v192 k0_hw34 => k0_hw34.1
theorem k0_off106_inb : ∀ (v192 : BitVec 32) (k0_hw34 : k0_chk34 v192), ∀ a, (k0_off106 v192) a + S2176x256.size a ≤ S106496x256.size a := fun v192 k0_hw34 => k0_hw34.2

def k0_cond13 (k0_t14 : Fin k0_t14_loop.trips) : BitVec 1 :=
  let c0_i32_73 : BitVec 32 := 0#32
  let c1_i32_74 : BitVec 32 := 1#32
  let arg27 : BitVec 32 := Scf.iv c0_i32_73 c1_i32_74 k0_t14
  let c2_i32_143 : BitVec 32 := 2#32
  let v216 : BitVec 1 := Scalar.cmpi .sge arg27 c2_i32_143
  let v217 : BitVec 32 := Scalar.extui v216
  let c0_i32_144 : BitVec 32 := 0#32
  let v218 : BitVec 1 := Scalar.cmpi .ne v217 c0_i32_144
  v218

def k0_mult88 (k0_t14 : Fin k0_t14_loop.trips) : BitVec 32 :=
  let c0_i32_73 : BitVec 32 := 0#32
  let c1_i32_74 : BitVec 32 := 1#32
  let arg27 : BitVec 32 := Scf.iv c0_i32_73 c1_i32_74 k0_t14
  let c512_i32_167 : BitVec 32 := 512#32
  let v259 : BitVec 32 := Scalar.muli arg27 c512_i32_167
  v259
def k0_off107 (k0_t14 : Fin k0_t14_loop.trips) : Fin 2 → Nat :=
  let c0_i32_73 : BitVec 32 := 0#32
  let c1_i32_74 : BitVec 32 := 1#32
  let arg27 : BitVec 32 := Scf.iv c0_i32_73 c1_i32_74 k0_t14
  let c2_i32_166 : BitVec 32 := 2#32
  let v258 : BitVec 32 := Scalar.remsi arg27 c2_i32_166
  let c0_i32_168 : BitVec 32 := 0#32
  ![v258.toNat, 0]
def k0_off108 (k0_t14 : Fin k0_t14_loop.trips) : Fin 2 → Nat :=
  let c0_i32_169 : BitVec 32 := 0#32
  let c0_i32_73 : BitVec 32 := 0#32
  let c1_i32_74 : BitVec 32 := 1#32
  let arg27 : BitVec 32 := Scf.iv c0_i32_73 c1_i32_74 k0_t14
  let c512_i32_167 : BitVec 32 := 512#32
  let v259 : BitVec 32 := Scalar.muli arg27 c512_i32_167
  let v260 : BitVec 32 := v259
  ![0, v260.toNat]
def k0_off109 (k0_t14 : Fin k0_t14_loop.trips) : Fin 3 → Nat :=
  let c0_i32_73 : BitVec 32 := 0#32
  let c1_i32_74 : BitVec 32 := 1#32
  let arg27 : BitVec 32 := Scf.iv c0_i32_73 c1_i32_74 k0_t14
  let c2_i32_166 : BitVec 32 := 2#32
  let v258 : BitVec 32 := Scalar.remsi arg27 c2_i32_166
  let c0_i32_170 : BitVec 32 := 0#32
  let c0_i32_171 : BitVec 32 := 0#32
  ![v258.toNat, 0, 0]
def k0_off110 (k0_t14 : Fin k0_t14_loop.trips) : Fin 2 → Nat :=
  let c0_i32_73 : BitVec 32 := 0#32
  let c1_i32_74 : BitVec 32 := 1#32
  let arg27 : BitVec 32 := Scf.iv c0_i32_73 c1_i32_74 k0_t14
  let c2_i32_166 : BitVec 32 := 2#32
  let v258 : BitVec 32 := Scalar.remsi arg27 c2_i32_166
  let c1_i32_172 : BitVec 32 := 1#32
  ![v258.toNat, 1]
def k0_off111 (k0_t14 : Fin k0_t14_loop.trips) : Fin 3 → Nat :=
  let c0_i32_73 : BitVec 32 := 0#32
  let c1_i32_74 : BitVec 32 := 1#32
  let arg27 : BitVec 32 := Scf.iv c0_i32_73 c1_i32_74 k0_t14
  let c2_i32_95 : BitVec 32 := 2#32
  let v116 : BitVec 32 := Scalar.remsi arg27 c2_i32_95
  let v220 : Index := Scalar.indexCast v116
  let c0_145 : Index := 0#32
  let c0_146 : Index := 0#32
  ![v220.toNat, 0, 0]
def k0_off112 (k0_t14 : Fin k0_t14_loop.trips) : Fin 2 → Nat :=
  let c0_147 : Index := 0#32
  let c0_i32_73 : BitVec 32 := 0#32
  let c1_i32_74 : BitVec 32 := 1#32
  let arg27 : BitVec 32 := Scf.iv c0_i32_73 c1_i32_74 k0_t14
  let c512_i32 : BitVec 32 := 512#32
  let v114 : BitVec 32 := Scalar.muli arg27 c512_i32
  let v115 : BitVec 32 := v114
  let v224 : Index := Scalar.indexCast v115
  ![0, v224.toNat]
def k0_mult89 (k0_t14 : Fin k0_t14_loop.trips) : BitVec 32 :=
  let c0_i32_73 : BitVec 32 := 0#32
  let c1_i32_74 : BitVec 32 := 1#32
  let arg27 : BitVec 32 := Scf.iv c0_i32_73 c1_i32_74 k0_t14
  let c512_i32_151 : BitVec 32 := 512#32
  let v235 : BitVec 32 := Scalar.muli arg27 c512_i32_151
  v235
def k0_off113 (k0_t14 : Fin k0_t14_loop.trips) : Fin 2 → Nat :=
  let c0_i32_73 : BitVec 32 := 0#32
  let c1_i32_74 : BitVec 32 := 1#32
  let arg27 : BitVec 32 := Scf.iv c0_i32_73 c1_i32_74 k0_t14
  let c2_i32_150 : BitVec 32 := 2#32
  let v234 : BitVec 32 := Scalar.remsi arg27 c2_i32_150
  let c0_i32_152 : BitVec 32 := 0#32
  ![v234.toNat, 0]
def k0_off114 (k0_t14 : Fin k0_t14_loop.trips) : Fin 2 → Nat :=
  let c0_i32_153 : BitVec 32 := 0#32
  let c0_i32_73 : BitVec 32 := 0#32
  let c1_i32_74 : BitVec 32 := 1#32
  let arg27 : BitVec 32 := Scf.iv c0_i32_73 c1_i32_74 k0_t14
  let c512_i32_151 : BitVec 32 := 512#32
  let v235 : BitVec 32 := Scalar.muli arg27 c512_i32_151
  let v236 : BitVec 32 := v235
  ![0, v236.toNat]
def k0_off115 (k0_t14 : Fin k0_t14_loop.trips) : Fin 3 → Nat :=
  let c0_i32_73 : BitVec 32 := 0#32
  let c1_i32_74 : BitVec 32 := 1#32
  let arg27 : BitVec 32 := Scf.iv c0_i32_73 c1_i32_74 k0_t14
  let c2_i32_150 : BitVec 32 := 2#32
  let v234 : BitVec 32 := Scalar.remsi arg27 c2_i32_150
  let c0_i32_154 : BitVec 32 := 0#32
  let c0_i32_155 : BitVec 32 := 0#32
  ![v234.toNat, 0, 0]
def k0_off116 (k0_t14 : Fin k0_t14_loop.trips) : Fin 2 → Nat :=
  let c0_i32_73 : BitVec 32 := 0#32
  let c1_i32_74 : BitVec 32 := 1#32
  let arg27 : BitVec 32 := Scf.iv c0_i32_73 c1_i32_74 k0_t14
  let c2_i32_150 : BitVec 32 := 2#32
  let v234 : BitVec 32 := Scalar.remsi arg27 c2_i32_150
  let c1_i32_156 : BitVec 32 := 1#32
  ![v234.toNat, 1]
def k0_off117 (k0_t14 : Fin k0_t14_loop.trips) : Fin 1 → Nat :=
  let c28_i32_160 : BitVec 32 := 28#32
  let c0_i32_73 : BitVec 32 := 0#32
  let c1_i32_74 : BitVec 32 := 1#32
  let arg27 : BitVec 32 := Scf.iv c0_i32_73 c1_i32_74 k0_t14
  let v247 : BitVec 32 := Scalar.addi c28_i32_160 arg27
  let v248 : Index := Scalar.indexCast v247
  ![v248.toNat]
def k0_off118 (k0_t14 : Fin k0_t14_loop.trips) : Fin 1 → Nat :=
  let c28_i32_160 : BitVec 32 := 28#32
  let c0_i32_73 : BitVec 32 := 0#32
  let c1_i32_74 : BitVec 32 := 1#32
  let arg27 : BitVec 32 := Scf.iv c0_i32_73 c1_i32_74 k0_t14
  let v247 : BitVec 32 := Scalar.addi c28_i32_160 arg27
  let c1_i32_161 : BitVec 32 := 1#32
  let v250 : BitVec 32 := Scalar.addi v247 c1_i32_161
  let v251 : Index := Scalar.indexCast v250
  ![v251.toNat]
@[reducible] def k0_t15_loop (v249 : BitVec 32) (v252 : BitVec 32) : Scf.Loop 32 :=
  let v253 : BitVec 32 := Scalar.subi v252 v249
  let c1_i32_163 : BitVec 32 := 1#32
  let v255 : BitVec 32 := Scalar.divsi v253 c1_i32_163
  let v256 : BitVec 32 := Scalar.muli v255 c1_i32_163
  let v257 : BitVec 32 := Scalar.addi v249 v256
  let c1_i32_164 : BitVec 32 := 1#32
  ⟨v249, v257, c1_i32_164⟩

def k0_off119 (v249 : BitVec 32) (v252 : BitVec 32) (k0_t15 : Fin (k0_t15_loop v249 v252).trips) (c0_i32_167 : BitVec 32) : Fin 1 → Nat :=
  let c4_i32_166 : BitVec 32 := 4#32
  let c1_i32_164 : BitVec 32 := 1#32
  let arg28 : BitVec 32 := Scf.iv v249 c1_i32_164 k0_t15
  let v258 : BitVec 32 := Scalar.muli c4_i32_166 arg28
  let v259 : BitVec 32 := Scalar.addi v258 c0_i32_167
  let v260 : Index := Scalar.indexCast v259
  ![v260.toNat]
def k0_mult90 (v273 : BitVec 32) : BitVec 32 :=
  v273
def k0_cond14 (v261 : BitVec 32) : BitVec 1 :=
  let c0_i32_174 : BitVec 32 := 0#32
  let v274 : BitVec 1 := Scalar.cmpi .eq v261 c0_i32_174
  let v275 : BitVec 32 := Scalar.extui v274
  let c0_i32_175 : BitVec 32 := 0#32
  let v276 : BitVec 1 := Scalar.cmpi .ne v275 c0_i32_175
  v276

def k0_mult91 (v265 : BitVec 32) : BitVec 32 :=
  v265

def k0_mult92 (v269 : BitVec 32) : BitVec 32 :=
  v269

def k0_off120 (v249 : BitVec 32) (v252 : BitVec 32) (k0_t15 : Fin (k0_t15_loop v249 v252).trips) : Fin 1 → Nat :=
  let c1_i32_164 : BitVec 32 := 1#32
  let arg28 : BitVec 32 := Scf.iv v249 c1_i32_164 k0_t15
  let c64_i32_180 : BitVec 32 := 64#32
  let v286 : BitVec 32 := Scalar.remsi arg28 c64_i32_180
  ![v286.toNat]

def k0_off121 (v273 : BitVec 32) : Fin 2 → Nat :=
  let v283 : BitVec 32 := v273
  let c0_i32_181 : BitVec 32 := 0#32
  ![v283.toNat, 0]
def k0_off122 (v265 : BitVec 32) (v269 : BitVec 32) : Fin 2 → Nat :=
  let v284 : BitVec 32 := v265
  let v285 : BitVec 32 := v269
  ![v284.toNat, v285.toNat]
def k0_mult93 (v273 : BitVec 32) : BitVec 32 :=
  v273
def k0_cond15 (v261 : BitVec 32) : BitVec 1 :=
  let c3_i32_176 : BitVec 32 := 3#32
  let v277 : BitVec 1 := Scalar.cmpi .eq v261 c3_i32_176
  let v278 : BitVec 32 := Scalar.extui v277
  let c0_i32_177 : BitVec 32 := 0#32
  let v279 : BitVec 1 := Scalar.cmpi .ne v278 c0_i32_177
  v279

def k0_mult94 (v265 : BitVec 32) : BitVec 32 :=
  v265
def k0_mult95 (v269 : BitVec 32) : BitVec 32 :=
  v269
def k0_off123 (v249 : BitVec 32) (v252 : BitVec 32) (k0_t15 : Fin (k0_t15_loop v249 v252).trips) : Fin 1 → Nat :=
  let c1_i32_164 : BitVec 32 := 1#32
  let arg28 : BitVec 32 := Scf.iv v249 c1_i32_164 k0_t15
  let c64_i32_180 : BitVec 32 := 64#32
  let v286 : BitVec 32 := Scalar.remsi arg28 c64_i32_180
  ![v286.toNat]
def k0_off124 (v273 : BitVec 32) : Fin 2 → Nat :=
  let v283 : BitVec 32 := v273
  let c0_i32_181 : BitVec 32 := 0#32
  ![v283.toNat, 0]
def k0_off125 (v265 : BitVec 32) (v269 : BitVec 32) : Fin 2 → Nat :=
  let v284 : BitVec 32 := v265
  let v285 : BitVec 32 := v269
  ![v284.toNat, v285.toNat]
def k0_mult96 (v273 : BitVec 32) : BitVec 32 :=
  v273
def k0_cond16 (v261 : BitVec 32) : BitVec 1 :=
  let c4_i32_178 : BitVec 32 := 4#32
  let v280 : BitVec 1 := Scalar.cmpi .eq v261 c4_i32_178
  let v281 : BitVec 32 := Scalar.extui v280
  let c0_i32_179 : BitVec 32 := 0#32
  let v282 : BitVec 1 := Scalar.cmpi .ne v281 c0_i32_179
  v282

def k0_mult97 (v265 : BitVec 32) : BitVec 32 :=
  v265

def k0_chk37 (v261 : BitVec 32) (v265 : BitVec 32) : Prop :=
  (∀ (k0_h14 : k0_cond14 v261 = 1#1), 32 ∣ (k0_mult91 v265).toNat) ∧
  (∀ (k0_h15 : k0_cond15 v261 = 1#1), 32 ∣ (k0_mult94 v265).toNat) ∧
  (∀ (k0_h16 : k0_cond16 v261 = 1#1), 32 ∣ (k0_mult97 v265).toNat)
theorem k0_mult91_dvd : ∀ (v261 : BitVec 32) (v265 : BitVec 32) (k0_hw37 : k0_chk37 v261 v265), ∀ (k0_h14 : k0_cond14 v261 = 1#1), 32 ∣ (k0_mult91 v265).toNat := fun v261 v265 k0_hw37 k0_h14 => k0_hw37.1 k0_h14
theorem k0_mult94_dvd : ∀ (v261 : BitVec 32) (v265 : BitVec 32) (k0_hw37 : k0_chk37 v261 v265), ∀ (k0_h15 : k0_cond15 v261 = 1#1), 32 ∣ (k0_mult94 v265).toNat := fun v261 v265 k0_hw37 k0_h15 => k0_hw37.2.1 k0_h15
theorem k0_mult97_dvd : ∀ (v261 : BitVec 32) (v265 : BitVec 32) (k0_hw37 : k0_chk37 v261 v265), ∀ (k0_h16 : k0_cond16 v261 = 1#1), 32 ∣ (k0_mult97 v265).toNat := fun v261 v265 k0_hw37 k0_h16 => k0_hw37.2.2 k0_h16

def k0_mult98 (v269 : BitVec 32) : BitVec 32 :=
  v269
def k0_off126 (v249 : BitVec 32) (v252 : BitVec 32) (k0_t15 : Fin (k0_t15_loop v249 v252).trips) : Fin 1 → Nat :=
  let c1_i32_164 : BitVec 32 := 1#32
  let arg28 : BitVec 32 := Scf.iv v249 c1_i32_164 k0_t15
  let c64_i32_180 : BitVec 32 := 64#32
  let v286 : BitVec 32 := Scalar.remsi arg28 c64_i32_180
  ![v286.toNat]

def k0_chk39 (v249 : BitVec 32) (v252 : BitVec 32) (k0_t15 : Fin (k0_t15_loop v249 v252).trips) (v261 : BitVec 32) : Prop :=
  (∀ (k0_h14 : k0_cond14 v261 = 1#1), ∀ a, (k0_off120 v249 v252 k0_t15) a + S1.size a ≤ S64.size a) ∧
  (∀ (k0_h15 : k0_cond15 v261 = 1#1), ∀ a, (k0_off123 v249 v252 k0_t15) a + S1.size a ≤ S64.size a) ∧
  (∀ (k0_h16 : k0_cond16 v261 = 1#1), ∀ a, (k0_off126 v249 v252 k0_t15) a + S1.size a ≤ S64.size a)
theorem k0_off120_inb : ∀ (v249 : BitVec 32) (v252 : BitVec 32) (k0_t15 : Fin (k0_t15_loop v249 v252).trips) (v261 : BitVec 32) (k0_hw39 : k0_chk39 v249 v252 k0_t15 v261), ∀ (k0_h14 : k0_cond14 v261 = 1#1), ∀ a, (k0_off120 v249 v252 k0_t15) a + S1.size a ≤ S64.size a := fun v249 v252 k0_t15 v261 k0_hw39 k0_h14 => k0_hw39.1 k0_h14
theorem k0_off123_inb : ∀ (v249 : BitVec 32) (v252 : BitVec 32) (k0_t15 : Fin (k0_t15_loop v249 v252).trips) (v261 : BitVec 32) (k0_hw39 : k0_chk39 v249 v252 k0_t15 v261), ∀ (k0_h15 : k0_cond15 v261 = 1#1), ∀ a, (k0_off123 v249 v252 k0_t15) a + S1.size a ≤ S64.size a := fun v249 v252 k0_t15 v261 k0_hw39 k0_h15 => k0_hw39.2.1 k0_h15
theorem k0_off126_inb : ∀ (v249 : BitVec 32) (v252 : BitVec 32) (k0_t15 : Fin (k0_t15_loop v249 v252).trips) (v261 : BitVec 32) (k0_hw39 : k0_chk39 v249 v252 k0_t15 v261), ∀ (k0_h16 : k0_cond16 v261 = 1#1), ∀ a, (k0_off126 v249 v252 k0_t15) a + S1.size a ≤ S64.size a := fun v249 v252 k0_t15 v261 k0_hw39 k0_h16 => k0_hw39.2.2 k0_h16

def k0_off127 (v273 : BitVec 32) : Fin 2 → Nat :=
  let v283 : BitVec 32 := v273
  let c0_i32_181 : BitVec 32 := 0#32
  ![v283.toNat, 0]
def k0_off128 (v265 : BitVec 32) (v269 : BitVec 32) : Fin 2 → Nat :=
  let v284 : BitVec 32 := v265
  let v285 : BitVec 32 := v269
  ![v284.toNat, v285.toNat]

def k0_chk38 (v261 : BitVec 32) (v265 : BitVec 32) (v269 : BitVec 32) : Prop :=
  (∀ (k0_h14 : k0_cond14 v261 = 1#1), 256 ∣ (k0_mult92 v269).toNat) ∧
  (∀ (k0_h14 : k0_cond14 v261 = 1#1), ∀ a, (k0_off122 v265 v269) a + S2176x256.size a ≤ S30240x8192.size a) ∧
  (∀ (k0_h14 : k0_cond14 v261 = 1#1), ∀ (hinb : ∀ a, (k0_off122 v265 v269) a + S2176x256.size a ≤ S30240x8192.size a), (Rect.unit (s := S30240x8192) (k0_off122 v265 v269) S2176x256.size hinb).WholeWords (EltTy.packing .i8)) ∧
  (∀ (k0_h15 : k0_cond15 v261 = 1#1), 256 ∣ (k0_mult95 v269).toNat) ∧
  (∀ (k0_h15 : k0_cond15 v261 = 1#1), ∀ a, (k0_off125 v265 v269) a + S8192x256.size a ≤ S8192x14336.size a) ∧
  (∀ (k0_h15 : k0_cond15 v261 = 1#1), ∀ (hinb : ∀ a, (k0_off125 v265 v269) a + S8192x256.size a ≤ S8192x14336.size a), (Rect.unit (s := S8192x14336) (k0_off125 v265 v269) S8192x256.size hinb).WholeWords (EltTy.packing .fp8e4m3)) ∧
  (∀ (k0_h16 : k0_cond16 v261 = 1#1), 256 ∣ (k0_mult98 v269).toNat) ∧
  (∀ (k0_h16 : k0_cond16 v261 = 1#1), ∀ a, (k0_off128 v265 v269) a + S7168x256.size a ≤ S7168x8192.size a) ∧
  (∀ (k0_h16 : k0_cond16 v261 = 1#1), ∀ (hinb : ∀ a, (k0_off128 v265 v269) a + S7168x256.size a ≤ S7168x8192.size a), (Rect.unit (s := S7168x8192) (k0_off128 v265 v269) S7168x256.size hinb).WholeWords (EltTy.packing .fp8e4m3))
theorem k0_mult92_dvd : ∀ (v261 : BitVec 32) (v265 : BitVec 32) (v269 : BitVec 32) (k0_hw38 : k0_chk38 v261 v265 v269), ∀ (k0_h14 : k0_cond14 v261 = 1#1), 256 ∣ (k0_mult92 v269).toNat := fun v261 v265 v269 k0_hw38 k0_h14 => k0_hw38.1 k0_h14
theorem k0_off122_inb : ∀ (v261 : BitVec 32) (v265 : BitVec 32) (v269 : BitVec 32) (k0_hw38 : k0_chk38 v261 v265 v269), ∀ (k0_h14 : k0_cond14 v261 = 1#1), ∀ a, (k0_off122 v265 v269) a + S2176x256.size a ≤ S30240x8192.size a := fun v261 v265 v269 k0_hw38 k0_h14 => k0_hw38.2.1 k0_h14
theorem k0_off122_wordsi8 : ∀ (v261 : BitVec 32) (v265 : BitVec 32) (v269 : BitVec 32) (k0_hw38 : k0_chk38 v261 v265 v269), ∀ (k0_h14 : k0_cond14 v261 = 1#1), (Rect.unit (s := S30240x8192) (k0_off122 v265 v269) S2176x256.size (k0_off122_inb v261 v265 v269 k0_hw38 k0_h14)).WholeWords (EltTy.packing .i8) := fun v261 v265 v269 k0_hw38 k0_h14 => k0_hw38.2.2.1 k0_h14 (k0_off122_inb v261 v265 v269 k0_hw38 k0_h14)
theorem k0_mult95_dvd : ∀ (v261 : BitVec 32) (v265 : BitVec 32) (v269 : BitVec 32) (k0_hw38 : k0_chk38 v261 v265 v269), ∀ (k0_h15 : k0_cond15 v261 = 1#1), 256 ∣ (k0_mult95 v269).toNat := fun v261 v265 v269 k0_hw38 k0_h15 => k0_hw38.2.2.2.1 k0_h15
theorem k0_off125_inb : ∀ (v261 : BitVec 32) (v265 : BitVec 32) (v269 : BitVec 32) (k0_hw38 : k0_chk38 v261 v265 v269), ∀ (k0_h15 : k0_cond15 v261 = 1#1), ∀ a, (k0_off125 v265 v269) a + S8192x256.size a ≤ S8192x14336.size a := fun v261 v265 v269 k0_hw38 k0_h15 => k0_hw38.2.2.2.2.1 k0_h15
theorem k0_off125_wordsfp8e4m3 : ∀ (v261 : BitVec 32) (v265 : BitVec 32) (v269 : BitVec 32) (k0_hw38 : k0_chk38 v261 v265 v269), ∀ (k0_h15 : k0_cond15 v261 = 1#1), (Rect.unit (s := S8192x14336) (k0_off125 v265 v269) S8192x256.size (k0_off125_inb v261 v265 v269 k0_hw38 k0_h15)).WholeWords (EltTy.packing .fp8e4m3) := fun v261 v265 v269 k0_hw38 k0_h15 => k0_hw38.2.2.2.2.2.1 k0_h15 (k0_off125_inb v261 v265 v269 k0_hw38 k0_h15)
theorem k0_mult98_dvd : ∀ (v261 : BitVec 32) (v265 : BitVec 32) (v269 : BitVec 32) (k0_hw38 : k0_chk38 v261 v265 v269), ∀ (k0_h16 : k0_cond16 v261 = 1#1), 256 ∣ (k0_mult98 v269).toNat := fun v261 v265 v269 k0_hw38 k0_h16 => k0_hw38.2.2.2.2.2.2.1 k0_h16
theorem k0_off128_inb : ∀ (v261 : BitVec 32) (v265 : BitVec 32) (v269 : BitVec 32) (k0_hw38 : k0_chk38 v261 v265 v269), ∀ (k0_h16 : k0_cond16 v261 = 1#1), ∀ a, (k0_off128 v265 v269) a + S7168x256.size a ≤ S7168x8192.size a := fun v261 v265 v269 k0_hw38 k0_h16 => k0_hw38.2.2.2.2.2.2.2.1 k0_h16
theorem k0_off128_wordsfp8e4m3 : ∀ (v261 : BitVec 32) (v265 : BitVec 32) (v269 : BitVec 32) (k0_hw38 : k0_chk38 v261 v265 v269), ∀ (k0_h16 : k0_cond16 v261 = 1#1), (Rect.unit (s := S7168x8192) (k0_off128 v265 v269) S7168x256.size (k0_off128_inb v261 v265 v269 k0_hw38 k0_h16)).WholeWords (EltTy.packing .fp8e4m3) := fun v261 v265 v269 k0_hw38 k0_h16 => k0_hw38.2.2.2.2.2.2.2.2 k0_h16 (k0_off128_inb v261 v265 v269 k0_hw38 k0_h16)

def k0_chk36 (v261 : BitVec 32) (v273 : BitVec 32) : Prop :=
  (∀ (k0_h14 : k0_cond14 v261 = 1#1), 32 ∣ (k0_mult90 v273).toNat) ∧
  (∀ (k0_h14 : k0_cond14 v261 = 1#1), ∀ a, (k0_off121 v273) a + S2176x256.size a ≤ S106496x256.size a) ∧
  (∀ (k0_h14 : k0_cond14 v261 = 1#1), ∀ (hinb : ∀ a, (k0_off121 v273) a + S2176x256.size a ≤ S106496x256.size a), (Rect.unit (s := S106496x256) (k0_off121 v273) S2176x256.size hinb).WholeWords (EltTy.packing .i8)) ∧
  (∀ (k0_h15 : k0_cond15 v261 = 1#1), 32 ∣ (k0_mult93 v273).toNat) ∧
  (∀ (k0_h15 : k0_cond15 v261 = 1#1), ∀ a, (k0_off124 v273) a + S8192x256.size a ≤ S106496x256.size a) ∧
  (∀ (k0_h15 : k0_cond15 v261 = 1#1), ∀ (hinb : ∀ a, (k0_off124 v273) a + S8192x256.size a ≤ S106496x256.size a), (Rect.unit (s := S106496x256) (k0_off124 v273) S8192x256.size hinb).WholeWords (EltTy.packing .fp8e4m3)) ∧
  (∀ (k0_h16 : k0_cond16 v261 = 1#1), 32 ∣ (k0_mult96 v273).toNat) ∧
  (∀ (k0_h16 : k0_cond16 v261 = 1#1), ∀ a, (k0_off127 v273) a + S7168x256.size a ≤ S106496x256.size a) ∧
  (∀ (k0_h16 : k0_cond16 v261 = 1#1), ∀ (hinb : ∀ a, (k0_off127 v273) a + S7168x256.size a ≤ S106496x256.size a), (Rect.unit (s := S106496x256) (k0_off127 v273) S7168x256.size hinb).WholeWords (EltTy.packing .fp8e4m3))
theorem k0_mult90_dvd : ∀ (v261 : BitVec 32) (v273 : BitVec 32) (k0_hw36 : k0_chk36 v261 v273), ∀ (k0_h14 : k0_cond14 v261 = 1#1), 32 ∣ (k0_mult90 v273).toNat := fun v261 v273 k0_hw36 k0_h14 => k0_hw36.1 k0_h14
theorem k0_off121_inb : ∀ (v261 : BitVec 32) (v273 : BitVec 32) (k0_hw36 : k0_chk36 v261 v273), ∀ (k0_h14 : k0_cond14 v261 = 1#1), ∀ a, (k0_off121 v273) a + S2176x256.size a ≤ S106496x256.size a := fun v261 v273 k0_hw36 k0_h14 => k0_hw36.2.1 k0_h14
theorem k0_off121_wordsi8 : ∀ (v261 : BitVec 32) (v273 : BitVec 32) (k0_hw36 : k0_chk36 v261 v273), ∀ (k0_h14 : k0_cond14 v261 = 1#1), (Rect.unit (s := S106496x256) (k0_off121 v273) S2176x256.size (k0_off121_inb v261 v273 k0_hw36 k0_h14)).WholeWords (EltTy.packing .i8) := fun v261 v273 k0_hw36 k0_h14 => k0_hw36.2.2.1 k0_h14 (k0_off121_inb v261 v273 k0_hw36 k0_h14)
theorem k0_mult93_dvd : ∀ (v261 : BitVec 32) (v273 : BitVec 32) (k0_hw36 : k0_chk36 v261 v273), ∀ (k0_h15 : k0_cond15 v261 = 1#1), 32 ∣ (k0_mult93 v273).toNat := fun v261 v273 k0_hw36 k0_h15 => k0_hw36.2.2.2.1 k0_h15
theorem k0_off124_inb : ∀ (v261 : BitVec 32) (v273 : BitVec 32) (k0_hw36 : k0_chk36 v261 v273), ∀ (k0_h15 : k0_cond15 v261 = 1#1), ∀ a, (k0_off124 v273) a + S8192x256.size a ≤ S106496x256.size a := fun v261 v273 k0_hw36 k0_h15 => k0_hw36.2.2.2.2.1 k0_h15
theorem k0_off124_wordsfp8e4m3 : ∀ (v261 : BitVec 32) (v273 : BitVec 32) (k0_hw36 : k0_chk36 v261 v273), ∀ (k0_h15 : k0_cond15 v261 = 1#1), (Rect.unit (s := S106496x256) (k0_off124 v273) S8192x256.size (k0_off124_inb v261 v273 k0_hw36 k0_h15)).WholeWords (EltTy.packing .fp8e4m3) := fun v261 v273 k0_hw36 k0_h15 => k0_hw36.2.2.2.2.2.1 k0_h15 (k0_off124_inb v261 v273 k0_hw36 k0_h15)
theorem k0_mult96_dvd : ∀ (v261 : BitVec 32) (v273 : BitVec 32) (k0_hw36 : k0_chk36 v261 v273), ∀ (k0_h16 : k0_cond16 v261 = 1#1), 32 ∣ (k0_mult96 v273).toNat := fun v261 v273 k0_hw36 k0_h16 => k0_hw36.2.2.2.2.2.2.1 k0_h16
theorem k0_off127_inb : ∀ (v261 : BitVec 32) (v273 : BitVec 32) (k0_hw36 : k0_chk36 v261 v273), ∀ (k0_h16 : k0_cond16 v261 = 1#1), ∀ a, (k0_off127 v273) a + S7168x256.size a ≤ S106496x256.size a := fun v261 v273 k0_hw36 k0_h16 => k0_hw36.2.2.2.2.2.2.2.1 k0_h16
theorem k0_off127_wordsfp8e4m3 : ∀ (v261 : BitVec 32) (v273 : BitVec 32) (k0_hw36 : k0_chk36 v261 v273), ∀ (k0_h16 : k0_cond16 v261 = 1#1), (Rect.unit (s := S106496x256) (k0_off127 v273) S7168x256.size (k0_off127_inb v261 v273 k0_hw36 k0_h16)).WholeWords (EltTy.packing .fp8e4m3) := fun v261 v273 k0_hw36 k0_h16 => k0_hw36.2.2.2.2.2.2.2.2 k0_h16 (k0_off127_inb v261 v273 k0_hw36 k0_h16)

@[reducible] def k0_t16_loop (v249 : BitVec 32) (v252 : BitVec 32) : Scf.Loop 32 :=
  let v253 : BitVec 32 := Scalar.subi v252 v249
  let c1_i32_163 : BitVec 32 := 1#32
  let v255 : BitVec 32 := Scalar.divsi v253 c1_i32_163
  let v256 : BitVec 32 := Scalar.muli v255 c1_i32_163
  let v257 : BitVec 32 := Scalar.addi v249 v256
  let v254 : BitVec 32 := Scalar.addi v249 v253
  let c1_i32_165 : BitVec 32 := 1#32
  ⟨v257, v254, c1_i32_165⟩
def k0_off129 (v249 : BitVec 32) (v252 : BitVec 32) (k0_t16 : Fin (k0_t16_loop v249 v252).trips) (c0_i32_167 : BitVec 32) : Fin 1 → Nat :=
  let c4_i32_166 : BitVec 32 := 4#32
  let v253 : BitVec 32 := Scalar.subi v252 v249
  let c1_i32_163 : BitVec 32 := 1#32
  let v255 : BitVec 32 := Scalar.divsi v253 c1_i32_163
  let v256 : BitVec 32 := Scalar.muli v255 c1_i32_163
  let v257 : BitVec 32 := Scalar.addi v249 v256
  let c1_i32_165 : BitVec 32 := 1#32
  let arg28 : BitVec 32 := Scf.iv v257 c1_i32_165 k0_t16
  let v258 : BitVec 32 := Scalar.muli c4_i32_166 arg28
  let v259 : BitVec 32 := Scalar.addi v258 c0_i32_167
  let v260 : Index := Scalar.indexCast v259
  ![v260.toNat]

def k0_chk35 (v249 : BitVec 32) (v252 : BitVec 32) : Prop :=
  ((k0_t15_loop v249 v252).OK) ∧
  (∀ k0_t15 : Fin (k0_t15_loop v249 v252).trips, ∀ (r : Fin 4), ∀ a, (k0_off119 v249 v252 k0_t15 (BitVec.ofNat 32 r.val)) a + S1.size a ≤ S704.size a) ∧
  ((k0_t16_loop v249 v252).OK) ∧
  (∀ k0_t16 : Fin (k0_t16_loop v249 v252).trips, ∀ (r : Fin 4), ∀ a, (k0_off129 v249 v252 k0_t16 (BitVec.ofNat 32 r.val)) a + S1.size a ≤ S704.size a)
theorem k0_t15_ok : ∀ (v249 : BitVec 32) (v252 : BitVec 32) (k0_hw35 : k0_chk35 v249 v252), (k0_t15_loop v249 v252).OK := fun v249 v252 k0_hw35 => k0_hw35.1
theorem k0_off119_inb : ∀ (v249 : BitVec 32) (v252 : BitVec 32) (k0_hw35 : k0_chk35 v249 v252) (k0_t15 : Fin (k0_t15_loop v249 v252).trips), ∀ (r : Fin 4), ∀ a, (k0_off119 v249 v252 k0_t15 (BitVec.ofNat 32 r.val)) a + S1.size a ≤ S704.size a := fun v249 v252 k0_hw35 k0_t15 r => k0_hw35.2.1 k0_t15 r
theorem k0_t16_ok : ∀ (v249 : BitVec 32) (v252 : BitVec 32) (k0_hw35 : k0_chk35 v249 v252), (k0_t16_loop v249 v252).OK := fun v249 v252 k0_hw35 => k0_hw35.2.2.1
theorem k0_off129_inb : ∀ (v249 : BitVec 32) (v252 : BitVec 32) (k0_hw35 : k0_chk35 v249 v252) (k0_t16 : Fin (k0_t16_loop v249 v252).trips), ∀ (r : Fin 4), ∀ a, (k0_off129 v249 v252 k0_t16 (BitVec.ofNat 32 r.val)) a + S1.size a ≤ S704.size a := fun v249 v252 k0_hw35 k0_t16 r => k0_hw35.2.2.2 k0_t16 r

def k0_mult99 (v273 : BitVec 32) : BitVec 32 :=
  v273
def k0_cond17 (v261 : BitVec 32) : BitVec 1 :=
  let c0_i32_174 : BitVec 32 := 0#32
  let v274 : BitVec 1 := Scalar.cmpi .eq v261 c0_i32_174
  let v275 : BitVec 32 := Scalar.extui v274
  let c0_i32_175 : BitVec 32 := 0#32
  let v276 : BitVec 1 := Scalar.cmpi .ne v275 c0_i32_175
  v276

def k0_mult100 (v265 : BitVec 32) : BitVec 32 :=
  v265

def k0_mult101 (v269 : BitVec 32) : BitVec 32 :=
  v269

def k0_off130 (v249 : BitVec 32) (v252 : BitVec 32) (k0_t16 : Fin (k0_t16_loop v249 v252).trips) : Fin 1 → Nat :=
  let v253 : BitVec 32 := Scalar.subi v252 v249
  let c1_i32_163 : BitVec 32 := 1#32
  let v255 : BitVec 32 := Scalar.divsi v253 c1_i32_163
  let v256 : BitVec 32 := Scalar.muli v255 c1_i32_163
  let v257 : BitVec 32 := Scalar.addi v249 v256
  let c1_i32_165 : BitVec 32 := 1#32
  let arg28 : BitVec 32 := Scf.iv v257 c1_i32_165 k0_t16
  let c64_i32_180 : BitVec 32 := 64#32
  let v286 : BitVec 32 := Scalar.remsi arg28 c64_i32_180
  ![v286.toNat]

def k0_off131 (v273 : BitVec 32) : Fin 2 → Nat :=
  let v283 : BitVec 32 := v273
  let c0_i32_181 : BitVec 32 := 0#32
  ![v283.toNat, 0]
def k0_off132 (v265 : BitVec 32) (v269 : BitVec 32) : Fin 2 → Nat :=
  let v284 : BitVec 32 := v265
  let v285 : BitVec 32 := v269
  ![v284.toNat, v285.toNat]
def k0_mult102 (v273 : BitVec 32) : BitVec 32 :=
  v273
def k0_cond18 (v261 : BitVec 32) : BitVec 1 :=
  let c3_i32_176 : BitVec 32 := 3#32
  let v277 : BitVec 1 := Scalar.cmpi .eq v261 c3_i32_176
  let v278 : BitVec 32 := Scalar.extui v277
  let c0_i32_177 : BitVec 32 := 0#32
  let v279 : BitVec 1 := Scalar.cmpi .ne v278 c0_i32_177
  v279

def k0_mult103 (v265 : BitVec 32) : BitVec 32 :=
  v265
def k0_mult104 (v269 : BitVec 32) : BitVec 32 :=
  v269
def k0_off133 (v249 : BitVec 32) (v252 : BitVec 32) (k0_t16 : Fin (k0_t16_loop v249 v252).trips) : Fin 1 → Nat :=
  let v253 : BitVec 32 := Scalar.subi v252 v249
  let c1_i32_163 : BitVec 32 := 1#32
  let v255 : BitVec 32 := Scalar.divsi v253 c1_i32_163
  let v256 : BitVec 32 := Scalar.muli v255 c1_i32_163
  let v257 : BitVec 32 := Scalar.addi v249 v256
  let c1_i32_165 : BitVec 32 := 1#32
  let arg28 : BitVec 32 := Scf.iv v257 c1_i32_165 k0_t16
  let c64_i32_180 : BitVec 32 := 64#32
  let v286 : BitVec 32 := Scalar.remsi arg28 c64_i32_180
  ![v286.toNat]
def k0_off134 (v273 : BitVec 32) : Fin 2 → Nat :=
  let v283 : BitVec 32 := v273
  let c0_i32_181 : BitVec 32 := 0#32
  ![v283.toNat, 0]
def k0_off135 (v265 : BitVec 32) (v269 : BitVec 32) : Fin 2 → Nat :=
  let v284 : BitVec 32 := v265
  let v285 : BitVec 32 := v269
  ![v284.toNat, v285.toNat]
def k0_mult105 (v273 : BitVec 32) : BitVec 32 :=
  v273
def k0_cond19 (v261 : BitVec 32) : BitVec 1 :=
  let c4_i32_178 : BitVec 32 := 4#32
  let v280 : BitVec 1 := Scalar.cmpi .eq v261 c4_i32_178
  let v281 : BitVec 32 := Scalar.extui v280
  let c0_i32_179 : BitVec 32 := 0#32
  let v282 : BitVec 1 := Scalar.cmpi .ne v281 c0_i32_179
  v282

def k0_mult106 (v265 : BitVec 32) : BitVec 32 :=
  v265

def k0_chk41 (v261 : BitVec 32) (v265 : BitVec 32) : Prop :=
  (∀ (k0_h17 : k0_cond17 v261 = 1#1), 32 ∣ (k0_mult100 v265).toNat) ∧
  (∀ (k0_h18 : k0_cond18 v261 = 1#1), 32 ∣ (k0_mult103 v265).toNat) ∧
  (∀ (k0_h19 : k0_cond19 v261 = 1#1), 32 ∣ (k0_mult106 v265).toNat)
theorem k0_mult100_dvd : ∀ (v261 : BitVec 32) (v265 : BitVec 32) (k0_hw41 : k0_chk41 v261 v265), ∀ (k0_h17 : k0_cond17 v261 = 1#1), 32 ∣ (k0_mult100 v265).toNat := fun v261 v265 k0_hw41 k0_h17 => k0_hw41.1 k0_h17
theorem k0_mult103_dvd : ∀ (v261 : BitVec 32) (v265 : BitVec 32) (k0_hw41 : k0_chk41 v261 v265), ∀ (k0_h18 : k0_cond18 v261 = 1#1), 32 ∣ (k0_mult103 v265).toNat := fun v261 v265 k0_hw41 k0_h18 => k0_hw41.2.1 k0_h18
theorem k0_mult106_dvd : ∀ (v261 : BitVec 32) (v265 : BitVec 32) (k0_hw41 : k0_chk41 v261 v265), ∀ (k0_h19 : k0_cond19 v261 = 1#1), 32 ∣ (k0_mult106 v265).toNat := fun v261 v265 k0_hw41 k0_h19 => k0_hw41.2.2 k0_h19

def k0_mult107 (v269 : BitVec 32) : BitVec 32 :=
  v269
def k0_off136 (v249 : BitVec 32) (v252 : BitVec 32) (k0_t16 : Fin (k0_t16_loop v249 v252).trips) : Fin 1 → Nat :=
  let v253 : BitVec 32 := Scalar.subi v252 v249
  let c1_i32_163 : BitVec 32 := 1#32
  let v255 : BitVec 32 := Scalar.divsi v253 c1_i32_163
  let v256 : BitVec 32 := Scalar.muli v255 c1_i32_163
  let v257 : BitVec 32 := Scalar.addi v249 v256
  let c1_i32_165 : BitVec 32 := 1#32
  let arg28 : BitVec 32 := Scf.iv v257 c1_i32_165 k0_t16
  let c64_i32_180 : BitVec 32 := 64#32
  let v286 : BitVec 32 := Scalar.remsi arg28 c64_i32_180
  ![v286.toNat]

def k0_chk43 (v249 : BitVec 32) (v252 : BitVec 32) (k0_t16 : Fin (k0_t16_loop v249 v252).trips) (v261 : BitVec 32) : Prop :=
  (∀ (k0_h17 : k0_cond17 v261 = 1#1), ∀ a, (k0_off130 v249 v252 k0_t16) a + S1.size a ≤ S64.size a) ∧
  (∀ (k0_h18 : k0_cond18 v261 = 1#1), ∀ a, (k0_off133 v249 v252 k0_t16) a + S1.size a ≤ S64.size a) ∧
  (∀ (k0_h19 : k0_cond19 v261 = 1#1), ∀ a, (k0_off136 v249 v252 k0_t16) a + S1.size a ≤ S64.size a)
theorem k0_off130_inb : ∀ (v249 : BitVec 32) (v252 : BitVec 32) (k0_t16 : Fin (k0_t16_loop v249 v252).trips) (v261 : BitVec 32) (k0_hw43 : k0_chk43 v249 v252 k0_t16 v261), ∀ (k0_h17 : k0_cond17 v261 = 1#1), ∀ a, (k0_off130 v249 v252 k0_t16) a + S1.size a ≤ S64.size a := fun v249 v252 k0_t16 v261 k0_hw43 k0_h17 => k0_hw43.1 k0_h17
theorem k0_off133_inb : ∀ (v249 : BitVec 32) (v252 : BitVec 32) (k0_t16 : Fin (k0_t16_loop v249 v252).trips) (v261 : BitVec 32) (k0_hw43 : k0_chk43 v249 v252 k0_t16 v261), ∀ (k0_h18 : k0_cond18 v261 = 1#1), ∀ a, (k0_off133 v249 v252 k0_t16) a + S1.size a ≤ S64.size a := fun v249 v252 k0_t16 v261 k0_hw43 k0_h18 => k0_hw43.2.1 k0_h18
theorem k0_off136_inb : ∀ (v249 : BitVec 32) (v252 : BitVec 32) (k0_t16 : Fin (k0_t16_loop v249 v252).trips) (v261 : BitVec 32) (k0_hw43 : k0_chk43 v249 v252 k0_t16 v261), ∀ (k0_h19 : k0_cond19 v261 = 1#1), ∀ a, (k0_off136 v249 v252 k0_t16) a + S1.size a ≤ S64.size a := fun v249 v252 k0_t16 v261 k0_hw43 k0_h19 => k0_hw43.2.2 k0_h19

def k0_off137 (v273 : BitVec 32) : Fin 2 → Nat :=
  let v283 : BitVec 32 := v273
  let c0_i32_181 : BitVec 32 := 0#32
  ![v283.toNat, 0]
def k0_off138 (v265 : BitVec 32) (v269 : BitVec 32) : Fin 2 → Nat :=
  let v284 : BitVec 32 := v265
  let v285 : BitVec 32 := v269
  ![v284.toNat, v285.toNat]

def k0_chk42 (v261 : BitVec 32) (v265 : BitVec 32) (v269 : BitVec 32) : Prop :=
  (∀ (k0_h17 : k0_cond17 v261 = 1#1), 256 ∣ (k0_mult101 v269).toNat) ∧
  (∀ (k0_h17 : k0_cond17 v261 = 1#1), ∀ a, (k0_off132 v265 v269) a + S2176x256.size a ≤ S30240x8192.size a) ∧
  (∀ (k0_h17 : k0_cond17 v261 = 1#1), ∀ (hinb : ∀ a, (k0_off132 v265 v269) a + S2176x256.size a ≤ S30240x8192.size a), (Rect.unit (s := S30240x8192) (k0_off132 v265 v269) S2176x256.size hinb).WholeWords (EltTy.packing .i8)) ∧
  (∀ (k0_h18 : k0_cond18 v261 = 1#1), 256 ∣ (k0_mult104 v269).toNat) ∧
  (∀ (k0_h18 : k0_cond18 v261 = 1#1), ∀ a, (k0_off135 v265 v269) a + S8192x256.size a ≤ S8192x14336.size a) ∧
  (∀ (k0_h18 : k0_cond18 v261 = 1#1), ∀ (hinb : ∀ a, (k0_off135 v265 v269) a + S8192x256.size a ≤ S8192x14336.size a), (Rect.unit (s := S8192x14336) (k0_off135 v265 v269) S8192x256.size hinb).WholeWords (EltTy.packing .fp8e4m3)) ∧
  (∀ (k0_h19 : k0_cond19 v261 = 1#1), 256 ∣ (k0_mult107 v269).toNat) ∧
  (∀ (k0_h19 : k0_cond19 v261 = 1#1), ∀ a, (k0_off138 v265 v269) a + S7168x256.size a ≤ S7168x8192.size a) ∧
  (∀ (k0_h19 : k0_cond19 v261 = 1#1), ∀ (hinb : ∀ a, (k0_off138 v265 v269) a + S7168x256.size a ≤ S7168x8192.size a), (Rect.unit (s := S7168x8192) (k0_off138 v265 v269) S7168x256.size hinb).WholeWords (EltTy.packing .fp8e4m3))
theorem k0_mult101_dvd : ∀ (v261 : BitVec 32) (v265 : BitVec 32) (v269 : BitVec 32) (k0_hw42 : k0_chk42 v261 v265 v269), ∀ (k0_h17 : k0_cond17 v261 = 1#1), 256 ∣ (k0_mult101 v269).toNat := fun v261 v265 v269 k0_hw42 k0_h17 => k0_hw42.1 k0_h17
theorem k0_off132_inb : ∀ (v261 : BitVec 32) (v265 : BitVec 32) (v269 : BitVec 32) (k0_hw42 : k0_chk42 v261 v265 v269), ∀ (k0_h17 : k0_cond17 v261 = 1#1), ∀ a, (k0_off132 v265 v269) a + S2176x256.size a ≤ S30240x8192.size a := fun v261 v265 v269 k0_hw42 k0_h17 => k0_hw42.2.1 k0_h17
theorem k0_off132_wordsi8 : ∀ (v261 : BitVec 32) (v265 : BitVec 32) (v269 : BitVec 32) (k0_hw42 : k0_chk42 v261 v265 v269), ∀ (k0_h17 : k0_cond17 v261 = 1#1), (Rect.unit (s := S30240x8192) (k0_off132 v265 v269) S2176x256.size (k0_off132_inb v261 v265 v269 k0_hw42 k0_h17)).WholeWords (EltTy.packing .i8) := fun v261 v265 v269 k0_hw42 k0_h17 => k0_hw42.2.2.1 k0_h17 (k0_off132_inb v261 v265 v269 k0_hw42 k0_h17)
theorem k0_mult104_dvd : ∀ (v261 : BitVec 32) (v265 : BitVec 32) (v269 : BitVec 32) (k0_hw42 : k0_chk42 v261 v265 v269), ∀ (k0_h18 : k0_cond18 v261 = 1#1), 256 ∣ (k0_mult104 v269).toNat := fun v261 v265 v269 k0_hw42 k0_h18 => k0_hw42.2.2.2.1 k0_h18
theorem k0_off135_inb : ∀ (v261 : BitVec 32) (v265 : BitVec 32) (v269 : BitVec 32) (k0_hw42 : k0_chk42 v261 v265 v269), ∀ (k0_h18 : k0_cond18 v261 = 1#1), ∀ a, (k0_off135 v265 v269) a + S8192x256.size a ≤ S8192x14336.size a := fun v261 v265 v269 k0_hw42 k0_h18 => k0_hw42.2.2.2.2.1 k0_h18
theorem k0_off135_wordsfp8e4m3 : ∀ (v261 : BitVec 32) (v265 : BitVec 32) (v269 : BitVec 32) (k0_hw42 : k0_chk42 v261 v265 v269), ∀ (k0_h18 : k0_cond18 v261 = 1#1), (Rect.unit (s := S8192x14336) (k0_off135 v265 v269) S8192x256.size (k0_off135_inb v261 v265 v269 k0_hw42 k0_h18)).WholeWords (EltTy.packing .fp8e4m3) := fun v261 v265 v269 k0_hw42 k0_h18 => k0_hw42.2.2.2.2.2.1 k0_h18 (k0_off135_inb v261 v265 v269 k0_hw42 k0_h18)
theorem k0_mult107_dvd : ∀ (v261 : BitVec 32) (v265 : BitVec 32) (v269 : BitVec 32) (k0_hw42 : k0_chk42 v261 v265 v269), ∀ (k0_h19 : k0_cond19 v261 = 1#1), 256 ∣ (k0_mult107 v269).toNat := fun v261 v265 v269 k0_hw42 k0_h19 => k0_hw42.2.2.2.2.2.2.1 k0_h19
theorem k0_off138_inb : ∀ (v261 : BitVec 32) (v265 : BitVec 32) (v269 : BitVec 32) (k0_hw42 : k0_chk42 v261 v265 v269), ∀ (k0_h19 : k0_cond19 v261 = 1#1), ∀ a, (k0_off138 v265 v269) a + S7168x256.size a ≤ S7168x8192.size a := fun v261 v265 v269 k0_hw42 k0_h19 => k0_hw42.2.2.2.2.2.2.2.1 k0_h19
theorem k0_off138_wordsfp8e4m3 : ∀ (v261 : BitVec 32) (v265 : BitVec 32) (v269 : BitVec 32) (k0_hw42 : k0_chk42 v261 v265 v269), ∀ (k0_h19 : k0_cond19 v261 = 1#1), (Rect.unit (s := S7168x8192) (k0_off138 v265 v269) S7168x256.size (k0_off138_inb v261 v265 v269 k0_hw42 k0_h19)).WholeWords (EltTy.packing .fp8e4m3) := fun v261 v265 v269 k0_hw42 k0_h19 => k0_hw42.2.2.2.2.2.2.2.2 k0_h19 (k0_off138_inb v261 v265 v269 k0_hw42 k0_h19)

def k0_chk40 (v261 : BitVec 32) (v273 : BitVec 32) : Prop :=
  (∀ (k0_h17 : k0_cond17 v261 = 1#1), 32 ∣ (k0_mult99 v273).toNat) ∧
  (∀ (k0_h17 : k0_cond17 v261 = 1#1), ∀ a, (k0_off131 v273) a + S2176x256.size a ≤ S106496x256.size a) ∧
  (∀ (k0_h17 : k0_cond17 v261 = 1#1), ∀ (hinb : ∀ a, (k0_off131 v273) a + S2176x256.size a ≤ S106496x256.size a), (Rect.unit (s := S106496x256) (k0_off131 v273) S2176x256.size hinb).WholeWords (EltTy.packing .i8)) ∧
  (∀ (k0_h18 : k0_cond18 v261 = 1#1), 32 ∣ (k0_mult102 v273).toNat) ∧
  (∀ (k0_h18 : k0_cond18 v261 = 1#1), ∀ a, (k0_off134 v273) a + S8192x256.size a ≤ S106496x256.size a) ∧
  (∀ (k0_h18 : k0_cond18 v261 = 1#1), ∀ (hinb : ∀ a, (k0_off134 v273) a + S8192x256.size a ≤ S106496x256.size a), (Rect.unit (s := S106496x256) (k0_off134 v273) S8192x256.size hinb).WholeWords (EltTy.packing .fp8e4m3)) ∧
  (∀ (k0_h19 : k0_cond19 v261 = 1#1), 32 ∣ (k0_mult105 v273).toNat) ∧
  (∀ (k0_h19 : k0_cond19 v261 = 1#1), ∀ a, (k0_off137 v273) a + S7168x256.size a ≤ S106496x256.size a) ∧
  (∀ (k0_h19 : k0_cond19 v261 = 1#1), ∀ (hinb : ∀ a, (k0_off137 v273) a + S7168x256.size a ≤ S106496x256.size a), (Rect.unit (s := S106496x256) (k0_off137 v273) S7168x256.size hinb).WholeWords (EltTy.packing .fp8e4m3))
theorem k0_mult99_dvd : ∀ (v261 : BitVec 32) (v273 : BitVec 32) (k0_hw40 : k0_chk40 v261 v273), ∀ (k0_h17 : k0_cond17 v261 = 1#1), 32 ∣ (k0_mult99 v273).toNat := fun v261 v273 k0_hw40 k0_h17 => k0_hw40.1 k0_h17
theorem k0_off131_inb : ∀ (v261 : BitVec 32) (v273 : BitVec 32) (k0_hw40 : k0_chk40 v261 v273), ∀ (k0_h17 : k0_cond17 v261 = 1#1), ∀ a, (k0_off131 v273) a + S2176x256.size a ≤ S106496x256.size a := fun v261 v273 k0_hw40 k0_h17 => k0_hw40.2.1 k0_h17
theorem k0_off131_wordsi8 : ∀ (v261 : BitVec 32) (v273 : BitVec 32) (k0_hw40 : k0_chk40 v261 v273), ∀ (k0_h17 : k0_cond17 v261 = 1#1), (Rect.unit (s := S106496x256) (k0_off131 v273) S2176x256.size (k0_off131_inb v261 v273 k0_hw40 k0_h17)).WholeWords (EltTy.packing .i8) := fun v261 v273 k0_hw40 k0_h17 => k0_hw40.2.2.1 k0_h17 (k0_off131_inb v261 v273 k0_hw40 k0_h17)
theorem k0_mult102_dvd : ∀ (v261 : BitVec 32) (v273 : BitVec 32) (k0_hw40 : k0_chk40 v261 v273), ∀ (k0_h18 : k0_cond18 v261 = 1#1), 32 ∣ (k0_mult102 v273).toNat := fun v261 v273 k0_hw40 k0_h18 => k0_hw40.2.2.2.1 k0_h18
theorem k0_off134_inb : ∀ (v261 : BitVec 32) (v273 : BitVec 32) (k0_hw40 : k0_chk40 v261 v273), ∀ (k0_h18 : k0_cond18 v261 = 1#1), ∀ a, (k0_off134 v273) a + S8192x256.size a ≤ S106496x256.size a := fun v261 v273 k0_hw40 k0_h18 => k0_hw40.2.2.2.2.1 k0_h18
theorem k0_off134_wordsfp8e4m3 : ∀ (v261 : BitVec 32) (v273 : BitVec 32) (k0_hw40 : k0_chk40 v261 v273), ∀ (k0_h18 : k0_cond18 v261 = 1#1), (Rect.unit (s := S106496x256) (k0_off134 v273) S8192x256.size (k0_off134_inb v261 v273 k0_hw40 k0_h18)).WholeWords (EltTy.packing .fp8e4m3) := fun v261 v273 k0_hw40 k0_h18 => k0_hw40.2.2.2.2.2.1 k0_h18 (k0_off134_inb v261 v273 k0_hw40 k0_h18)
theorem k0_mult105_dvd : ∀ (v261 : BitVec 32) (v273 : BitVec 32) (k0_hw40 : k0_chk40 v261 v273), ∀ (k0_h19 : k0_cond19 v261 = 1#1), 32 ∣ (k0_mult105 v273).toNat := fun v261 v273 k0_hw40 k0_h19 => k0_hw40.2.2.2.2.2.2.1 k0_h19
theorem k0_off137_inb : ∀ (v261 : BitVec 32) (v273 : BitVec 32) (k0_hw40 : k0_chk40 v261 v273), ∀ (k0_h19 : k0_cond19 v261 = 1#1), ∀ a, (k0_off137 v273) a + S7168x256.size a ≤ S106496x256.size a := fun v261 v273 k0_hw40 k0_h19 => k0_hw40.2.2.2.2.2.2.2.1 k0_h19
theorem k0_off137_wordsfp8e4m3 : ∀ (v261 : BitVec 32) (v273 : BitVec 32) (k0_hw40 : k0_chk40 v261 v273), ∀ (k0_h19 : k0_cond19 v261 = 1#1), (Rect.unit (s := S106496x256) (k0_off137 v273) S7168x256.size (k0_off137_inb v261 v273 k0_hw40 k0_h19)).WholeWords (EltTy.packing .fp8e4m3) := fun v261 v273 k0_hw40 k0_h19 => k0_hw40.2.2.2.2.2.2.2.2 k0_h19 (k0_off137_inb v261 v273 k0_hw40 k0_h19)

def k0_mult108 : BitVec 32 :=
  let c7168_i32 : BitVec 32 := 7168#32
  c7168_i32
def k0_off139 (c14_i32 : BitVec 32) : Fin 2 → Nat :=
  let c2_i32 : BitVec 32 := 2#32
  let v89 : BitVec 32 := Scalar.remsi c14_i32 c2_i32
  let c0_i32_76 : BitVec 32 := 0#32
  ![v89.toNat, 0]
def k0_off140 (c14_i32 : BitVec 32) : Fin 3 → Nat :=
  let c2_i32 : BitVec 32 := 2#32
  let v89 : BitVec 32 := Scalar.remsi c14_i32 c2_i32
  let c0_i32_78 : BitVec 32 := 0#32
  let c0_i32_79 : BitVec 32 := 0#32
  ![v89.toNat, 0, 0]
def k0_off141 (c14_i32 : BitVec 32) : Fin 2 → Nat :=
  let c2_i32 : BitVec 32 := 2#32
  let v89 : BitVec 32 := Scalar.remsi c14_i32 c2_i32
  let c1_i32_80 : BitVec 32 := 1#32
  ![v89.toNat, 1]
def k0_mult109 : BitVec 32 :=
  let c7680_i32 : BitVec 32 := 7680#32
  c7680_i32
abbrev stage0_0 : Fin 1 → Memref sig .tc .smem S704 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S45 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S120x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S120x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S128x8192 : Shape := ⟨2, ![128, 8192]⟩
abbrev S128x128 : Shape := ⟨2, ![128, 128]⟩
abbrev S3x128x2176 : Shape := ⟨3, ![3, 128, 2176]⟩
abbrev S8192x14336 : Shape := ⟨2, ![8192, 14336]⟩
abbrev S14336 : Shape := ⟨1, ![14336]⟩
abbrev S30240x8192 : Shape := ⟨2, ![30240, 8192]⟩
abbrev S120x8192 : Shape := ⟨2, ![120, 8192]⟩
abbrev S7168x8192 : Shape := ⟨2, ![7168, 8192]⟩
abbrev S8192 : Shape := ⟨1, ![8192]⟩
abbrev S1x14336 : Shape := ⟨2, ![1, 14336]⟩
abbrev S2176x7168 : Shape := ⟨2, ![2176, 7168]⟩
abbrev S1x8192 : Shape := ⟨2, ![1, 8192]⟩
abbrev S2176x8192 : Shape := ⟨2, ![2176, 8192]⟩
abbrev S120x7168 : Shape := ⟨2, ![120, 7168]⟩
abbrev S1x120 : Shape := ⟨2, ![1, 120]⟩
abbrev S128x14336 : Shape := ⟨2, ![128, 14336]⟩
abbrev S128x1 : Shape := ⟨2, ![128, 1]⟩
abbrev S1x128x2176 : Shape := ⟨3, ![1, 128, 2176]⟩
abbrev S128x2176 : Shape := ⟨2, ![128, 2176]⟩
abbrev S128x7168 : Shape := ⟨2, ![128, 7168]⟩
abbrev S120 : Shape := ⟨1, ![120]⟩
abbrev S120x1 : Shape := ⟨2, ![120, 1]⟩

abbrev nBuf : Space → Nat
  | .hbm => 19
  | .vmem => 16
  | .smem => 0
  | _ => 0

abbrev bufTy : (tb : Table) → Fin (tcTables nBuf tb) → BufTy
  | .hbm, ⟨0, _⟩ => ⟨S128x8192, .fp8e4m3⟩
  | .hbm, ⟨1, _⟩ => ⟨S128x128, .f32⟩
  | .hbm, ⟨2, _⟩ => ⟨S3x128x2176, .bf16⟩
  | .hbm, ⟨3, _⟩ => ⟨S8192x14336, .fp8e4m3⟩
  | .hbm, ⟨4, _⟩ => ⟨S14336, .f32⟩
  | .hbm, ⟨5, _⟩ => ⟨S30240x8192, .i8⟩
  | .hbm, ⟨6, _⟩ => ⟨S120x8192, .f32⟩
  | .hbm, ⟨7, _⟩ => ⟨S7168x8192, .fp8e4m3⟩
  | .hbm, ⟨8, _⟩ => ⟨S8192, .f32⟩
  | .hbm, ⟨9, _⟩ => ⟨S1x14336, .f32⟩
  | .hbm, ⟨10, _⟩ => ⟨S2176x7168, .i8⟩
  | .hbm, ⟨11, _⟩ => ⟨S2176x7168, .i8⟩
  | .hbm, ⟨12, _⟩ => ⟨S1x8192, .f32⟩
  | .hbm, ⟨13, _⟩ => ⟨S2176x8192, .i8⟩
  | .hbm, ⟨14, _⟩ => ⟨S120x7168, .f32⟩
  | .hbm, ⟨15, _⟩ => ⟨S120x7168, .fp8e4m3⟩
  | .hbm, ⟨16, _⟩ => ⟨S1x120, .f32⟩
  | .hbm, ⟨17, _⟩ => ⟨S120x8192, .bf16⟩
  | .hbm, ⟨18, _⟩ => ⟨S120x8192, .f32⟩
  | .local _ .vmem, ⟨0, _⟩ => ⟨S128x8192, .fp8e4m3⟩
  | .local _ .vmem, ⟨1, _⟩ => ⟨S128x128, .f32⟩
  | .local _ .vmem, ⟨2, _⟩ => ⟨S3x128x2176, .bf16⟩
  | .local _ .vmem, ⟨3, _⟩ => ⟨S8192x14336, .fp8e4m3⟩
  | .local _ .vmem, ⟨4, _⟩ => ⟨S1x14336, .f32⟩
  | .local _ .vmem, ⟨5, _⟩ => ⟨S2176x7168, .i8⟩
  | .local _ .vmem, ⟨6, _⟩ => ⟨S2176x7168, .i8⟩
  | .local _ .vmem, ⟨7, _⟩ => ⟨S120x8192, .f32⟩
  | .local _ .vmem, ⟨8, _⟩ => ⟨S7168x8192, .fp8e4m3⟩
  | .local _ .vmem, ⟨9, _⟩ => ⟨S1x8192, .f32⟩
  | .local _ .vmem, ⟨10, _⟩ => ⟨S2176x8192, .i8⟩
  | .local _ .vmem, ⟨11, _⟩ => ⟨S120x7168, .f32⟩
  | .local _ .vmem, ⟨12, _⟩ => ⟨S120x7168, .fp8e4m3⟩
  | .local _ .vmem, ⟨13, _⟩ => ⟨S1x120, .f32⟩
  | .local _ .vmem, ⟨14, _⟩ => ⟨S120x8192, .bf16⟩
  | .local _ .vmem, ⟨15, _⟩ => ⟨S120x8192, .f32⟩
  | _, _ => ⟨S128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S128x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x128x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2176x7168 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2176x7168 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S120x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2176x8192 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S120x7168 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S120x7168 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x120 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S120x8192 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S120x8192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Spec.lean ====
/-
  Hand-written, untrusted. The results as formulas over the real numbers, entry by entry: what both programs are shown to
  compute.
-/
module

public import Idealize.ShloMosaic.Lib.MatmulPlain
public import Idealize.ShloMosaic.Lib.ValueIdx
public import Idealize.ShloMosaic.PureOps.Ideal.Laws

@[expose] public section

noncomputable section

namespace Cert.Spec

open Idealize.ShloMosaic Idealize.ShloMosaic.ValueIdx
open scoped BigOperators

variable (A : (⟨2, ![128, 8192]⟩ : Shape).Idx → Elt Ideal .fp8e4m3) (S : (⟨2, ![128, 128]⟩ : Shape).Idx → Elt Ideal .f32)
variable (T : (⟨3, ![3, 128, 2176]⟩ : Shape).Idx → Elt Ideal .bf16) (W : (⟨2, ![8192, 14336]⟩ : Shape).Idx → Elt Ideal .fp8e4m3)
variable (R : (⟨2, ![1, 14336]⟩ : Shape).Idx → Elt Ideal .f32) (P : (⟨2, ![30240, 8192]⟩ : Shape).Idx → Elt Ideal .i8)

/-- Zero, as both programs write it. -/
def zero : Ideal .f32 := Ideal.ofBits .f32 0x00000000#32

/-- Row `r` of the codes times column `n` of the weights, scaled by the row's and the column's scale. -/
def lin (r : Fin 128) (n : Fin 14336) : Ideal .f32 :=
  (zero + ∑ k : Fin 8192, A (ix2 r k) * W (ix2 k n)) * (S (ix2 r 0) * R (ix2 0 n))

/-- Row `r` of the adapters' factor `b` times column `n` of the 2176 rows of the pool from row `o`. -/
def low (b : Fin 3) (o : ℕ) (ho : o + 2176 ≤ 30240) (r : Fin 128) (n : Fin 8192) : Ideal .f32 :=
  zero + ∑ k : Fin 2176, T (ix3 b r k) * (FloatOps.sitofp .bf16 (P (ix2 ⟨o + k.val, by omega⟩ n)) : Ideal .bf16)

/-- The gate and the up projection. -/
def gate (r : Fin 128) (n : Fin 7168) : Ideal .f32 := lin A S W R r ⟨n.val, by omega⟩ + low T P 0 19424 (by omega) r ⟨n.val, by omega⟩
def up (r : Fin 128) (n : Fin 7168) : Ideal .f32 := lin A S W R r ⟨7168 + n.val, by omega⟩ + low T P 1 23744 (by omega) r ⟨n.val, by omega⟩

/-- The result's entry `(r, n)`. -/
def out (r : Fin 128) (n : Fin 7168) : Ideal .f32 :=
  (gate A S T W R P r n * FloatOps.logistic (gate A S T W R P r n)) * up A S T W R P r n

/-! ## The down projection -/

variable (D : (⟨2, ![7168, 8192]⟩ : Shape).Idx → Elt Ideal .fp8e4m3) (Q : (⟨2, ![1, 8192]⟩ : Shape).Idx → Elt Ideal .f32)
variable (R1 : (⟨2, ![120, 8192]⟩ : Shape).Idx → Elt Ideal .f32)

/-- The adapter's share of the down projection. -/
def delta (r : Fin 120) (n : Fin 8192) : Ideal .f32 := low T P 2 28064 (by omega) ⟨r.val, by omega⟩ n

/-- A row of codes `q` of scale `s` times column `n` of the down weights, scaled by the row's and the column's scale. -/
def down (q : Fin 7168 → Elt Ideal .fp8e4m3) (s : Ideal .f32) (n : Fin 8192) : Ideal .f32 :=
  (zero + ∑ k : Fin 7168, q k * D (ix2 k n)) * (s * Q (ix2 0 n))

/-- The layer's entry `(r, n)`: the residual, plus the down projection of row `r`'s codes with the adapter's share. -/
def layer (q : Fin 7168 → Elt Ideal .fp8e4m3) (s : Ideal .f32) (r : Fin 120) (n : Fin 8192) : Ideal .f32 :=
  R1 (ix2 r n) + (down D Q q s n + delta T P r n)

/-! ## The quantiser -/

/-- The absolute value, and a row's greatest. -/
def mag (x : Ideal .f32) : Ideal .f32 := FloatOps.absf x
def peak {n : ℕ} (f : Fin n → Ideal .f32) : Ideal .f32 :=
  (Finset.univ : Finset (Fin n)).fold max (Ideal.ofBits .f32 0xFF800000#32) (fun k => mag (f k))

/-- A row's scale from its greatest absolute value: a 448th of it, or one for a row of zeros. -/
def scale (a : Ideal .f32) : Ideal .f32 :=
  Scalar.select (FloatOps.cmpf .oeq a zero) (Ideal.ofBits .f32 0x3F800000#32) (FloatOps.divf a (Ideal.ofBits .f32 0x43E00000#32))

/-- A code: the entry over its row's scale, clipped to the format's range. -/
def code (x s : Ideal .f32) : Ideal .f32 :=
  FloatOps.minimumf (Ideal.ofBits .f32 0x43E00000#32) (FloatOps.maximumf (Ideal.ofBits .f32 0xC3E00000#32) (FloatOps.divf x s))

theorem mag_nonneg (x : Ideal .f32) : zero ≤ mag x := by
  have h : (0 : EReal) ≤ max x (-x) := by
    rcases le_total 0 x with h | h
    · exact le_max_of_le_left h
    · exact le_max_of_le_right (EReal.neg_nonneg.mpr h)
  exact (Ideal.ofBits_zero_f32).le.trans h

end Cert.Spec

end
-- ==== Proof.Table.lean ====
/-
  Hand-written, untrusted. The tile table the kernel reads (176 items of four words: kind, first row, first column, first
  row of the buffer) and the table of how many items are started by the end of each step, in closed form; and the side
  conditions of the kernel's address computations at those words.
-/
module

public import proofs.«01_k».proof.Proof.Gen.KernelIdeal.Skeleton

@[expose] public section

set_option maxRecDepth 100000

noncomputable section

namespace Cert.KernelIdeal.Hand

open Cert.KernelIdeal Cert.KernelIdeal.Gen
open Idealize.ShloMosaic Idealize.ShloMosaic.TcCoe

/-- Item `i`'s kind: 3 (a tile of the gate/up weights) or 4 (a tile of the down weights) when `i` is even, 0 (a tile of the
    adapter pool) when it is odd. -/
abbrev kindOf (i : ℕ) : ℕ := if i % 2 = 0 then (if i < 112 then 3 else 4) else 0
/-- The first row in the pool of an odd item. -/
@[irreducible] def rowP (i : ℕ) : ℕ := if i < 112 then 19424 + 4320 * ((i / 2) % 2) else 28064
/-- The first column of a tile of the down projection. -/
abbrev colD (i : ℕ) : ℕ := ((i / 2 + 8) % 32) * 256
/-- The first column in the pool of an odd item. -/
@[irreducible] def colP (i : ℕ) : ℕ := if i < 112 then (i / 4 % 28) * 256 else colD i
/-- Item `i`'s first row in the array it is copied from. -/
abbrev rowOf (i : ℕ) : ℕ := if i % 2 = 0 then 0 else rowP i
/-- Item `i`'s first column in the array it is copied from. -/
abbrev colOf (i : ℕ) : ℕ := if i % 2 = 0 then (if i < 112 then (i / 4 % 28) * 256 + 7168 * ((i / 2) % 2) else colD i) else colP i
/-- The first row in the buffer of the pair of items that `i` belongs to. -/
abbrev baseOf (i : ℕ) : ℕ := if i < 112 then 10368 * ((i / 2) % 10) else if i < 120 then 62208 + 9344 * ((i / 2) % 4) else 9344 * ((i / 2 + 6) % 11)
/-- How many rows the weight tile of the pair takes. -/
abbrev gapOf (i : ℕ) : ℕ := if i < 112 then 8192 else 7168
/-- Item `i`'s first row in the buffer it is copied to. -/
abbrev offOf (i : ℕ) : ℕ := baseOf i + gapOf i * (i % 2)
/-- How many rows of the buffer item `i` takes. -/
abbrev sizeOf' (i : ℕ) : ℕ := if i % 2 = 0 then gapOf i else 2176
/-- The number of items started before step `s`. -/
abbrev hiOf (s : ℕ) : ℕ := min 176 (if s < 30 then 20 + 4 * s else 22 + 4 * s)

/-- The words of item `i`. -/
abbrev wKind (i : ℕ) : BitVec 32 := BitVec.ofNat 32 (kindOf i)
abbrev wRow (i : ℕ) : BitVec 32 := BitVec.ofNat 32 (rowOf i)
abbrev wCol (i : ℕ) : BitVec 32 := BitVec.ofNat 32 (colOf i)
abbrev wOff (i : ℕ) : BitVec 32 := BitVec.ofNat 32 (offOf i)
abbrev wHi (s : ℕ) : BitVec 32 := BitVec.ofNat 32 (hiOf s)

theorem lit_kind : ∀ i : Fin 176, lit0 ⟨4 * i, by omega⟩ = wKind i := by decide +kernel
theorem lit_row : ∀ i : Fin 176, lit0 ⟨4 * i + 1, by omega⟩ = wRow i := by decide +kernel
theorem lit_col : ∀ i : Fin 176, lit0 ⟨4 * i + 2, by omega⟩ = wCol i := by decide +kernel
theorem lit_off : ∀ i : Fin 176, lit0 ⟨4 * i + 3, by omega⟩ = wOff i := by decide +kernel
theorem lit_hi : ∀ s : Fin 45, lit1 s = wHi s := by decide +kernel

/-! ## The side conditions -/

theorem chk1 : k0_chk1 (wHi 0) := by decide +kernel
theorem chk3 : ∀ i : Fin 176, k0_chk3 (wKind i) (wRow i) := by decide +kernel
theorem chk4 : ∀ i : Fin 176, k0_chk4 (wKind i) (wRow i) (wCol i) := by decide +kernel
theorem chk2 : ∀ i : Fin 176, k0_chk2 (wKind i) (wOff i) := by decide +kernel
theorem chk5 : ∀ t : Fin (k0_t1_loop (wHi 0)).trips, k0_chk5 (wHi 0) t (wKind t) := by decide +kernel
theorem chk10 : ∀ i : Fin 176, i.val % 2 = 0 ∧ i.val < 112 → k0_chk10 (wOff i) := by decide +kernel
theorem chk12 : ∀ i : Fin 176, i.val % 2 = 1 → k0_chk12 (wOff i) := by decide +kernel
theorem chk18 : ∀ s : Fin 28, k0_chk18 (wHi s) (wHi (s + 1)) := by decide +kernel
theorem chk22 : ∀ s : Fin 28, ∀ t : Fin (k0_t4_loop (wHi s) (wHi (s + 1))).trips,
    k0_chk22 (wHi s) (wHi (s + 1)) t (wKind (hiOf s + t)) := by decide +kernel

theorem chk35 : ∀ s : Fin 16, k0_chk35 (wHi (28 + s)) (wHi (29 + s)) := by decide +kernel
theorem chk39 : ∀ s : Fin 16, ∀ t : Fin (k0_t15_loop (wHi (28 + s)) (wHi (29 + s))).trips,
    k0_chk39 (wHi (28 + s)) (wHi (29 + s)) t (wKind (hiOf (28 + s) + t)) := by decide +kernel

/-! ## The places of the items between a step's first item and the last one started do not overlap -/

theorem far_table : ∀ s : Fin 45, ∀ a b : Fin 22, a.val < b.val → 4 * s.val + b.val < hiOf s → (4 * s.val + a.val) % 2 = (4 * s.val + b.val) % 2 →
    offOf (4 * s.val + a.val) + sizeOf' (4 * s.val + a.val) ≤ offOf (4 * s.val + b.val)
      ∨ offOf (4 * s.val + b.val) + sizeOf' (4 * s.val + b.val) ≤ offOf (4 * s.val + a.val) := by decide +kernel

/-- The places of the items `[mid, hi)` of equal kind of buffer do not overlap. -/
def Far (mid hi : ℕ) : Prop := ∀ i n, mid ≤ i → i < n → n < hi → i % 2 = n % 2 →
  offOf i + sizeOf' i ≤ offOf n ∨ offOf n + sizeOf' n ≤ offOf i

theorem Far.mono {m h m' h' : ℕ} (hf : Far m h) (h1 : m ≤ m') (h2 : h' ≤ h) : Far m' h' :=
  fun i n h3 h4 h5 h6 => hf i n (by omega) h4 (by omega) h6

theorem far_step {s mid hi : ℕ} (hs : s < 45) (hm : 4 * s ≤ mid) (hh : hi ≤ hiOf s) : Far mid hi := by
  intro i n h1 h2 h3 h4
  have hb : n - 4 * s < 22 := by unfold hiOf at hh; split_ifs at hh <;> omega
  have h := far_table ⟨s, hs⟩ ⟨i - 4 * s, by omega⟩ ⟨n - 4 * s, hb⟩ (by show i - 4 * s < n - 4 * s; omega)
    (by show 4 * s + (n - 4 * s) < hiOf s; omega)
  have e1 : 4 * s + (i - 4 * s) = i := by omega
  have e2 : 4 * s + (n - 4 * s) = n := by omega
  simp only [e1, e2] at h
  exact h h4

/-! ## Addresses -/

theorem t1_trips : (k0_t1_loop (wHi 0)).trips = 20 := by decide +kernel
theorem t2_trips : (k0_t2_loop (wHi 0)).trips = 0 := by decide +kernel
theorem t3_trips : k0_t3_loop.trips = 28 := by decide +kernel
theorem t4_trips : ∀ s : Fin 28, (k0_t4_loop (wHi s) (wHi (s + 1))).trips = hiOf (s + 1) - hiOf s := by decide +kernel
theorem t5_trips : ∀ s : Fin 28, (k0_t5_loop (wHi s) (wHi (s + 1))).trips = 0 := by decide +kernel

theorem t14_trips : k0_t14_loop.trips = 16 := by decide +kernel
theorem t15_trips : ∀ s : Fin 16, (k0_t15_loop (wHi (28 + s)) (wHi (29 + s))).trips = hiOf (29 + s) - hiOf (28 + s) := by decide +kernel
theorem t16_trips : ∀ s : Fin 16, (k0_t16_loop (wHi (28 + s)) (wHi (29 + s))).trips = 0 := by decide +kernel

theorem off1_eq : ∀ t : Fin (k0_t1_loop (wHi 0)).trips, ∀ r : Fin 4,
    k0_off1 (wHi 0) t (BitVec.ofNat 32 r) = ![4 * t.val + r.val] := by decide +kernel
theorem off2_eq : ∀ t : Fin (k0_t1_loop (wHi 0)).trips, k0_off2 (wHi 0) t = ![t.val % 64] := by decide +kernel
theorem off5_eq : ∀ t : Fin (k0_t1_loop (wHi 0)).trips, k0_off5 (wHi 0) t = ![t.val % 64] := by decide +kernel
theorem off3_eq : ∀ i : Fin 176, k0_off3 (wOff i) = ![offOf i, 0] := by decide +kernel
theorem off4_eq : ∀ i : Fin 176, k0_off4 (wRow i) (wCol i) = ![rowOf i, colOf i] := by decide +kernel
theorem off46_eq : ∀ s : Fin 28, ∀ t : Fin (k0_t4_loop (wHi s) (wHi (s + 1))).trips, ∀ r : Fin 4,
    k0_off46 (wHi s) (wHi (s + 1)) t (BitVec.ofNat 32 r) = ![4 * (hiOf s + t.val) + r.val] := by decide +kernel
theorem off47_eq : ∀ s : Fin 28, ∀ t : Fin (k0_t4_loop (wHi s) (wHi (s + 1))).trips,
    k0_off47 (wHi s) (wHi (s + 1)) t = ![(hiOf s + t.val) % 64] := by decide +kernel
theorem off21_eq : ∀ t : Fin k0_t3_loop.trips, k0_off21 t = ![0, 256 * t.val] := by decide +kernel
theorem off22_eq : ∀ t : Fin k0_t3_loop.trips, k0_off22 t = ![0, 7168 + 256 * t.val] := by decide +kernel
theorem off23_eq : ∀ t : Fin k0_t3_loop.trips, k0_off23 t = ![4 * (4 * t.val) + 3] := by decide +kernel
theorem off27_eq : ∀ t : Fin k0_t3_loop.trips, k0_off27 t = ![4 * (4 * t.val + 1) + 3] := by decide +kernel
theorem off31_eq : ∀ t : Fin k0_t3_loop.trips, k0_off31 t = ![4 * (4 * t.val + 2) + 3] := by decide +kernel
theorem off35_eq : ∀ t : Fin k0_t3_loop.trips, k0_off35 t = ![4 * (4 * t.val + 3) + 3] := by decide +kernel
theorem off24_eq : ∀ t : Fin k0_t3_loop.trips, k0_off24 t = ![(4 * t.val) % 64] := by decide +kernel
theorem off28_eq : ∀ t : Fin k0_t3_loop.trips, k0_off28 t = ![(4 * t.val + 1) % 64] := by decide +kernel
theorem off32_eq : ∀ t : Fin k0_t3_loop.trips, k0_off32 t = ![(4 * t.val + 2) % 64] := by decide +kernel
theorem off36_eq : ∀ t : Fin k0_t3_loop.trips, k0_off36 t = ![(4 * t.val + 3) % 64] := by decide +kernel
theorem off43_eq : ∀ t : Fin k0_t3_loop.trips, k0_off43 t = ![0, 256 * t.val] := by decide +kernel
theorem off44_eq : ∀ t : Fin k0_t3_loop.trips, k0_off44 t = ![t.val] := by decide +kernel
theorem off45_eq : ∀ t : Fin k0_t3_loop.trips, k0_off45 t = ![t.val + 1] := by decide +kernel

/-! ## Addresses of the down projection's steps -/

theorem off119_eq : ∀ s : Fin 16, ∀ t : Fin (k0_t15_loop (wHi (28 + s)) (wHi (29 + s))).trips, ∀ r : Fin 4,
    k0_off119 (wHi (28 + s)) (wHi (29 + s)) t (BitVec.ofNat 32 r) = ![4 * (hiOf (28 + s.val) + t.val) + r.val] := by decide +kernel
theorem off120_eq : ∀ s : Fin 16, ∀ t : Fin (k0_t15_loop (wHi (28 + s)) (wHi (29 + s))).trips,
    k0_off120 (wHi (28 + s)) (wHi (29 + s)) t = ![(hiOf (28 + s.val) + t.val) % 64] := by decide +kernel
theorem off123_eq : ∀ s : Fin 16, ∀ t : Fin (k0_t15_loop (wHi (28 + s)) (wHi (29 + s))).trips,
    k0_off123 (wHi (28 + s)) (wHi (29 + s)) t = ![(hiOf (28 + s.val) + t.val) % 64] := by decide +kernel
theorem off126_eq : ∀ s : Fin 16, ∀ t : Fin (k0_t15_loop (wHi (28 + s)) (wHi (29 + s))).trips,
    k0_off126 (wHi (28 + s)) (wHi (29 + s)) t = ![(hiOf (28 + s.val) + t.val) % 64] := by decide +kernel
theorem off86_eq : ∀ t : Fin k0_t14_loop.trips, k0_off86 t = ![0, 512 * t.val] := by decide +kernel
theorem off112_eq : ∀ t : Fin k0_t14_loop.trips, k0_off112 t = ![0, 512 * t.val] := by decide +kernel
theorem off114_eq : ∀ t : Fin k0_t14_loop.trips, k0_off114 t = ![0, 512 * t.val] := by decide +kernel
theorem off111_eq : ∀ t : Fin k0_t14_loop.trips, k0_off111 t = ![t.val % 2, 0, 0] := by decide +kernel
theorem off115_eq : ∀ t : Fin k0_t14_loop.trips, k0_off115 t = ![t.val % 2, 0, 0] := by decide +kernel
theorem off113_eq : ∀ t : Fin k0_t14_loop.trips, k0_off113 t = ![t.val % 2, 0] := by decide +kernel
theorem off116_eq : ∀ t : Fin k0_t14_loop.trips, k0_off116 t = ![t.val % 2, 1] := by decide +kernel
theorem off117_eq : ∀ t : Fin k0_t14_loop.trips, k0_off117 t = ![28 + t.val] := by decide +kernel
theorem off118_eq : ∀ t : Fin k0_t14_loop.trips, k0_off118 t = ![29 + t.val] := by decide +kernel
theorem off87_eq : ∀ t : Fin k0_t14_loop.trips, k0_off87 t = ![4 * (4 * (28 + t.val)) + 3] := by decide +kernel
theorem off90_eq : ∀ t : Fin k0_t14_loop.trips, k0_off90 t = ![4 * (4 * (28 + t.val)) + 3] := by decide +kernel
theorem off91_eq : ∀ t : Fin k0_t14_loop.trips, k0_off91 t = ![4 * (4 * (28 + t.val) + 1) + 3] := by decide +kernel
theorem off94_eq : ∀ t : Fin k0_t14_loop.trips, k0_off94 t = ![4 * (4 * (28 + t.val) + 1) + 3] := by decide +kernel
theorem off95_eq : ∀ t : Fin k0_t14_loop.trips, k0_off95 t = ![4 * (4 * (28 + t.val) + 2) + 3] := by decide +kernel
theorem off98_eq : ∀ t : Fin k0_t14_loop.trips, k0_off98 t = ![4 * (4 * (28 + t.val) + 2) + 3] := by decide +kernel
theorem off99_eq : ∀ t : Fin k0_t14_loop.trips, k0_off99 t = ![4 * (4 * (28 + t.val) + 3) + 3] := by decide +kernel
theorem off102_eq : ∀ t : Fin k0_t14_loop.trips, k0_off102 t = ![4 * (4 * (28 + t.val) + 3) + 3] := by decide +kernel
theorem off88_eq : ∀ t : Fin k0_t14_loop.trips, k0_off88 t = ![(4 * (28 + t.val)) % 64] := by decide +kernel
theorem off92_eq : ∀ t : Fin k0_t14_loop.trips, k0_off92 t = ![(4 * (28 + t.val) + 1) % 64] := by decide +kernel
theorem off96_eq : ∀ t : Fin k0_t14_loop.trips, k0_off96 t = ![(4 * (28 + t.val) + 2) % 64] := by decide +kernel
theorem off100_eq : ∀ t : Fin k0_t14_loop.trips, k0_off100 t = ![(4 * (28 + t.val) + 3) % 64] := by decide +kernel
theorem cond13_iff : ∀ t : Fin k0_t14_loop.trips, k0_cond13 t = 1#1 ↔ 2 ≤ t.val := by decide +kernel
theorem off107_eq : ∀ t : Fin k0_t14_loop.trips, 2 ≤ t.val → k0_off107 t = ![t.val % 2, 0] := by decide +kernel
theorem off108_eq : ∀ t : Fin k0_t14_loop.trips, 2 ≤ t.val → k0_off108 t = ![0, 512 * t.val] := by decide +kernel
theorem off109_eq : ∀ t : Fin k0_t14_loop.trips, 2 ≤ t.val → k0_off109 t = ![t.val % 2, 0, 0] := by decide +kernel
theorem off110_eq : ∀ t : Fin k0_t14_loop.trips, 2 ≤ t.val → k0_off110 t = ![t.val % 2, 1] := by decide +kernel
theorem off139_at14 : k0_off139 14#32 = ![14 % 2, 0] := by decide +kernel
theorem off140_at14 : k0_off140 14#32 = ![14 % 2, 0, 0] := by decide +kernel
theorem off141_at14 : k0_off141 14#32 = ![14 % 2, 1] := by decide +kernel
theorem off139_at15 : k0_off139 15#32 = ![15 % 2, 0] := by decide +kernel
theorem off140_at15 : k0_off140 15#32 = ![15 % 2, 0, 0] := by decide +kernel
theorem off141_at15 : k0_off141 15#32 = ![15 % 2, 1] := by decide +kernel

end Cert.KernelIdeal.Hand

end
-- ==== Proof.Places.lean ====
module

public import proofs.«01_k».proof.Proof.Table

/-!
# The addresses each item's words stand for

Even items are weight tiles (of the gate/up weights below item 112, of the down weights from there on), odd items are tiles of the adapter pool. These facts say, for each item, which branch its kind
takes, and where its copy reads and lands.
-/

public section

namespace Cert.KernelIdeal.Hand

open Idealize Idealize.ShloMosaic Idealize.SL Cert.KernelIdeal Cert.KernelIdeal.Gen

set_option maxRecDepth 100000

/-! ## Branches -/

theorem cond1_odd : ∀ i : Fin 176, i.val % 2 = 1 → k0_cond1 (wKind i) = 1#1 := by decide +kernel
theorem cond1_gu : ∀ i : Fin 176, i.val % 2 = 0 ∧ i.val < 112 → ¬ k0_cond1 (wKind i) = 1#1 := by decide +kernel
theorem cond1_down : ∀ i : Fin 176, i.val % 2 = 0 ∧ ¬ i.val < 112 → ¬ k0_cond1 (wKind i) = 1#1 := by decide +kernel
theorem cond2_odd : ∀ i : Fin 176, i.val % 2 = 1 → ¬ k0_cond2 (wKind i) = 1#1 := by decide +kernel
theorem cond2_gu : ∀ i : Fin 176, i.val % 2 = 0 ∧ i.val < 112 → k0_cond2 (wKind i) = 1#1 := by decide +kernel
theorem cond2_down : ∀ i : Fin 176, i.val % 2 = 0 ∧ ¬ i.val < 112 → ¬ k0_cond2 (wKind i) = 1#1 := by decide +kernel
theorem cond3_odd : ∀ i : Fin 176, i.val % 2 = 1 → ¬ k0_cond3 (wKind i) = 1#1 := by decide +kernel
theorem cond3_gu : ∀ i : Fin 176, i.val % 2 = 0 ∧ i.val < 112 → ¬ k0_cond3 (wKind i) = 1#1 := by decide +kernel
theorem cond3_down : ∀ i : Fin 176, i.val % 2 = 0 ∧ ¬ i.val < 112 → k0_cond3 (wKind i) = 1#1 := by decide +kernel
theorem cond7_odd : ∀ i : Fin 176, i.val % 2 = 1 → k0_cond7 (wKind i) = 1#1 := by decide +kernel
theorem cond7_gu : ∀ i : Fin 176, i.val % 2 = 0 ∧ i.val < 112 → ¬ k0_cond7 (wKind i) = 1#1 := by decide +kernel
theorem cond7_down : ∀ i : Fin 176, i.val % 2 = 0 ∧ ¬ i.val < 112 → ¬ k0_cond7 (wKind i) = 1#1 := by decide +kernel
theorem cond8_odd : ∀ i : Fin 176, i.val % 2 = 1 → ¬ k0_cond8 (wKind i) = 1#1 := by decide +kernel
theorem cond8_gu : ∀ i : Fin 176, i.val % 2 = 0 ∧ i.val < 112 → k0_cond8 (wKind i) = 1#1 := by decide +kernel
theorem cond8_down : ∀ i : Fin 176, i.val % 2 = 0 ∧ ¬ i.val < 112 → ¬ k0_cond8 (wKind i) = 1#1 := by decide +kernel
theorem cond9_odd : ∀ i : Fin 176, i.val % 2 = 1 → ¬ k0_cond9 (wKind i) = 1#1 := by decide +kernel
theorem cond9_gu : ∀ i : Fin 176, i.val % 2 = 0 ∧ i.val < 112 → ¬ k0_cond9 (wKind i) = 1#1 := by decide +kernel
theorem cond9_down : ∀ i : Fin 176, i.val % 2 = 0 ∧ ¬ i.val < 112 → k0_cond9 (wKind i) = 1#1 := by decide +kernel
theorem cond14_odd : ∀ i : Fin 176, i.val % 2 = 1 → k0_cond14 (wKind i) = 1#1 := by decide +kernel
theorem cond14_gu : ∀ i : Fin 176, i.val % 2 = 0 ∧ i.val < 112 → ¬ k0_cond14 (wKind i) = 1#1 := by decide +kernel
theorem cond14_down : ∀ i : Fin 176, i.val % 2 = 0 ∧ ¬ i.val < 112 → ¬ k0_cond14 (wKind i) = 1#1 := by decide +kernel
theorem cond15_odd : ∀ i : Fin 176, i.val % 2 = 1 → ¬ k0_cond15 (wKind i) = 1#1 := by decide +kernel
theorem cond15_gu : ∀ i : Fin 176, i.val % 2 = 0 ∧ i.val < 112 → k0_cond15 (wKind i) = 1#1 := by decide +kernel
theorem cond15_down : ∀ i : Fin 176, i.val % 2 = 0 ∧ ¬ i.val < 112 → ¬ k0_cond15 (wKind i) = 1#1 := by decide +kernel
theorem cond16_odd : ∀ i : Fin 176, i.val % 2 = 1 → ¬ k0_cond16 (wKind i) = 1#1 := by decide +kernel
theorem cond16_gu : ∀ i : Fin 176, i.val % 2 = 0 ∧ i.val < 112 → ¬ k0_cond16 (wKind i) = 1#1 := by decide +kernel
theorem cond16_down : ∀ i : Fin 176, i.val % 2 = 0 ∧ ¬ i.val < 112 → k0_cond16 (wKind i) = 1#1 := by decide +kernel

/-! ## Side conditions -/

theorem chk20 : ∀ i : Fin 176, k0_chk20 (wKind i) (wRow i) := by decide +kernel
theorem chk21 : ∀ i : Fin 176, k0_chk21 (wKind i) (wRow i) (wCol i) := by decide +kernel
theorem chk19 : ∀ i : Fin 176, k0_chk19 (wKind i) (wOff i) := by decide +kernel
theorem chk37 : ∀ i : Fin 176, k0_chk37 (wKind i) (wRow i) := by decide +kernel
theorem chk38 : ∀ i : Fin 176, k0_chk38 (wKind i) (wRow i) (wCol i) := by decide +kernel
theorem chk36 : ∀ i : Fin 176, k0_chk36 (wKind i) (wOff i) := by decide +kernel
theorem chk14 : ∀ i : Fin 176, i.val % 2 = 0 ∧ i.val < 112 → k0_chk14 (wOff i) := by decide +kernel
theorem chk11 : ∀ i : Fin 176, i.val % 2 = 0 ∧ i.val < 112 → k0_chk11 (wOff i) := by decide +kernel
theorem chk15 : ∀ i : Fin 176, i.val % 2 = 0 ∧ i.val < 112 → k0_chk15 (wOff i) := by decide +kernel
theorem chk27 : ∀ i : Fin 176, i.val % 2 = 0 ∧ ¬ i.val < 112 → k0_chk27 (wOff i) := by decide +kernel
theorem chk28 : ∀ i : Fin 176, i.val % 2 = 0 ∧ ¬ i.val < 112 → k0_chk28 (wOff i) := by decide +kernel
theorem chk31 : ∀ i : Fin 176, i.val % 2 = 0 ∧ ¬ i.val < 112 → k0_chk31 (wOff i) := by decide +kernel
theorem chk32 : ∀ i : Fin 176, i.val % 2 = 0 ∧ ¬ i.val < 112 → k0_chk32 (wOff i) := by decide +kernel
theorem chk16 : ∀ i : Fin 176, i.val % 2 = 1 → k0_chk16 (wOff i) := by decide +kernel
theorem chk13 : ∀ i : Fin 176, i.val % 2 = 1 → k0_chk13 (wOff i) := by decide +kernel
theorem chk17 : ∀ i : Fin 176, i.val % 2 = 1 → k0_chk17 (wOff i) := by decide +kernel
theorem chk29 : ∀ i : Fin 176, i.val % 2 = 1 → k0_chk29 (wOff i) := by decide +kernel
theorem chk30 : ∀ i : Fin 176, i.val % 2 = 1 → k0_chk30 (wOff i) := by decide +kernel
theorem chk33 : ∀ i : Fin 176, i.val % 2 = 1 → k0_chk33 (wOff i) := by decide +kernel
theorem chk34 : ∀ i : Fin 176, i.val % 2 = 1 → k0_chk34 (wOff i) := by decide +kernel

/-! ## Where a copy reads and lands -/

theorem off6_gu : ∀ i : Fin 176, i.val % 2 = 0 ∧ i.val < 112 → k0_off6 (wOff i) = ![baseOf i, 0] := by decide +kernel
theorem off51_gu : ∀ i : Fin 176, i.val % 2 = 0 ∧ i.val < 112 → k0_off51 (wOff i) = ![baseOf i, 0] := by decide +kernel
theorem off124_gu : ∀ i : Fin 176, i.val % 2 = 0 ∧ i.val < 112 → k0_off124 (wOff i) = ![baseOf i, 0] := by decide +kernel
theorem off25_gu : ∀ i : Fin 176, i.val % 2 = 0 ∧ i.val < 112 → k0_off25 (wOff i) = ![baseOf i, 0] := by decide +kernel
theorem off33_gu : ∀ i : Fin 176, i.val % 2 = 0 ∧ i.val < 112 → k0_off33 (wOff i) = ![baseOf i, 0] := by decide +kernel
theorem off39_gu : ∀ i : Fin 176, i.val % 2 = 0 ∧ i.val < 112 → k0_off39 (wOff i) = ![baseOf i, 0] := by decide +kernel
theorem off40_gu : ∀ i : Fin 176, i.val % 2 = 0 ∧ i.val < 112 → k0_off40 (wOff i) = ![baseOf i, 0] := by decide +kernel
theorem off9_down : ∀ i : Fin 176, i.val % 2 = 0 ∧ ¬ i.val < 112 → k0_off9 (wOff i) = ![baseOf i, 0] := by decide +kernel
theorem off54_down : ∀ i : Fin 176, i.val % 2 = 0 ∧ ¬ i.val < 112 → k0_off54 (wOff i) = ![baseOf i, 0] := by decide +kernel
theorem off127_down : ∀ i : Fin 176, i.val % 2 = 0 ∧ ¬ i.val < 112 → k0_off127 (wOff i) = ![baseOf i, 0] := by decide +kernel
theorem off89_down : ∀ i : Fin 176, i.val % 2 = 0 ∧ ¬ i.val < 112 → k0_off89 (wOff i) = ![baseOf i, 0] := by decide +kernel
theorem off97_down : ∀ i : Fin 176, i.val % 2 = 0 ∧ ¬ i.val < 112 → k0_off97 (wOff i) = ![baseOf i, 0] := by decide +kernel
theorem off103_down : ∀ i : Fin 176, i.val % 2 = 0 ∧ ¬ i.val < 112 → k0_off103 (wOff i) = ![baseOf i, 0] := by decide +kernel
theorem off104_down : ∀ i : Fin 176, i.val % 2 = 0 ∧ ¬ i.val < 112 → k0_off104 (wOff i) = ![baseOf i, 0] := by decide +kernel
theorem off3_odd : ∀ i : Fin 176, i.val % 2 = 1 → k0_off3 (wOff i) = ![baseOf i + gapOf i, 0] := by decide +kernel
theorem off48_odd : ∀ i : Fin 176, i.val % 2 = 1 → k0_off48 (wOff i) = ![baseOf i + gapOf i, 0] := by decide +kernel
theorem off121_odd : ∀ i : Fin 176, i.val % 2 = 1 → k0_off121 (wOff i) = ![baseOf i + gapOf i, 0] := by decide +kernel
theorem off29_odd : ∀ i : Fin 176, i.val % 2 = 1 → k0_off29 (wOff i) = ![baseOf i + gapOf i, 0] := by decide +kernel
theorem off37_odd : ∀ i : Fin 176, i.val % 2 = 1 → k0_off37 (wOff i) = ![baseOf i + gapOf i, 0] := by decide +kernel
theorem off41_odd : ∀ i : Fin 176, i.val % 2 = 1 → k0_off41 (wOff i) = ![baseOf i + gapOf i, 0] := by decide +kernel
theorem off42_odd : ∀ i : Fin 176, i.val % 2 = 1 → k0_off42 (wOff i) = ![baseOf i + gapOf i, 0] := by decide +kernel
theorem off93_odd : ∀ i : Fin 176, i.val % 2 = 1 → k0_off93 (wOff i) = ![baseOf i + gapOf i, 0] := by decide +kernel
theorem off101_odd : ∀ i : Fin 176, i.val % 2 = 1 → k0_off101 (wOff i) = ![baseOf i + gapOf i, 0] := by decide +kernel
theorem off105_odd : ∀ i : Fin 176, i.val % 2 = 1 → k0_off105 (wOff i) = ![baseOf i + gapOf i, 0] := by decide +kernel
theorem off106_odd : ∀ i : Fin 176, i.val % 2 = 1 → k0_off106 (wOff i) = ![baseOf i + gapOf i, 0] := by decide +kernel
theorem off7_gu : ∀ i : Fin 176, i.val % 2 = 0 ∧ i.val < 112 → k0_off7 (wRow i) (wCol i) = ![0, (i.val / 4 % 28) * 256 + 7168 * ((i.val / 2) % 2)] := by decide +kernel
theorem off52_gu : ∀ i : Fin 176, i.val % 2 = 0 ∧ i.val < 112 → k0_off52 (wRow i) (wCol i) = ![0, (i.val / 4 % 28) * 256 + 7168 * ((i.val / 2) % 2)] := by decide +kernel
theorem off125_gu : ∀ i : Fin 176, i.val % 2 = 0 ∧ i.val < 112 → k0_off125 (wRow i) (wCol i) = ![0, (i.val / 4 % 28) * 256 + 7168 * ((i.val / 2) % 2)] := by decide +kernel
theorem off10_down : ∀ i : Fin 176, i.val % 2 = 0 ∧ ¬ i.val < 112 → k0_off10 (wRow i) (wCol i) = ![0, colD i] := by decide +kernel
theorem off55_down : ∀ i : Fin 176, i.val % 2 = 0 ∧ ¬ i.val < 112 → k0_off55 (wRow i) (wCol i) = ![0, colD i] := by decide +kernel
theorem off128_down : ∀ i : Fin 176, i.val % 2 = 0 ∧ ¬ i.val < 112 → k0_off128 (wRow i) (wCol i) = ![0, colD i] := by decide +kernel
theorem off4_odd : ∀ i : Fin 176, i.val % 2 = 1 → k0_off4 (wRow i) (wCol i) = ![rowP i, colP i] := by decide +kernel
theorem off49_odd : ∀ i : Fin 176, i.val % 2 = 1 → k0_off49 (wRow i) (wCol i) = ![rowP i, colP i] := by decide +kernel
theorem off122_odd : ∀ i : Fin 176, i.val % 2 = 1 → k0_off122 (wRow i) (wCol i) = ![rowP i, colP i] := by decide +kernel
theorem off50_eq : ∀ s : Fin 28, ∀ t : Fin (k0_t4_loop (wHi s) (wHi (s + 1))).trips,
    k0_off50 (wHi s) (wHi (s + 1)) t = ![(hiOf s + t.val) % 64] := by decide +kernel
theorem off53_eq : ∀ s : Fin 28, ∀ t : Fin (k0_t4_loop (wHi s) (wHi (s + 1))).trips,
    k0_off53 (wHi s) (wHi (s + 1)) t = ![(hiOf s + t.val) % 64] := by decide +kernel
theorem off8_eq : ∀ t : Fin (k0_t1_loop (wHi 0)).trips, k0_off8 (wHi 0) t = ![t.val % 64] := by decide +kernel
theorem off26_eq : ∀ t : Fin k0_t3_loop.trips, k0_off26 t = ![4 * (4 * t.val) + 3] := by decide +kernel
theorem off30_eq : ∀ t : Fin k0_t3_loop.trips, k0_off30 t = ![4 * (4 * t.val + 1) + 3] := by decide +kernel
theorem off34_eq : ∀ t : Fin k0_t3_loop.trips, k0_off34 t = ![4 * (4 * t.val + 2) + 3] := by decide +kernel
theorem off38_eq : ∀ t : Fin k0_t3_loop.trips, k0_off38 t = ![4 * (4 * t.val + 3) + 3] := by decide +kernel

end Cert.KernelIdeal.Hand

end
-- ==== Proof.Sets.lean ====
/-
  Hand-written, untrusted. Set algebra of a ring of buffers: what is left of a set when the members of a consecutive run
  `[a, b)` of a family of subsets are taken out, and how one more member leaves or comes back.
-/
module

public import Idealize.ShloMosaic.Lib.Transfers
public import Idealize.ShloMosaic.Lib.Pipeline.Kit

@[expose] public section

namespace Cert.Sets

variable {T : Type} [DecidableEq T]

/-- `U` without the members `R i`, `a ≤ i < b`, of the family `R`. -/
def rest (U : Finset T) (R : ℕ → Finset T) (a b : ℕ) : Finset T := U \ (Finset.Ico a b).biUnion R

variable {U : Finset T} {R : ℕ → Finset T} {a b : ℕ}

theorem rest_self (U : Finset T) (R : ℕ → Finset T) (a : ℕ) : rest U R a a = U := by simp [rest]

/-- Taking one member more at the upper end. -/
theorem rest_succ (h : a ≤ b) : rest U R a (b + 1) = rest U R a b \ R b := by
  ext x
  simp only [rest, Finset.mem_sdiff, Finset.mem_biUnion, Finset.mem_Ico]
  constructor
  · rintro ⟨hx, hn⟩
    exact ⟨⟨hx, fun ⟨i, hi, hxi⟩ => hn ⟨i, ⟨hi.1, by omega⟩, hxi⟩⟩, fun hb => hn ⟨b, ⟨h, by omega⟩, hb⟩⟩
  · rintro ⟨⟨hx, hn⟩, hb⟩
    refine ⟨hx, fun ⟨i, hi, hxi⟩ => ?_⟩
    rcases Nat.lt_or_ge i b with hlt | hge
    · exact hn ⟨i, ⟨hi.1, hlt⟩, hxi⟩
    · obtain rfl : i = b := by omega
      exact hb hxi

/-- A member disjoint from those taken out is still there. -/
theorem sub_rest {n : ℕ} (hU : R n ⊆ U) (hd : ∀ i, a ≤ i → i < b → Disjoint (R n) (R i)) : R n ⊆ rest U R a b := by
  intro x hx
  simp only [rest, Finset.mem_sdiff, Finset.mem_biUnion, Finset.mem_Ico]
  exact ⟨hU hx, fun ⟨i, hi, hxi⟩ => Finset.disjoint_left.mp (hd i hi.1 hi.2) hx hxi⟩

/-- With the lowest member back, taking it out again leaves what there was. -/
theorem rest_pred (h : a < b) : rest U R a b = rest U R (a + 1) b \ R a := by
  ext x
  simp only [rest, Finset.mem_sdiff, Finset.mem_biUnion, Finset.mem_Ico]
  constructor
  · rintro ⟨hx, hn⟩
    exact ⟨⟨hx, fun ⟨i, hi, hxi⟩ => hn ⟨i, ⟨by omega, hi.2⟩, hxi⟩⟩, fun ha => hn ⟨a, ⟨le_refl _, h⟩, ha⟩⟩
  · rintro ⟨⟨hx, hn⟩, ha⟩
    refine ⟨hx, fun ⟨i, hi, hxi⟩ => ?_⟩
    rcases Nat.lt_or_ge a i with hlt | hge
    · exact hn ⟨i, ⟨hlt, hi.2⟩, hxi⟩
    · obtain rfl : i = a := by omega
      exact ha hxi

end Cert.Sets
-- ==== Proof.Ring.lean ====
/-
  Hand-written, untrusted. The ring of tiles in separation logic. 176 items are copied, in order, from the three arrays left
  in HBM (the gate/up weights, the down weights and the adapter pool) to the two buffers, item `i` on semaphore `i % 64`. `Ring mid lo hi`
  says: items below `lo` have been waited for and items in `[lo, hi)` are in flight, while the places of the items in
  `[lo, hi)` and of those in `[mid, lo)` (landed, not yet given up) are not free.
  The rules: an item may be started (`ring_start_*`) and waited for (`ring_wait_*`), and the place of a landed item may be
  given back (`ring_free_*`), each for a tile of the gate/up weights, of the down weights and of the pool.
-/
module

public import proofs.«01_k».proof.Proof.Sets
public import proofs.«01_k».proof.Proof.Table
public import proofs.«01_k».proof.Proof.Gen.KernelIdeal.Launch
public import Idealize.ShloMosaic.Lib.Transfers
public import Idealize.ShloMosaic.Lib.ViewIndex
public import Idealize.ShloMosaic.Lib.Tactic
public import Idealize.ShloMosaic.Lib.Pipeline.FrameBody

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's user algebra: the pipeline library's beside the transfers' counters. -/
local notation "𝕄" => MT nD τ sig Unit (Elt F) ℕ (Pipeline.UD sig nD τ) ℕ

/-- The gate/up weights, the down weights and the adapter pool, in HBM; the buffers their tiles are copied to. -/
abbrev wguM : Memref sig .tc .hbm S8192x14336 .fp8e4m3 := Memref.whole main_arg3
abbrev wdM : Memref sig .tc .hbm S7168x8192 .fp8e4m3 := Memref.whole main_arg7
abbrev poolM : Memref sig .tc .hbm S30240x8192 .i8 := Memref.whole main_arg5
abbrev gcM : Memref sig .tc .hbm S120x7168 .fp8e4m3 := Memref.whole main_v2_1
abbrev outM : Memref sig .tc .hbm S120x8192 .bf16 := Memref.whole main_v2_3
abbrev ddM : Memref sig .tc .hbm S120x8192 .f32 := Memref.whole main_v2_4
abbrev hbM : Memref sig .tc .vmem S128x8192 .bf16 := Memref.whole cc0_scratch0
abbrev codesM : Memref sig .tc .vmem S128x8192 .fp8e4m3 := Memref.whole cc0_scratch1
abbrev coM : Memref sig .tc .vmem S120x8192 .fp8e4m3 := Memref.whole cc0_scratch2
abbrev ostM : Memref sig .tc .vmem S2x120x512 .bf16 := Memref.whole cc0_scratch3
abbrev dstM : Memref sig .tc .vmem S2x120x512 .f32 := Memref.whole cc0_scratch4
abbrev ascM : Memref sig .tc .vmem S128x128 .f32 := Memref.whole cc0_scratch5
abbrev arenaM : Memref sig .tc .vmem S106496x256 .fp8e4m3 := Memref.whole cc0_scratch6
abbrev arena8M : Memref sig .tc .vmem S106496x256 .i8 := Memref.whole cc0_scratch7

theorem src_gu_inb (i : ℕ) (a : Fin 2) : ![0, (i / 4 % 28) * 256 + 7168 * ((i / 2) % 2)] a + S8192x256.size a ≤ S8192x14336.size a := by
  fin_cases a
  · show 0 + 8192 ≤ 8192; omega
  · show (i / 4 % 28) * 256 + 7168 * ((i / 2) % 2) + 256 ≤ 14336; omega
theorem src_down_inb (i : ℕ) (a : Fin 2) : ![0, colD i] a + S7168x256.size a ≤ S7168x8192.size a := by
  fin_cases a
  · show 0 + 7168 ≤ 7168; omega
  · show (i / 2 + 8) % 32 * 256 + 256 ≤ 8192; omega
theorem src_pool_inb (i : ℕ) (a : Fin 2) : ![rowP i, colP i] a + S2176x256.size a ≤ S30240x8192.size a := by
  fin_cases a
  · show rowP i + 2176 ≤ 30240; unfold rowP; split_ifs <;> omega
  · show colP i + 256 ≤ 8192; unfold colP colD; split_ifs <;> omega
theorem base_le (i : ℕ) : baseOf i + gapOf i + 2176 ≤ 106496 := by unfold baseOf gapOf; split_ifs <;> omega
theorem dst_gu_inb (i : ℕ) (a : Fin 2) : ![baseOf i, 0] a + S8192x256.size a ≤ S106496x256.size a := by
  have := base_le i
  fin_cases a
  · show baseOf i + 8192 ≤ 106496; unfold baseOf; split_ifs <;> omega
  · show 0 + 256 ≤ 256; omega
theorem dst_down_inb (i : ℕ) (a : Fin 2) : ![baseOf i, 0] a + S7168x256.size a ≤ S106496x256.size a := by
  fin_cases a
  · show baseOf i + 7168 ≤ 106496; unfold baseOf; split_ifs <;> omega
  · show 0 + 256 ≤ 256; omega
theorem dst_pool_inb (i : ℕ) (a : Fin 2) : ![baseOf i + gapOf i, 0] a + S2176x256.size a ≤ S106496x256.size a := by
  have := base_le i
  fin_cases a
  · show baseOf i + gapOf i + 2176 ≤ 106496; omega
  · show 0 + 256 ≤ 256; omega
theorem cell_inb (i : ℕ) (a : Fin 1) : ![i % 64] a + S1.size a ≤ S64.size a := by
  fin_cases a; show i % 64 + 1 ≤ 64; omega

/-- Item `i`'s tile in the array it comes from, as a tile of the gate/up weights (`srcG`), of the down weights (`srcD`) or
    of the pool (`srcP`); the rows of the buffer it goes to (`dstG`, `dstD`, `dstP`); its semaphore. -/
abbrev srcG (i : ℕ) : Memref sig .tc .hbm S8192x256 .fp8e4m3 :=
  wguM.slice (Rect.unit (s := S8192x14336) ![0, (i / 4 % 28) * 256 + 7168 * ((i / 2) % 2)] S8192x256.size (src_gu_inb i)) (fun _ => rfl)
abbrev srcD (i : ℕ) : Memref sig .tc .hbm S7168x256 .fp8e4m3 :=
  wdM.slice (Rect.unit (s := S7168x8192) ![0, colD i] S7168x256.size (src_down_inb i)) (fun _ => rfl)
abbrev srcP (i : ℕ) : Memref sig .tc .hbm S2176x256 .i8 :=
  poolM.slice (Rect.unit (s := S30240x8192) ![rowP i, colP i] S2176x256.size (src_pool_inb i)) (fun _ => rfl)
abbrev dstG (i : ℕ) : Memref sig .tc .vmem S8192x256 .fp8e4m3 :=
  arenaM.slice (Rect.unit (s := S106496x256) ![baseOf i, 0] S8192x256.size (dst_gu_inb i)) (fun _ => rfl)
abbrev dstD (i : ℕ) : Memref sig .tc .vmem S7168x256 .fp8e4m3 :=
  arenaM.slice (Rect.unit (s := S106496x256) ![baseOf i, 0] S7168x256.size (dst_down_inb i)) (fun _ => rfl)
abbrev dstP (i : ℕ) : Memref sig .tc .vmem S2176x256 .i8 :=
  arena8M.slice (Rect.unit (s := S106496x256) ![baseOf i + gapOf i, 0] S2176x256.size (dst_pool_inb i)) (fun _ => rfl)
abbrev cellOf (i : ℕ) : DmaSem sig :=
  ((cc0_scratch8.slice (Rect.unit (s := S64) ![i % 64] S1.size (cell_inb i))).squeeze S_ squeezes_S1_S_).sem

variable (c : Dev nD)

/-- The elements of item `i`'s tile and of its place, none when the item is of the other kind. -/
def RsG (i : ℕ) : Finset (Idx (wguM.view.loc (c : Thread nD τ))) := if i % 2 = 0 ∧ i < 112 then (srcG i).view.set else ∅
def RsD (i : ℕ) : Finset (Idx (wdM.view.loc (c : Thread nD τ))) := if i % 2 = 0 ∧ ¬ i < 112 then (srcD i).view.set else ∅
def RsP (i : ℕ) : Finset (Idx (poolM.view.loc (c : Thread nD τ))) := if i % 2 = 1 then (srcP i).view.set else ∅
def RdG (i : ℕ) : Finset (Idx (arenaM.view.loc (c : Thread nD τ))) :=
  if i % 2 = 0 ∧ i < 112 then (dstG i).view.set else if i % 2 = 0 ∧ ¬ i < 112 then (dstD i).view.set else ∅
def RdP (i : ℕ) : Finset (Idx (arena8M.view.loc (c : Thread nD τ))) := if i % 2 = 1 then (dstP i).view.set else ∅

theorem RsG_gu {i : ℕ} (h : i % 2 = 0 ∧ i < 112) : RsG c i = (srcG i).view.set := if_pos h
theorem RsG_no {i : ℕ} (h : ¬ (i % 2 = 0 ∧ i < 112)) : RsG c i = ∅ := if_neg h
theorem RsD_down {i : ℕ} (h : i % 2 = 0 ∧ ¬ i < 112) : RsD c i = (srcD i).view.set := if_pos h
theorem RsD_no {i : ℕ} (h : ¬ (i % 2 = 0 ∧ ¬ i < 112)) : RsD c i = ∅ := if_neg h
theorem RsP_pool {i : ℕ} (h : i % 2 = 1) : RsP c i = (srcP i).view.set := if_pos h
theorem RsP_no {i : ℕ} (h : i % 2 = 0) : RsP c i = ∅ := if_neg (by omega)
theorem RdG_gu {i : ℕ} (h : i % 2 = 0 ∧ i < 112) : RdG c i = (dstG i).view.set := if_pos h
theorem RdG_down {i : ℕ} (h : i % 2 = 0 ∧ ¬ i < 112) : RdG c i = (dstD i).view.set := (if_neg (by omega)).trans (if_pos h)
theorem RdG_no {i : ℕ} (h : i % 2 = 1) : RdG c i = ∅ := (if_neg (by omega)).trans (if_neg (by omega))
theorem RdP_pool {i : ℕ} (h : i % 2 = 1) : RdP c i = (dstP i).view.set := if_pos h
theorem RdP_no {i : ℕ} (h : i % 2 = 0) : RdP c i = ∅ := if_neg (by omega)

/-! ## Disjointness -/

theorem unit2_disjoint {s : Shape} (hs : s.rank = 2) {o o' sz sz' : Fin s.rank → ℕ} {h h'} (a : Fin s.rank)
    (hd : o a + sz a ≤ o' a ∨ o' a + sz' a ≤ o a) : Disjoint (Rect.unit (s := s) o sz h).set (Rect.unit (s := s) o' sz' h').set := by
  rw [Finset.disjoint_left]
  intro x hx hx'
  rw [Rect.mem_set_unit] at hx hx'
  have h1 := hx a; have h2 := hx' a
  omega

/-- What `Far` says of two items of the run, whichever comes first. -/
theorem Far.sep {m h i n : ℕ} (hF : Far m h) (hi : m ≤ i) (hn : m ≤ n) (hi' : i < h) (hn' : n < h) (hne : i ≠ n) (hp : n % 2 = i % 2) :
    offOf n + sizeOf' n ≤ offOf i ∨ offOf i + sizeOf' i ≤ offOf n := by
  rcases Nat.lt_or_ge i n with h1 | h1
  · exact (hF i n hi h1 hn' hp.symm).symm
  · exact hF n i hn (by omega) hi' hp

/-- Where a weight tile's place starts, and how many rows it takes. -/
theorem place_even {i : ℕ} (h : i % 2 = 0) : offOf i = baseOf i ∧ sizeOf' i = gapOf i := by
  constructor
  · show baseOf i + gapOf i * (i % 2) = baseOf i; rw [h]; omega
  · exact if_pos h
/-- Where a pool tile's place starts, and how many rows it takes. -/
theorem place_odd {i : ℕ} (h : i % 2 = 1) : offOf i = baseOf i + gapOf i ∧ sizeOf' i = 2176 := by
  constructor
  · show baseOf i + gapOf i * (i % 2) = baseOf i + gapOf i; rw [h]; omega
  · exact if_neg (by omega)
theorem gap_gu {i : ℕ} (h : i < 112) : gapOf i = 8192 := if_pos h
theorem gap_down {i : ℕ} (h : ¬ i < 112) : gapOf i = 7168 := if_neg h

theorem RdG_disj {m h i n : ℕ} (hF : Far m h) (hi : m ≤ i) (hn : m ≤ n) (hi' : i < h) (hn' : n < h) (hne : i ≠ n) :
    Disjoint (RdG c n) (RdG c i) := by
  rcases Nat.mod_two_eq_zero_or_one n with hp | hp
  swap; · rw [RdG_no c hp]; exact Finset.disjoint_empty_left _
  rcases Nat.mod_two_eq_zero_or_one i with hq | hq
  swap; · rw [RdG_no c hq]; exact Finset.disjoint_empty_right _
  have hd := hF.sep hi hn hi' hn' hne (by omega)
  rw [(place_even hp).1, (place_even hp).2, (place_even hq).1, (place_even hq).2] at hd
  by_cases h1 : n < 112 <;> by_cases h2 : i < 112
  · rw [gap_gu h1, gap_gu h2] at hd
    rw [RdG_gu c ⟨hp, h1⟩, RdG_gu c ⟨hq, h2⟩]
    exact View.disjoint_slice (unit2_disjoint rfl (0 : Fin 2) hd)
  · rw [gap_gu h1, gap_down h2] at hd
    rw [RdG_gu c ⟨hp, h1⟩, RdG_down c ⟨hq, h2⟩]
    exact View.disjoint_slice (unit2_disjoint rfl (0 : Fin 2) hd)
  · rw [gap_down h1, gap_gu h2] at hd
    rw [RdG_down c ⟨hp, h1⟩, RdG_gu c ⟨hq, h2⟩]
    exact View.disjoint_slice (unit2_disjoint rfl (0 : Fin 2) hd)
  · rw [gap_down h1, gap_down h2] at hd
    rw [RdG_down c ⟨hp, h1⟩, RdG_down c ⟨hq, h2⟩]
    exact View.disjoint_slice (unit2_disjoint rfl (0 : Fin 2) hd)
theorem RdP_disj {m h i n : ℕ} (hF : Far m h) (hi : m ≤ i) (hn : m ≤ n) (hi' : i < h) (hn' : n < h) (hne : i ≠ n) :
    Disjoint (RdP c n) (RdP c i) := by
  rcases Nat.mod_two_eq_zero_or_one n with hp | hp
  · rw [RdP_no c hp]; exact Finset.disjoint_empty_left _
  rcases Nat.mod_two_eq_zero_or_one i with hq | hq
  · rw [RdP_no c hq]; exact Finset.disjoint_empty_right _
  have hd := hF.sep hi hn hi' hn' hne (by omega)
  rw [(place_odd hp).1, (place_odd hp).2, (place_odd hq).1, (place_odd hq).2] at hd
  rw [RdP_pool c hp, RdP_pool c hq]
  exact View.disjoint_slice (unit2_disjoint rfl (0 : Fin 2) hd)
theorem RsG_disj {i n : ℕ} (hne : i ≠ n) : Disjoint (RsG c n) (RsG c i) := by
  unfold RsG
  split_ifs with h1 h2
  · refine View.disjoint_slice (unit2_disjoint rfl (1 : Fin 2) ?_)
    show (n / 4 % 28) * 256 + 7168 * ((n / 2) % 2) + 256 ≤ (i / 4 % 28) * 256 + 7168 * ((i / 2) % 2) ∨ (i / 4 % 28) * 256 + 7168 * ((i / 2) % 2) + 256 ≤ (n / 4 % 28) * 256 + 7168 * ((n / 2) % 2)
    rw [Nat.mod_eq_of_lt (show n / 4 < 28 by omega), Nat.mod_eq_of_lt (show i / 4 < 28 by omega)]
    by_cases h4 : n / 4 = i / 4 <;> omega
  all_goals simp
theorem RsD_disj {i n : ℕ} (hne : i ≠ n) (hi : i < 176) (hn : n < 176) : Disjoint (RsD c n) (RsD c i) := by
  unfold RsD
  split_ifs with h1 h2
  · refine View.disjoint_slice (unit2_disjoint rfl (1 : Fin 2) ?_)
    show colD n + 256 ≤ colD i ∨ colD i + 256 ≤ colD n
    unfold colD
    omega
  all_goals simp
theorem RsP_disj {i n : ℕ} (hne : i ≠ n) (hi : i < 176) (hn : n < 176) : Disjoint (RsP c n) (RsP c i) := by
  rcases Nat.mod_two_eq_zero_or_one n with hp | hp
  · rw [RsP_no c hp]; exact Finset.disjoint_empty_left _
  rcases Nat.mod_two_eq_zero_or_one i with hq | hq
  · rw [RsP_no c hq]; exact Finset.disjoint_empty_right _
  rw [RsP_pool c hp, RsP_pool c hq]
  by_cases hrow : rowP n + 2176 ≤ rowP i ∨ rowP i + 2176 ≤ rowP n
  · exact View.disjoint_slice (unit2_disjoint rfl (0 : Fin 2) hrow)
  · refine View.disjoint_slice (unit2_disjoint rfl (1 : Fin 2) ?_)
    show colP n + 256 ≤ colP i ∨ colP i + 256 ≤ colP n
    unfold rowP at hrow
    unfold colP colD
    split_ifs at hrow ⊢ <;> omega

/-! ## The ring -/

variable (Vw : Buf (Elt F) (wguM.view.loc (c : Thread nD τ))) (Vd : Buf (Elt F) (wdM.view.loc (c : Thread nD τ))) (Vp : Buf (Elt F) (poolM.view.loc (c : Thread nD τ)))

/-- Item `i` landed: its place holds its tile. -/
def LandG (i : ℕ) : sProp 𝕄 := iprop(∃ f, (arenaM.view.loc (c : Thread nD τ) ↦[(dstG i).view.set]{fullShare} f)
  ∗ ⌜(dstG i).view.read (Elt F) f = (srcG i).view.read (Elt F) Vw⌝)
def LandD (i : ℕ) : sProp 𝕄 := iprop(∃ f, (arenaM.view.loc (c : Thread nD τ) ↦[(dstD i).view.set]{fullShare} f)
  ∗ ⌜(dstD i).view.read (Elt F) f = (srcD i).view.read (Elt F) Vd⌝)
def LandP (i : ℕ) : sProp 𝕄 := iprop(∃ f, (arena8M.view.loc (c : Thread nD τ) ↦[(dstP i).view.set]{fullShare} f)
  ∗ ⌜(dstP i).view.read (Elt F) f = (srcP i).view.read (Elt F) Vp⌝)

/-- Item `i` in flight, as a tile of the gate/up weights, of the down weights and of the pool. -/
def FlG (i : ℕ) : sProp 𝕄 :=
  Flight (countersEmb (U := Pipeline.UD sig nD τ)) (c : Thread nD τ) (.dma (cellOf i)) () (dstG i).view.dmaCredit
    iprop(LandG c Vw i ∗ wguM.view.loc (c : Thread nD τ) ↦[(srcG i).view.set]{fullShare} Vw)
def FlD (i : ℕ) : sProp 𝕄 :=
  Flight (countersEmb (U := Pipeline.UD sig nD τ)) (c : Thread nD τ) (.dma (cellOf i)) () (dstD i).view.dmaCredit
    iprop(LandD c Vd i ∗ wdM.view.loc (c : Thread nD τ) ↦[(srcD i).view.set]{fullShare} Vd)
def FlP (i : ℕ) : sProp 𝕄 :=
  Flight (countersEmb (U := Pipeline.UD sig nD τ)) (c : Thread nD τ) (.dma (cellOf i)) () (dstP i).view.dmaCredit
    iprop(LandP c Vp i ∗ poolM.view.loc (c : Thread nD τ) ↦[(srcP i).view.set]{fullShare} Vp)

/-- Item `i` in flight. -/
def InFl (i : ℕ) : sProp 𝕄 :=
  if i % 2 = 0 ∧ i < 112 then FlG c Vw i else if i % 2 = 0 ∧ ¬ i < 112 then FlD c Vd i else FlP c Vp i

theorem infl_gu {i : ℕ} (h : i % 2 = 0 ∧ i < 112) : InFl c Vw Vd Vp i = FlG c Vw i := if_pos h
theorem infl_down {i : ℕ} (h : i % 2 = 0 ∧ ¬ i < 112) : InFl c Vw Vd Vp i = FlD c Vd i := (if_neg (by omega)).trans (if_pos h)
theorem infl_pool {i : ℕ} (h : i % 2 = 1) : InFl c Vw Vd Vp i = FlP c Vp i := (if_neg (by omega)).trans (if_neg (by omega))

/-- The ring's state: items `[lo, hi)` in flight, the places of items `[mid, hi)` not free. -/
def Ring (mid lo hi : ℕ) : sProp 𝕄 := iprop(
  (wguM.view.loc (c : Thread nD τ) ↦[rest Finset.univ (RsG c) lo hi]{fullShare} Vw)
  ∗ (wdM.view.loc (c : Thread nD τ) ↦[rest Finset.univ (RsD c) lo hi]{fullShare} Vd)
  ∗ (poolM.view.loc (c : Thread nD τ) ↦[rest Finset.univ (RsP c) lo hi]{fullShare} Vp)
  ∗ (∃ f, arenaM.view.loc (c : Thread nD τ) ↦[rest Finset.univ (RdG c) mid hi]{fullShare} f)
  ∗ (∃ f, arena8M.view.loc (c : Thread nD τ) ↦[rest Finset.univ (RdP c) mid hi]{fullShare} f)
  ∗ bigSep (rest (Finset.range 64) (fun i => {i % 64}) lo hi) (fun n => (semVal ((c : Thread nD τ), .dma (cellOf n)) 0 : sProp 𝕄))
  ∗ bigSep (Finset.Ico lo hi) (InFl c Vw Vd Vp))

/-! ## Starting an item -/

theorem cell_take {lo hi : ℕ} (h1 : lo ≤ hi) (h2 : hi < lo + 64) :
    (bigSep (rest (Finset.range 64) (fun i => {i % 64}) lo hi) (fun n => (semVal ((c : Thread nD τ), .dma (cellOf n)) 0 : sProp 𝕄)))
      ⊢ iprop(semVal ((c : Thread nD τ), .dma (cellOf hi)) 0
        ∗ bigSep (rest (Finset.range 64) (fun i => {i % 64}) lo (hi + 1)) (fun n => (semVal ((c : Thread nD τ), .dma (cellOf n)) 0 : sProp 𝕄))) := by
  have hsub : ({hi % 64} : Finset ℕ) ⊆ rest (Finset.range 64) (fun i => {i % 64}) lo hi :=
    sub_rest (R := fun i => ({i % 64} : Finset ℕ)) (n := hi) (by simp; omega) (fun i h3 h4 => by simp; omega)
  have hc : cellOf (hi % 64) = cellOf hi := by
    unfold cellOf; congr 3; simp
  rw [rest_succ h1, bigSep_sdiff_split hsub, bigSep_singleton, hc]
  exact .rfl

theorem cell_put {lo hi : ℕ} (h1 : lo < hi) (h2 : hi ≤ lo + 64) :
    iprop(semVal ((c : Thread nD τ), .dma (cellOf lo)) 0
        ∗ bigSep (rest (Finset.range 64) (fun i => {i % 64}) lo hi) (fun n => (semVal ((c : Thread nD τ), .dma (cellOf n)) 0 : sProp 𝕄)))
      ⊢ (bigSep (rest (Finset.range 64) (fun i => {i % 64}) (lo + 1) hi) (fun n => (semVal ((c : Thread nD τ), .dma (cellOf n)) 0 : sProp 𝕄))) := by
  have hsub : ({lo % 64} : Finset ℕ) ⊆ rest (Finset.range 64) (fun i => {i % 64}) (lo + 1) hi :=
    sub_rest (R := fun i => ({i % 64} : Finset ℕ)) (n := lo) (by simp; omega) (fun i h3 h4 => by simp; omega)
  have hc : cellOf (lo % 64) = cellOf lo := by
    unfold cellOf; congr 3; simp
  rw [rest_pred h1, bigSep_sdiff_split hsub, bigSep_singleton, hc]
  exact .rfl

theorem infl_put {lo hi : ℕ} (h1 : lo ≤ hi) :
    iprop(InFl c Vw Vd Vp hi ∗ bigSep (Finset.Ico lo hi) (InFl c Vw Vd Vp)) ⊢ bigSep (Finset.Ico lo (hi + 1)) (InFl c Vw Vd Vp) := by
  have h : Finset.Ico lo (hi + 1) = insert hi (Finset.Ico lo hi) := by ext x; simp; omega
  rw [h, bigSep_insert (by simp)]
  exact .rfl

theorem infl_take {lo hi : ℕ} (h1 : lo < hi) :
    bigSep (Finset.Ico lo hi) (InFl c Vw Vd Vp) ⊢ iprop(InFl c Vw Vd Vp lo ∗ bigSep (Finset.Ico (lo + 1) hi) (InFl c Vw Vd Vp)) := by
  have h : Finset.Ico lo hi = insert lo (Finset.Ico (lo + 1) hi) := by ext x; simp; omega
  rw [h, bigSep_insert (by simp)]
  exact .rfl

/-- A region of a family held whole but for the members `[lo, hi)`: member `hi` apart. -/
theorem region_take {ℓ : Loc nD τ sig} {R : ℕ → Finset (Idx ℓ)} {lo hi : ℕ} (h1 : lo ≤ hi)
    (hd : ∀ i, lo ≤ i → i < hi → Disjoint (R hi) (R i)) {f : Buf (Elt F) ℓ} :
    (ℓ ↦[rest Finset.univ R lo hi]{fullShare} f : sProp 𝕄)
      ⊢ iprop((ℓ ↦[R hi]{fullShare} f) ∗ ℓ ↦[rest Finset.univ R lo (hi + 1)]{fullShare} f) := by
  rw [rest_succ h1]
  exact (pointsTo_split_subset (sub_rest (Finset.subset_univ _) hd)).1

/-- Member `lo` back, at the contents the rest is held at. -/
theorem region_put {ℓ : Loc nD τ sig} {R : ℕ → Finset (Idx ℓ)} {lo hi : ℕ} (h1 : lo < hi)
    (hd : ∀ i, lo + 1 ≤ i → i < hi → Disjoint (R lo) (R i)) {f : Buf (Elt F) ℓ} :
    iprop((ℓ ↦[R lo]{fullShare} f) ∗ ℓ ↦[rest Finset.univ R lo hi]{fullShare} f)
      ⊢ (ℓ ↦[rest Finset.univ R (lo + 1) hi]{fullShare} f : sProp 𝕄) := by
  rw [rest_pred h1]
  exact (pointsTo_split_subset (sub_rest (Finset.subset_univ _) hd)).2

/-- Member `lo` back, at contents of its own. -/
theorem region_put_ex {ℓ : Loc nD τ sig} {R : ℕ → Finset (Idx ℓ)} {lo hi : ℕ} (h1 : lo < hi)
    (hd : ∀ i, lo + 1 ≤ i → i < hi → Disjoint (R lo) (R i)) {f g : Buf (Elt F) ℓ} :
    iprop((ℓ ↦[R lo]{fullShare} g) ∗ ℓ ↦[rest Finset.univ R lo hi]{fullShare} f)
      ⊢ (iprop(∃ f', ℓ ↦[rest Finset.univ R (lo + 1) hi]{fullShare} f') : sProp 𝕄) := by
  rw [rest_pred h1]
  exact (pointsTo_join_subset (sub_rest (Finset.subset_univ _) hd)).trans (exists_intro (Φ := fun f' => (ℓ ↦[rest Finset.univ R (lo + 1) hi]{fullShare} f' : sProp 𝕄)) _)

/-- A family with nothing at `n` does not see it, at either end. -/
theorem rest_succ_empty {T : Type} [DecidableEq T] {U : Finset T} {R : ℕ → Finset T} {lo hi : ℕ} (h1 : lo ≤ hi) (h : R hi = ∅) :
    rest U R lo (hi + 1) = rest U R lo hi := by rw [rest_succ h1, h, Finset.sdiff_empty]
theorem rest_pred_empty {T : Type} [DecidableEq T] {U : Finset T} {R : ℕ → Finset T} {lo hi : ℕ} (h1 : lo < hi) (h : R lo = ∅) :
    rest U R (lo + 1) hi = rest U R lo hi := by rw [rest_pred h1, h, Finset.sdiff_empty]

variable {𝒱 : Variants} {bd : Option 𝒱.V} {α : Type}

/-- Starting a tile of the gate/up weights. -/
theorem ring_start_gu {mid lo hi : ℕ} (hmid : mid ≤ lo) (hlo : lo ≤ hi) (hhi : hi < 176) (hc64 : hi < lo + 64) (hF : Far mid (hi + 1)) (hev : hi % 2 = 0 ∧ hi < 112)
    {o7 o6 : Fin 2 → ℕ} {o5 : Fin 1 → ℕ} {h7 h6 h5} (e7 : o7 = ![0, (hi / 4 % 28) * 256 + 7168 * ((hi / 2) % 2)])
    (e6 : o6 = ![baseOf hi, 0]) (e5 : o5 = ![hi % 64]) {w1 w2 w3}
    {Q : α → sProp 𝕄} {k : PUnit → Prog (TpuEff nD τ sig (Elt F) Λ₀ .tc) α} :
    Ring c Vw Vd Vp mid lo hi ⊢ iprop((Ring c Vw Vd Vp mid lo (hi + 1) -∗ wp frame (wpE (defs₀ (F := F)) 𝒱 c bd) Set.univ (k ⟨⟩) Q)
      -∗ wp frame (wpE (defs₀ (F := F)) 𝒱 c bd) Set.univ
        (.op (.enqueueDma (wguM.slice (Rect.unit (s := S8192x14336) o7 S8192x256.size h7) (fun _ => rfl))
          (.here (arenaM.slice (Rect.unit (s := S106496x256) o6 S8192x256.size h6) (fun _ => rfl)))
          (.dma ((cc0_scratch8.slice (Rect.unit (s := S64) o5 S1.size h5)).squeeze S_ squeezes_S1_S_).sem) w1 w2 w3) k) Q) := by
  subst e7 e6 e5
  unfold Ring
  iintro ⟨Hw, Hx, Hp, ⟨%fa, Ha⟩, ⟨%fb, Hb⟩, Hc, Hf⟩ Hk
  ihave Hw := (region_take (R := RsG c) hlo (fun i h1 h2 => RsG_disj c (by omega))) $$ Hw
  icases Hw with ⟨Hs, Hw⟩
  ihave Ha := (region_take (R := RdG c) (by omega) (fun i h1 h2 => RdG_disj c hF (by omega) (by omega) (by omega) (by omega) (by omega))) $$ Ha
  icases Ha with ⟨Hd, Ha⟩
  ihave Hc := (cell_take c hlo hc64) $$ Hc
  icases Hc with ⟨Hq, Hc⟩
  rw [RsG_gu c hev, RdG_gu c hev]
  rw [rest_succ_empty (R := RsD c) hlo (RsD_no c (by omega)), rest_succ_empty (R := RsP c) hlo (RsP_no c (by omega)), rest_succ_empty (R := RdP c) (by omega) (RdP_no c (by omega))]
  iapply (Transfers.wp_dmaLocal (countersEmb (U := Pipeline.UD sig nD τ)) 𝒱 (c : Thread nD τ) bd () (dstG hi).view.dmaCredit
    (Sd := (dstG hi).view.set) rfl (View.dmaCredit_pos _ (by decide)) subset_rfl) $$ [Hs Hd Hq]
  · isplitl [Hs]; · iexact Hs
    isplitl [Hd]; · iexact Hd
    iexact Hq
  iintro Hfl
  iapply Hk
  isplitl [Hw]; · iexact Hw
  isplitl [Hx]; · iexact Hx
  isplitl [Hp]; · iexact Hp
  isplitl [Ha]; · iexists _; iexact Ha
  isplitl [Hb]; · iexists _; iexact Hb
  isplitl [Hc]; · iexact Hc
  iapply (infl_put c Vw Vd Vp hlo)
  isplitl [Hfl]
  · rw [infl_gu c Vw Vd Vp hev]
    unfold FlG
    iapply (Transfers.Flight_mono (EC := countersEmb (U := Pipeline.UD sig nD τ)) ?_) $$ Hfl
    iintro ⟨H1, H2⟩
    isplitl [H1]
    · unfold LandG
      iexists _
      isplitl [H1]; · iexact H1
      ipureintro
      exact View.read_write_univ _ _
    iexact H2
  iexact Hf

/-- Starting a tile of the down weights. -/
theorem ring_start_down {mid lo hi : ℕ} (hmid : mid ≤ lo) (hlo : lo ≤ hi) (hhi : hi < 176) (hc64 : hi < lo + 64) (hF : Far mid (hi + 1)) (hev : hi % 2 = 0 ∧ ¬ hi < 112)
    {o7 o6 : Fin 2 → ℕ} {o5 : Fin 1 → ℕ} {h7 h6 h5} (e7 : o7 = ![0, colD hi])
    (e6 : o6 = ![baseOf hi, 0]) (e5 : o5 = ![hi % 64]) {w1 w2 w3}
    {Q : α → sProp 𝕄} {k : PUnit → Prog (TpuEff nD τ sig (Elt F) Λ₀ .tc) α} :
    Ring c Vw Vd Vp mid lo hi ⊢ iprop((Ring c Vw Vd Vp mid lo (hi + 1) -∗ wp frame (wpE (defs₀ (F := F)) 𝒱 c bd) Set.univ (k ⟨⟩) Q)
      -∗ wp frame (wpE (defs₀ (F := F)) 𝒱 c bd) Set.univ
        (.op (.enqueueDma (wdM.slice (Rect.unit (s := S7168x8192) o7 S7168x256.size h7) (fun _ => rfl))
          (.here (arenaM.slice (Rect.unit (s := S106496x256) o6 S7168x256.size h6) (fun _ => rfl)))
          (.dma ((cc0_scratch8.slice (Rect.unit (s := S64) o5 S1.size h5)).squeeze S_ squeezes_S1_S_).sem) w1 w2 w3) k) Q) := by
  subst e7 e6 e5
  unfold Ring
  iintro ⟨Hw, Hx, Hp, ⟨%fa, Ha⟩, ⟨%fb, Hb⟩, Hc, Hf⟩ Hk
  ihave Hx := (region_take (R := RsD c) hlo (fun i h1 h2 => RsD_disj c (by omega) (by omega) (by omega))) $$ Hx
  icases Hx with ⟨Hs, Hx⟩
  ihave Ha := (region_take (R := RdG c) (by omega) (fun i h1 h2 => RdG_disj c hF (by omega) (by omega) (by omega) (by omega) (by omega))) $$ Ha
  icases Ha with ⟨Hd, Ha⟩
  ihave Hc := (cell_take c hlo hc64) $$ Hc
  icases Hc with ⟨Hq, Hc⟩
  rw [RsD_down c hev, RdG_down c hev]
  rw [rest_succ_empty (R := RsG c) hlo (RsG_no c (by omega)), rest_succ_empty (R := RsP c) hlo (RsP_no c (by omega)), rest_succ_empty (R := RdP c) (by omega) (RdP_no c (by omega))]
  iapply (Transfers.wp_dmaLocal (countersEmb (U := Pipeline.UD sig nD τ)) 𝒱 (c : Thread nD τ) bd () (dstD hi).view.dmaCredit
    (Sd := (dstD hi).view.set) rfl (View.dmaCredit_pos _ (by decide)) subset_rfl) $$ [Hs Hd Hq]
  · isplitl [Hs]; · iexact Hs
    isplitl [Hd]; · iexact Hd
    iexact Hq
  iintro Hfl
  iapply Hk
  isplitl [Hw]; · iexact Hw
  isplitl [Hx]; · iexact Hx
  isplitl [Hp]; · iexact Hp
  isplitl [Ha]; · iexists _; iexact Ha
  isplitl [Hb]; · iexists _; iexact Hb
  isplitl [Hc]; · iexact Hc
  iapply (infl_put c Vw Vd Vp hlo)
  isplitl [Hfl]
  · rw [infl_down c Vw Vd Vp hev]
    unfold FlD
    iapply (Transfers.Flight_mono (EC := countersEmb (U := Pipeline.UD sig nD τ)) ?_) $$ Hfl
    iintro ⟨H1, H2⟩
    isplitl [H1]
    · unfold LandD
      iexists _
      isplitl [H1]; · iexact H1
      ipureintro
      exact View.read_write_univ _ _
    iexact H2
  iexact Hf

/-- Starting a tile of the pool. -/
theorem ring_start_pool {mid lo hi : ℕ} (hmid : mid ≤ lo) (hlo : lo ≤ hi) (hhi : hi < 176) (hc64 : hi < lo + 64) (hF : Far mid (hi + 1)) (hev : hi % 2 = 1)
    {o7 o6 : Fin 2 → ℕ} {o5 : Fin 1 → ℕ} {h7 h6 h5} (e7 : o7 = ![rowP hi, colP hi])
    (e6 : o6 = ![baseOf hi + gapOf hi, 0]) (e5 : o5 = ![hi % 64]) {w1 w2 w3}
    {Q : α → sProp 𝕄} {k : PUnit → Prog (TpuEff nD τ sig (Elt F) Λ₀ .tc) α} :
    Ring c Vw Vd Vp mid lo hi ⊢ iprop((Ring c Vw Vd Vp mid lo (hi + 1) -∗ wp frame (wpE (defs₀ (F := F)) 𝒱 c bd) Set.univ (k ⟨⟩) Q)
      -∗ wp frame (wpE (defs₀ (F := F)) 𝒱 c bd) Set.univ
        (.op (.enqueueDma (poolM.slice (Rect.unit (s := S30240x8192) o7 S2176x256.size h7) (fun _ => rfl))
          (.here (arena8M.slice (Rect.unit (s := S106496x256) o6 S2176x256.size h6) (fun _ => rfl)))
          (.dma ((cc0_scratch8.slice (Rect.unit (s := S64) o5 S1.size h5)).squeeze S_ squeezes_S1_S_).sem) w1 w2 w3) k) Q) := by
  subst e7 e6 e5
  unfold Ring
  iintro ⟨Hw, Hx, Hp, ⟨%fa, Ha⟩, ⟨%fb, Hb⟩, Hc, Hf⟩ Hk
  ihave Hp := (region_take (R := RsP c) hlo (fun i h1 h2 => RsP_disj c (by omega) (by omega) (by omega))) $$ Hp
  icases Hp with ⟨Hs, Hp⟩
  ihave Hb := (region_take (R := RdP c) (by omega) (fun i h1 h2 => RdP_disj c hF (by omega) (by omega) (by omega) (by omega) (by omega))) $$ Hb
  icases Hb with ⟨Hd, Hb⟩
  ihave Hc := (cell_take c hlo hc64) $$ Hc
  icases Hc with ⟨Hq, Hc⟩
  rw [RsP_pool c hev, RdP_pool c hev]
  rw [rest_succ_empty (R := RsG c) hlo (RsG_no c (by omega)), rest_succ_empty (R := RsD c) hlo (RsD_no c (by omega)), rest_succ_empty (R := RdG c) (by omega) (RdG_no c (by omega))]
  iapply (Transfers.wp_dmaLocal (countersEmb (U := Pipeline.UD sig nD τ)) 𝒱 (c : Thread nD τ) bd () (dstP hi).view.dmaCredit
    (Sd := (dstP hi).view.set) rfl (View.dmaCredit_pos _ (by decide)) subset_rfl) $$ [Hs Hd Hq]
  · isplitl [Hs]; · iexact Hs
    isplitl [Hd]; · iexact Hd
    iexact Hq
  iintro Hfl
  iapply Hk
  isplitl [Hw]; · iexact Hw
  isplitl [Hx]; · iexact Hx
  isplitl [Hp]; · iexact Hp
  isplitl [Ha]; · iexists _; iexact Ha
  isplitl [Hb]; · iexists _; iexact Hb
  isplitl [Hc]; · iexact Hc
  iapply (infl_put c Vw Vd Vp hlo)
  isplitl [Hfl]
  · rw [infl_pool c Vw Vd Vp hev]
    unfold FlP
    iapply (Transfers.Flight_mono (EC := countersEmb (U := Pipeline.UD sig nD τ)) ?_) $$ Hfl
    iintro ⟨H1, H2⟩
    isplitl [H1]
    · unfold LandP
      iexists _
      isplitl [H1]; · iexact H1
      ipureintro
      exact View.read_write_univ _ _
    iexact H2
  iexact Hf

/-! ## Waiting for the oldest item in flight -/

/-- The wait for a tile of the gate/up weights: it has landed. -/
theorem ring_wait_gu {mid lo hi : ℕ} (hlo : lo < hi) (hhi : hi ≤ 176) (hw : hi ≤ lo + 64) (hev : lo % 2 = 0 ∧ lo < 112)
    {o6 : Fin 2 → ℕ} {o5 : Fin 1 → ℕ} {h6 h5} (e6 : o6 = ![baseOf lo, 0]) (e5 : o5 = ![lo % 64])
    {srcw : Memref sig .tc .hbm S8192x256 .fp8e4m3} {w1 w2}
    {Q : α → sProp 𝕄} {k : PUnit → Prog (TpuEff nD τ sig (Elt F) Λ₀ .tc) α} {W : Waits sig Unit} :
    iprop(Ring c Vw Vd Vp mid lo hi ∗ owes (c : Thread nD τ) 0 W)
      ⊢ iprop((iprop(Ring c Vw Vd Vp mid (lo + 1) hi ∗ LandG c Vw lo ∗ (∃ W', owes (c : Thread nD τ) 0 W'))
        -∗ wp frame (wpE (defs₀ (F := F)) 𝒱 c bd) Set.univ (k ⟨⟩) Q)
      -∗ wp frame (wpE (defs₀ (F := F)) 𝒱 c bd) Set.univ
        (.op (.waitDma2 ((cc0_scratch8.slice (Rect.unit (s := S64) o5 S1.size h5)).squeeze S_ squeezes_S1_S_).sem srcw
          (arenaM.slice (Rect.unit (s := S106496x256) o6 S8192x256.size h6) (fun _ => rfl)) w1 w2) k) Q) := by
  subst e6 e5
  unfold Ring
  iintro ⟨⟨Hw, Hx, Hp, Ha, Hb, Hc, Hf⟩, HW⟩ Hk
  ihave Hf := (infl_take c Vw Vd Vp hlo) $$ Hf
  icases Hf with ⟨Hl, Hf⟩
  ihave Hl := (Entails.of_eq (infl_gu c Vw Vd Vp hev)) $$ Hl
  unfold FlG
  iapply (Transfers.wp_waitLocal (countersEmb (U := Pipeline.UD sig nD τ)) 𝒱 (c : Thread nD τ) bd () (N := (dstG lo).view.dmaCredit) rfl) $$ [Hl HW]
  · isplitl [Hl]; · iexact Hl
    iexact HW
  iintro ⟨⟨Hd, Hs⟩, Hq, HW⟩
  iapply Hk
  isplitr [Hd HW]
  · isplitl [Hw Hs]
    · iapply (region_put (R := RsG c) hlo (fun i h1 h2 => RsG_disj c (by omega)))
      isplitl [Hs]
      · rw [RsG_gu c hev]; iexact Hs
      iexact Hw
    isplitl [Hx]
    · rw [rest_pred_empty (R := RsD c) hlo (RsD_no c (by omega))]; iexact Hx
    isplitl [Hp]
    · rw [rest_pred_empty (R := RsP c) hlo (RsP_no c (by omega))]; iexact Hp
    isplitl [Ha]; · iexact Ha
    isplitl [Hb]; · iexact Hb
    isplitl [Hc Hq]
    · iapply (cell_put c hlo hw)
      isplitl [Hq]; · iexact Hq
      iexact Hc
    iexact Hf
  isplitl [Hd]; · iexact Hd
  iexists _; iexact HW

/-- The wait for a tile of the down weights: it has landed. -/
theorem ring_wait_down {mid lo hi : ℕ} (hlo : lo < hi) (hhi : hi ≤ 176) (hw : hi ≤ lo + 64) (hev : lo % 2 = 0 ∧ ¬ lo < 112)
    {o6 : Fin 2 → ℕ} {o5 : Fin 1 → ℕ} {h6 h5} (e6 : o6 = ![baseOf lo, 0]) (e5 : o5 = ![lo % 64])
    {srcw : Memref sig .tc .hbm S7168x256 .fp8e4m3} {w1 w2}
    {Q : α → sProp 𝕄} {k : PUnit → Prog (TpuEff nD τ sig (Elt F) Λ₀ .tc) α} {W : Waits sig Unit} :
    iprop(Ring c Vw Vd Vp mid lo hi ∗ owes (c : Thread nD τ) 0 W)
      ⊢ iprop((iprop(Ring c Vw Vd Vp mid (lo + 1) hi ∗ LandD c Vd lo ∗ (∃ W', owes (c : Thread nD τ) 0 W'))
        -∗ wp frame (wpE (defs₀ (F := F)) 𝒱 c bd) Set.univ (k ⟨⟩) Q)
      -∗ wp frame (wpE (defs₀ (F := F)) 𝒱 c bd) Set.univ
        (.op (.waitDma2 ((cc0_scratch8.slice (Rect.unit (s := S64) o5 S1.size h5)).squeeze S_ squeezes_S1_S_).sem srcw
          (arenaM.slice (Rect.unit (s := S106496x256) o6 S7168x256.size h6) (fun _ => rfl)) w1 w2) k) Q) := by
  subst e6 e5
  unfold Ring
  iintro ⟨⟨Hw, Hx, Hp, Ha, Hb, Hc, Hf⟩, HW⟩ Hk
  ihave Hf := (infl_take c Vw Vd Vp hlo) $$ Hf
  icases Hf with ⟨Hl, Hf⟩
  ihave Hl := (Entails.of_eq (infl_down c Vw Vd Vp hev)) $$ Hl
  unfold FlD
  iapply (Transfers.wp_waitLocal (countersEmb (U := Pipeline.UD sig nD τ)) 𝒱 (c : Thread nD τ) bd () (N := (dstD lo).view.dmaCredit) rfl) $$ [Hl HW]
  · isplitl [Hl]; · iexact Hl
    iexact HW
  iintro ⟨⟨Hd, Hs⟩, Hq, HW⟩
  iapply Hk
  isplitr [Hd HW]
  · isplitl [Hw]
    · rw [rest_pred_empty (R := RsG c) hlo (RsG_no c (by omega))]; iexact Hw
    isplitl [Hx Hs]
    · iapply (region_put (R := RsD c) hlo (fun i h1 h2 => RsD_disj c (by omega) (by omega) (by omega)))
      isplitl [Hs]
      · rw [RsD_down c hev]; iexact Hs
      iexact Hx
    isplitl [Hp]
    · rw [rest_pred_empty (R := RsP c) hlo (RsP_no c (by omega))]; iexact Hp
    isplitl [Ha]; · iexact Ha
    isplitl [Hb]; · iexact Hb
    isplitl [Hc Hq]
    · iapply (cell_put c hlo hw)
      isplitl [Hq]; · iexact Hq
      iexact Hc
    iexact Hf
  isplitl [Hd]; · iexact Hd
  iexists _; iexact HW

/-- The wait for a tile of the pool: it has landed. -/
theorem ring_wait_pool {mid lo hi : ℕ} (hlo : lo < hi) (hhi : hi ≤ 176) (hw : hi ≤ lo + 64) (hev : lo % 2 = 1)
    {o6 : Fin 2 → ℕ} {o5 : Fin 1 → ℕ} {h6 h5} (e6 : o6 = ![baseOf lo + gapOf lo, 0]) (e5 : o5 = ![lo % 64])
    {srcw : Memref sig .tc .hbm S2176x256 .i8} {w1 w2}
    {Q : α → sProp 𝕄} {k : PUnit → Prog (TpuEff nD τ sig (Elt F) Λ₀ .tc) α} {W : Waits sig Unit} :
    iprop(Ring c Vw Vd Vp mid lo hi ∗ owes (c : Thread nD τ) 0 W)
      ⊢ iprop((iprop(Ring c Vw Vd Vp mid (lo + 1) hi ∗ LandP c Vp lo ∗ (∃ W', owes (c : Thread nD τ) 0 W'))
        -∗ wp frame (wpE (defs₀ (F := F)) 𝒱 c bd) Set.univ (k ⟨⟩) Q)
      -∗ wp frame (wpE (defs₀ (F := F)) 𝒱 c bd) Set.univ
        (.op (.waitDma2 ((cc0_scratch8.slice (Rect.unit (s := S64) o5 S1.size h5)).squeeze S_ squeezes_S1_S_).sem srcw
          (arena8M.slice (Rect.unit (s := S106496x256) o6 S2176x256.size h6) (fun _ => rfl)) w1 w2) k) Q) := by
  subst e6 e5
  unfold Ring
  iintro ⟨⟨Hw, Hx, Hp, Ha, Hb, Hc, Hf⟩, HW⟩ Hk
  ihave Hf := (infl_take c Vw Vd Vp hlo) $$ Hf
  icases Hf with ⟨Hl, Hf⟩
  ihave Hl := (Entails.of_eq (infl_pool c Vw Vd Vp hev)) $$ Hl
  unfold FlP
  iapply (Transfers.wp_waitLocal (countersEmb (U := Pipeline.UD sig nD τ)) 𝒱 (c : Thread nD τ) bd () (N := (dstP lo).view.dmaCredit) rfl) $$ [Hl HW]
  · isplitl [Hl]; · iexact Hl
    iexact HW
  iintro ⟨⟨Hd, Hs⟩, Hq, HW⟩
  iapply Hk
  isplitr [Hd HW]
  · isplitl [Hw]
    · rw [rest_pred_empty (R := RsG c) hlo (RsG_no c (by omega))]; iexact Hw
    isplitl [Hx]
    · rw [rest_pred_empty (R := RsD c) hlo (RsD_no c (by omega))]; iexact Hx
    isplitl [Hp Hs]
    · iapply (region_put (R := RsP c) hlo (fun i h1 h2 => RsP_disj c (by omega) (by omega) (by omega)))
      isplitl [Hs]
      · rw [RsP_pool c hev]; iexact Hs
      iexact Hp
    isplitl [Ha]; · iexact Ha
    isplitl [Hb]; · iexact Hb
    isplitl [Hc Hq]
    · iapply (cell_put c hlo hw)
      isplitl [Hq]; · iexact Hq
      iexact Hc
    iexact Hf
  isplitl [Hd]; · iexact Hd
  iexists _; iexact HW

/-! ## Giving back the place of the oldest landed item -/

theorem ring_free_gu {mid lo hi : ℕ} (hm : mid < lo) (hlo : lo ≤ hi) (hF : Far mid hi) (hev : mid % 2 = 0 ∧ mid < 112) :
    iprop(Ring c Vw Vd Vp mid lo hi ∗ LandG c Vw mid) ⊢ Ring c Vw Vd Vp (mid + 1) lo hi := by
  unfold Ring LandG
  iintro ⟨⟨Hw, Hx, Hp, ⟨%fa, Ha⟩, Hb, Hc, Hf⟩, ⟨%f, Hd, -⟩⟩
  isplitl [Hw]; · iexact Hw
  isplitl [Hx]; · iexact Hx
  isplitl [Hp]; · iexact Hp
  isplitl [Ha Hd]
  · iapply (region_put_ex (R := RdG c) (by omega) (fun i h1 h2 => RdG_disj c hF (by omega) (by omega) (by omega) (by omega) (by omega)))
    isplitl [Hd]
    · rw [RdG_gu c hev]; iexact Hd
    iexact Ha
  isplitl [Hb]
  · rw [rest_pred_empty (R := RdP c) (by omega) (RdP_no c (by omega))]; iexact Hb
  isplitl [Hc]; · iexact Hc
  iexact Hf

theorem ring_free_down {mid lo hi : ℕ} (hm : mid < lo) (hlo : lo ≤ hi) (hF : Far mid hi) (hev : mid % 2 = 0 ∧ ¬ mid < 112) :
    iprop(Ring c Vw Vd Vp mid lo hi ∗ LandD c Vd mid) ⊢ Ring c Vw Vd Vp (mid + 1) lo hi := by
  unfold Ring LandD
  iintro ⟨⟨Hw, Hx, Hp, ⟨%fa, Ha⟩, Hb, Hc, Hf⟩, ⟨%f, Hd, -⟩⟩
  isplitl [Hw]; · iexact Hw
  isplitl [Hx]; · iexact Hx
  isplitl [Hp]; · iexact Hp
  isplitl [Ha Hd]
  · iapply (region_put_ex (R := RdG c) (by omega) (fun i h1 h2 => RdG_disj c hF (by omega) (by omega) (by omega) (by omega) (by omega)))
    isplitl [Hd]
    · rw [RdG_down c hev]; iexact Hd
    iexact Ha
  isplitl [Hb]
  · rw [rest_pred_empty (R := RdP c) (by omega) (RdP_no c (by omega))]; iexact Hb
  isplitl [Hc]; · iexact Hc
  iexact Hf

theorem ring_free_pool {mid lo hi : ℕ} (hm : mid < lo) (hlo : lo ≤ hi) (hF : Far mid hi) (hev : mid % 2 = 1) :
    iprop(Ring c Vw Vd Vp mid lo hi ∗ LandP c Vp mid) ⊢ Ring c Vw Vd Vp (mid + 1) lo hi := by
  unfold Ring LandP
  iintro ⟨⟨Hw, Hx, Hp, Ha, ⟨%fb, Hb⟩, Hc, Hf⟩, ⟨%f, Hd, -⟩⟩
  isplitl [Hw]; · iexact Hw
  isplitl [Hx]; · iexact Hx
  isplitl [Hp]; · iexact Hp
  isplitl [Ha]
  · rw [rest_pred_empty (R := RdG c) (by omega) (RdG_no c (by omega))]; iexact Ha
  isplitl [Hb Hd]
  · iapply (region_put_ex (R := RdP c) (by omega) (fun i h1 h2 => RdP_disj c hF (by omega) (by omega) (by omega) (by omega) (by omega)))
    isplitl [Hd]
    · rw [RdP_pool c hev]; iexact Hd
    iexact Hb
  isplitl [Hc]; · iexact Hc
  iexact Hf

/-! ## The ring at rest -/

/-- With nothing in flight and every place free, the ring is the three arrays, the two buffers and the 64 semaphores. -/
theorem ring_rest (n : ℕ) : Ring c Vw Vd Vp n n n = iprop((wguM.view.loc (c : Thread nD τ) ↦{fullShare} Vw)
    ∗ (wdM.view.loc (c : Thread nD τ) ↦{fullShare} Vd)
    ∗ (poolM.view.loc (c : Thread nD τ) ↦{fullShare} Vp)
    ∗ (∃ f, arenaM.view.loc (c : Thread nD τ) ↦{fullShare} f)
    ∗ (∃ f, arena8M.view.loc (c : Thread nD τ) ↦{fullShare} f)
    ∗ bigSep (Finset.range 64) (fun n => (semVal ((c : Thread nD τ), .dma (cellOf n)) 0 : sProp 𝕄))
    ∗ emp) := by
  unfold Ring
  rw [rest_self, rest_self, rest_self, rest_self, rest_self, rest_self, Finset.Ico_self, bigSep_empty]; rfl

end Cert.KernelIdeal.Hand

end
-- ==== Proof.Start.lean ====
/-
  Hand-written, untrusted. One trip of the kernel's loops that start items.
-/
module

public import proofs.«01_k».proof.Proof.Places
public import proofs.«01_k».proof.Proof.Ring
public import proofs.«01_k».proof.Proof.Gen.KernelIdeal.Loops

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (Vw : Buf (Elt F) (wguM.view.loc (c : Thread nD τ))) (Vd : Buf (Elt F) (wdM.view.loc (c : Thread nD τ))) (Vp : Buf (Elt F) (poolM.view.loc (c : Thread nD τ)))

/-- The staged tile table: the memref `M` holds the table's 704 words. -/
def Tab (M : Memref sig .tc .smem S704 .i32) : sProp 𝕄 :=
  iprop(∃ f, (M.view.loc (c : Thread nD τ) ↦[M.view.set]{fullShare} f) ∗ ⌜M.view.read (Elt F) f = fun x => lit0 (S704.rowMajor x)⌝)

/-- The staged table of started items: the memref `M` holds the table's 45 words. -/
def HiTab (M : Memref sig .tc .smem S45 .i32) : sProp 𝕄 :=
  iprop(∃ f, (M.view.loc (c : Thread nD τ) ↦[M.view.set]{fullShare} f) ∗ ⌜M.view.read (Elt F) f = fun x => lit1 (S45.rowMajor x)⌝)

variable {α : Type}

/-- Reading one word of a table in scalar memory. -/
theorem word_load {s : Shape} {M : Memref sig .tc .smem s .i32} {r : Rect s} {h1 : r.shape.numel = 1} {hp} {f : Buf (Elt F) (M.view.loc (c : Thread nD τ))} {w : BitVec 32}
    (hv : M.view.read (Elt F) f (r.emb (Shape.Idx.first (h1.symm ▸ Nat.one_pos))) = w)
    {k : Elt F .i32 → Prog (TpuEff nD τ sig (Elt F) Λ₀ .tc) α} {Q : α → sProp 𝕄} :
    (M.view.loc (c : Thread nD τ) ↦[M.view.set]{fullShare} f : sProp 𝕄) ⊢ iprop(((M.view.loc (c : Thread nD τ) ↦[M.view.set]{fullShare} f)
        -∗ wp frame (wpE (defs₀ (F := F)) Variants.none c none) Set.univ (k w) Q)
      -∗ wp frame (wpE (defs₀ (F := F)) Variants.none c none) Set.univ (smemLoad M r h1 hp >>= k) Q) := by
  subst hv
  unfold smemLoad
  exact wp_smemLoadElt (m := M) (r := r) (q := fullShare) (f := f) (k := k) (hw := View.loads_smem_one hp h1) Variants.none (c : Thread nD τ) none Set.univ (View.set_slice_subset M.view r)

/-- The word at place `n` of the tile table. -/
theorem tab_word {off : Fin 1 → ℕ} {h : ∀ a, off a + S1.size a ≤ S704.size a} {n : ℕ} (hn : n < 704) (e : off = ![n]) (x) :
    S704.rowMajor ((Rect.unit (s := S704) off S1.size h).emb x) = ⟨n, hn⟩ := by
  subst e
  apply Fin.ext
  rw [Shape.rowMajor_val_one]
  have : (x 0).val = 0 := by have := (x 0).isLt; change (x 0).val < 1 at this; omega
  show n + 1 * (x 0).val = n
  omega

/-- The word at place `n` of the table of started items. -/
theorem hi_word {off : Fin 1 → ℕ} {h : ∀ a, off a + S1.size a ≤ S45.size a} {n : ℕ} (hn : n < 45) (e : off = ![n]) (x) :
    S45.rowMajor ((Rect.unit (s := S45) off S1.size h).emb x) = ⟨n, hn⟩ := by
  subst e
  apply Fin.ext
  rw [Shape.rowMajor_val_one]
  have : (x 0).val = 0 := by have := (x 0).isLt; change (x 0).val < 1 at this; omega
  show n + 1 * (x 0).val = n
  omega

/-- Reading one word of the tile table. -/
theorem tab_load {M : Memref sig .tc .smem S704 .i32} {off : Fin 1 → ℕ} {h h1 hp} {n : ℕ} (hn : n < 704) (e : off = ![n])
    {w : BitVec 32} (hw : lit0 ⟨n, hn⟩ = w) {k : Elt F .i32 → Prog (TpuEff nD τ sig (Elt F) Λ₀ .tc) α} {Q : α → sProp 𝕄} :
    Tab (F := F) c M ⊢ iprop((Tab (F := F) c M -∗ wp frame (wpE (defs₀ (F := F)) Variants.none c none) Set.univ (k w) Q)
      -∗ wp frame (wpE (defs₀ (F := F)) Variants.none c none) Set.univ (smemLoad M (Rect.unit (s := S704) off S1.size h) h1 hp >>= k) Q) := by
  unfold Tab
  iintro ⟨%f, HT, %hT⟩ Hk
  iapply (word_load (M := M) (w := w) c ((congrFun hT _).trans ((congrArg lit0 (tab_word hn e _)).trans hw))) $$ HT
  iintro HT
  iapply Hk
  iexists f
  isplitl [HT]; · iexact HT
  ipureintro; exact hT

/-- Reading one word of the table of started items. -/
theorem hi_load {M : Memref sig .tc .smem S45 .i32} {off : Fin 1 → ℕ} {h h1 hp} {n : ℕ} (hn : n < 45) (e : off = ![n])
    {k : Elt F .i32 → Prog (TpuEff nD τ sig (Elt F) Λ₀ .tc) α} {Q : α → sProp 𝕄} :
    HiTab (F := F) c M ⊢ iprop((HiTab (F := F) c M -∗ wp frame (wpE (defs₀ (F := F)) Variants.none c none) Set.univ (k (wHi n)) Q)
      -∗ wp frame (wpE (defs₀ (F := F)) Variants.none c none) Set.univ (smemLoad M (Rect.unit (s := S45) off S1.size h) h1 hp >>= k) Q) := by
  unfold HiTab
  iintro ⟨%f, HT, %hT⟩ Hk
  iapply (word_load (M := M) (w := wHi n) c ((congrFun hT _).trans ((congrArg lit1 (hi_word hn e _)).trans (lit_hi ⟨n, hn⟩)))) $$ HT
  iintro HT
  iapply Hk
  iexists f
  isplitl [HT]; · iexact HT
  ipureintro; exact hT

/-- A finished program. -/
theorem finish {a : α} {Q : α → sProp 𝕄} : Q a ⊢ wp frame (wpE (defs₀ (F := F)) Variants.none c none) Set.univ (Prog.ret a) Q :=
  exec_ret Variants.none (c : Thread nD τ) none Set.univ a (BI.BIBase.Entails.rfl)

/-- The branch taken. -/
theorem take_then {P : Prop} [Decidable P] (h : P) {p : P → Prog (TpuEff nD τ sig (Elt F) Λ₀ .tc) α} {q : ¬ P → Prog (TpuEff nD τ sig (Elt F) Λ₀ .tc) α}
    {Q : α → sProp 𝕄} : wp frame (wpE (defs₀ (F := F)) Variants.none c none) Set.univ (p h) Q
      ⊢ wp frame (wpE (defs₀ (F := F)) Variants.none c none) Set.univ (dite P p q) Q := by
  rw [dif_pos h]

/-- The branch not taken. -/
theorem take_else {P : Prop} [Decidable P] (h : ¬ P) {p : P → Prog (TpuEff nD τ sig (Elt F) Λ₀ .tc) α} {q : ¬ P → Prog (TpuEff nD τ sig (Elt F) Λ₀ .tc) α}
    {Q : α → sProp 𝕄} : wp frame (wpE (defs₀ (F := F)) Variants.none c none) Set.univ (q h) Q
      ⊢ wp frame (wpE (defs₀ (F := F)) Variants.none c none) Set.univ (dite P p q) Q := by
  rw [dif_neg h]

/-- The three kinds of item. -/
theorem kinds (i : ℕ) : (i % 2 = 0 ∧ i < 112) ∨ (i % 2 = 0 ∧ ¬ i < 112) ∨ i % 2 = 1 := by omega

theorem hiOf_le (s : ℕ) : hiOf s ≤ 176 := Nat.min_le_left _ _
theorem le_hiOf {s : ℕ} (h : s < 44) : 4 * s + 4 ≤ hiOf s := by unfold hiOf; split_ifs <;> omega
theorem hiOf_near (s : ℕ) : hiOf s ≤ 4 * s + 22 := by unfold hiOf; split_ifs <;> omega
theorem hiOf_mono (s : ℕ) : hiOf s ≤ hiOf (s + 1) := by unfold hiOf; split_ifs <;> omega

/-- One trip of the first loop starts the next item. -/

theorem t1_trip (arg0 : Memref sig .tc .smem S704 .i32) (harg0 : arg0.IsWhole) (arg1 : Memref sig .tc .smem S45 .i32) (harg1 : arg1.IsWhole) (arg2 : Memref sig .tc .vmem S1x14336 .f32) (harg2 : arg2.IsWhole) (arg3 : Memref sig .tc .vmem S128x8192 .fp8e4m3) (harg3 : arg3.IsWhole) (arg4 : Memref sig .tc .vmem S128x128 .f32) (harg4 : arg4.IsWhole) (arg5 : Memref sig .tc .vmem S3x128x2176 .bf16) (harg5 : arg5.IsWhole) (arg6 : Memref sig .tc .vmem S1x8192 .f32) (harg6 : arg6.IsWhole) (arg7 : Memref sig .tc .vmem S120x8192 .f32) (harg7 : arg7.IsWhole)
    (arg11 : Memref sig .tc .vmem S120x7168 .f32) (harg11 : arg11.IsWhole) (arg13 : Memref sig .tc .vmem S1x120 .f32) (harg13 : arg13.IsWhole) (hw1 : k0_chk1 (wHi 0)) (t : Fin (k0_t1_loop (wHi 0)).trips) :
    iprop(Ring c Vw Vd Vp 0 0 t.val ∗ Tab (F := F) c arg0) ⊢ wp frame (wpE (defs₀ (F := F)) Variants.none c none) Set.univ
      (k0_t1_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 (wHi 0) hw1 t ())
      (fun _ => iprop(Ring c Vw Vd Vp 0 0 (t.val + 1) ∗ Tab (F := F) c arg0)) := by
  have ht : t.val < 176 := lt_of_lt_of_le t.isLt (by rw [t1_trips]; omega)
  have ht' : t.val < 20 := lt_of_lt_of_le t.isLt (by rw [t1_trips])
  unfold k0_t1_body
  iintro ⟨HR, HT⟩
  iapply (tab_load c (h1 := numel1_S1) (hp := rfl) (off := k0_off1 (wHi 0) t 0#32) (n := 4 * t.val) (by omega) (off1_eq t 0) (lit_kind ⟨t, ht⟩)) $$ HT
  iintro HT
  iapply (wp_assume Variants.none (c : Thread nD τ) none Set.univ (chk5 t))
  iapply (tab_load c (h1 := numel1_S1) (hp := rfl) (off := k0_off1 (wHi 0) t 1#32) (n := 4 * t.val + 1) (by omega) (off1_eq t 1) (lit_row ⟨t, ht⟩)) $$ HT
  iintro HT
  iapply (wp_assume Variants.none (c : Thread nD τ) none Set.univ (chk3 ⟨t, ht⟩))
  iapply (tab_load c (h1 := numel1_S1) (hp := rfl) (off := k0_off1 (wHi 0) t 2#32) (n := 4 * t.val + 2) (by omega) (off1_eq t 2) (lit_col ⟨t, ht⟩)) $$ HT
  iintro HT
  iapply (wp_assume Variants.none (c : Thread nD τ) none Set.univ (chk4 ⟨t, ht⟩))
  iapply (tab_load c (h1 := numel1_S1) (hp := rfl) (off := k0_off1 (wHi 0) t 3#32) (n := 4 * t.val + 3) (by omega) (off1_eq t 3) (lit_off ⟨t, ht⟩)) $$ HT
  iintro HT
  iapply (wp_assume Variants.none (c : Thread nD τ) none Set.univ (chk2 ⟨t, ht⟩))
  rcases kinds (t.val) with hp | hp | hp
  · iapply (take_else c (cond1_gu ⟨t.val, ht⟩ hp))
    iapply (take_then c (cond2_gu ⟨t.val, ht⟩ hp))
    iapply (ring_start_gu c Vw Vd Vp (by omega) (by omega) ht (by omega) (far_step (s := 0) (by omega) (by omega) (by show t.val + 1 ≤ 20; omega)) hp (off7_gu ⟨t.val, ht⟩ hp) (off6_gu ⟨t.val, ht⟩ hp) (off5_eq t)) $$ HR
    iintro HR
    iapply (take_else c (cond3_gu ⟨t.val, ht⟩ hp))
    iapply (finish c)
    isplitl [HR]; · iexact HR
    iexact HT
  · iapply (take_else c (cond1_down ⟨t.val, ht⟩ hp))
    iapply (take_else c (cond2_down ⟨t.val, ht⟩ hp))
    iapply (take_then c (cond3_down ⟨t.val, ht⟩ hp))
    iapply (ring_start_down c Vw Vd Vp (by omega) (by omega) ht (by omega) (far_step (s := 0) (by omega) (by omega) (by show t.val + 1 ≤ 20; omega)) hp (off10_down ⟨t.val, ht⟩ hp) (off9_down ⟨t.val, ht⟩ hp) (off8_eq t)) $$ HR
    iintro HR
    iapply (finish c)
    isplitl [HR]; · iexact HR
    iexact HT
  · iapply (take_then c (cond1_odd ⟨t.val, ht⟩ hp))
    iapply (ring_start_pool c Vw Vd Vp (by omega) (by omega) ht (by omega) (far_step (s := 0) (by omega) (by omega) (by show t.val + 1 ≤ 20; omega)) hp (off4_odd ⟨t.val, ht⟩ hp) (off3_odd ⟨t.val, ht⟩ hp) (off2_eq t)) $$ HR
    iintro HR
    iapply (take_else c (cond2_odd ⟨t.val, ht⟩ hp))
    iapply (take_else c (cond3_odd ⟨t.val, ht⟩ hp))
    iapply (finish c)
    isplitl [HR]; · iexact HR
    iexact HT

/-- One trip of the loop at the end of step `s` starts the next item. -/
theorem t4_trip (s : Fin 28)
    (arg0 : Memref sig .tc .smem S704 .i32) (harg0 : arg0.IsWhole) (arg1 : Memref sig .tc .smem S45 .i32) (harg1 : arg1.IsWhole) (arg2 : Memref sig .tc .vmem S1x14336 .f32) (harg2 : arg2.IsWhole) (arg3 : Memref sig .tc .vmem S128x8192 .fp8e4m3) (harg3 : arg3.IsWhole) (arg4 : Memref sig .tc .vmem S128x128 .f32) (harg4 : arg4.IsWhole) (arg5 : Memref sig .tc .vmem S3x128x2176 .bf16) (harg5 : arg5.IsWhole) (arg6 : Memref sig .tc .vmem S1x8192 .f32) (harg6 : arg6.IsWhole) (arg7 : Memref sig .tc .vmem S120x8192 .f32) (harg7 : arg7.IsWhole)
    (arg11 : Memref sig .tc .vmem S120x7168 .f32) (harg11 : arg11.IsWhole) (arg13 : Memref sig .tc .vmem S1x120 .f32) (harg13 : arg13.IsWhole)
    (hw18 : k0_chk18 (wHi s) (wHi (s + 1))) (t : Fin (k0_t4_loop (wHi s) (wHi (s + 1))).trips) :
    iprop(Ring c Vw Vd Vp (4 * s.val + 4) (4 * s.val + 4) (hiOf s + t.val) ∗ Tab (F := F) c arg0) ⊢ wp frame (wpE (defs₀ (F := F)) Variants.none c none) Set.univ
      (k0_t4_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 (wHi s) (wHi (s + 1)) hw18 t ())
      (fun _ => iprop(Ring c Vw Vd Vp (4 * s.val + 4) (4 * s.val + 4) (hiOf s + (t.val + 1)) ∗ Tab (F := F) c arg0)) := by
  have htt : t.val < hiOf (s + 1) - hiOf s := lt_of_lt_of_eq t.isLt (t4_trips s)
  have hs := s.isLt
  have ht : hiOf s + t.val < 176 := by have := hiOf_le (s + 1); omega
  have hb : 4 * s.val + 4 ≤ hiOf s + t.val := by have := le_hiOf (s := s.val) (by omega); omega
  have hw : hiOf s + t.val < 4 * s.val + 4 + 64 := by have := hiOf_near (s + 1); omega
  have hF : Far (4 * s.val + 4) (hiOf s + t.val + 1) := far_step (s := s.val + 1) (by omega) (by omega) (by omega)
  unfold k0_t4_body
  iintro ⟨HR, HT⟩
  iapply (tab_load c (h1 := numel1_S1) (hp := rfl) (off := k0_off46 (wHi s) (wHi (s + 1)) t 0#32) (n := 4 * (hiOf s.val + t.val)) (by omega) (off46_eq s t 0) (lit_kind ⟨hiOf s.val + t.val, ht⟩)) $$ HT
  iintro HT
  iapply (wp_assume Variants.none (c : Thread nD τ) none Set.univ (chk22 s t))
  iapply (tab_load c (h1 := numel1_S1) (hp := rfl) (off := k0_off46 (wHi s) (wHi (s + 1)) t 1#32) (n := 4 * (hiOf s.val + t.val) + 1) (by omega) (off46_eq s t 1) (lit_row ⟨hiOf s.val + t.val, ht⟩)) $$ HT
  iintro HT
  iapply (wp_assume Variants.none (c : Thread nD τ) none Set.univ (chk20 ⟨hiOf s.val + t.val, ht⟩))
  iapply (tab_load c (h1 := numel1_S1) (hp := rfl) (off := k0_off46 (wHi s) (wHi (s + 1)) t 2#32) (n := 4 * (hiOf s.val + t.val) + 2) (by omega) (off46_eq s t 2) (lit_col ⟨hiOf s.val + t.val, ht⟩)) $$ HT
  iintro HT
  iapply (wp_assume Variants.none (c : Thread nD τ) none Set.univ (chk21 ⟨hiOf s.val + t.val, ht⟩))
  iapply (tab_load c (h1 := numel1_S1) (hp := rfl) (off := k0_off46 (wHi s) (wHi (s + 1)) t 3#32) (n := 4 * (hiOf s.val + t.val) + 3) (by omega) (off46_eq s t 3) (lit_off ⟨hiOf s.val + t.val, ht⟩)) $$ HT
  iintro HT
  iapply (wp_assume Variants.none (c : Thread nD τ) none Set.univ (chk19 ⟨hiOf s.val + t.val, ht⟩))
  rcases kinds (hiOf s.val + t.val) with hp | hp | hp
  · iapply (take_else c (cond7_gu ⟨hiOf s.val + t.val, ht⟩ hp))
    iapply (take_then c (cond8_gu ⟨hiOf s.val + t.val, ht⟩ hp))
    iapply (ring_start_gu c Vw Vd Vp le_rfl hb ht hw hF hp (off52_gu ⟨hiOf s.val + t.val, ht⟩ hp) (off51_gu ⟨hiOf s.val + t.val, ht⟩ hp) (off50_eq s t)) $$ HR
    iintro HR
    iapply (take_else c (cond9_gu ⟨hiOf s.val + t.val, ht⟩ hp))
    iapply (finish c)
    isplitl [HR]; · iexact HR
    iexact HT
  · iapply (take_else c (cond7_down ⟨hiOf s.val + t.val, ht⟩ hp))
    iapply (take_else c (cond8_down ⟨hiOf s.val + t.val, ht⟩ hp))
    iapply (take_then c (cond9_down ⟨hiOf s.val + t.val, ht⟩ hp))
    iapply (ring_start_down c Vw Vd Vp le_rfl hb ht hw hF hp (off55_down ⟨hiOf s.val + t.val, ht⟩ hp) (off54_down ⟨hiOf s.val + t.val, ht⟩ hp) (off53_eq s t)) $$ HR
    iintro HR
    iapply (finish c)
    isplitl [HR]; · iexact HR
    iexact HT
  · iapply (take_then c (cond7_odd ⟨hiOf s.val + t.val, ht⟩ hp))
    iapply (ring_start_pool c Vw Vd Vp le_rfl hb ht hw hF hp (off49_odd ⟨hiOf s.val + t.val, ht⟩ hp) (off48_odd ⟨hiOf s.val + t.val, ht⟩ hp) (off47_eq s t)) $$ HR
    iintro HR
    iapply (take_else c (cond8_odd ⟨hiOf s.val + t.val, ht⟩ hp))
    iapply (take_else c (cond9_odd ⟨hiOf s.val + t.val, ht⟩ hp))
    iapply (finish c)
    isplitl [HR]; · iexact HR
    iexact HT

/-- One trip of the loop at the end of step `s` of the down projection starts the next item. -/
theorem t15_trip (s : Fin 16) (u : Fin k0_t14_loop.trips)
    (w1 w2 w3 : BitVec 32) (f1 f2 : FVec F S128x512 .f32) (f3 : FVec F S120x512 .f32) (f4 : Vec F S1x120x512 .f32)
    (arg0 : Memref sig .tc .smem S704 .i32) (harg0 : arg0.IsWhole) (arg1 : Memref sig .tc .smem S45 .i32) (harg1 : arg1.IsWhole) (arg2 : Memref sig .tc .vmem S1x14336 .f32) (harg2 : arg2.IsWhole) (arg3 : Memref sig .tc .vmem S128x8192 .fp8e4m3) (harg3 : arg3.IsWhole) (arg4 : Memref sig .tc .vmem S128x128 .f32) (harg4 : arg4.IsWhole) (arg5 : Memref sig .tc .vmem S3x128x2176 .bf16) (harg5 : arg5.IsWhole) (arg6 : Memref sig .tc .vmem S1x8192 .f32) (harg6 : arg6.IsWhole) (arg7 : Memref sig .tc .vmem S120x8192 .f32) (harg7 : arg7.IsWhole)
    (arg11 : Memref sig .tc .vmem S120x7168 .f32) (harg11 : arg11.IsWhole) (arg13 : Memref sig .tc .vmem S1x120 .f32) (harg13 : arg13.IsWhole)
    (hw35 : k0_chk35 (wHi (28 + s)) (wHi (29 + s))) (t : Fin (k0_t15_loop (wHi (28 + s)) (wHi (29 + s))).trips) :
    iprop(Ring c Vw Vd Vp (4 * (29 + s.val)) (4 * (29 + s.val)) (hiOf (28 + s.val) + t.val) ∗ Tab (F := F) c arg0) ⊢ wp frame (wpE (defs₀ (F := F)) Variants.none c none) Set.univ
      (k0_t15_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 u w1 w2 w3 f1 f2 f3 f4 (wHi (28 + s)) (wHi (29 + s)) hw35 t ())
      (fun _ => iprop(Ring c Vw Vd Vp (4 * (29 + s.val)) (4 * (29 + s.val)) (hiOf (28 + s.val) + (t.val + 1)) ∗ Tab (F := F) c arg0)) := by
  have htt : t.val < hiOf (29 + s) - hiOf (28 + s) := lt_of_lt_of_eq t.isLt (t15_trips s)
  have hs := s.isLt
  have ht : hiOf (28 + s.val) + t.val < 176 := by have := hiOf_le (29 + s); omega
  have hb : 4 * (29 + s.val) ≤ hiOf (28 + s.val) + t.val := by have := le_hiOf (s := 28 + s.val) (by omega); omega
  have hw : hiOf (28 + s.val) + t.val < 4 * (29 + s.val) + 64 := by have := hiOf_near (29 + s); omega
  have hF : Far (4 * (29 + s.val)) (hiOf (28 + s.val) + t.val + 1) := far_step (s := 29 + s.val) (by omega) (by omega) (by omega)
  unfold k0_t15_body
  iintro ⟨HR, HT⟩
  iapply (tab_load c (h1 := numel1_S1) (hp := rfl) (off := k0_off119 (wHi (28 + s)) (wHi (29 + s)) t 0#32) (n := 4 * (hiOf (28 + s.val) + t.val)) (by omega) (off119_eq s t 0) (lit_kind ⟨hiOf (28 + s.val) + t.val, ht⟩)) $$ HT
  iintro HT
  iapply (wp_assume Variants.none (c : Thread nD τ) none Set.univ (chk39 s t))
  iapply (tab_load c (h1 := numel1_S1) (hp := rfl) (off := k0_off119 (wHi (28 + s)) (wHi (29 + s)) t 1#32) (n := 4 * (hiOf (28 + s.val) + t.val) + 1) (by omega) (off119_eq s t 1) (lit_row ⟨hiOf (28 + s.val) + t.val, ht⟩)) $$ HT
  iintro HT
  iapply (wp_assume Variants.none (c : Thread nD τ) none Set.univ (chk37 ⟨hiOf (28 + s.val) + t.val, ht⟩))
  iapply (tab_load c (h1 := numel1_S1) (hp := rfl) (off := k0_off119 (wHi (28 + s)) (wHi (29 + s)) t 2#32) (n := 4 * (hiOf (28 + s.val) + t.val) + 2) (by omega) (off119_eq s t 2) (lit_col ⟨hiOf (28 + s.val) + t.val, ht⟩)) $$ HT
  iintro HT
  iapply (wp_assume Variants.none (c : Thread nD τ) none Set.univ (chk38 ⟨hiOf (28 + s.val) + t.val, ht⟩))
  iapply (tab_load c (h1 := numel1_S1) (hp := rfl) (off := k0_off119 (wHi (28 + s)) (wHi (29 + s)) t 3#32) (n := 4 * (hiOf (28 + s.val) + t.val) + 3) (by omega) (off119_eq s t 3) (lit_off ⟨hiOf (28 + s.val) + t.val, ht⟩)) $$ HT
  iintro HT
  iapply (wp_assume Variants.none (c : Thread nD τ) none Set.univ (chk36 ⟨hiOf (28 + s.val) + t.val, ht⟩))
  rcases kinds (hiOf (28 + s.val) + t.val) with hp | hp | hp
  · iapply (take_else c (cond14_gu ⟨hiOf (28 + s.val) + t.val, ht⟩ hp))
    iapply (take_then c (cond15_gu ⟨hiOf (28 + s.val) + t.val, ht⟩ hp))
    iapply (ring_start_gu c Vw Vd Vp le_rfl hb ht hw hF hp (off125_gu ⟨hiOf (28 + s.val) + t.val, ht⟩ hp) (off124_gu ⟨hiOf (28 + s.val) + t.val, ht⟩ hp) (off123_eq s t)) $$ HR
    iintro HR
    iapply (take_else c (cond16_gu ⟨hiOf (28 + s.val) + t.val, ht⟩ hp))
    iapply (finish c)
    isplitl [HR]; · iexact HR
    iexact HT
  · iapply (take_else c (cond14_down ⟨hiOf (28 + s.val) + t.val, ht⟩ hp))
    iapply (take_else c (cond15_down ⟨hiOf (28 + s.val) + t.val, ht⟩ hp))
    iapply (take_then c (cond16_down ⟨hiOf (28 + s.val) + t.val, ht⟩ hp))
    iapply (ring_start_down c Vw Vd Vp le_rfl hb ht hw hF hp (off128_down ⟨hiOf (28 + s.val) + t.val, ht⟩ hp) (off127_down ⟨hiOf (28 + s.val) + t.val, ht⟩ hp) (off126_eq s t)) $$ HR
    iintro HR
    iapply (finish c)
    isplitl [HR]; · iexact HR
    iexact HT
  · iapply (take_then c (cond14_odd ⟨hiOf (28 + s.val) + t.val, ht⟩ hp))
    iapply (ring_start_pool c Vw Vd Vp le_rfl hb ht hw hF hp (off122_odd ⟨hiOf (28 + s.val) + t.val, ht⟩ hp) (off121_odd ⟨hiOf (28 + s.val) + t.val, ht⟩ hp) (off120_eq s t)) $$ HR
    iintro HR
    iapply (take_else c (cond15_odd ⟨hiOf (28 + s.val) + t.val, ht⟩ hp))
    iapply (take_else c (cond16_odd ⟨hiOf (28 + s.val) + t.val, ht⟩ hp))
    iapply (finish c)
    isplitl [HR]; · iexact HR
    iexact HT

end Cert.KernelIdeal.Hand

end
-- ==== Proof.Loads.lean ====
/-
  Hand-written, untrusted. The loads and the store of one step of the kernel: of a staged argument, of a landed tile, of
  the result; and the loop rule.
-/
module

public import proofs.«01_k».proof.Proof.Start

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable {α : Type}

/-- A load from a staged argument reads its contents at the load's place. -/
theorem own_load {s : Shape} {e : EltTy} {M : Memref sig .tc .vmem s e} {q : PosShare TreeShare} {X : s.Idx → Elt F e} {r : Rect s}
    {hl : M.view.LoadsAt r} {k : (r.shape.Idx → Elt F e) → Prog (TpuEff nD τ sig (Elt F) Λ₀ .tc) α} {Q : α → sProp 𝕄} :
    (owns (c : Thread nD τ) M q X : sProp 𝕄) ⊢ iprop((owns (c : Thread nD τ) M q X
        -∗ wp frame (wpE (defs₀ (F := F)) Variants.none c none) Set.univ (k (fun x => X (r.emb x))) Q)
      -∗ wp frame (wpE (defs₀ (F := F)) Variants.none c none) Set.univ (.op (.load M r.toLoadRect hl) k) Q) := by
  unfold owns
  iintro ⟨%f, %hf, H⟩ Hk
  subst hf
  iapply (wp_load_rect Variants.none (c : Thread nD τ) none Set.univ (View.set_slice_subset M.view r)) $$ H
  iintro H
  iapply Hk
  iexists f
  isplitr; · ipureintro; rfl
  iexact H

variable (Vw : Buf (Elt F) (wguM.view.loc (c : Thread nD τ))) (Vd : Buf (Elt F) (wdM.view.loc (c : Thread nD τ))) (Vp : Buf (Elt F) (poolM.view.loc (c : Thread nD τ)))

/-- A load of a landed weight tile reads the tile. -/
theorem land_load_gu {i : ℕ} {o : Fin 2 → ℕ} {h : ∀ a, o a + S8192x256.size a ≤ S106496x256.size a} (e : o = ![baseOf i, 0])
    {hl : arenaM.view.LoadsAt (Rect.unit (s := S106496x256) o S8192x256.size h)}
    {k : (S8192x256.Idx → Elt F .fp8e4m3) → Prog (TpuEff nD τ sig (Elt F) Λ₀ .tc) α} {Q : α → sProp 𝕄} :
    LandG c Vw i ⊢ iprop((LandG c Vw i
        -∗ wp frame (wpE (defs₀ (F := F)) Variants.none c none) Set.univ (k ((srcG i).view.read (Elt F) Vw)) Q)
      -∗ wp frame (wpE (defs₀ (F := F)) Variants.none c none) Set.univ
        (.op (.load arenaM (Rect.unit (s := S106496x256) o S8192x256.size h).toLoadRect hl) k) Q) := by
  subst e
  unfold LandG
  iintro ⟨%f, H, %hf⟩ Hk
  rw [← hf]
  iapply (wp_load_rect (m := arenaM) (r := Rect.unit (s := S106496x256) ![baseOf i, 0] S8192x256.size h) (S := (dstG i).view.set) (f := f) (k := k)
    Variants.none (c : Thread nD τ) none Set.univ (Finset.Subset.refl _)) $$ H
  iintro H
  iapply Hk
  iexists f
  isplitl [H]; · iexact H
  ipureintro; rfl

/-- A load of a landed tile of the down weights reads the tile. -/
theorem land_load_down {i : ℕ} {o : Fin 2 → ℕ} {h : ∀ a, o a + S7168x256.size a ≤ S106496x256.size a} (e : o = ![baseOf i, 0])
    {hl : arenaM.view.LoadsAt (Rect.unit (s := S106496x256) o S7168x256.size h)}
    {k : (S7168x256.Idx → Elt F .fp8e4m3) → Prog (TpuEff nD τ sig (Elt F) Λ₀ .tc) α} {Q : α → sProp 𝕄} :
    LandD c Vd i ⊢ iprop((LandD c Vd i
        -∗ wp frame (wpE (defs₀ (F := F)) Variants.none c none) Set.univ (k ((srcD i).view.read (Elt F) Vd)) Q)
      -∗ wp frame (wpE (defs₀ (F := F)) Variants.none c none) Set.univ
        (.op (.load arenaM (Rect.unit (s := S106496x256) o S7168x256.size h).toLoadRect hl) k) Q) := by
  subst e
  unfold LandD
  iintro ⟨%f, H, %hf⟩ Hk
  rw [← hf]
  iapply (wp_load_rect (m := arenaM) (r := Rect.unit (s := S106496x256) ![baseOf i, 0] S7168x256.size h) (S := (dstD i).view.set) (f := f) (k := k)
    Variants.none (c : Thread nD τ) none Set.univ (Finset.Subset.refl _)) $$ H
  iintro H
  iapply Hk
  iexists f
  isplitl [H]; · iexact H
  ipureintro; rfl

/-- A load of a landed pool tile reads the tile. -/
theorem land_load_pool {i : ℕ} {o : Fin 2 → ℕ} {h : ∀ a, o a + S2176x256.size a ≤ S106496x256.size a} (e : o = ![baseOf i + gapOf i, 0])
    {hl : arena8M.view.LoadsAt (Rect.unit (s := S106496x256) o S2176x256.size h)}
    {k : (S2176x256.Idx → Elt F .i8) → Prog (TpuEff nD τ sig (Elt F) Λ₀ .tc) α} {Q : α → sProp 𝕄} :
    LandP c Vp i ⊢ iprop((LandP c Vp i
        -∗ wp frame (wpE (defs₀ (F := F)) Variants.none c none) Set.univ (k ((srcP i).view.read (Elt F) Vp)) Q)
      -∗ wp frame (wpE (defs₀ (F := F)) Variants.none c none) Set.univ
        (.op (.load arena8M (Rect.unit (s := S106496x256) o S2176x256.size h).toLoadRect hl) k) Q) := by
  subst e
  unfold LandP
  iintro ⟨%f, H, %hf⟩ Hk
  rw [← hf]
  iapply (wp_load_rect (m := arena8M) (r := Rect.unit (s := S106496x256) ![baseOf i + gapOf i, 0] S2176x256.size h) (S := (dstP i).view.set) (f := f) (k := k)
    Variants.none (c : Thread nD τ) none Set.univ (Finset.Subset.refl _)) $$ H
  iintro H
  iapply Hk
  iexists f
  isplitl [H]; · iexact H
  ipureintro; rfl

/-- After a store, a read at the stored place. -/
theorem read_slice_hit {s : Shape} {e : EltTy} (M : Memref sig .tc .vmem s e) (r : Rect s) (f : Buf (Elt F) (M.view.loc (c : Thread nD τ)))
    (w : r.shape.Idx → Elt F e) (x : r.shape.Idx) : M.view.read (Elt F) ((M.access r).write (Elt F) f w Finset.univ) (r.emb x) = w x :=
  View.read_write_of_mem (v := M.access r) f w (Finset.mem_univ x)

/-- After a store, a read elsewhere. -/
theorem read_slice_miss {s : Shape} {e : EltTy} (M : Memref sig .tc .vmem s e) (r : Rect s) (f : Buf (Elt F) (M.view.loc (c : Thread nD τ)))
    (w : r.shape.Idx → Elt F e) {y : s.Idx} (hy : y ∉ r.set) :
    M.view.read (Elt F) ((M.access r).write (Elt F) f w Finset.univ) y = M.view.read (Elt F) f y := by
  rw [View.read_apply, View.read_apply]
  congr 1
  refine View.write_of_not_mem _ _ _ ?_
  intro hmem
  obtain ⟨x, -, hx⟩ := Finset.mem_map.mp hmem
  have hx' : r.emb x = y := M.view.emb.injective hx
  exact hy (by rw [← hx', ← Rect.map_emb_univ]; exact Finset.mem_map_of_mem _ (Finset.mem_univ _))

/-- The result's buffer, whose first `n` columns hold those of `G`. -/
def Done (M : Memref sig .tc .vmem S120x7168 .f32) (G : S120x7168.Idx → Elt F .f32) (n : ℕ) : sProp 𝕄 :=
  iprop(∃ f, (M.view.loc (c : Thread nD τ) ↦[M.view.set]{fullShare} f) ∗ ⌜∀ y, (y 1).val < n → M.view.read (Elt F) f y = G y⌝)

/-- Storing the next 256 columns. -/
theorem done_store {M : Memref sig .tc .vmem S120x7168 .f32} {G : S120x7168.Idx → Elt F .f32} {n : ℕ} {o : Fin 2 → ℕ}
    {h : ∀ a, o a + S120x256.size a ≤ S120x7168.size a} (e : o = ![0, n]) {w : S120x256.Idx → Elt F .f32}
    (hw : ∀ x, G ((Rect.unit (s := S120x7168) o S120x256.size h).emb x) = w x) {hx hm}
    {k : PUnit → Prog (TpuEff nD τ sig (Elt F) Λ₀ .tc) α} {Q : α → sProp 𝕄} :
    Done (F := F) c M G n ⊢ iprop((Done (F := F) c M G (n + 256)
        -∗ wp frame (wpE (defs₀ (F := F)) Variants.none c none) Set.univ (k ⟨⟩) Q)
      -∗ wp frame (wpE (defs₀ (F := F)) Variants.none c none) Set.univ
        (.op (.store M (Rect.unit (s := S120x7168) o S120x256.size h) w Finset.univ hx hm) k) Q) := by
  subst e
  unfold Done
  iintro ⟨%f, H, %hf⟩ Hk
  iapply (wp_store (m := M) (r := Rect.unit (s := S120x7168) ![0, n] S120x256.size h) (w := w) (Mk := Finset.univ) (S := M.view.set) (f := f) (k := k)
    Variants.none (c : Thread nD τ) none Set.univ (Finset.Subset.trans (Finset.map_subset_map.mpr (Finset.subset_univ _)) (View.set_slice_subset M.view _))) $$ H
  iintro H
  iapply Hk
  iexists _
  isplitl [H]; · iexact H
  ipureintro
  intro y hy
  by_cases hc : n ≤ (y 1).val
  · have hmem : y ∈ (Rect.unit (s := S120x7168) ![0, n] S120x256.size h).set := by
      rw [Rect.mem_set_unit]
      intro a
      fin_cases a
      · have := (y 0).isLt
        exact ⟨Nat.zero_le _, by show (y 0).val < 0 + 120; change (y 0).val < 120 at this; omega⟩
      · exact ⟨hc, hy⟩
    rw [← Rect.map_emb_univ] at hmem
    obtain ⟨x, -, rfl⟩ := Finset.mem_map.mp hmem
    rw [hw x]
    exact read_slice_hit c M (Rect.unit (s := S120x7168) ![0, n] S120x256.size h) f w x
  · rw [← hf y (by omega)]
    refine read_slice_miss c M (Rect.unit (s := S120x7168) ![0, n] S120x256.size h) f w (fun hmem => ?_)
    rw [Rect.mem_set_unit] at hmem
    exact hc (hmem 1).1

/-- A load of the result's buffer. -/
theorem done_load {M : Memref sig .tc .vmem S120x7168 .f32} {G : S120x7168.Idx → Elt F .f32} {n : ℕ} {r : Rect S120x7168} {hl : M.view.LoadsAt r}
    {k : (r.shape.Idx → Elt F .f32) → Prog (TpuEff nD τ sig (Elt F) Λ₀ .tc) α} {Q : α → sProp 𝕄} :
    Done (F := F) c M G n ⊢ iprop((∀ v, Done (F := F) c M G n
        -∗ wp frame (wpE (defs₀ (F := F)) Variants.none c none) Set.univ (k v) Q)
      -∗ wp frame (wpE (defs₀ (F := F)) Variants.none c none) Set.univ (.op (.load M r.toLoadRect hl) k) Q) := by
  unfold Done
  iintro ⟨%f, H, %hf⟩ Hk
  iapply (wp_load_rect Variants.none (c : Thread nD τ) none Set.univ (View.set_slice_subset M.view r)) $$ H
  iintro H
  iapply Hk
  iexists f
  isplitl [H]; · iexact H
  ipureintro; exact hf

/-- A loop that carries nothing, at the head of a program, from an invariant of its trips. -/
theorem loop_rule {L : Scf.Loop 32} {ok} {body : Fin L.trips → Unit → Prog (TpuEff nD τ sig (Elt F) Λ₀ .tc) Unit} {n : ℕ} (hn : L.trips = n)
    (I : ℕ → sProp 𝕄)
    (hbody : ∀ t : Fin L.trips, I t.val ⊢ wp frame (wpE (defs₀ (F := F)) Variants.none c none) Set.univ (body t ()) (fun _ => I (t.val + 1)))
    {k : Unit → Prog (TpuEff nD τ sig (Elt F) Λ₀ .tc) α} {Q : α → sProp 𝕄} :
    I 0 ⊢ iprop((I n -∗ wp frame (wpE (defs₀ (F := F)) Variants.none c none) Set.univ (k ()) Q)
      -∗ wp frame (wpE (defs₀ (F := F)) Variants.none c none) Set.univ (Scf.Loop.for L ok () body >>= k) Q) := by
  subst hn
  iintro HI Hk
  iapply (Scf.wp_for_bind frame (wpE (defs₀ (F := F)) Variants.none c none) Set.univ L.lb L.ub L.st ok () body (fun n _ => I n) (fun t _ => hbody t)) $$ HI
  iintro %acc HI
  iapply Hk
  iexact HI

end Cert.KernelIdeal.Hand

end
-- ==== Proof.Step.lean ====
/-
  Hand-written, untrusted. One step of the kernel: it waits for its four tiles, computes 256 columns of the result from
  them, and starts the items that take the places it frees.
-/
module

public import proofs.«01_k».proof.Proof.Loads

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (Vw : Buf (Elt F) (wguM.view.loc (c : Thread nD τ))) (Vd : Buf (Elt F) (wdM.view.loc (c : Thread nD τ))) (Vp : Buf (Elt F) (poolM.view.loc (c : Thread nD τ)))
variable (arg0 : Memref sig .tc .smem S704 .i32) (harg0 : arg0.IsWhole) (arg1 : Memref sig .tc .smem S45 .i32) (harg1 : arg1.IsWhole) (arg2 : Memref sig .tc .vmem S1x14336 .f32) (harg2 : arg2.IsWhole) (arg3 : Memref sig .tc .vmem S128x8192 .fp8e4m3) (harg3 : arg3.IsWhole) (arg4 : Memref sig .tc .vmem S128x128 .f32) (harg4 : arg4.IsWhole) (arg5 : Memref sig .tc .vmem S3x128x2176 .bf16) (harg5 : arg5.IsWhole) (arg6 : Memref sig .tc .vmem S1x8192 .f32) (harg6 : arg6.IsWhole) (arg7 : Memref sig .tc .vmem S120x8192 .f32) (harg7 : arg7.IsWhole)
  (arg11 : Memref sig .tc .vmem S120x7168 .f32) (harg11 : arg11.IsWhole) (arg13 : Memref sig .tc .vmem S1x120 .f32) (harg13 : arg13.IsWhole)

/-- The step number as the kernel computes with it. -/
abbrev ivOf (t : Fin k0_t3_loop.trips) : BitVec 32 := Scf.iv 0#32 1#32 t

theorem t3_lt (t : Fin k0_t3_loop.trips) : t.val < 28 := lt_of_lt_of_eq t.isLt t3_trips

/-- A finished program, whose result is written another way. -/
theorem finish_eq {β : Type} {a b : β} (h : a = b) {Q : β → sProp 𝕄} : Q a ⊢ wp frame (wpE (defs₀ (F := F)) Variants.none c none) Set.univ (Prog.ret b) Q := by
  subst h; exact exec_ret Variants.none (c : Thread nD τ) none Set.univ a (BI.BIBase.Entails.rfl)

/-- The two rows of weight scales of a step, side by side. -/
abbrev scaleOf (X2 : S1x14336.Idx → Elt F .f32) (t : Fin k0_t3_loop.trips) : FVec F S1x512 .f32 :=
  k0_pay1 (fun x : (Rect.unit (s := S1x14336) (k0_off21 t) S1x256.size (k0_off21_inb t)).shape.Idx => X2 ((Rect.unit (s := S1x14336) (k0_off21 t) S1x256.size (k0_off21_inb t)).emb x))
    (fun x : (Rect.unit (s := S1x14336) (k0_off22 t) S1x256.size (k0_off22_inb t)).shape.Idx => X2 ((Rect.unit (s := S1x14336) (k0_off22 t) S1x256.size (k0_off22_inb t)).emb x))

/-- What the first part of a step hands on. -/
abbrev part1Out (X2 : S1x14336.Idx → Elt F .f32) (t : Fin k0_t3_loop.trips) :
    Σ' (arg12 : BitVec 32) (v8 : BitVec 32) (v18 : FVec F S1x512 .f32) (v20 : BitVec 32) (v37 : Elt F .i32) (k0_hw11 : k0_chk11 v37) (v38 : BitVec 32) (v39 : BitVec 32), Elt F .i32 :=
  ⟨ivOf t, Scalar.muli (ivOf t) 256#32, scaleOf X2 t, Scalar.addi 0#32 (Scalar.muli 4#32 (ivOf t)), wOff (4 * t.val),
    chk11 ⟨4 * t.val, by have := t3_lt t; omega⟩ ⟨by show (4 * t.val) % 2 = 0; omega, by have := t3_lt t; show (4 * t.val) < 112; omega⟩, wOff (4 * t.val),
    Scalar.addi (Scalar.addi 0#32 (Scalar.muli 4#32 (ivOf t))) 1#32, wOff (4 * t.val + 1)⟩

/-- The first part of a step: it reads the scales and waits for the first weight tile. -/
theorem part1_run (t : Fin k0_t3_loop.trips) {hi : ℕ} (hhi : hi ≤ 176) (hlo : 4 * t.val + 4 ≤ hi) (hw : hi ≤ 4 * t.val + 22) (hF : Far (4 * t.val) hi)
    {q2 : PosShare TreeShare} {X2 : S1x14336.Idx → Elt F .f32} {Q : _ → sProp 𝕄} :
    iprop(Ring c Vw Vd Vp (4 * t.val) (4 * t.val) hi ∗ Tab (F := F) c arg0 ∗ owns (c : Thread nD τ) arg2 q2 X2 ∗ (∃ W, owes (c : Thread nD τ) 0 W))
      ⊢ iprop((iprop(Ring c Vw Vd Vp (4 * t.val) (4 * t.val + 1) hi ∗ LandG c Vw (4 * t.val) ∗ Tab (F := F) c arg0 ∗ owns (c : Thread nD τ) arg2 q2 X2 ∗ (∃ W, owes (c : Thread nD τ) 0 W))
          -∗ Q (part1Out X2 t))
        -∗ wp frame (wpE (defs₀ (F := F)) Variants.none c none) Set.univ
          (k0_part1 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 0#32 1#32 t) Q) := by
  have ht := t3_lt t
  rw [k0_part1_eq_skeleton]
  unfold k0_part1_skel
  iintro ⟨HR, HT, H2, HW⟩ Hk
  icases HW with ⟨%W, HW⟩
  iapply (own_load c (M := arg2) (r := Rect.unit (s := S1x14336) (k0_off21 t) S1x256.size (k0_off21_inb t))) $$ H2
  iintro H2
  iapply (own_load c (M := arg2) (r := Rect.unit (s := S1x14336) (k0_off22 t) S1x256.size (k0_off22_inb t))) $$ H2
  iintro H2
  iapply (tab_load c (h1 := numel1_S1) (hp := rfl) (n := 4 * (4 * t.val) + 3) (by omega) (off23_eq t) (lit_off ⟨4 * t.val, by omega⟩)) $$ HT
  iintro HT
  iapply (wp_assume Variants.none (c : Thread nD τ) none Set.univ (chk10 ⟨4 * t.val, by omega⟩ ⟨by show (4 * t.val) % 2 = 0; omega, by have := t3_lt t; show (4 * t.val) < 112; omega⟩))
  iapply (ring_wait_gu c Vw Vd Vp (mid := 4 * t.val) (lo := 4 * t.val) (hi := hi) (by omega) hhi (by omega) ⟨by omega, by omega⟩
    (off25_gu ⟨4 * t.val, by omega⟩ ⟨by show (4 * t.val) % 2 = 0; omega, by have := t3_lt t; show (4 * t.val) < 112; omega⟩) (off24_eq t)) $$ [HR HW]
  · isplitl [HR]; · iexact HR
    iexact HW
  iintro ⟨HR, HL, HW⟩
  iapply (tab_load c (h1 := numel1_S1) (hp := rfl) (n := 4 * (4 * t.val) + 3) (by omega) (off26_eq t) (lit_off ⟨4 * t.val, by omega⟩)) $$ HT
  iintro HT
  iapply (wp_assume Variants.none (c : Thread nD τ) none Set.univ (chk11 ⟨4 * t.val, by omega⟩ ⟨by show (4 * t.val) % 2 = 0; omega, by have := t3_lt t; show (4 * t.val) < 112; omega⟩))
  iapply (tab_load c (h1 := numel1_S1) (hp := rfl) (n := 4 * (4 * t.val + 1) + 3) (by omega) (off27_eq t) (lit_off ⟨4 * t.val + 1, by omega⟩)) $$ HT
  iintro HT
  iapply (finish c)
  iapply Hk
  isplitl [HR]; · iexact HR
  isplitl [HL]; · iexact HL
  isplitl [HT]; · iexact HT
  isplitl [H2]; · iexact H2
  iexact HW

/-- What the second part of a step hands on. -/
abbrev part2Out (t : Fin k0_t3_loop.trips) :
    Σ' (v55 : Elt F .i32) (k0_hw13 : k0_chk13 v55) (v56 : BitVec 32) (v73 : Elt F .i32) (k0_hw15 : k0_chk15 v73) (v74 : BitVec 32) (v75 : BitVec 32), Elt F .i32 :=
  ⟨wOff (4 * t.val + 1), chk13 ⟨4 * t.val + 1, by have := t3_lt t; omega⟩ (by show (4 * t.val + 1) % 2 = 1; omega), wOff (4 * t.val + 1), wOff (4 * t.val + 2),
    chk15 ⟨4 * t.val + 2, by have := t3_lt t; omega⟩ ⟨by show (4 * t.val + 2) % 2 = 0; omega, by have := t3_lt t; show (4 * t.val + 2) < 112; omega⟩, wOff (4 * t.val + 2), Scalar.addi (Scalar.addi 0#32 (Scalar.muli 4#32 (ivOf t))) 3#32, wOff (4 * t.val + 3)⟩

/-- The second part of a step: it waits for the first pool tile and the second weight tile. -/
theorem part2_run (t : Fin k0_t3_loop.trips) {hi : ℕ} (hhi : hi ≤ 176) (hlo : 4 * t.val + 4 ≤ hi) (hw : hi ≤ 4 * t.val + 22) (hF : Far (4 * t.val) hi)
    {v39 : BitVec 32} {Q : _ → sProp 𝕄} :
    iprop(Ring c Vw Vd Vp (4 * t.val) (4 * t.val + 1) hi ∗ Tab (F := F) c arg0 ∗ (∃ W, owes (c : Thread nD τ) 0 W))
      ⊢ iprop((iprop(Ring c Vw Vd Vp (4 * t.val) (4 * t.val + 3) hi ∗ LandP c Vp (4 * t.val + 1) ∗ LandG c Vw (4 * t.val + 2) ∗ Tab (F := F) c arg0 ∗ (∃ W, owes (c : Thread nD τ) 0 W))
          -∗ Q (part2Out (F := F) t))
        -∗ wp frame (wpE (defs₀ (F := F)) Variants.none c none) Set.univ
          (k0_part2 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 t (Scalar.addi 0#32 (Scalar.muli 4#32 (ivOf t))) v39 (wOff (4 * t.val + 1))) Q) := by
  have ht := t3_lt t
  rw [k0_part2_eq_skeleton]
  unfold k0_part2_skel
  iintro ⟨HR, HT, HW⟩ Hk
  icases HW with ⟨%W, HW⟩
  iapply (wp_assume Variants.none (c : Thread nD τ) none Set.univ (chk12 ⟨4 * t.val + 1, by omega⟩ (by show (4 * t.val + 1) % 2 = 1; omega)))
  iapply (ring_wait_pool c Vw Vd Vp (mid := 4 * t.val) (lo := 4 * t.val + 1) (hi := hi) (by omega) hhi (by omega) (by omega)
    (off29_odd ⟨4 * t.val + 1, by have := t3_lt t; omega⟩ (by show (4 * t.val + 1) % 2 = 1; omega)) (off28_eq t)) $$ [HR HW]
  · isplitl [HR]; · iexact HR
    iexact HW
  iintro ⟨HR, HL1, HW⟩
  iapply (tab_load c (h1 := numel1_S1) (hp := rfl) (n := 4 * (4 * t.val + 1) + 3) (by omega) (off30_eq t) (lit_off ⟨4 * t.val + 1, by omega⟩)) $$ HT
  iintro HT
  iapply (wp_assume Variants.none (c : Thread nD τ) none Set.univ (chk13 ⟨4 * t.val + 1, by omega⟩ (by show (4 * t.val + 1) % 2 = 1; omega)))
  iapply (tab_load c (h1 := numel1_S1) (hp := rfl) (n := 4 * (4 * t.val + 2) + 3) (by omega) (off31_eq t) (lit_off ⟨4 * t.val + 2, by omega⟩)) $$ HT
  iintro HT
  iapply (wp_assume Variants.none (c : Thread nD τ) none Set.univ (chk14 ⟨4 * t.val + 2, by omega⟩ ⟨by show (4 * t.val + 2) % 2 = 0; omega, by have := t3_lt t; show (4 * t.val + 2) < 112; omega⟩))
  icases HW with ⟨%W', HW⟩
  iapply (ring_wait_gu c Vw Vd Vp (mid := 4 * t.val) (lo := 4 * t.val + 2) (hi := hi) (by omega) hhi (by omega) ⟨by omega, by omega⟩
    (off33_gu ⟨4 * t.val + 2, by have := t3_lt t; omega⟩ ⟨by show (4 * t.val + 2) % 2 = 0; omega, by have := t3_lt t; show (4 * t.val + 2) < 112; omega⟩) (off32_eq t)) $$ [HR HW]
  · isplitl [HR]; · iexact HR
    iexact HW
  iintro ⟨HR, HL2, HW⟩
  iapply (tab_load c (h1 := numel1_S1) (hp := rfl) (n := 4 * (4 * t.val + 2) + 3) (by omega) (off34_eq t) (lit_off ⟨4 * t.val + 2, by omega⟩)) $$ HT
  iintro HT
  iapply (wp_assume Variants.none (c : Thread nD τ) none Set.univ (chk15 ⟨4 * t.val + 2, by omega⟩ ⟨by show (4 * t.val + 2) % 2 = 0; omega, by have := t3_lt t; show (4 * t.val + 2) < 112; omega⟩))
  iapply (tab_load c (h1 := numel1_S1) (hp := rfl) (n := 4 * (4 * t.val + 3) + 3) (by omega) (off35_eq t) (lit_off ⟨4 * t.val + 3, by omega⟩)) $$ HT
  iintro HT
  iapply (finish c)
  iapply Hk
  isplitl [HR]; · iexact HR
  isplitl [HL1]; · iexact HL1
  isplitl [HL2]; · iexact HL2
  isplitl [HT]; · iexact HT
  iexact HW

/-- Item `i`'s tile of the pool. -/
abbrev tileP (i : ℕ) : S2176x256.Idx → Elt F .i8 := (srcP i).view.read (Elt F) Vp

/-- The products of a step: the quantised codes with its two weight tiles, side by side; -/
abbrev mainOf (X3 : S128x8192.Idx → Elt F .fp8e4m3) (t : Fin k0_t3_loop.trips) : FVec F S128x512 .f32 :=
  k0_pay2 ((srcG (4 * t.val)).view.read (Elt F) Vw) ((srcG (4 * t.val + 2)).view.read (Elt F) Vw)
    (fun x : (Rect.unit (s := S128x8192) ![0, 0] S128x8192.size inb_S128x8192_S128x8192_0_0).shape.Idx => X3 ((Rect.unit (s := S128x8192) ![0, 0] S128x8192.size inb_S128x8192_S128x8192_0_0).emb x))

/-- the adapter's rows with its two pool tiles, side by side; -/
abbrev loraOf (X5 : S3x128x2176.Idx → Elt F .bf16) (t : Fin k0_t3_loop.trips) : FVec F S128x512 .f32 :=
  k0_pay3 (tileP c Vp (4 * t.val + 1)) (tileP c Vp (4 * t.val + 3))
    (fun x : (Rect.unit (s := S3x128x2176) ![0, 0, 0] S1x128x2176.size inb_S3x128x2176_S1x128x2176_0_0_0).shape.Idx => X5 ((Rect.unit (s := S3x128x2176) ![0, 0, 0] S1x128x2176.size inb_S3x128x2176_S1x128x2176_0_0_0).emb x))
    (fun x : (Rect.unit (s := S3x128x2176) ![1, 0, 0] S1x128x2176.size inb_S3x128x2176_S1x128x2176_1_0_0).shape.Idx => X5 ((Rect.unit (s := S3x128x2176) ![1, 0, 0] S1x128x2176.size inb_S3x128x2176_S1x128x2176_1_0_0).emb x))

/-- the scales of the codes' rows. -/
abbrev ascOf (X4 : S128x128.Idx → Elt F .f32) : Vec F S128x1 .f32 :=
  (fun x : (Rect.unit (s := S128x128) ![0, 0] S128x1.size inb_S128x128_S128x1_0_0).shape.Idx => X4 ((Rect.unit (s := S128x128) ![0, 0] S128x1.size inb_S128x128_S128x1_0_0).emb x))

/-- The 256 columns a step computes. -/
abbrev tileOf (X2 : S1x14336.Idx → Elt F .f32) (X3 : S128x8192.Idx → Elt F .fp8e4m3) (X4 : S128x128.Idx → Elt F .f32)
    (X5 : S3x128x2176.Idx → Elt F .bf16) (t : Fin k0_t3_loop.trips) : FVec F S120x256 .f32 :=
  k0_pay44 (scaleOf X2 t) (mainOf c Vw X3 t) (loraOf c Vp X5 t) (ascOf X4)

/-- What the third part of a step hands on. -/
abbrev part3Out (X3 : S128x8192.Idx → Elt F .fp8e4m3) (X4 : S128x128.Idx → Elt F .f32)
    (X5 : S3x128x2176.Idx → Elt F .bf16) (t : Fin k0_t3_loop.trips) :
    Σ' (v99 : FVec F S128x512 .f32) (v112 : FVec F S128x512 .f32), Vec F S128x1 .f32 :=
  ⟨mainOf c Vw X3 t, loraOf c Vp X5 t, ascOf X4⟩

/-- The third part of a step: it waits for the second pool tile, reads the four tiles and the staged arguments, and gives
    the tiles' places back. -/
theorem part3_run (t : Fin k0_t3_loop.trips) {hi : ℕ} (hhi : hi ≤ 176) (hlo : 4 * t.val + 4 ≤ hi) (hw : hi ≤ 4 * t.val + 22) (hF : Far (4 * t.val) hi)
    {q3 q4 q5 : PosShare TreeShare} {X3 : S128x8192.Idx → Elt F .fp8e4m3} {X4 : S128x128.Idx → Elt F .f32} {X5 : S3x128x2176.Idx → Elt F .bf16}
    {v38 v56 v74 v75 : BitVec 32} {h11 h13 h15} {Q : _ → sProp 𝕄} :
    iprop(Ring c Vw Vd Vp (4 * t.val) (4 * t.val + 3) hi ∗ LandG c Vw (4 * t.val) ∗ LandP c Vp (4 * t.val + 1) ∗ LandG c Vw (4 * t.val + 2)
        ∗ Tab (F := F) c arg0 ∗ owns (c : Thread nD τ) arg3 q3 X3 ∗ owns (c : Thread nD τ) arg4 q4 X4 ∗ owns (c : Thread nD τ) arg5 q5 X5
        ∗ (∃ W, owes (c : Thread nD τ) 0 W))
      ⊢ iprop((iprop(Ring c Vw Vd Vp (4 * t.val + 4) (4 * t.val + 4) hi
        ∗ Tab (F := F) c arg0 ∗ owns (c : Thread nD τ) arg3 q3 X3 ∗ owns (c : Thread nD τ) arg4 q4 X4 ∗ owns (c : Thread nD τ) arg5 q5 X5
        ∗ (∃ W, owes (c : Thread nD τ) 0 W))
          -∗ Q (part3Out c Vw Vp X3 X4 X5 t))
        -∗ wp frame (wpE (defs₀ (F := F)) Variants.none c none) Set.univ
          (k0_part3 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 t (wOff (4 * t.val)) h11 v38 (wOff (4 * t.val + 1)) h13 v56 (wOff (4 * t.val + 2)) h15 v74 v75 (wOff (4 * t.val + 3))) Q) := by
  have ht := t3_lt t
  rw [k0_part3_eq_skeleton]
  unfold k0_part3_skel
  iintro ⟨HR, HL0, HL1, HL2, HT, H3, H4, H5, HW⟩ Hk
  icases HW with ⟨%W, HW⟩
  iapply (wp_assume Variants.none (c : Thread nD τ) none Set.univ (chk16 ⟨4 * t.val + 3, by omega⟩ (by show (4 * t.val + 3) % 2 = 1; omega)))
  iapply (ring_wait_pool c Vw Vd Vp (mid := 4 * t.val) (lo := 4 * t.val + 3) (hi := hi) (by omega) hhi (by omega) (by omega)
    (off37_odd ⟨4 * t.val + 3, by have := t3_lt t; omega⟩ (by show (4 * t.val + 3) % 2 = 1; omega)) (off36_eq t)) $$ [HR HW]
  · isplitl [HR]; · iexact HR
    iexact HW
  iintro ⟨HR, HL3, HW⟩
  iapply (tab_load c (h1 := numel1_S1) (hp := rfl) (n := 4 * (4 * t.val + 3) + 3) (by omega) (off38_eq t) (lit_off ⟨4 * t.val + 3, by omega⟩)) $$ HT
  iintro HT
  iapply (wp_assume Variants.none (c : Thread nD τ) none Set.univ (chk17 ⟨4 * t.val + 3, by omega⟩ (by show (4 * t.val + 3) % 2 = 1; omega)))
  iapply (land_load_gu c Vw (i := 4 * t.val) (off39_gu ⟨4 * t.val, by have := t3_lt t; omega⟩ ⟨by show (4 * t.val) % 2 = 0; omega, by have := t3_lt t; show (4 * t.val) < 112; omega⟩)) $$ HL0
  iintro HL0
  iapply (land_load_gu c Vw (i := 4 * t.val + 2) (off40_gu ⟨4 * t.val + 2, by have := t3_lt t; omega⟩ ⟨by show (4 * t.val + 2) % 2 = 0; omega, by have := t3_lt t; show (4 * t.val + 2) < 112; omega⟩)) $$ HL2
  iintro HL2
  iapply (own_load c (M := arg3) (r := (Rect.unit (s := S128x8192) ![0, 0] S128x8192.size inb_S128x8192_S128x8192_0_0))) $$ H3
  iintro H3
  iapply (land_load_pool c Vp (i := 4 * t.val + 1) (off41_odd ⟨4 * t.val + 1, by have := t3_lt t; omega⟩ (by show (4 * t.val + 1) % 2 = 1; omega))) $$ HL1
  iintro HL1
  iapply (land_load_pool c Vp (i := 4 * t.val + 3) (off42_odd ⟨4 * t.val + 3, by have := t3_lt t; omega⟩ (by show (4 * t.val + 3) % 2 = 1; omega))) $$ HL3
  iintro HL3
  iapply (own_load c (M := arg5) (r := (Rect.unit (s := S3x128x2176) ![0, 0, 0] S1x128x2176.size inb_S3x128x2176_S1x128x2176_0_0_0))) $$ H5
  iintro H5
  iapply (own_load c (M := arg5) (r := (Rect.unit (s := S3x128x2176) ![1, 0, 0] S1x128x2176.size inb_S3x128x2176_S1x128x2176_1_0_0))) $$ H5
  iintro H5
  iapply (own_load c (M := arg4) (r := (Rect.unit (s := S128x128) ![0, 0] S128x1.size inb_S128x128_S128x1_0_0))) $$ H4
  iintro H4
  ihave HR := (ring_free_gu c Vw Vd Vp (mid := 4 * t.val) (lo := 4 * t.val + 4) (hi := hi) (by omega) (by omega) (hF.mono (by omega) le_rfl) ⟨by omega, by omega⟩) $$ [HR HL0]
  · isplitl [HR]; · iexact HR
    iexact HL0
  ihave HR := (ring_free_pool c Vw Vd Vp (mid := 4 * t.val + 1) (lo := 4 * t.val + 4) (hi := hi) (by omega) (by omega) (hF.mono (by omega) le_rfl) (by omega)) $$ [HR HL1]
  · isplitl [HR]; · iexact HR
    iexact HL1
  ihave HR := (ring_free_gu c Vw Vd Vp (mid := 4 * t.val + 2) (lo := 4 * t.val + 4) (hi := hi) (by omega) (by omega) (hF.mono (by omega) le_rfl) ⟨by omega, by omega⟩) $$ [HR HL2]
  · isplitl [HR]; · iexact HR
    iexact HL2
  ihave HR := (ring_free_pool c Vw Vd Vp (mid := 4 * t.val + 3) (lo := 4 * t.val + 4) (hi := hi) (by omega) (by omega) (hF.mono (by omega) le_rfl) (by omega)) $$ [HR HL3]
  · isplitl [HR]; · iexact HR
    iexact HL3
  iapply (finish_eq c (a := part3Out c Vw Vp X3 X4 X5 t) (by rfl))
  iapply Hk
  isplitl [HR]; · iexact HR
  isplitl [HT]; · iexact HT
  isplitl [H3]; · iexact H3
  isplitl [H4]; · iexact H4
  isplitl [H5]; · iexact H5
  iexact HW

end Cert.KernelIdeal.Hand

end
-- ==== Proof.Rows.lean ====
/-
  Hand-written, untrusted. The rowwise quantiser that runs over the finished product: rules for its loads, stores and loops,
  stated once for any block of rows; then its loops over the four blocks of rows.
-/
module

public import proofs.«01_k».proof.Proof.Step
public import Idealize.ShloMosaic.Lib.ValueIdx

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable {α : Type}

/-! ## A buffer known at some places -/

/-- A buffer that reads as `T` at the places `P`. -/
def Part {s : Shape} {e : EltTy} (M : Memref sig .tc .vmem s e) (P : s.Idx → Prop) (T : s.Idx → Elt F e) : sProp 𝕄 :=
  iprop(∃ f, (M.view.loc (c : Thread nD τ) ↦[M.view.set]{fullShare} f) ∗ ⌜∀ y, P y → M.view.read (Elt F) f y = T y⌝)

/-- A buffer of which nothing is known. -/
def Some' {s : Shape} {e : EltTy} (M : Memref sig .tc .vmem s e) : sProp 𝕄 :=
  iprop(∃ f, (M.view.loc (c : Thread nD τ) ↦[M.view.set]{fullShare} f))

/-- Less may be known. -/
theorem part_mono {s : Shape} {e : EltTy} {M : Memref sig .tc .vmem s e} {P P' : s.Idx → Prop} {T : s.Idx → Elt F e} (h : ∀ y, P' y → P y) :
    Part c M P T ⊢ Part c M P' T := by
  unfold Part
  iintro ⟨%f, H, %hf⟩
  iexists f
  isplitl [H]; · iexact H
  ipureintro; exact fun y hy => hf y (h y hy)

theorem part_of_some {s : Shape} {e : EltTy} {M : Memref sig .tc .vmem s e} {P : s.Idx → Prop} {T : s.Idx → Elt F e} (h : ∀ y, ¬ P y) :
    Some' (F := F) c M ⊢ Part c M P T := by
  unfold Part Some'
  iintro ⟨%f, H⟩
  iexists f
  isplitl [H]; · iexact H
  ipureintro; exact fun y hy => absurd hy (h y)

theorem some_of_part {s : Shape} {e : EltTy} {M : Memref sig .tc .vmem s e} {P : s.Idx → Prop} {T : s.Idx → Elt F e} :
    Part c M P T ⊢ Some' (F := F) c M := by
  unfold Part Some'
  iintro ⟨%f, H, -⟩
  iexists f
  iexact H

/-- A load, read where the buffer is known. -/
theorem part_load {s : Shape} {e : EltTy} {M : Memref sig .tc .vmem s e} {P : s.Idx → Prop} {T : s.Idx → Elt F e} {r : Rect s}
    {hl : M.view.LoadsAt r} {k : (r.shape.Idx → Elt F e) → Prog (TpuEff nD τ sig (Elt F) Λ₀ .tc) α} {Q : α → sProp 𝕄} :
    Part c M P T ⊢ iprop((∀ v, ⌜∀ x, P (r.emb x) → v x = T (r.emb x)⌝ -∗ Part c M P T
        -∗ wp frame (wpE (defs₀ (F := F)) Variants.none c none) Set.univ (k v) Q)
      -∗ wp frame (wpE (defs₀ (F := F)) Variants.none c none) Set.univ (.op (.load M r.toLoadRect hl) k) Q) := by
  unfold Part
  iintro ⟨%f, H, %hf⟩ Hk
  iapply (wp_load_rect Variants.none (c : Thread nD τ) none Set.univ (View.set_slice_subset M.view r)) $$ H
  iintro H
  iapply Hk
  · ipureintro; exact fun x hx => hf _ hx
  iexists f
  isplitl [H]; · iexact H
  ipureintro; exact hf

/-- A load from a place known whole. -/
theorem part_load_all {s : Shape} {e : EltTy} {M : Memref sig .tc .vmem s e} {P : s.Idx → Prop} {T : s.Idx → Elt F e} {r : Rect s}
    (h : ∀ x, P (r.emb x))
    {hl : M.view.LoadsAt r} {k : (r.shape.Idx → Elt F e) → Prog (TpuEff nD τ sig (Elt F) Λ₀ .tc) α} {Q : α → sProp 𝕄} :
    Part c M P T ⊢ iprop((Part c M P T
        -∗ wp frame (wpE (defs₀ (F := F)) Variants.none c none) Set.univ (k (fun x => T (r.emb x))) Q)
      -∗ wp frame (wpE (defs₀ (F := F)) Variants.none c none) Set.univ (.op (.load M r.toLoadRect hl) k) Q) := by
  iintro H Hk
  iapply (part_load c (M := M) (P := P) (T := T) (r := r)) $$ H
  iintro %v %hv H
  have e : v = fun x => T (r.emb x) := funext fun x => hv x (h x)
  subst e
  iapply Hk
  iexact H

/-- A store of what the buffer should hold. -/
theorem part_store {s : Shape} {e : EltTy} {M : Memref sig .tc .vmem s e} {P P' : s.Idx → Prop} {T : s.Idx → Elt F e} {r : Rect s}
    {w : r.shape.Idx → Elt F e} (hw : ∀ x, w x = T (r.emb x)) (hP : ∀ y, P' y → P y ∨ y ∈ r.set) {hx hm}
    {k : PUnit → Prog (TpuEff nD τ sig (Elt F) Λ₀ .tc) α} {Q : α → sProp 𝕄} :
    Part c M P T ⊢ iprop((Part c M P' T
        -∗ wp frame (wpE (defs₀ (F := F)) Variants.none c none) Set.univ (k ⟨⟩) Q)
      -∗ wp frame (wpE (defs₀ (F := F)) Variants.none c none) Set.univ (.op (.store M r w Finset.univ hx hm) k) Q) := by
  unfold Part
  iintro ⟨%f, H, %hf⟩ Hk
  iapply (wp_store (m := M) (r := r) (w := w) (Mk := Finset.univ) (S := M.view.set) (f := f) (k := k)
    Variants.none (c : Thread nD τ) none Set.univ (Finset.Subset.trans (Finset.map_subset_map.mpr (Finset.subset_univ _)) (View.set_slice_subset M.view _))) $$ H
  iintro H
  iapply Hk
  iexists _
  isplitl [H]; · iexact H
  ipureintro
  intro y hy
  by_cases hc : y ∈ r.set
  · rw [← Rect.map_emb_univ] at hc
    obtain ⟨x, -, rfl⟩ := Finset.mem_map.mp hc
    rw [← hw x]
    exact read_slice_hit c M r f w x
  · rw [← hf y ((hP y hy).resolve_right hc)]
    exact read_slice_miss c M r f w hc

/-- A load and a store at a buffer of which nothing is to be known. -/
theorem some_load {s : Shape} {e : EltTy} {M : Memref sig .tc .vmem s e} {r : Rect s}
    {hl : M.view.LoadsAt r} {k : (r.shape.Idx → Elt F e) → Prog (TpuEff nD τ sig (Elt F) Λ₀ .tc) α} {Q : α → sProp 𝕄} :
    Some' (F := F) c M ⊢ iprop((∀ v, Some' (F := F) c M
        -∗ wp frame (wpE (defs₀ (F := F)) Variants.none c none) Set.univ (k v) Q)
      -∗ wp frame (wpE (defs₀ (F := F)) Variants.none c none) Set.univ (.op (.load M r.toLoadRect hl) k) Q) := by
  unfold Some'
  iintro ⟨%f, H⟩ Hk
  iapply (wp_load_rect Variants.none (c : Thread nD τ) none Set.univ (View.set_slice_subset M.view r)) $$ H
  iintro H
  iapply Hk
  iexists f
  iexact H

theorem some_store {s : Shape} {e : EltTy} {M : Memref sig .tc .vmem s e} {r : Rect s} {w : r.shape.Idx → Elt F e} {hx hm}
    {k : PUnit → Prog (TpuEff nD τ sig (Elt F) Λ₀ .tc) α} {Q : α → sProp 𝕄} :
    Some' (F := F) c M ⊢ iprop((Some' (F := F) c M
        -∗ wp frame (wpE (defs₀ (F := F)) Variants.none c none) Set.univ (k ⟨⟩) Q)
      -∗ wp frame (wpE (defs₀ (F := F)) Variants.none c none) Set.univ (.op (.store M r w Finset.univ hx hm) k) Q) := by
  unfold Some'
  iintro ⟨%f, H⟩ Hk
  iapply (wp_store (m := M) (r := r) (w := w) (Mk := Finset.univ) (S := M.view.set) (f := f) (k := k)
    Variants.none (c : Thread nD τ) none Set.univ (Finset.Subset.trans (Finset.map_subset_map.mpr (Finset.subset_univ _)) (View.set_slice_subset M.view _))) $$ H
  iintro H
  iapply Hk
  iexists _
  iexact H

/-- A loop whose carried value before trip `n` is `f n`. -/
theorem loop_carry {A : Type} {L : Scf.Loop 32} {ok} {body : Fin L.trips → A → Prog (TpuEff nD τ sig (Elt F) Λ₀ .tc) A} {n : ℕ} (hn : L.trips = n)
    (f : ℕ → A) (I : sProp 𝕄)
    (hbody : ∀ t : Fin L.trips, I ⊢ wp frame (wpE (defs₀ (F := F)) Variants.none c none) Set.univ (body t (f t.val)) (fun a => iprop(⌜a = f (t.val + 1)⌝ ∗ I)))
    {k : A → Prog (TpuEff nD τ sig (Elt F) Λ₀ .tc) α} {Q : α → sProp 𝕄} :
    I ⊢ iprop((I -∗ wp frame (wpE (defs₀ (F := F)) Variants.none c none) Set.univ (k (f n)) Q)
      -∗ wp frame (wpE (defs₀ (F := F)) Variants.none c none) Set.univ (Scf.Loop.for L ok (f 0) body >>= k) Q) := by
  subst hn
  iintro HI Hk
  iapply (Scf.wp_for_bind frame (wpE (defs₀ (F := F)) Variants.none c none) Set.univ L.lb L.ub L.st ok (f 0) body (fun n a => iprop(⌜a = f n⌝ ∗ I))
    (fun t a => by
      iintro ⟨%ha, HI⟩
      subst ha
      iapply (hbody t) $$ HI)) $$ [HI]
  · isplitr; · ipureintro; rfl
    iexact HI
  iintro %acc ⟨%ha, HI⟩
  subst ha
  iapply Hk
  iexact HI

/-! ## The windows of the product -/

/-- The place in row `i`, column `j`. -/
def at2 (i j : ℕ) : S120x7168.Idx := ValueIdx.ix2 (⟨i % 120, Nat.mod_lt _ (by decide)⟩ : Fin 120) (⟨j % 7168, Nat.mod_lt _ (by decide)⟩ : Fin 7168)

theorem at2_eq (y : S120x7168.Idx) {i j : ℕ} (h0 : (y 0).val = i) (h1 : (y 1).val = j) : y = at2 i j := by
  subst h0 h1
  funext a
  fin_cases a
  · exact Fin.ext (Nat.mod_eq_of_lt (y 0).isLt).symm
  · exact Fin.ext (Nat.mod_eq_of_lt (y 1).isLt).symm

/-- The window of `nr` rows from row `r0` and of 1024 columns from column `1024 n`. -/
def winOf (nr r0 : ℕ) (G : S120x7168.Idx → Elt F .f32) (n : ℕ) : (Shape.mk 2 ![nr, 1024]).Idx → Elt F .f32 :=
  fun x => G (at2 (r0 + (x 0).val) (1024 * n + (x 1).val))

theorem win_eq {nr r0 n : ℕ} {o : Fin 2 → ℕ} {h : ∀ a, o a + (Shape.mk 2 ![nr, 1024]).size a ≤ S120x7168.size a} (e : o = ![r0, 1024 * n])
    (G : S120x7168.Idx → Elt F .f32) :
    (fun x => G ((Rect.unit (s := S120x7168) o (Shape.mk 2 ![nr, 1024]).size h).emb x)) = winOf nr r0 G n := by
  subst e
  funext x
  refine congrArg G (at2_eq _ ?_ ?_)
  · rw [Rect.emb_apply]; show r0 + 1 * (x 0).val = _; omega
  · rw [Rect.emb_apply]; show 1024 * n + 1 * (x 1).val = _; omega

/-- What a loop over the windows has carried before window `n`. -/
def accOf {A : Type} (nr r0 : ℕ) (z : A) (p : A → ((Shape.mk 2 ![nr, 1024]).Idx → Elt F .f32) → A) (G : S120x7168.Idx → Elt F .f32) : ℕ → A
  | 0 => z
  | n + 1 => p (accOf nr r0 z p G n) (winOf nr r0 G n)

/-! ## One window -/

/-- The first pass over a window: it is loaded, a copy is stored that nothing reads, and the carried value takes it in. -/
theorem amax_trip {A : Type} {arg11 : Memref sig .tc .vmem S120x7168 .f32} {G : S120x7168.Idx → Elt F .f32} {nr r0 n : ℕ} {z : A}
    {p : A → ((Shape.mk 2 ![nr, 1024]).Idx → Elt F .f32) → A} {o8 : Fin 2 → ℕ} {i8 : ∀ a, o8 a + (Shape.mk 2 ![nr, 1024]).size a ≤ S120x7168.size a}
    (e8 : o8 = ![r0, 1024 * n]) {r11 : Rect S128x8192} {w : ((Shape.mk 2 ![nr, 1024]).Idx → Elt F .f32) → r11.shape.Idx → Elt F .bf16} {hl8 hl11 hx hm} :
    iprop(owns (c : Thread nD τ) arg11 fullShare G ∗ Some' (F := F) c hbM) ⊢ wp frame (wpE (defs₀ (F := F)) Variants.none c none) Set.univ
      (.op (.load arg11 (Rect.unit (s := S120x7168) o8 (Shape.mk 2 ![nr, 1024]).size i8).toLoadRect hl8) fun v84 =>
        .op (.load hbM r11.toLoadRect hl11) fun _ => .op (.store hbM r11 (w v84) Finset.univ hx hm) fun _ => .ret (p (accOf nr r0 z p G n) v84))
      (fun a => iprop(⌜a = accOf nr r0 z p G (n + 1)⌝ ∗ owns (c : Thread nD τ) arg11 fullShare G ∗ Some' (F := F) c hbM)) := by
  iintro ⟨H8, Hb⟩
  iapply (own_load c (r := Rect.unit (s := S120x7168) o8 (Shape.mk 2 ![nr, 1024]).size i8)) $$ H8
  iintro H8
  iapply (some_load c) $$ Hb
  iintro %v Hb
  iapply (some_store c) $$ Hb
  iintro Hb
  iapply (finish c)
  isplitr
  · ipureintro
    exact congrArg (p (accOf nr r0 z p G n)) (win_eq e8 G)
  isplitl [H8]; · iexact H8
  iexact Hb

/-- The second pass over a window: it is loaded with its rows' scales, and its codes are stored, twice. -/
theorem quant_trip {arg11 : Memref sig .tc .vmem S120x7168 .f32} {G : S120x7168.Idx → Elt F .f32} {nr r0 n : ℕ}
    {rA : Rect S128x128} {PA : S128x128.Idx → Prop} {SC : S128x128.Idx → Elt F .f32} (hA : ∀ x, PA (rA.emb x))
    {o8 : Fin 2 → ℕ} {i8 : ∀ a, o8 a + (Shape.mk 2 ![nr, 1024]).size a ≤ S120x7168.size a}
    (e8 : o8 = ![r0, 1024 * n]) {r12 : Rect S128x8192} {r13 : Rect S120x8192}
    {w12 : (rA.shape.Idx → Elt F .f32) → ((Shape.mk 2 ![nr, 1024]).Idx → Elt F .f32) → r12.shape.Idx → Elt F .fp8e4m3}
    {w13 : (rA.shape.Idx → Elt F .f32) → ((Shape.mk 2 ![nr, 1024]).Idx → Elt F .f32) → r13.shape.Idx → Elt F .fp8e4m3}
    {PK PK' : S128x8192.Idx → Prop} {QK : S128x8192.Idx → Elt F .fp8e4m3}
    (hwK : ∀ x, w12 (fun x => SC (rA.emb x)) (winOf nr r0 G n) x = QK (r12.emb x)) (hPK : ∀ y, PK' y → PK y ∨ y ∈ r12.set)
    {PC PC' : S120x8192.Idx → Prop} {QC : S120x8192.Idx → Elt F .fp8e4m3}
    (hw : ∀ x, w13 (fun x => SC (rA.emb x)) (winOf nr r0 G n) x = QC (r13.emb x)) (hP : ∀ y, PC' y → PC y ∨ y ∈ r13.set)
    {hlA hl8 hl12 hx12 hm12 hl13 hx13 hm13} :
    iprop(owns (c : Thread nD τ) arg11 fullShare G ∗ Part c ascM PA SC ∗ Part c codesM PK QK ∗ Part c coM PC QC)
    ⊢ wp frame (wpE (defs₀ (F := F)) Variants.none c none) Set.univ
      (.op (.load ascM rA.toLoadRect hlA) fun v81 => .op (.load arg11 (Rect.unit (s := S120x7168) o8 (Shape.mk 2 ![nr, 1024]).size i8).toLoadRect hl8) fun v85 =>
        .op (.load codesM r12.toLoadRect hl12) fun _ => .op (.store codesM r12 (w12 v81 v85) Finset.univ hx12 hm12) fun _ =>
        .op (.load coM r13.toLoadRect hl13) fun _ => .op (.store coM r13 (w13 v81 v85) Finset.univ hx13 hm13) fun _ => .ret ())
      (fun _ => iprop(owns (c : Thread nD τ) arg11 fullShare G ∗ Part c ascM PA SC ∗ Part c codesM PK' QK ∗ Part c coM PC' QC)) := by
  iintro ⟨H8, HA, H12, H13⟩
  iapply (part_load_all c hA) $$ HA
  iintro HA
  iapply (own_load c (r := Rect.unit (s := S120x7168) o8 (Shape.mk 2 ![nr, 1024]).size i8)) $$ H8
  iintro H8
  iapply (part_load c) $$ H12
  iintro %u %hu H12
  iapply (part_store c (P' := PK') (fun x => (congrArg (fun u => w12 (fun x => SC (rA.emb x)) u x) (win_eq e8 G)).trans (hwK x)) hPK) $$ H12
  iintro H12
  iapply (part_load c) $$ H13
  iintro %v %hv H13
  iapply (part_store c (P' := PC') (fun x => (congrArg (fun u => w13 (fun x => SC (rA.emb x)) u x) (win_eq e8 G)).trans (hw x)) hP) $$ H13
  iintro H13
  iapply (finish c)
  isplitl [H8]; · iexact H8
  isplitl [HA]; · iexact HA
  isplitl [H12]; · iexact H12
  iexact H13

end Cert.KernelIdeal.Hand

end
-- ==== Proof.Out.lean ====
/-
  Hand-written, untrusted. The copies out of the down projection's results. Tile `i` of a result, its columns
  `[512 i, 512 i + 512)`, is stored in slot `i % 2` of a buffer of two slots and copied from there to HBM on a semaphore of
  the slot's own; the slot is used again when the copy of tile `i` has been waited for. `Outs lo sl hi` says: the tiles below
  `lo` have been waited for, those in `[lo, hi)` are in flight, and the slots of those in `[lo, sl)` are not free.
  Everything is stated once, for a result `O` of any element type, its buffer `B` and its column `k` of the semaphores.
-/
module

public import proofs.«01_k».proof.Proof.Rows

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ (Pipeline.UD sig nD τ) ℕ

/-- A run's next member, and its first. -/
theorem ico_put {Φ : ℕ → sProp 𝕄} {lo hi : ℕ} (h1 : lo ≤ hi) : iprop(Φ hi ∗ bigSep (Finset.Ico lo hi) Φ) ⊢ bigSep (Finset.Ico lo (hi + 1)) Φ := by
  have h : Finset.Ico lo (hi + 1) = insert hi (Finset.Ico lo hi) := by ext x; simp; omega
  rw [h, bigSep_insert (by simp)]
  exact .rfl
theorem ico_take {Φ : ℕ → sProp 𝕄} {lo hi : ℕ} (h1 : lo < hi) : bigSep (Finset.Ico lo hi) Φ ⊢ iprop(Φ lo ∗ bigSep (Finset.Ico (lo + 1) hi) Φ) := by
  have h : Finset.Ico lo hi = insert lo (Finset.Ico (lo + 1) hi) := by ext x; simp; omega
  rw [h, bigSep_insert (by simp)]
  exact .rfl

/-- A slot's own semaphore, among those of two slots. -/
theorem two_split {Φ : ℕ → sProp 𝕄} {T : Finset ℕ} {i : ℕ} (h : ({i % 2} : Finset ℕ) ⊆ T) :
    bigSep T Φ ⊢ iprop(Φ (i % 2) ∗ bigSep (T \ {i % 2}) Φ) := by
  rw [bigSep_sdiff_split h, bigSep_singleton]
  exact .rfl
theorem two_join {Φ : ℕ → sProp 𝕄} {T : Finset ℕ} {i : ℕ} (h : ({i % 2} : Finset ℕ) ⊆ T) :
    iprop(Φ (i % 2) ∗ bigSep (T \ {i % 2}) Φ) ⊢ bigSep T Φ := by
  rw [bigSep_sdiff_split h, bigSep_singleton]
  exact .rfl

theorem blk_inb (i : ℕ) (a : Fin 2) : ![0, 512 * (i % 16)] a + S120x512.size a ≤ S120x8192.size a := by
  fin_cases a
  · show 0 + 120 ≤ 120; omega
  · show 512 * (i % 16) + 512 ≤ 8192; omega
theorem slot_inb (i : ℕ) (a : Fin 3) : ![i % 2, 0, 0] a + S1x120x512.size a ≤ S2x120x512.size a := by
  fin_cases a
  · show i % 2 + 1 ≤ 2; omega
  · show 0 + 120 ≤ 120; omega
  · show 0 + 512 ≤ 512; omega
theorem osem_inb (k : Fin 2) (i : ℕ) (a : Fin 2) : ![i % 2, k.val] a + S1x1.size a ≤ S2x2.size a := by
  fin_cases a
  · show i % 2 + 1 ≤ 2; omega
  · show k.val + 1 ≤ 2; omega

variable (c : Dev nD) {e : EltTy} (B : Memref sig .tc .vmem S2x120x512 e) (O : Memref sig .tc .hbm S120x8192 e) (k : Fin 2)
  (V : Buf (Elt F) (O.view.loc (c : Thread nD τ)))

/-- Tile `i` of the result, its slot, its semaphore. -/
abbrev blkO (i : ℕ) : Memref sig .tc .hbm S120x512 e := O.slice (Rect.unit (s := S120x8192) ![0, 512 * (i % 16)] S120x512.size (blk_inb i)) (fun _ => rfl)
abbrev slotB (i : ℕ) : Memref sig .tc .vmem S120x512 e :=
  (B.slice (Rect.unit (s := S2x120x512) ![i % 2, 0, 0] S1x120x512.size (slot_inb i)) (fun _ => rfl)).squeeze S120x512 squeezes_S1x120x512_S120x512
abbrev osemOf (i : ℕ) : DmaSem sig := ((cc0_scratch10.slice (Rect.unit (s := S2x2) ![i % 2, k.val] S1x1.size (osem_inb k i))).squeeze S_ squeezes_S1x1_S_).sem

theorem slot_set (i : ℕ) : (slotB B i).view.set = (B.view.slice (Rect.unit (s := S2x120x512) ![i % 2, 0, 0] S1x120x512.size (slot_inb i))).set :=
  View.set_reshape _ _

theorem slot_sub (i : ℕ) : (slotB B i).view.set ⊆ B.view.set := by
  rw [slot_set]; exact View.set_slice_subset _ _

theorem slot_disj {i j : ℕ} (h : i % 2 ≠ j % 2) : Disjoint (slotB B i).view.set (slotB B j).view.set := by
  rw [slot_set, slot_set]
  refine View.disjoint_slice ?_
  rw [Finset.disjoint_left]
  intro x hx hx'
  rw [Rect.mem_set_unit] at hx hx'
  have h1 := hx 0; have h2 := hx' 0
  have a1 : i % 2 ≤ (x 0).val ∧ (x 0).val < i % 2 + 1 := h1
  have a2 : j % 2 ≤ (x 0).val ∧ (x 0).val < j % 2 + 1 := h2
  omega

theorem blk_disj {i j : ℕ} (h : i % 16 ≠ j % 16) : Disjoint (blkO O i).view.set (blkO O j).view.set :=
  View.disjoint_slice (unit2_disjoint rfl (1 : Fin 2)
    (by show 512 * (i % 16) + 512 ≤ 512 * (j % 16) ∨ 512 * (j % 16) + 512 ≤ 512 * (i % 16); omega))

/-- The tiles make up the result. -/
theorem blk_cover : (Finset.Ico 0 16).biUnion (fun i => (blkO O i).view.set) = O.view.set := by
  ext x
  rw [Finset.mem_biUnion]
  constructor
  · rintro ⟨i, -, hx⟩
    exact View.set_slice_subset _ _ hx
  · intro hx
    obtain ⟨y, -, rfl⟩ := Finset.mem_map.mp hx
    have h1 : (y 1).val < 8192 := (y 1).isLt
    refine ⟨(y 1).val / 512, Finset.mem_Ico.mpr ⟨Nat.zero_le _, by omega⟩, ?_⟩
    show _ ∈ (O.view.slice _).set
    rw [View.set_slice]
    refine Finset.mem_map_of_mem _ ?_
    rw [Rect.mem_set_unit]
    intro a
    fin_cases a
    · exact ⟨Nat.zero_le _, by have h0 : (y 0).val < 120 := (y 0).isLt
                               show (y 0).val < 0 + 120; omega⟩
    · exact ⟨by show 512 * ((y 1).val / 512 % 16) ≤ (y 1).val; omega, by show (y 1).val < 512 * ((y 1).val / 512 % 16) + 512; omega⟩

/-- The places of a slot and of a tile. -/
abbrev Sl (i : ℕ) : Finset (Idx (B.view.loc (c : Thread nD τ))) := (slotB B i).view.set
abbrev Bl (i : ℕ) : Finset (Idx (O.view.loc (c : Thread nD τ))) := (blkO O i).view.set

/-- Tile `i` in flight. -/
def OFl (i : ℕ) : sProp 𝕄 :=
  Flight (countersEmb (U := Pipeline.UD sig nD τ)) (c : Thread nD τ) (.dma (osemOf k i)) () (blkO O i).view.dmaCredit
    iprop((O.view.loc (c : Thread nD τ) ↦[Bl c O i]{fullShare} V) ∗ (∃ f, B.view.loc (c : Thread nD τ) ↦[Sl c B i]{fullShare} f))

def Outs (lo sl hi : ℕ) : sProp 𝕄 := iprop(
  (∃ f, B.view.loc (c : Thread nD τ) ↦[rest B.view.set (Sl c B) lo sl]{fullShare} f)
  ∗ (∃ g, O.view.loc (c : Thread nD τ) ↦[rest O.view.set (Bl c O) 0 hi]{fullShare} g)
  ∗ (O.view.loc (c : Thread nD τ) ↦[(Finset.Ico 0 lo).biUnion (Bl c O)]{fullShare} V)
  ∗ bigSep (rest (Finset.range 2) (fun i => {i % 2}) lo hi) (fun n => (semVal ((c : Thread nD τ), .dma (osemOf k n)) 0 : sProp 𝕄))
  ∗ bigSep (Finset.Ico lo hi) (OFl c B O k V))

/-- A slot, with contents of any kind. -/
def Slot (i : ℕ) : sProp 𝕄 := iprop(∃ f, B.view.loc (c : Thread nD τ) ↦[Sl c B i]{fullShare} f)
/-- A slot that holds tile `i` of the result. -/
def SlotAt (i : ℕ) : sProp 𝕄 := iprop(∃ f, (B.view.loc (c : Thread nD τ) ↦[Sl c B i]{fullShare} f)
  ∗ ⌜(slotB B i).view.read (Elt F) f = (blkO O i).view.read (Elt F) V⌝)

/-- Before the first tile. -/
theorem outs_init : iprop((∃ f, B.view.loc (c : Thread nD τ) ↦[B.view.set]{fullShare} f) ∗ (∃ g, O.view.loc (c : Thread nD τ) ↦[O.view.set]{fullShare} g)
      ∗ bigSep (Finset.range 2) (fun n => (semVal ((c : Thread nD τ), .dma (osemOf k n)) 0 : sProp 𝕄)))
    ⊢ Outs c B O k V 0 0 0 := by
  unfold Outs
  rw [rest_self, rest_self, rest_self]
  iintro ⟨H1, H2, H3⟩
  isplitl [H1]; · iexact H1
  isplitl [H2]; · iexact H2
  isplitr
  · rw [Finset.Ico_self, Finset.biUnion_empty, pointsTo_empty]; iempintro
  isplitl [H3]; · iexact H3
  rw [Finset.Ico_self, bigSep_empty]; iempintro

/-- After the last. -/
theorem outs_done : Outs c B O k V 16 16 16
    ⊢ iprop((∃ f, B.view.loc (c : Thread nD τ) ↦[B.view.set]{fullShare} f) ∗ (O.view.loc (c : Thread nD τ) ↦[O.view.set]{fullShare} V)
      ∗ bigSep (Finset.range 2) (fun n => (semVal ((c : Thread nD τ), .dma (osemOf k n)) 0 : sProp 𝕄))) := by
  unfold Outs
  rw [rest_self, rest_self, show (Finset.Ico 0 16).biUnion (Bl c O) = O.view.set from blk_cover O]
  iintro ⟨H1, -, H2, H3, -⟩
  isplitl [H1]; · iexact H1
  isplitl [H2]; · iexact H2
  iexact H3

/-- The next tile's slot. -/
theorem outs_take {lo hi : ℕ} (h1 : lo ≤ hi) (h2 : hi < lo + 2) : Outs c B O k V lo hi hi ⊢ iprop(Slot c B hi ∗ Outs c B O k V lo (hi + 1) hi) := by
  unfold Outs Slot
  rw [rest_succ (R := Sl c B) h1]
  iintro ⟨⟨%f, H1⟩, H2, H3, H4, H5⟩
  ihave H1 := (pointsTo_split_subset (sub_rest (R := Sl c B) (n := hi) (slot_sub B hi) (fun i a b => slot_disj B (by omega)))).1 $$ H1
  icases H1 with ⟨H0, H1⟩
  isplitl [H0]; · iexists f; iexact H0
  isplitl [H1]; · iexists f; iexact H1
  isplitl [H2]; · iexact H2
  isplitl [H3]; · iexact H3
  isplitl [H4]; · iexact H4
  iexact H5

variable {α : Type}

/-- A load from a slot. -/
theorem slot_load {i : ℕ} {o : Fin 3 → ℕ} {h : ∀ a, o a + S1x120x512.size a ≤ S2x120x512.size a} (eo : o = ![i % 2, 0, 0])
    {hl : B.view.LoadsAt (Rect.unit (s := S2x120x512) o S1x120x512.size h)}
    {kk : (S1x120x512.Idx → Elt F e) → Prog (TpuEff nD τ sig (Elt F) Λ₀ .tc) α} {Q : α → sProp 𝕄} :
    Slot (F := F) c B i ⊢ iprop((∀ v, Slot (F := F) c B i
        -∗ wp frame (wpE (defs₀ (F := F)) Variants.none c none) Set.univ (kk v) Q)
      -∗ wp frame (wpE (defs₀ (F := F)) Variants.none c none) Set.univ
        (.op (.load B (Rect.unit (s := S2x120x512) o S1x120x512.size h).toLoadRect hl) kk) Q) := by
  subst eo
  unfold Slot
  iintro ⟨%f, H⟩ Hk
  iapply (wp_load_rect (m := B) (r := Rect.unit (s := S2x120x512) ![i % 2, 0, 0] S1x120x512.size h) (S := (slotB B i).view.set) (f := f) (k := kk)
    Variants.none (c : Thread nD τ) none Set.univ (by rw [slot_set])) $$ H
  iintro H
  iapply Hk
  iexists f; iexact H

/-- A store of tile `i` to its slot. -/
theorem slot_store {i : ℕ} {o : Fin 3 → ℕ} {h : ∀ a, o a + S1x120x512.size a ≤ S2x120x512.size a} (eo : o = ![i % 2, 0, 0])
    {w : S1x120x512.Idx → Elt F e} {hc : S1x120x512.ShapeCasts S120x512} (hw : shapeCast S120x512 w hc = (blkO O i).view.read (Elt F) V) {hx hm}
    {kk : PUnit → Prog (TpuEff nD τ sig (Elt F) Λ₀ .tc) α} {Q : α → sProp 𝕄} :
    Slot (F := F) c B i ⊢ iprop((SlotAt c B O V i
        -∗ wp frame (wpE (defs₀ (F := F)) Variants.none c none) Set.univ (kk ⟨⟩) Q)
      -∗ wp frame (wpE (defs₀ (F := F)) Variants.none c none) Set.univ
        (.op (.store B (Rect.unit (s := S2x120x512) o S1x120x512.size h) w Finset.univ hx hm) kk) Q) := by
  subst eo
  unfold Slot SlotAt
  iintro ⟨%f, H⟩ Hk
  iapply (wp_store (m := B) (r := Rect.unit (s := S2x120x512) ![i % 2, 0, 0] S1x120x512.size h) (w := w) (Mk := Finset.univ) (S := (slotB B i).view.set) (f := f) (k := kk)
    Variants.none (c : Thread nD τ) none Set.univ (by rw [slot_set]; exact Finset.map_subset_map.mpr (Finset.subset_univ _))) $$ H
  iintro H
  iapply Hk
  iexists _
  isplitl [H]; · iexact H
  ipureintro
  rw [← hw]
  funext y
  exact congrFun (View.read_write_univ (v := B.view.slice (Rect.unit (s := S2x120x512) ![i % 2, 0, 0] S1x120x512.size h)) f w) (Shape.reshapeEquiv hc y)

/-- The start of tile `hi`'s copy. -/
theorem outs_start {lo hi : ℕ} (h1 : lo ≤ hi) (h2 : hi < lo + 2) (h16 : hi < 16) (hN0 : 0 < (blkO O hi).view.dmaCredit)
    {o2 : Fin 2 → ℕ} {o3 : Fin 3 → ℕ} {os : Fin 2 → ℕ} {i2 i3 is} (e2 : o2 = ![0, 512 * hi]) (e3 : o3 = ![hi % 2, 0, 0]) (es : os = ![hi % 2, k.val]) {w1 w2 w3}
    {Q : α → sProp 𝕄} {kk : PUnit → Prog (TpuEff nD τ sig (Elt F) Λ₀ .tc) α} :
    iprop(SlotAt c B O V hi ∗ Outs c B O k V lo (hi + 1) hi) ⊢ iprop((Outs c B O k V lo (hi + 1) (hi + 1)
        -∗ wp frame (wpE (defs₀ (F := F)) Variants.none c none) Set.univ (kk ⟨⟩) Q)
      -∗ wp frame (wpE (defs₀ (F := F)) Variants.none c none) Set.univ
        (.op (.enqueueDma ((B.slice (Rect.unit (s := S2x120x512) o3 S1x120x512.size i3) (fun _ => rfl)).squeeze S120x512 squeezes_S1x120x512_S120x512)
          (.here (O.slice (Rect.unit (s := S120x8192) o2 S120x512.size i2) (fun _ => rfl)))
          (.dma ((cc0_scratch10.slice (Rect.unit (s := S2x2) os S1x1.size is)).squeeze S_ squeezes_S1x1_S_).sem) w1 w2 w3) kk) Q) := by
  obtain rfl : o2 = ![0, 512 * (hi % 16)] := by rw [Nat.mod_eq_of_lt h16]; exact e2
  subst e3 es
  unfold Outs SlotAt
  rw [rest_succ (R := Bl c O) (Nat.zero_le hi)]
  iintro ⟨⟨%f, Hs, %hf⟩, H1, ⟨%g, H2⟩, H3, H4, H5⟩ Hk
  ihave H2 := (pointsTo_split_subset (sub_rest (R := Bl c O) (n := hi) (View.set_slice_subset _ _) (fun i a b => blk_disj O (by omega)))).1 $$ H2
  icases H2 with ⟨Hd, H2⟩
  have hsub : ({hi % 2} : Finset ℕ) ⊆ rest (Finset.range 2) (fun i => {i % 2}) lo hi :=
    sub_rest (R := fun i => ({i % 2} : Finset ℕ)) (n := hi) (by simp; omega) (fun i h3 h4 => by simp; omega)
  have hc : osemOf k (hi % 2) = osemOf k hi := by
    unfold osemOf; congr 3; simp
  rw [rest_succ (R := fun i => ({i % 2} : Finset ℕ)) h1]
  ihave H4 := (two_split hsub) $$ H4
  rw [hc]
  icases H4 with ⟨Hq, H4⟩
  iapply (Transfers.wp_dmaLocal (countersEmb (U := Pipeline.UD sig nD τ)) Variants.none (c : Thread nD τ) none () (blkO O hi).view.dmaCredit
    (Sd := (blkO O hi).view.set) rfl hN0 subset_rfl) $$ [Hs Hd Hq]
  · isplitl [Hs]; · iexact Hs
    isplitl [Hd]; · iexact Hd
    iexact Hq
  iintro Hfl
  iapply Hk
  isplitl [H1]; · iexact H1
  isplitl [H2]; · iexists g; iexact H2
  isplitl [H3]; · iexact H3
  isplitl [H4]; · iexact H4
  iapply (ico_put h1)
  isplitl [Hfl]
  · unfold OFl
    iapply (Transfers.Flight_mono (EC := countersEmb (U := Pipeline.UD sig nD τ)) ?_) $$ Hfl
    iintro ⟨H1, H2⟩
    isplitl [H1]
    · have hV : ∀ x ∈ Bl c O hi, (blkO O hi).view.write (Elt F) g ((slotB B hi).view.read (Elt F) f) Finset.univ x = V x := by
        intro x hx
        obtain ⟨y, -, rfl⟩ := Finset.mem_map.mp hx
        have a := congrFun (View.read_write_univ (v := (blkO O hi).view) g ((slotB B hi).view.read (Elt F) f)) y
        have b := congrFun hf y
        exact (_root_.cast_inj _).mp (a.trans b)
      ihave H1 := (Entails.of_eq (pointsTo_congr hV)) $$ H1
      iexact H1
    iexists f; iexact H2
  iexact H5

/-- The wait for the oldest tile in flight. -/
theorem outs_wait {lo hi : ℕ} (h1 : lo < hi) (h2 : hi ≤ lo + 2) (h16 : hi ≤ 16)
    {os : Fin 2 → ℕ} {is} (es : os = ![lo % 2, k.val]) {o2 : Fin 2 → ℕ} {o3 : Fin 3 → ℕ} {i2 i3} {w1 w2}
    {Q : α → sProp 𝕄} {kk : PUnit → Prog (TpuEff nD τ sig (Elt F) Λ₀ .tc) α} {W : Waits sig Unit} :
    iprop(Outs c B O k V lo hi hi ∗ owes (c : Thread nD τ) 0 W) ⊢ iprop((iprop(Outs c B O k V (lo + 1) hi hi ∗ (∃ W', owes (c : Thread nD τ) 0 W'))
        -∗ wp frame (wpE (defs₀ (F := F)) Variants.none c none) Set.univ (kk ⟨⟩) Q)
      -∗ wp frame (wpE (defs₀ (F := F)) Variants.none c none) Set.univ
        (.op (.waitDma2 ((cc0_scratch10.slice (Rect.unit (s := S2x2) os S1x1.size is)).squeeze S_ squeezes_S1x1_S_).sem
          ((B.slice (Rect.unit (s := S2x120x512) o3 S1x120x512.size i3) (fun _ => rfl)).squeeze S120x512 squeezes_S1x120x512_S120x512)
          (O.slice (Rect.unit (s := S120x8192) o2 S120x512.size i2) (fun _ => rfl)) w1 w2) kk) Q) := by
  subst es
  unfold Outs
  iintro ⟨⟨⟨%f, H1⟩, H2, H3, H4, H5⟩, HW⟩ Hk
  ihave H5 := (ico_take h1) $$ H5
  icases H5 with ⟨Hl, H5⟩
  unfold OFl
  have hN : (O.slice (Rect.unit (s := S120x8192) o2 S120x512.size i2) (fun _ => rfl)).view.dmaCredit = (blkO O lo).view.dmaCredit := rfl
  iapply (Transfers.wp_waitLocal (countersEmb (U := Pipeline.UD sig nD τ)) Variants.none (c : Thread nD τ) none () (N := (blkO O lo).view.dmaCredit) hN) $$ [Hl HW]
  · isplitl [Hl]; · iexact Hl
    iexact HW
  iintro ⟨⟨Hd, ⟨%f', Hs⟩⟩, Hq, HW⟩
  iapply Hk
  isplitr [HW]
  · isplitl [H1 Hs]
    · rw [rest_pred (R := Sl c B) h1]
      iapply (pointsTo_join_subset (sub_rest (R := Sl c B) (n := lo) (slot_sub B lo) (fun i a b => slot_disj B (by omega)))).trans
        (exists_intro (Φ := fun f' => (B.view.loc (c : Thread nD τ) ↦[rest B.view.set (Sl c B) (lo + 1) hi]{fullShare} f' : sProp 𝕄)) _)
      isplitl [Hs]; · iexact Hs
      iexact H1
    isplitl [H2]; · iexact H2
    isplitl [H3 Hd]
    · have hs : Bl c O lo ⊆ (Finset.Ico 0 (lo + 1)).biUnion (Bl c O) :=
        Finset.subset_biUnion_of_mem (Bl c O) (Finset.mem_Ico.mpr ⟨Nat.zero_le _, Nat.lt_succ_self _⟩)
      have hd : (Finset.Ico 0 (lo + 1)).biUnion (Bl c O) \ Bl c O lo
          = (Finset.Ico 0 lo).biUnion (Bl c O) := by
        ext x
        simp only [Finset.mem_sdiff, Finset.mem_biUnion, Finset.mem_Ico]
        constructor
        · rintro ⟨⟨i, hi', hx⟩, hn⟩
          refine ⟨i, ⟨hi'.1, ?_⟩, hx⟩
          rcases Nat.lt_or_ge i lo with h | h
          · exact h
          · obtain rfl : i = lo := by omega
            exact absurd hx hn
        · rintro ⟨i, hi', hx⟩
          exact ⟨⟨i, ⟨hi'.1, by omega⟩, hx⟩, fun hn => Finset.disjoint_left.mp (blk_disj O (i := i) (j := lo) (by omega)) hx hn⟩
      iapply (pointsTo_split_subset hs).2
      isplitl [Hd]; · iexact Hd
      rw [hd]; iexact H3
    isplitl [H4 Hq]
    · have hsub : ({lo % 2} : Finset ℕ) ⊆ rest (Finset.range 2) (fun i => {i % 2}) (lo + 1) hi :=
        sub_rest (R := fun i => ({i % 2} : Finset ℕ)) (n := lo) (by simp; omega) (fun i h3 h4 => by simp; omega)
      have hc : osemOf k (lo % 2) = osemOf k lo := by
        unfold osemOf; congr 3; simp
      iapply (two_join (Φ := fun n => (semVal ((c : Thread nD τ), .dma (osemOf k n)) 0 : sProp 𝕄)) hsub)
      rw [hc]
      rw [rest_pred (R := fun i => ({i % 2} : Finset ℕ)) h1]
      isplitl [Hq]; · iexact Hq
      iexact H4
    iexact H5
  iexists _; iexact HW

end Cert.KernelIdeal.Hand

end
-- ==== Proof.Quant.lean ====
/-
  Hand-written, untrusted. The rowwise quantiser: its four blocks of rows, the scales' row, and the copy of the codes.
-/
module

public import proofs.«01_k».proof.Proof.Rows

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the rowwise quantiser leaves -/

/-- The greatest absolute values, by lanes, of a block of 32 rows from row `r0`, before window `n`; and of a block of 24. -/
abbrev acc32 (G : S120x7168.Idx → Elt F .f32) (r0 : ℕ) : ℕ → FVec F S32x128 .f32 := accOf 32 r0 k0_pay45 k0_pay48 G
abbrev acc24 (G : S120x7168.Idx → Elt F .f32) (r0 : ℕ) : ℕ → FVec F S24x128 .f32 := accOf 24 r0 k0_pay72 k0_pay75 G

/-- The codes of a window from its rows' scales and the window. -/
def q32 (s : Vec F S32x128 .f32) (v : Vec F S32x1024 .f32) : FVec F S32x1024 .fp8e4m3 :=
  k0_pay53 s (k0_pay4 v) (k0_pay5 s v) (k0_pay6 s v) (k0_pay7 s v) (k0_pay8 s v) (k0_pay9 s v) (k0_pay10 s v) (k0_pay11 v)
def q24 (s : Vec F S24x128 .f32) (v : Vec F S24x1024 .f32) : FVec F S24x1024 .fp8e4m3 :=
  k0_pay79 s (k0_pay28 v) (k0_pay29 s v) (k0_pay30 s v) (k0_pay31 s v) (k0_pay32 s v) (k0_pay33 s v) (k0_pay34 s v) (k0_pay35 v)

/-- The scales' buffer: a row's scale in each of its 128 lanes, and nothing but zeros in the rows from 120. -/
def scOf (G : S120x7168.Idx → Elt F .f32) : S128x128.Idx → Elt F .f32 := fun y =>
  if (y 0).val < 96 then k0_pay58 (acc32 G (32 * ((y 0).val / 32)) 7) (ValueIdx.ix2 (⟨(y 0).val % 32, Nat.mod_lt _ (by decide)⟩ : Fin 32) (y 1))
  else if (y 0).val < 120 then k0_pay76 (acc24 G 96 7) (ValueIdx.ix2 (⟨((y 0).val - 96) % 24, Nat.mod_lt _ (by decide)⟩ : Fin 24) (y 1))
  else k0_pay43 y

/-- The rows of the scales' buffer from row `r0`. -/
def scRows (nr r0 : ℕ) (G : S120x7168.Idx → Elt F .f32) : (Shape.mk 2 ![nr, 128]).Idx → Elt F .f32 :=
  fun x => scOf G (ValueIdx.ix2 (⟨(r0 + (x 0).val) % 128, Nat.mod_lt _ (by decide)⟩ : Fin 128) (x 1))

/-- The codes' buffer. -/
def qcOf (G : S120x7168.Idx → Elt F .f32) : S120x8192.Idx → Elt F .fp8e4m3 := fun y =>
  if (y 0).val < 96 then q32 (scRows 32 (32 * ((y 0).val / 32)) G) (winOf 32 (32 * ((y 0).val / 32)) G ((y 1).val / 1024))
    (ValueIdx.ix2 (⟨(y 0).val % 32, Nat.mod_lt _ (by decide)⟩ : Fin 32) (⟨(y 1).val % 1024, Nat.mod_lt _ (by decide)⟩ : Fin 1024))
  else q24 (scRows 24 96 G) (winOf 24 96 G ((y 1).val / 1024))
    (ValueIdx.ix2 (⟨((y 0).val - 96) % 24, Nat.mod_lt _ (by decide)⟩ : Fin 24) (⟨(y 1).val % 1024, Nat.mod_lt _ (by decide)⟩ : Fin 1024))

/-- The codes' other buffer, of 128 rows: the last eight are zeros. -/
def qkOf (G : S120x7168.Idx → Elt F .f32) : S128x8192.Idx → Elt F .fp8e4m3 := fun y =>
  if h : (y 0).val < 120 then qcOf G (ValueIdx.ix2 (⟨(y 0).val, h⟩ : Fin 120) (y 1)) else k0_pay42 y

/-- An index of two coordinates from their values. -/
theorem ix2_of {n0 n1 : ℕ} (x : (Shape.mk 2 ![n0, n1]).Idx) (a : Fin n0) (b : Fin n1) (h0 : a.val = (x 0).val) (h1 : b.val = (x 1).val) :
    ValueIdx.ix2 a b = x := by
  funext i
  fin_cases i
  · exact Fin.ext h0
  · exact Fin.ext h1

theorem scOf_32 (G : S120x7168.Idx → Elt F .f32) {k : ℕ} (hk : k < 3) (y : S128x128.Idx) (x : S32x128.Idx)
    (h0 : (y 0).val = 32 * k + (x 0).val) (h1 : (y 1).val = (x 1).val) : scOf G y = k0_pay58 (acc32 G (32 * k) 7) x := by
  have hx : (x 0).val < 32 := (x 0).isLt
  unfold scOf
  rw [if_pos (by omega), show (y 0).val / 32 = k by omega]
  refine congrArg _ (ix2_of x _ _ ?_ h1)
  show (y 0).val % 32 = _
  omega

theorem scOf_24 (G : S120x7168.Idx → Elt F .f32) (y : S128x128.Idx) (x : S24x128.Idx)
    (h0 : (y 0).val = 96 + (x 0).val) (h1 : (y 1).val = (x 1).val) : scOf G y = k0_pay76 (acc24 G 96 7) x := by
  have hx : (x 0).val < 24 := (x 0).isLt
  unfold scOf
  rw [if_neg (by omega), if_pos (by omega)]
  refine congrArg _ (ix2_of x _ _ ?_ h1)
  show ((y 0).val - 96) % 24 = _
  omega

theorem scOf_pad (G : S120x7168.Idx → Elt F .f32) (y : S128x128.Idx) (h0 : 120 ≤ (y 0).val) : scOf G y = k0_pay43 y := by
  unfold scOf
  rw [if_neg (by omega), if_neg (by omega)]

theorem scRows_eq {nr r0 : ℕ} {h : ∀ a, (![r0, 0] : Fin 2 → ℕ) a + (Shape.mk 2 ![nr, 128]).size a ≤ S128x128.size a} (G : S120x7168.Idx → Elt F .f32) :
    (fun x => scOf G ((Rect.unit (s := S128x128) ![r0, 0] (Shape.mk 2 ![nr, 128]).size h).emb x)) = scRows nr r0 G := by
  have hr : r0 + nr ≤ 128 := h 0
  funext x
  have hx : (x 0).val < nr := (x 0).isLt
  refine congrArg (scOf G) (ix2_of _ _ _ ?_ ?_).symm
  · rw [Rect.emb_apply]; show (r0 + (x 0).val) % 128 = r0 + 1 * (x 0).val; rw [Nat.mod_eq_of_lt (by omega)]; omega
  · rw [Rect.emb_apply]; show (x 1).val = 0 + 1 * (x 1).val; omega

theorem qcOf_32 (G : S120x7168.Idx → Elt F .f32) {k n : ℕ} (hk : k < 3) (y : S120x8192.Idx) (x : S32x1024.Idx)
    (h0 : (y 0).val = 32 * k + (x 0).val) (h1 : (y 1).val = 1024 * n + (x 1).val) :
    qcOf G y = q32 (scRows 32 (32 * k) G) (winOf 32 (32 * k) G n) x := by
  have hx : (x 0).val < 32 := (x 0).isLt
  have hx1 : (x 1).val < 1024 := (x 1).isLt
  unfold qcOf
  rw [if_pos (by omega), show (y 0).val / 32 = k by omega, show (y 1).val / 1024 = n by omega]
  refine congrArg _ (ix2_of x _ _ ?_ ?_)
  · show (y 0).val % 32 = _
    omega
  · show (y 1).val % 1024 = _
    omega

theorem qcOf_24 (G : S120x7168.Idx → Elt F .f32) {n : ℕ} (y : S120x8192.Idx) (x : S24x1024.Idx)
    (h0 : (y 0).val = 96 + (x 0).val) (h1 : (y 1).val = 1024 * n + (x 1).val) :
    qcOf G y = q24 (scRows 24 96 G) (winOf 24 96 G n) x := by
  have hx : (x 0).val < 24 := (x 0).isLt
  have hx1 : (x 1).val < 1024 := (x 1).isLt
  unfold qcOf
  rw [if_neg (by omega), show (y 1).val / 1024 = n by omega]
  refine congrArg _ (ix2_of x _ _ ?_ ?_)
  · show ((y 0).val - 96) % 24 = _
    omega
  · show (y 1).val % 1024 = _
    omega

/-! ## The state between the loops -/

variable (c : Dev nD)
variable (arg0 : Memref sig .tc .smem S704 .i32) (harg0 : arg0.IsWhole) (arg1 : Memref sig .tc .smem S45 .i32) (harg1 : arg1.IsWhole) (arg2 : Memref sig .tc .vmem S1x14336 .f32) (harg2 : arg2.IsWhole) (arg3 : Memref sig .tc .vmem S128x8192 .fp8e4m3) (harg3 : arg3.IsWhole) (arg4 : Memref sig .tc .vmem S128x128 .f32) (harg4 : arg4.IsWhole) (arg5 : Memref sig .tc .vmem S3x128x2176 .bf16) (harg5 : arg5.IsWhole) (arg6 : Memref sig .tc .vmem S1x8192 .f32) (harg6 : arg6.IsWhole) (arg7 : Memref sig .tc .vmem S120x8192 .f32) (harg7 : arg7.IsWhole)
  (arg11 : Memref sig .tc .vmem S120x7168 .f32) (harg11 : arg11.IsWhole) (arg13 : Memref sig .tc .vmem S1x120 .f32) (harg13 : arg13.IsWhole)
variable (G : S120x7168.Idx → Elt F .f32)

/-- The places quantised when the rows below `r` are, and those below `r'` in their first `1024 n` columns. -/
def InMid (r r' n i j : ℕ) : Prop := (i < r ∧ j < 7168) ∨ (i < r' ∧ j < 1024 * n)
/-- The places quantised when the rows below `r` are. -/
def InRows (r i j : ℕ) : Prop := i < r ∧ j < 7168

/-- The rows below `r` are quantised, those below `r'` in their first `1024 n` columns; the rows below `r'` have their scales. -/
def Mid (r r' n : ℕ) : sProp 𝕄 := iprop(owns (c : Thread nD τ) arg11 fullShare G ∗ Part c ascM (fun y => (y 0).val < r' ∨ 120 ≤ (y 0).val) (scOf G)
  ∗ Part c codesM (fun y => InMid r r' n (y 0).val (y 1).val ∨ 120 ≤ (y 0).val) (qkOf G) ∗ Part c coM (fun y => InMid r r' n (y 0).val (y 1).val) (qcOf G))

/-- The rows below `r` have their scales and are quantised. -/
def Rows (r : ℕ) : sProp 𝕄 := iprop(owns (c : Thread nD τ) arg11 fullShare G ∗ Some' (F := F) c hbM ∗ Part c ascM (fun y => (y 0).val < r ∨ 120 ≤ (y 0).val) (scOf G)
  ∗ Part c codesM (fun y => InRows r (y 0).val (y 1).val ∨ 120 ≤ (y 0).val) (qkOf G) ∗ Part c coM (fun y => InRows r (y 0).val (y 1).val) (qcOf G))

variable {α : Type}

/-- The first half of a block of rows: the loop that finds its greatest absolute values, -/
theorem half_a {A : Type} {r : ℕ} {L : Scf.Loop 32} {ok} {body : Fin L.trips → A → Prog (TpuEff nD τ sig (Elt F) Λ₀ .tc) A} (hn : L.trips = 7)
    (f : ℕ → A) (hbody : ∀ t : Fin L.trips, iprop(owns (c : Thread nD τ) arg11 fullShare G ∗ Some' (F := F) c hbM)
      ⊢ wp frame (wpE (defs₀ (F := F)) Variants.none c none) Set.univ (body t (f t.val))
        (fun a => iprop(⌜a = f (t.val + 1)⌝ ∗ owns (c : Thread nD τ) arg11 fullShare G ∗ Some' (F := F) c hbM)))
    {k : A → Prog (TpuEff nD τ sig (Elt F) Λ₀ .tc) α} {Q : α → sProp 𝕄} :
    Rows c arg11 G r ⊢ iprop((Rows c arg11 G r
        -∗ wp frame (wpE (defs₀ (F := F)) Variants.none c none) Set.univ (k (f 7)) Q)
      -∗ wp frame (wpE (defs₀ (F := F)) Variants.none c none) Set.univ (Scf.Loop.for L ok (f 0) body >>= k) Q) := by
  unfold Rows
  iintro ⟨H8, Hb, HA, HC, HO⟩ Hk
  iapply (loop_carry c hn f _ hbody) $$ [H8 Hb]
  · isplitl [H8]; · iexact H8
    iexact Hb
  iintro ⟨H8, Hb⟩
  iapply Hk
  isplitl [H8]; · iexact H8
  isplitl [Hb]; · iexact Hb
  isplitl [HA]; · iexact HA
  isplitl [HC]; · iexact HC
  iexact HO

/-- then the store of its scales. -/
theorem half_s {r nr : ℕ}
    {h : ∀ a, (![r, 0] : Fin 2 → ℕ) a + (Shape.mk 2 ![nr, 128]).size a ≤ S128x128.size a} {w : (Shape.mk 2 ![nr, 128]).Idx → Elt F .f32}
    (hS : ∀ x, w x = scOf G ((Rect.unit (s := S128x128) ![r, 0] (Shape.mk 2 ![nr, 128]).size h).emb x)) {hl hx hm}
    {k : PUnit → Prog (TpuEff nD τ sig (Elt F) Λ₀ .tc) α} {Q : α → sProp 𝕄} :
    Rows c arg11 G r ⊢ iprop((iprop(Some' (F := F) c hbM ∗ Mid c arg11 G r (r + nr) 0)
        -∗ wp frame (wpE (defs₀ (F := F)) Variants.none c none) Set.univ (k ⟨⟩) Q)
      -∗ wp frame (wpE (defs₀ (F := F)) Variants.none c none) Set.univ
        (.op (.load ascM (Rect.unit (s := S128x128) ![r, 0] (Shape.mk 2 ![nr, 128]).size h).toLoadRect hl) fun _ =>
          .op (.store ascM (Rect.unit (s := S128x128) ![r, 0] (Shape.mk 2 ![nr, 128]).size h) w Finset.univ hx hm) k) Q) := by
  unfold Rows Mid
  iintro ⟨H8, Hb, HA, HC, HO⟩ Hk
  iapply (part_load c) $$ HA
  iintro %v %hv HA
  iapply (part_store c (P' := fun y => (y 0).val < r + nr ∨ 120 ≤ (y 0).val) hS (fun y hy => ?_)) $$ HA
  · by_cases hr : (y 0).val < r ∨ 120 ≤ (y 0).val
    · exact .inl hr
    · refine .inr ?_
      rw [Rect.mem_set_unit]
      intro a
      fin_cases a
      · exact ⟨by show r ≤ (y 0).val; omega, by show (y 0).val < r + nr; omega⟩
      · exact ⟨Nat.zero_le _, by have h1 : (y 1).val < 128 := (y 1).isLt
                                 show (y 1).val < 0 + 128; omega⟩
  iintro HA
  iapply Hk
  isplitl [Hb]; · iexact Hb
  isplitl [H8]; · iexact H8
  isplitl [HA]; · iexact HA
  isplitl [HC]
  · iapply (part_mono c (fun y hy => ?_)) $$ HC
    unfold InMid at hy
    unfold InRows
    omega
  iapply (part_mono c (fun y hy => ?_)) $$ HO
  unfold InMid at hy
  unfold InRows
  omega

/-- The second half of a block of rows: the loop that stores its codes. -/
theorem half_b {r r' : ℕ} (hr : r ≤ r') {L : Scf.Loop 32} {ok} {body : Fin L.trips → Unit → Prog (TpuEff nD τ sig (Elt F) Λ₀ .tc) Unit} (hn : L.trips = 7)
    (hbody : ∀ t : Fin L.trips, Mid c arg11 G r r' t.val
      ⊢ wp frame (wpE (defs₀ (F := F)) Variants.none c none) Set.univ (body t ()) (fun _ => Mid c arg11 G r r' (t.val + 1)))
    {k : Unit → Prog (TpuEff nD τ sig (Elt F) Λ₀ .tc) α} {Q : α → sProp 𝕄} :
    iprop(Some' (F := F) c hbM ∗ Mid c arg11 G r r' 0) ⊢ iprop((Rows c arg11 G r'
        -∗ wp frame (wpE (defs₀ (F := F)) Variants.none c none) Set.univ (k ()) Q)
      -∗ wp frame (wpE (defs₀ (F := F)) Variants.none c none) Set.univ (Scf.Loop.for L ok () body >>= k) Q) := by
  iintro ⟨Hb, HM⟩ Hk
  iapply (loop_rule c hn (Mid c arg11 G r r') hbody) $$ HM
  unfold Mid Rows
  iintro ⟨H8, HA, HC, HO⟩
  iapply Hk
  isplitl [H8]; · iexact H8
  isplitl [Hb]; · iexact Hb
  isplitl [HA]; · iexact HA
  isplitl [HC]
  · iapply (part_mono c (fun y hy => ?_)) $$ HC
    unfold InRows at hy
    unfold InMid
    omega
  iapply (part_mono c (fun y hy => ?_)) $$ HO
  unfold InRows at hy
  unfold InMid
  omega

/-- What is quantised after one more window. -/
theorem inMid_succ {r nr n i j : ℕ} (h7 : 1024 * n + 1024 ≤ 7168) (h : InMid r (r + nr) (n + 1) i j) :
    InMid r (r + nr) n i j ∨ (r ≤ i ∧ i < r + nr ∧ 1024 * n ≤ j ∧ j < 1024 * n + 1024) := by
  unfold InMid at h ⊢
  omega

/-- One window of the second pass, from the state between windows. -/
theorem mid_trip {r nr n : ℕ} {h : ∀ a, (![r, 0] : Fin 2 → ℕ) a + (Shape.mk 2 ![nr, 128]).size a ≤ S128x128.size a}
    {o8 : Fin 2 → ℕ} {i8 : ∀ a, o8 a + (Shape.mk 2 ![nr, 1024]).size a ≤ S120x7168.size a}
    (e8 : o8 = ![r, 1024 * n]) {o12 : Fin 2 → ℕ} {i12 : ∀ a, o12 a + (Shape.mk 2 ![nr, 1024]).size a ≤ S128x8192.size a}
    (e12 : o12 = ![r, 1024 * n]) {o13 : Fin 2 → ℕ} {i13 : ∀ a, o13 a + (Shape.mk 2 ![nr, 1024]).size a ≤ S120x8192.size a}
    (e13 : o13 = ![r, 1024 * n])
    {w12 w13 : ((Shape.mk 2 ![nr, 128]).Idx → Elt F .f32) → ((Shape.mk 2 ![nr, 1024]).Idx → Elt F .f32) → (Shape.mk 2 ![nr, 1024]).Idx → Elt F .fp8e4m3}
    (hww : ∀ s v, w12 s v = w13 s v)
    (hw : ∀ (y : S120x8192.Idx) (x : (Shape.mk 2 ![nr, 1024]).Idx), (y 0).val = r + (x 0).val → (y 1).val = 1024 * n + (x 1).val →
      qcOf G y = w13 (scRows nr r G) (winOf nr r G n) x)
    {hlA hl8 hl12 hx12 hm12 hl13 hx13 hm13} :
    Mid c arg11 G r (r + nr) n
    ⊢ wp frame (wpE (defs₀ (F := F)) Variants.none c none) Set.univ
      (.op (.load ascM (Rect.unit (s := S128x128) ![r, 0] (Shape.mk 2 ![nr, 128]).size h).toLoadRect hlA) fun v81 =>
        .op (.load arg11 (Rect.unit (s := S120x7168) o8 (Shape.mk 2 ![nr, 1024]).size i8).toLoadRect hl8) fun v85 =>
        .op (.load codesM (Rect.unit (s := S128x8192) o12 (Shape.mk 2 ![nr, 1024]).size i12).toLoadRect hl12) fun _ =>
        .op (.store codesM (Rect.unit (s := S128x8192) o12 (Shape.mk 2 ![nr, 1024]).size i12) (w12 v81 v85) Finset.univ hx12 hm12) fun _ =>
        .op (.load coM (Rect.unit (s := S120x8192) o13 (Shape.mk 2 ![nr, 1024]).size i13).toLoadRect hl13) fun _ =>
        .op (.store coM (Rect.unit (s := S120x8192) o13 (Shape.mk 2 ![nr, 1024]).size i13) (w13 v81 v85) Finset.univ hx13 hm13) fun _ => .ret ())
      (fun _ => Mid c arg11 G r (r + nr) (n + 1)) := by
  have e8' : 1024 * n + 1024 ≤ 7168 := by subst e8; exact i8 1
  have hr : r + nr ≤ 120 := by subst e8; exact i8 0
  subst e12 e13
  unfold Mid
  refine quant_trip c (nr := nr) (rA := Rect.unit (s := S128x128) ![r, 0] (Shape.mk 2 ![nr, 128]).size h) (fun x => ?_) e8 (fun x => ?_) (fun y hy => ?_) (fun x => ?_) (fun y hy => ?_)
  · have hx : (x 0).val < nr := (x 0).isLt
    rw [Rect.emb_apply]
    left
    show r + 1 * (x 0).val < r + nr
    omega
  · have hx : (x 0).val < nr := (x 0).isLt
    rw [hww, scRows_eq G]
    unfold qkOf
    have e0 : (((Rect.unit (s := S128x8192) ![r, 1024 * n] (Shape.mk 2 ![nr, 1024]).size i12).emb x) 0).val = r + (x 0).val := by
      rw [Rect.emb_apply]; show r + 1 * (x 0).val = _; omega
    have e1 : (((Rect.unit (s := S128x8192) ![r, 1024 * n] (Shape.mk 2 ![nr, 1024]).size i12).emb x) 1).val = 1024 * n + (x 1).val := by
      rw [Rect.emb_apply]; show 1024 * n + 1 * (x 1).val = _; omega
    rw [dif_pos (by rw [e0]; omega)]
    exact (hw _ _ e0 e1).symm
  · rcases hy with hy | hy
    · rcases inMid_succ e8' hy with hy | ⟨a0, a1, a2, a3⟩
      · exact .inl (.inl hy)
      · refine .inr ?_
        rw [Rect.mem_set_unit]
        intro a
        fin_cases a
        · exact ⟨a0, a1⟩
        · exact ⟨a2, a3⟩
    · exact .inl (.inr hy)
  · rw [scRows_eq G]
    refine (hw _ _ ?_ ?_).symm
    · rw [Rect.emb_apply]; show r + 1 * (x 0).val = _; omega
    · rw [Rect.emb_apply]; show 1024 * n + 1 * (x 1).val = _; omega
  · rcases inMid_succ e8' hy with hy | ⟨a0, a1, a2, a3⟩
    · exact .inl hy
    · refine .inr ?_
      rw [Rect.mem_set_unit]
      intro a
      fin_cases a
      · exact ⟨a0, a1⟩
      · exact ⟨a2, a3⟩

/-! ## The loops of each block -/

theorem t6_trips : k0_t6_loop.trips = 7 := by decide +kernel
theorem t7_trips : k0_t7_loop.trips = 7 := by decide +kernel
theorem t8_trips : k0_t8_loop.trips = 7 := by decide +kernel
theorem t9_trips : k0_t9_loop.trips = 7 := by decide +kernel
theorem t10_trips : k0_t10_loop.trips = 7 := by decide +kernel
theorem t11_trips : k0_t11_loop.trips = 7 := by decide +kernel
theorem t12_trips : k0_t12_loop.trips = 7 := by decide +kernel
theorem t13_trips : k0_t13_loop.trips = 7 := by decide +kernel
theorem off66_eq : ∀ t : Fin k0_t6_loop.trips, k0_off66 t = ![0, 1024 * t.val] := by decide +kernel
theorem off68_eq : ∀ t : Fin k0_t7_loop.trips, k0_off68 t = ![0, 1024 * t.val] := by decide +kernel
theorem off69_eq : ∀ t : Fin k0_t7_loop.trips, k0_off69 t = ![0, 1024 * t.val] := by decide +kernel
theorem off70_eq : ∀ t : Fin k0_t7_loop.trips, k0_off70 t = ![0, 1024 * t.val] := by decide +kernel
theorem off71_eq : ∀ t : Fin k0_t8_loop.trips, k0_off71 t = ![32, 1024 * t.val] := by decide +kernel
theorem off73_eq : ∀ t : Fin k0_t9_loop.trips, k0_off73 t = ![32, 1024 * t.val] := by decide +kernel
theorem off74_eq : ∀ t : Fin k0_t9_loop.trips, k0_off74 t = ![32, 1024 * t.val] := by decide +kernel
theorem off75_eq : ∀ t : Fin k0_t9_loop.trips, k0_off75 t = ![32, 1024 * t.val] := by decide +kernel
theorem off76_eq : ∀ t : Fin k0_t10_loop.trips, k0_off76 t = ![64, 1024 * t.val] := by decide +kernel
theorem off78_eq : ∀ t : Fin k0_t11_loop.trips, k0_off78 t = ![64, 1024 * t.val] := by decide +kernel
theorem off79_eq : ∀ t : Fin k0_t11_loop.trips, k0_off79 t = ![64, 1024 * t.val] := by decide +kernel
theorem off80_eq : ∀ t : Fin k0_t11_loop.trips, k0_off80 t = ![64, 1024 * t.val] := by decide +kernel
theorem off81_eq : ∀ t : Fin k0_t12_loop.trips, k0_off81 t = ![96, 1024 * t.val] := by decide +kernel
theorem off83_eq : ∀ t : Fin k0_t13_loop.trips, k0_off83 t = ![96, 1024 * t.val] := by decide +kernel
theorem off84_eq : ∀ t : Fin k0_t13_loop.trips, k0_off84 t = ![96, 1024 * t.val] := by decide +kernel
theorem off85_eq : ∀ t : Fin k0_t13_loop.trips, k0_off85 t = ![96, 1024 * t.val] := by decide +kernel

theorem t6_trip (t : Fin k0_t6_loop.trips) : iprop(owns (c : Thread nD τ) arg11 fullShare G ∗ Some' (F := F) c hbM)
      ⊢ wp frame (wpE (defs₀ (F := F)) Variants.none c none) Set.univ (k0_t6_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 t (acc32 G 0 t.val))
        (fun a => iprop(⌜a = acc32 G 0 (t.val + 1)⌝ ∗ owns (c : Thread nD τ) arg11 fullShare G ∗ Some' (F := F) c hbM)) := by
  unfold k0_t6_body
  exact amax_trip c (off66_eq t)

theorem t7_trip (v27 : FVec F S32x128 .f32) (t : Fin k0_t7_loop.trips) : Mid c arg11 G 0 32 t.val
      ⊢ wp frame (wpE (defs₀ (F := F)) Variants.none c none) Set.univ (k0_t7_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 v27 t ())
        (fun _ => Mid c arg11 G 0 32 (t.val + 1)) := by
  unfold k0_t7_body
  rw [k0_part4_eq_skeleton]
  unfold k0_part4_skel
  exact mid_trip c arg11 G (nr := 32) (off68_eq t) (off69_eq t) (off70_eq t) (w13 := q32) (fun _ _ => rfl) (fun y x h0 h1 => qcOf_32 G (k := 0) (by omega) y x h0 h1)

theorem t8_trip (v27 : FVec F S32x128 .f32) (t : Fin k0_t8_loop.trips) : iprop(owns (c : Thread nD τ) arg11 fullShare G ∗ Some' (F := F) c hbM)
      ⊢ wp frame (wpE (defs₀ (F := F)) Variants.none c none) Set.univ (k0_t8_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 v27 t (acc32 G 32 t.val))
        (fun a => iprop(⌜a = acc32 G 32 (t.val + 1)⌝ ∗ owns (c : Thread nD τ) arg11 fullShare G ∗ Some' (F := F) c hbM)) := by
  unfold k0_t8_body
  exact amax_trip c (off71_eq t)

theorem t9_trip (v27 : FVec F S32x128 .f32) (t : Fin k0_t9_loop.trips) : Mid c arg11 G 32 64 t.val
      ⊢ wp frame (wpE (defs₀ (F := F)) Variants.none c none) Set.univ (k0_t9_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 v27 t ())
        (fun _ => Mid c arg11 G 32 64 (t.val + 1)) := by
  unfold k0_t9_body
  rw [k0_part5_eq_skeleton]
  unfold k0_part5_skel
  exact mid_trip c arg11 G (nr := 32) (off73_eq t) (off74_eq t) (off75_eq t) (w13 := q32) (fun _ _ => rfl) (fun y x h0 h1 => qcOf_32 G (k := 1) (by omega) y x h0 h1)

theorem t10_trip (v27 : FVec F S32x128 .f32) (t : Fin k0_t10_loop.trips) : iprop(owns (c : Thread nD τ) arg11 fullShare G ∗ Some' (F := F) c hbM)
      ⊢ wp frame (wpE (defs₀ (F := F)) Variants.none c none) Set.univ (k0_t10_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 v27 t (acc32 G 64 t.val))
        (fun a => iprop(⌜a = acc32 G 64 (t.val + 1)⌝ ∗ owns (c : Thread nD τ) arg11 fullShare G ∗ Some' (F := F) c hbM)) := by
  unfold k0_t10_body
  exact amax_trip c (off76_eq t)

theorem t11_trip (v53 : FVec F S32x1 .f32) (v55 : IVec S32x1 1) (cst : F .f32) (t : Fin k0_t11_loop.trips) : Mid c arg11 G 64 96 t.val
      ⊢ wp frame (wpE (defs₀ (F := F)) Variants.none c none) Set.univ (k0_t11_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 v53 v55 cst t ())
        (fun _ => Mid c arg11 G 64 96 (t.val + 1)) := by
  unfold k0_t11_body
  rw [k0_part6_eq_skeleton]
  unfold k0_part6_skel
  exact mid_trip c arg11 G (nr := 32) (off78_eq t) (off79_eq t) (off80_eq t) (w13 := q32) (fun _ _ => rfl) (fun y x h0 h1 => qcOf_32 G (k := 2) (by omega) y x h0 h1)

theorem t12_trip (v53 : FVec F S32x1 .f32) (v55 : IVec S32x1 1) (cst : F .f32) (t : Fin k0_t12_loop.trips) : iprop(owns (c : Thread nD τ) arg11 fullShare G ∗ Some' (F := F) c hbM)
      ⊢ wp frame (wpE (defs₀ (F := F)) Variants.none c none) Set.univ (k0_t12_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 v53 v55 cst t (acc24 G 96 t.val))
        (fun a => iprop(⌜a = acc24 G 96 (t.val + 1)⌝ ∗ owns (c : Thread nD τ) arg11 fullShare G ∗ Some' (F := F) c hbM)) := by
  unfold k0_t12_body
  exact amax_trip c (off81_eq t)

theorem t13_trip (v53 : FVec F S32x1 .f32) (v55 : IVec S32x1 1) (cst : F .f32) (t : Fin k0_t13_loop.trips) : Mid c arg11 G 96 120 t.val
      ⊢ wp frame (wpE (defs₀ (F := F)) Variants.none c none) Set.univ (k0_t13_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 v53 v55 cst t ())
        (fun _ => Mid c arg11 G 96 120 (t.val + 1)) := by
  unfold k0_t13_body
  rw [k0_part7_eq_skeleton]
  unfold k0_part7_skel
  exact mid_trip c arg11 G (nr := 24) (off83_eq t) (off84_eq t) (off85_eq t) (w13 := q24) (fun _ _ => rfl) (fun y x h0 h1 => qcOf_24 G y x h0 h1)

end Cert.KernelIdeal.Hand

end
-- ==== Proof.Down.lean ====
/-
  Hand-written, untrusted. One step of the down projection: it waits for its four tiles, computes 512 columns of the two
  results from them, gives those to the copies out, and starts the items that take the places it frees.
-/
module

public import proofs.«01_k».proof.Proof.Out
public import proofs.«01_k».proof.Proof.Quant

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (Vw : Buf (Elt F) (wguM.view.loc (c : Thread nD τ))) (Vd : Buf (Elt F) (wdM.view.loc (c : Thread nD τ))) (Vp : Buf (Elt F) (poolM.view.loc (c : Thread nD τ)))
variable (arg0 : Memref sig .tc .smem S704 .i32) (harg0 : arg0.IsWhole) (arg1 : Memref sig .tc .smem S45 .i32) (harg1 : arg1.IsWhole) (arg2 : Memref sig .tc .vmem S1x14336 .f32) (harg2 : arg2.IsWhole) (arg3 : Memref sig .tc .vmem S128x8192 .fp8e4m3) (harg3 : arg3.IsWhole) (arg4 : Memref sig .tc .vmem S128x128 .f32) (harg4 : arg4.IsWhole) (arg5 : Memref sig .tc .vmem S3x128x2176 .bf16) (harg5 : arg5.IsWhole) (arg6 : Memref sig .tc .vmem S1x8192 .f32) (harg6 : arg6.IsWhole) (arg7 : Memref sig .tc .vmem S120x8192 .f32) (harg7 : arg7.IsWhole)
  (arg11 : Memref sig .tc .vmem S120x7168 .f32) (harg11 : arg11.IsWhole) (arg13 : Memref sig .tc .vmem S1x120 .f32) (harg13 : arg13.IsWhole)

theorem t14_lt (t : Fin k0_t14_loop.trips) : t.val < 16 := lt_of_lt_of_eq t.isLt t14_trips

/-- Item `i`'s tile of the down weights. -/
abbrev tileD (i : ℕ) : S7168x256.Idx → Elt F .fp8e4m3 := (srcD i).view.read (Elt F) Vd

/-- The weight scales of a step, -/
abbrev scaleD (X6 : S1x8192.Idx → Elt F .f32) (t : Fin k0_t14_loop.trips) : FVec F S1x512 .f32 :=
  k0_pay36 (fun x : (Rect.unit (s := S1x8192) (k0_off86 t) S1x512.size (k0_off86_inb t)).shape.Idx => X6 ((Rect.unit (s := S1x8192) (k0_off86 t) S1x512.size (k0_off86_inb t)).emb x))

/-- its codes with its two weight tiles, side by side, scaled; -/
abbrev mainD (X6 : S1x8192.Idx → Elt F .f32) (QK : S128x8192.Idx → Elt F .fp8e4m3) (SC : S128x128.Idx → Elt F .f32) (t : Fin k0_t14_loop.trips) : FVec F S128x512 .f32 :=
  k0_pay38 (scaleD X6 t) (tileD c Vd (4 * (28 + t.val))) (tileD c Vd (4 * (28 + t.val) + 2))
    (fun x : (Rect.unit (s := S128x8192) ![0, 0] S128x7168.size inb_S128x8192_S128x7168_0_0).shape.Idx => QK ((Rect.unit (s := S128x8192) ![0, 0] S128x7168.size inb_S128x8192_S128x7168_0_0).emb x))
    (ascOf SC)

/-- the adapter's rows of a step. -/
abbrev t2Of (X5 : S3x128x2176.Idx → Elt F .bf16) : Vec F S1x128x2176 .bf16 :=
  (fun x : (Rect.unit (s := S3x128x2176) ![2, 0, 0] S1x128x2176.size inb_S3x128x2176_S1x128x2176_2_0_0).shape.Idx => X5 ((Rect.unit (s := S3x128x2176) ![2, 0, 0] S1x128x2176.size inb_S3x128x2176_S1x128x2176_2_0_0).emb x))

/-- The adapter's product of a step, and its rows of the result. -/
abbrev loraD (X5 : S3x128x2176.Idx → Elt F .bf16) (t : Fin k0_t14_loop.trips) : FVec F S128x512 .f32 :=
  k0_pay37 (tileP c Vp (4 * (28 + t.val) + 1)) (tileP c Vp (4 * (28 + t.val) + 3)) (t2Of X5)
abbrev deltaD (X5 : S3x128x2176.Idx → Elt F .bf16) (t : Fin k0_t14_loop.trips) : FVec F S120x512 .f32 :=
  k0_pay39 (tileP c Vp (4 * (28 + t.val) + 1)) (tileP c Vp (4 * (28 + t.val) + 3)) (t2Of X5)

/-- The columns of the residual a step adds. -/
abbrev resD (X7 : S120x8192.Idx → Elt F .f32) (t : Fin k0_t14_loop.trips) : Vec F S120x512 .f32 :=
  (fun x : (Rect.unit (s := S120x8192) (k0_off112 t) S120x512.size (k0_off112_inb t)).shape.Idx => X7 ((Rect.unit (s := S120x8192) (k0_off112 t) S120x512.size (k0_off112_inb t)).emb x))

/-- What the first part of a step hands on. -/
abbrev part8Out (X6 : S1x8192.Idx → Elt F .f32) (t : Fin k0_t14_loop.trips) :
    Σ' (arg27 : BitVec 32) (v115 : BitVec 32) (v116 : BitVec 32) (v118 : BitVec 32) (v121 : FVec F S1x512 .f32) (v138 : Elt F .i32) (k0_hw28 : k0_chk28 v138) (v139 : BitVec 32) (v140 : BitVec 32) (v144 : Elt F .i32), k0_chk29 v144 :=
  ⟨(Scf.iv 0#32 1#32 t), Scalar.muli (Scf.iv 0#32 1#32 t) 512#32, Scalar.remsi (Scf.iv 0#32 1#32 t) 2#32, (Scalar.addi 112#32 (Scalar.muli 4#32 (Scf.iv 0#32 1#32 t))), scaleD X6 t, wOff (4 * (28 + t.val)), chk28 ⟨4 * (28 + t.val), by have := t14_lt t; omega⟩ ⟨by show (4 * (28 + t.val)) % 2 = 0; omega, by show ¬ (4 * (28 + t.val)) < 112; omega⟩, wOff (4 * (28 + t.val)),
    Scalar.addi (Scalar.addi 112#32 (Scalar.muli 4#32 (Scf.iv 0#32 1#32 t))) 1#32, wOff (4 * (28 + t.val) + 1), chk29 ⟨4 * (28 + t.val) + 1, by have := t14_lt t; omega⟩ (by show (4 * (28 + t.val) + 1) % 2 = 1; omega)⟩

/-- The first part of a step: it reads the scales and waits for the first weight tile. -/
theorem part8_run (t : Fin k0_t14_loop.trips) {hi : ℕ} (hhi : hi ≤ 176) (hlo : 4 * (28 + t.val) + 4 ≤ hi) (hw : hi ≤ 4 * (28 + t.val) + 22) (hF : Far (4 * (28 + t.val)) hi)
    {q6 : PosShare TreeShare} {X6 : S1x8192.Idx → Elt F .f32} {Q : _ → sProp 𝕄} :
    iprop(Ring c Vw Vd Vp (4 * (28 + t.val)) (4 * (28 + t.val)) hi ∗ Tab (F := F) c arg0 ∗ owns (c : Thread nD τ) arg6 q6 X6 ∗ (∃ W, owes (c : Thread nD τ) 0 W))
      ⊢ iprop((iprop(Ring c Vw Vd Vp (4 * (28 + t.val)) (4 * (28 + t.val) + 1) hi ∗ LandD c Vd (4 * (28 + t.val)) ∗ Tab (F := F) c arg0 ∗ owns (c : Thread nD τ) arg6 q6 X6 ∗ (∃ W, owes (c : Thread nD τ) 0 W))
          -∗ Q (part8Out X6 t))
        -∗ wp frame (wpE (defs₀ (F := F)) Variants.none c none) Set.univ
          (k0_part8 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 0#32 1#32 t) Q) := by
  have ht := t14_lt t
  rw [k0_part8_eq_skeleton]
  unfold k0_part8_skel
  iintro ⟨HR, HT, H6, HW⟩ Hk
  iapply (own_load c (M := arg6) (r := Rect.unit (s := S1x8192) (k0_off86 t) S1x512.size (k0_off86_inb t))) $$ H6
  iintro H6
  iapply (tab_load c (h1 := numel1_S1) (hp := rfl) (n := 4 * (4 * (28 + t.val)) + 3) (by omega) (off87_eq t) (lit_off ⟨4 * (28 + t.val), by omega⟩)) $$ HT
  iintro HT
  iapply (wp_assume Variants.none (c : Thread nD τ) none Set.univ (chk27 ⟨4 * (28 + t.val), by have := t14_lt t; omega⟩ ⟨by show (4 * (28 + t.val)) % 2 = 0; omega, by show ¬ (4 * (28 + t.val)) < 112; omega⟩))
  icases HW with ⟨%W0, HW⟩
  iapply (ring_wait_down c Vw Vd Vp (mid := 4 * (28 + t.val)) (lo := 4 * (28 + t.val)) (hi := hi) (by omega) hhi (by omega) ⟨by omega, by omega⟩
    (off89_down ⟨4 * (28 + t.val), by have := t14_lt t; omega⟩ ⟨by show (4 * (28 + t.val)) % 2 = 0; omega, by show ¬ (4 * (28 + t.val)) < 112; omega⟩) (off88_eq t)) $$ [HR HW]
  · isplitl [HR]; · iexact HR
    iexact HW
  iintro ⟨HR, HL0, HW⟩
  iapply (tab_load c (h1 := numel1_S1) (hp := rfl) (n := 4 * (4 * (28 + t.val)) + 3) (by omega) (off90_eq t) (lit_off ⟨4 * (28 + t.val), by omega⟩)) $$ HT
  iintro HT
  iapply (wp_assume Variants.none (c : Thread nD τ) none Set.univ (chk28 ⟨4 * (28 + t.val), by have := t14_lt t; omega⟩ ⟨by show (4 * (28 + t.val)) % 2 = 0; omega, by show ¬ (4 * (28 + t.val)) < 112; omega⟩))
  iapply (tab_load c (h1 := numel1_S1) (hp := rfl) (n := 4 * (4 * (28 + t.val) + 1) + 3) (by omega) (off91_eq t) (lit_off ⟨4 * (28 + t.val) + 1, by omega⟩)) $$ HT
  iintro HT
  iapply (wp_assume Variants.none (c : Thread nD τ) none Set.univ (chk29 ⟨4 * (28 + t.val) + 1, by have := t14_lt t; omega⟩ (by show (4 * (28 + t.val) + 1) % 2 = 1; omega)))
  iapply (finish c)
  iapply Hk
  isplitl [HR]; · iexact HR
  isplitl [HL0]; · iexact HL0
  isplitl [HT]; · iexact HT
  isplitl [H6]; · iexact H6
  iexact HW

/-- What the second part of a step hands on. -/
abbrev part9Out (t : Fin k0_t14_loop.trips) :
    Σ' (v156 : Elt F .i32) (k0_hw30 : k0_chk30 v156) (v157 : BitVec 32) (v174 : Elt F .i32) (k0_hw32 : k0_chk32 v174) (v175 : BitVec 32) (v176 : BitVec 32) (v180 : Elt F .i32), k0_chk33 v180 :=
  ⟨wOff (4 * (28 + t.val) + 1), chk30 ⟨4 * (28 + t.val) + 1, by have := t14_lt t; omega⟩ (by show (4 * (28 + t.val) + 1) % 2 = 1; omega), wOff (4 * (28 + t.val) + 1), wOff (4 * (28 + t.val) + 2), chk32 ⟨4 * (28 + t.val) + 2, by have := t14_lt t; omega⟩ ⟨by show (4 * (28 + t.val) + 2) % 2 = 0; omega, by show ¬ (4 * (28 + t.val) + 2) < 112; omega⟩, wOff (4 * (28 + t.val) + 2), Scalar.addi (Scalar.addi 112#32 (Scalar.muli 4#32 (Scf.iv 0#32 1#32 t))) 3#32, wOff (4 * (28 + t.val) + 3), chk33 ⟨4 * (28 + t.val) + 3, by have := t14_lt t; omega⟩ (by show (4 * (28 + t.val) + 3) % 2 = 1; omega)⟩

/-- The second part of a step: it waits for the first pool tile and the second weight tile. -/
theorem part9_run (t : Fin k0_t14_loop.trips) {hi : ℕ} (hhi : hi ≤ 176) (hlo : 4 * (28 + t.val) + 4 ≤ hi) (hw : hi ≤ 4 * (28 + t.val) + 22) (hF : Far (4 * (28 + t.val)) hi)
    {v140 : BitVec 32} {h29} {Q : _ → sProp 𝕄} :
    iprop(Ring c Vw Vd Vp (4 * (28 + t.val)) (4 * (28 + t.val) + 1) hi ∗ Tab (F := F) c arg0 ∗ (∃ W, owes (c : Thread nD τ) 0 W))
      ⊢ iprop((iprop(Ring c Vw Vd Vp (4 * (28 + t.val)) (4 * (28 + t.val) + 3) hi ∗ LandP c Vp (4 * (28 + t.val) + 1) ∗ LandD c Vd (4 * (28 + t.val) + 2) ∗ Tab (F := F) c arg0 ∗ (∃ W, owes (c : Thread nD τ) 0 W))
          -∗ Q (part9Out (F := F) t))
        -∗ wp frame (wpE (defs₀ (F := F)) Variants.none c none) Set.univ
          (k0_part9 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 t (Scalar.addi 112#32 (Scalar.muli 4#32 (Scf.iv 0#32 1#32 t))) v140 (wOff (4 * (28 + t.val) + 1)) h29) Q) := by
  have ht := t14_lt t
  rw [k0_part9_eq_skeleton]
  unfold k0_part9_skel
  iintro ⟨HR, HT, HW⟩ Hk
  icases HW with ⟨%W1, HW⟩
  iapply (ring_wait_pool c Vw Vd Vp (mid := 4 * (28 + t.val)) (lo := 4 * (28 + t.val) + 1) (hi := hi) (by omega) hhi (by omega) (by omega)
    (off93_odd ⟨4 * (28 + t.val) + 1, by have := t14_lt t; omega⟩ (by show (4 * (28 + t.val) + 1) % 2 = 1; omega)) (off92_eq t)) $$ [HR HW]
  · isplitl [HR]; · iexact HR
    iexact HW
  iintro ⟨HR, HL1, HW⟩
  iapply (tab_load c (h1 := numel1_S1) (hp := rfl) (n := 4 * (4 * (28 + t.val) + 1) + 3) (by omega) (off94_eq t) (lit_off ⟨4 * (28 + t.val) + 1, by omega⟩)) $$ HT
  iintro HT
  iapply (wp_assume Variants.none (c : Thread nD τ) none Set.univ (chk30 ⟨4 * (28 + t.val) + 1, by have := t14_lt t; omega⟩ (by show (4 * (28 + t.val) + 1) % 2 = 1; omega)))
  iapply (tab_load c (h1 := numel1_S1) (hp := rfl) (n := 4 * (4 * (28 + t.val) + 2) + 3) (by omega) (off95_eq t) (lit_off ⟨4 * (28 + t.val) + 2, by omega⟩)) $$ HT
  iintro HT
  iapply (wp_assume Variants.none (c : Thread nD τ) none Set.univ (chk31 ⟨4 * (28 + t.val) + 2, by have := t14_lt t; omega⟩ ⟨by show (4 * (28 + t.val) + 2) % 2 = 0; omega, by show ¬ (4 * (28 + t.val) + 2) < 112; omega⟩))
  icases HW with ⟨%W2, HW⟩
  iapply (ring_wait_down c Vw Vd Vp (mid := 4 * (28 + t.val)) (lo := 4 * (28 + t.val) + 2) (hi := hi) (by omega) hhi (by omega) ⟨by omega, by omega⟩
    (off97_down ⟨4 * (28 + t.val) + 2, by have := t14_lt t; omega⟩ ⟨by show (4 * (28 + t.val) + 2) % 2 = 0; omega, by show ¬ (4 * (28 + t.val) + 2) < 112; omega⟩) (off96_eq t)) $$ [HR HW]
  · isplitl [HR]; · iexact HR
    iexact HW
  iintro ⟨HR, HL2, HW⟩
  iapply (tab_load c (h1 := numel1_S1) (hp := rfl) (n := 4 * (4 * (28 + t.val) + 2) + 3) (by omega) (off98_eq t) (lit_off ⟨4 * (28 + t.val) + 2, by omega⟩)) $$ HT
  iintro HT
  iapply (wp_assume Variants.none (c : Thread nD τ) none Set.univ (chk32 ⟨4 * (28 + t.val) + 2, by have := t14_lt t; omega⟩ ⟨by show (4 * (28 + t.val) + 2) % 2 = 0; omega, by show ¬ (4 * (28 + t.val) + 2) < 112; omega⟩))
  iapply (tab_load c (h1 := numel1_S1) (hp := rfl) (n := 4 * (4 * (28 + t.val) + 3) + 3) (by omega) (off99_eq t) (lit_off ⟨4 * (28 + t.val) + 3, by omega⟩)) $$ HT
  iintro HT
  iapply (wp_assume Variants.none (c : Thread nD τ) none Set.univ (chk33 ⟨4 * (28 + t.val) + 3, by have := t14_lt t; omega⟩ (by show (4 * (28 + t.val) + 3) % 2 = 1; omega)))
  iapply (finish c)
  iapply Hk
  isplitl [HR]; · iexact HR
  isplitl [HL1]; · iexact HL1
  isplitl [HL2]; · iexact HL2
  isplitl [HT]; · iexact HT
  iexact HW

variable (VO : Buf (Elt F) (outM.view.loc (c : Thread nD τ))) (VD : Buf (Elt F) (ddM.view.loc (c : Thread nD τ)))

/-- The copies out between steps: before step `n` the last two steps' tiles are in flight. -/
def Both (lo n : ℕ) : sProp 𝕄 := iprop(Outs c ostM outM 0 VO lo n n ∗ Outs c dstM ddM 1 VD lo n n)
/-- In the middle of step `n`: its slots are its own. -/
def Opened (lo n : ℕ) : sProp 𝕄 := iprop(Outs c ostM outM 0 VO lo (n + 1) n ∗ Outs c dstM ddM 1 VD lo (n + 1) n ∗ Slot (F := F) c ostM n)

/-- The third part of a step: it waits for the second pool tile, reads the four tiles, the codes and their scales, gives the
    tiles' places back, and waits for the copies two steps before. -/
theorem part10_run (t : Fin k0_t14_loop.trips) {hi : ℕ} (hhi : hi ≤ 176) (hlo : 4 * (28 + t.val) + 4 ≤ hi) (hw : hi ≤ 4 * (28 + t.val) + 22) (hF : Far (4 * (28 + t.val)) hi)
    {q5 : PosShare TreeShare} {X5 : S3x128x2176.Idx → Elt F .bf16} {X6 : S1x8192.Idx → Elt F .f32}
    {PK : S128x8192.Idx → Prop} {QK : S128x8192.Idx → Elt F .fp8e4m3} (hPK : ∀ y, (y 1).val < 7168 → PK y)
    {PA : S128x128.Idx → Prop} {SC : S128x128.Idx → Elt F .f32} (hPA : ∀ y, PA y)
    {a1 a2 v139 v157 v175 v176 : BitVec 32} {h28 h30 h32 h33} {Q : _ → sProp 𝕄} :
    iprop(Ring c Vw Vd Vp (4 * (28 + t.val)) (4 * (28 + t.val) + 3) hi ∗ LandD c Vd (4 * (28 + t.val)) ∗ LandP c Vp (4 * (28 + t.val) + 1) ∗ LandD c Vd (4 * (28 + t.val) + 2)
        ∗ Tab (F := F) c arg0 ∗ owns (c : Thread nD τ) arg5 q5 X5 ∗ Part c codesM PK QK ∗ Part c ascM PA SC ∗ Both c VO VD (t.val - 2) t.val ∗ (∃ W, owes (c : Thread nD τ) 0 W))
      ⊢ iprop((∀ v, iprop(Ring c Vw Vd Vp (4 * (28 + t.val) + 4) (4 * (28 + t.val) + 4) hi
        ∗ Tab (F := F) c arg0 ∗ owns (c : Thread nD τ) arg5 q5 X5 ∗ Part c codesM PK QK ∗ Part c ascM PA SC
        ∗ Opened c VO VD (t.val + 1 - 2) t.val ∗ Slot (F := F) c dstM t.val ∗ (∃ W, owes (c : Thread nD τ) 0 W))
          -∗ Q ⟨loraD c Vp X5 t, mainD c Vd X6 QK SC t, deltaD c Vp X5 t, v⟩)
        -∗ wp frame (wpE (defs₀ (F := F)) Variants.none c none) Set.univ
          (k0_part10 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 t a1 a2 (scaleD X6 t) (wOff (4 * (28 + t.val))) h28 v139 (wOff (4 * (28 + t.val) + 1)) h30 v157 (wOff (4 * (28 + t.val) + 2)) h32 v175 v176 (wOff (4 * (28 + t.val) + 3)) h33) Q) := by
  have ht := t14_lt t
  rw [k0_part10_eq_skeleton]
  unfold k0_part10_skel Both
  iintro ⟨HR, HL0, HL1, HL2, HT, H5, HC, HA, ⟨HO, HD⟩, HW⟩ Hk
  icases HW with ⟨%W3, HW⟩
  iapply (ring_wait_pool c Vw Vd Vp (mid := 4 * (28 + t.val)) (lo := 4 * (28 + t.val) + 3) (hi := hi) (by omega) hhi (by omega) (by omega)
    (off101_odd ⟨4 * (28 + t.val) + 3, by have := t14_lt t; omega⟩ (by show (4 * (28 + t.val) + 3) % 2 = 1; omega)) (off100_eq t)) $$ [HR HW]
  · isplitl [HR]; · iexact HR
    iexact HW
  iintro ⟨HR, HL3, HW⟩
  iapply (tab_load c (h1 := numel1_S1) (hp := rfl) (n := 4 * (4 * (28 + t.val) + 3) + 3) (by omega) (off102_eq t) (lit_off ⟨4 * (28 + t.val) + 3, by omega⟩)) $$ HT
  iintro HT
  iapply (wp_assume Variants.none (c : Thread nD τ) none Set.univ (chk34 ⟨4 * (28 + t.val) + 3, by have := t14_lt t; omega⟩ (by show (4 * (28 + t.val) + 3) % 2 = 1; omega)))
  iapply (land_load_down c Vd (i := 4 * (28 + t.val)) (off103_down ⟨4 * (28 + t.val), by have := t14_lt t; omega⟩ ⟨by show (4 * (28 + t.val)) % 2 = 0; omega, by show ¬ (4 * (28 + t.val)) < 112; omega⟩)) $$ HL0
  iintro HL0
  iapply (land_load_down c Vd (i := 4 * (28 + t.val) + 2) (off104_down ⟨4 * (28 + t.val) + 2, by have := t14_lt t; omega⟩ ⟨by show (4 * (28 + t.val) + 2) % 2 = 0; omega, by show ¬ (4 * (28 + t.val) + 2) < 112; omega⟩)) $$ HL2
  iintro HL2
  iapply (part_load_all c (M := codesM) (r := Rect.unit (s := S128x8192) ![0, 0] S128x7168.size inb_S128x8192_S128x7168_0_0) (fun x => hPK _ (by
    have h1 : (x 1).val < 7168 := (x 1).isLt
    rw [Rect.emb_apply]; show 0 + 1 * (x 1).val < 7168; omega))) $$ HC
  iintro HC
  iapply (land_load_pool c Vp (i := 4 * (28 + t.val) + 1) (off105_odd ⟨4 * (28 + t.val) + 1, by have := t14_lt t; omega⟩ (by show (4 * (28 + t.val) + 1) % 2 = 1; omega))) $$ HL1
  iintro HL1
  iapply (land_load_pool c Vp (i := 4 * (28 + t.val) + 3) (off106_odd ⟨4 * (28 + t.val) + 3, by have := t14_lt t; omega⟩ (by show (4 * (28 + t.val) + 3) % 2 = 1; omega))) $$ HL3
  iintro HL3
  iapply (own_load c (M := arg5) (r := (Rect.unit (s := S3x128x2176) ![2, 0, 0] S1x128x2176.size inb_S3x128x2176_S1x128x2176_2_0_0))) $$ H5
  iintro H5
  iapply (part_load_all c (M := ascM) (r := Rect.unit (s := S128x128) ![0, 0] S128x1.size inb_S128x128_S128x1_0_0) (fun x => hPA _)) $$ HA
  iintro HA
  ihave HR := (ring_free_down c Vw Vd Vp (mid := 4 * (28 + t.val)) (lo := 4 * (28 + t.val) + 4) (hi := hi) (by omega) (by omega) (hF.mono (by omega) le_rfl) ⟨by omega, by omega⟩) $$ [HR HL0]
  · isplitl [HR]; · iexact HR
    iexact HL0
  ihave HR := (ring_free_pool c Vw Vd Vp (mid := 4 * (28 + t.val) + 1) (lo := 4 * (28 + t.val) + 4) (hi := hi) (by omega) (by omega) (hF.mono (by omega) le_rfl) (by omega)) $$ [HR HL1]
  · isplitl [HR]; · iexact HR
    iexact HL1
  ihave HR := (ring_free_down c Vw Vd Vp (mid := 4 * (28 + t.val) + 2) (lo := 4 * (28 + t.val) + 4) (hi := hi) (by omega) (by omega) (hF.mono (by omega) le_rfl) ⟨by omega, by omega⟩) $$ [HR HL2]
  · isplitl [HR]; · iexact HR
    iexact HL2
  ihave HR := (ring_free_pool c Vw Vd Vp (mid := 4 * (28 + t.val) + 3) (lo := 4 * (28 + t.val) + 4) (hi := hi) (by omega) (by omega) (hF.mono (by omega) le_rfl) (by omega)) $$ [HR HL3]
  · isplitl [HR]; · iexact HR
    iexact HL3
  have hX : ∀ v X, X = (⟨loraD c Vp X5 t, mainD c Vd X6 QK SC t, deltaD c Vp X5 t, v⟩ : Σ' (_ : FVec F S128x512 .f32) (_ : FVec F S128x512 .f32) (_ : FVec F S120x512 .f32), Vec F S1x120x512 .f32)
      → (Q ⟨loraD c Vp X5 t, mainD c Vd X6 QK SC t, deltaD c Vp X5 t, v⟩ : sProp 𝕄) ⊢ Q X := fun v X h => by rw [h]
  by_cases h2 : 2 ≤ t.val
  · iapply (take_then c ((cond13_iff t).mpr h2))
    icases HW with ⟨%Wa, HW⟩
    iapply (outs_wait c ostM outM 0 VO (lo := t.val - 2) (hi := t.val) (by omega) (by omega) (by omega) ((off107_eq t h2).trans (by rw [show (t.val - 2) % 2 = t.val % 2 by omega]; rfl))) $$ [HO HW]
    · isplitl [HO]; · iexact HO
      iexact HW
    iintro ⟨HO, HW⟩
    icases HW with ⟨%Wb, HW⟩
    iapply (outs_wait c dstM ddM 1 VD (lo := t.val - 2) (hi := t.val) (by omega) (by omega) (by omega) ((off110_eq t h2).trans (by rw [show (t.val - 2) % 2 = t.val % 2 by omega]; rfl))) $$ [HD HW]
    · isplitl [HD]; · iexact HD
      iexact HW
    iintro ⟨HD, HW⟩
    rw [show t.val - 2 + 1 = t.val + 1 - 2 by omega]
    ihave HO := (outs_take c ostM outM 0 VO (by omega) (by omega)) $$ HO
    icases HO with ⟨HSO, HO⟩
    ihave HD := (outs_take c dstM ddM 1 VD (by omega) (by omega)) $$ HD
    icases HD with ⟨HSD, HD⟩
    iapply (slot_load c dstM (i := t.val) (off111_eq t)) $$ HSD
    iintro %v HSD
    iapply (finish c)
    iapply (hX v _ ?_)
    · rfl
    ispecialize Hk $$ %v
    iapply Hk
    isplitl [HR]; · iexact HR
    isplitl [HT]; · iexact HT
    isplitl [H5]; · iexact H5
    isplitl [HC]; · iexact HC
    isplitl [HA]; · iexact HA
    isplitl [HO HD HSO]
    · unfold Opened
      isplitl [HO]; · iexact HO
      isplitl [HD]; · iexact HD
      iexact HSO
    isplitl [HSD]; · iexact HSD
    iexact HW
  · iapply (take_else c (fun h => h2 ((cond13_iff t).mp h)))
    rw [show t.val - 2 = t.val + 1 - 2 by omega]
    ihave HO := (outs_take c ostM outM 0 VO (by omega) (by omega)) $$ HO
    icases HO with ⟨HSO, HO⟩
    ihave HD := (outs_take c dstM ddM 1 VD (by omega) (by omega)) $$ HD
    icases HD with ⟨HSD, HD⟩
    iapply (slot_load c dstM (i := t.val) (off111_eq t)) $$ HSD
    iintro %v HSD
    iapply (finish c)
    iapply (hX v _ ?_)
    · rfl
    ispecialize Hk $$ %v
    iapply Hk
    isplitl [HR]; · iexact HR
    isplitl [HT]; · iexact HT
    isplitl [H5]; · iexact H5
    isplitl [HC]; · iexact HC
    isplitl [HA]; · iexact HA
    isplitl [HO HD HSO]
    · unfold Opened
      isplitl [HO]; · iexact HO
      isplitl [HD]; · iexact HD
      iexact HSO
    isplitl [HSD]; · iexact HSD
    iexact HW

/-- The last part of a step: it stores its tiles, starts their copies, and starts the items that take the freed places. -/
theorem part11_run (t : Fin k0_t14_loop.trips)
    {q7 : PosShare TreeShare} {X7 : S120x8192.Idx → Elt F .f32} {v210 v215 : FVec F S128x512 .f32} {v219 : FVec F S120x512 .f32} {v221 : Vec F S1x120x512 .f32}
    (hO : shapeCast S120x512 (k0_pay41 v210 v215 (resD X7 t)) (by decide) = (blkO outM t.val).view.read (Elt F) VO)
    (hD : shapeCast S120x512 (k0_pay40 v219) (by decide) = (blkO ddM t.val).view.read (Elt F) VD)
    {a0 a1 a2 : BitVec 32} {Q : _ → sProp 𝕄} :
    iprop(Ring c Vw Vd Vp (4 * (28 + t.val) + 4) (4 * (28 + t.val) + 4) (hiOf (28 + t.val))
        ∗ Tab (F := F) c arg0 ∗ HiTab (F := F) c arg1 ∗ owns (c : Thread nD τ) arg7 q7 X7 ∗ Opened c VO VD (t.val + 1 - 2) t.val ∗ Slot (F := F) c dstM t.val)
      ⊢ iprop((∀ w, iprop(Ring c Vw Vd Vp (4 * (28 + (t.val + 1))) (4 * (28 + (t.val + 1))) (hiOf (28 + (t.val + 1)))
        ∗ Tab (F := F) c arg0 ∗ HiTab (F := F) c arg1 ∗ owns (c : Thread nD τ) arg7 q7 X7 ∗ Both c VO VD (t.val + 1 - 2) (t.val + 1))
          -∗ Q ⟨wHi (28 + t.val), wHi (29 + t.val), chk35 ⟨t.val, t14_lt t⟩, w⟩)
        -∗ wp frame (wpE (defs₀ (F := F)) Variants.none c none) Set.univ
          (k0_part11 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 t a0 a1 a2 v210 v215 v219 v221) Q) := by
  have ht := t14_lt t
  rw [k0_part11_eq_skeleton]
  unfold k0_part11_skel Opened
  iintro ⟨HR, HT, HH, H7, ⟨HO, HD, HSO⟩, HSD⟩ Hk
  iapply (slot_store c dstM ddM VD (i := t.val) (off111_eq t) hD) $$ HSD
  iintro HSD
  iapply (own_load c (M := arg7) (r := Rect.unit (s := S120x8192) (k0_off112 t) S120x512.size (k0_off112_inb t))) $$ H7
  iintro H7
  iapply (slot_load c ostM (i := t.val) (off111_eq t)) $$ HSO
  iintro %v HSO
  iapply (slot_store c ostM outM VO (i := t.val) (off111_eq t) hO) $$ HSO
  iintro HSO
  iapply (outs_start c ostM outM 0 VO (lo := t.val + 1 - 2) (hi := t.val) (by omega) (by omega) ht (View.dmaCredit_pos _ (by decide)) (off114_eq t) (off115_eq t) (off113_eq t)) $$ [HSO HO]
  · isplitl [HSO]; · iexact HSO
    iexact HO
  iintro HO
  iapply (outs_start c dstM ddM 1 VD (lo := t.val + 1 - 2) (hi := t.val) (by omega) (by omega) ht (View.dmaCredit_pos _ (by decide)) (off114_eq t) (off115_eq t) (off116_eq t)) $$ [HSD HD]
  · isplitl [HSD]; · iexact HSD
    iexact HD
  iintro HD
  iapply (hi_load c (h1 := numel1_S1) (hp := rfl) (n := 28 + t.val) (by omega) (off117_eq t)) $$ HH
  iintro HH
  iapply (hi_load c (h1 := numel1_S1) (hp := rfl) (n := 29 + t.val) (by omega) (off118_eq t)) $$ HH
  iintro HH
  iapply (wp_assume Variants.none (c : Thread nD τ) none Set.univ (chk35 ⟨t.val, ht⟩))
  iapply (loop_rule c (t15_trips ⟨t.val, ht⟩)
    (fun n => iprop(Ring c Vw Vd Vp (4 * (29 + t.val)) (4 * (29 + t.val)) (hiOf (28 + t.val) + n) ∗ Tab (F := F) c arg0))
    (fun n => t15_trip c Vw Vd Vp ⟨t.val, ht⟩ t a0 a1 a2 v210 v215 v219 v221 arg0 harg0 arg1 harg1 arg2 harg2 arg3 harg3 arg4 harg4 arg5 harg5 arg6 harg6 arg7 harg7 arg11 harg11 arg13 harg13 (chk35 ⟨t.val, ht⟩) n)) $$ [HR HT]
  · isplitl [HR]
    · rw [show 4 * (29 + t.val) = 4 * (28 + t.val) + 4 by omega]; iexact HR
    iexact HT
  iintro ⟨HR, HT⟩
  iapply (finish c)
  iapply Hk
  isplitl [HR]
  · rw [show 4 * (28 + (t.val + 1)) = 4 * (29 + t.val) by omega,
      show hiOf (28 + (t.val + 1)) = hiOf (28 + t.val) + (hiOf (29 + t.val) - hiOf (28 + t.val)) by
        have := hiOf_mono (28 + t.val)
        rw [show 28 + t.val + 1 = 29 + t.val by omega] at this; rw [show 28 + (t.val + 1) = 29 + t.val by omega]; omega]
    iexact HR
  isplitl [HT]; · iexact HT
  isplitl [HH]; · iexact HH
  isplitl [H7]; · iexact H7
  unfold Both
  isplitl [HO]; · iexact HO
  iexact HD

/-- A program that goes on with the result of another. -/
theorem bind_rule {β α : Type} {p : Prog (TpuEff nD τ sig (Elt F) Λ₀ .tc) β} {k : β → Prog (TpuEff nD τ sig (Elt F) Λ₀ .tc) α} {Q : α → sProp 𝕄} :
    wp frame (wpE (defs₀ (F := F)) Variants.none c none) Set.univ p (fun a => wp frame (wpE (defs₀ (F := F)) Variants.none c none) Set.univ (k a) Q)
      ⊢ wp frame (wpE (defs₀ (F := F)) Variants.none c none) Set.univ (p >>= k) Q := by
  rw [wp_bind]

/-- The ring's state at numbers written another way. -/
theorem ring_congr {m m' h h' : ℕ} (e : m = m') (e' : h = h') : Ring c Vw Vd Vp m m h ⊢ Ring c Vw Vd Vp m' m' h' := by
  subst e e'; exact BI.BIBase.Entails.rfl

variable (q5 q6 q7 : PosShare TreeShare) (X5 : S3x128x2176.Idx → Elt F .bf16) (X6 : S1x8192.Idx → Elt F .f32) (X7 : S120x8192.Idx → Elt F .f32)
  (PK : S128x8192.Idx → Prop) (QK : S128x8192.Idx → Elt F .fp8e4m3) (PA : S128x128.Idx → Prop) (SC : S128x128.Idx → Elt F .f32)

/-- What holds before step `n` of the down projection: its tiles are in flight, the codes and their scales are there, and
    the last two steps' tiles of the results are on their way out. -/
def DInv (n : ℕ) : sProp 𝕄 := iprop(Ring c Vw Vd Vp (4 * (28 + n)) (4 * (28 + n)) (hiOf (28 + n)) ∗ Tab (F := F) c arg0 ∗ HiTab (F := F) c arg1
  ∗ owns (c : Thread nD τ) arg5 q5 X5 ∗ owns (c : Thread nD τ) arg6 q6 X6 ∗ owns (c : Thread nD τ) arg7 q7 X7
  ∗ Part c codesM PK QK ∗ Part c ascM PA SC ∗ Both c VO VD (n - 2) n ∗ (∃ W, owes (c : Thread nD τ) 0 W))

/-- One step of the down projection. -/
theorem t14_trip (v85 : Vec F S1x120 .f32) (t : Fin k0_t14_loop.trips) (hPK : ∀ y, (y 1).val < 7168 → PK y) (hPA : ∀ y, PA y)
    (hO : shapeCast S120x512 (k0_pay41 (loraD c Vp X5 t) (mainD c Vd X6 QK SC t) (resD X7 t)) (by decide) = (blkO outM t.val).view.read (Elt F) VO)
    (hD : shapeCast S120x512 (k0_pay40 (deltaD c Vp X5 t)) (by decide) = (blkO ddM t.val).view.read (Elt F) VD) :
    DInv c Vw Vd Vp arg0 arg1 arg5 arg6 arg7 VO VD q5 q6 q7 X5 X6 X7 PK QK PA SC t.val ⊢ wp frame (wpE (defs₀ (F := F)) Variants.none c none) Set.univ
      (k0_t14_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 v85 t ())
      (fun _ => DInv c Vw Vd Vp arg0 arg1 arg5 arg6 arg7 VO VD q5 q6 q7 X5 X6 X7 PK QK PA SC (t.val + 1)) := by
  have ht := t14_lt t
  have hhi : hiOf (28 + t.val) ≤ 176 := hiOf_le _
  have hlo : 4 * (28 + t.val) + 4 ≤ hiOf (28 + t.val) := le_hiOf (by omega)
  have hw : hiOf (28 + t.val) ≤ 4 * (28 + t.val) + 22 := hiOf_near _
  have hF : Far (4 * (28 + t.val)) (hiOf (28 + t.val)) := far_step (s := 28 + t.val) (by omega) le_rfl le_rfl
  unfold k0_t14_body DInv
  iintro ⟨HR, HT, HH, H5, H6, H7, HC, HA, HB, HW⟩
  iapply (bind_rule c)
  iapply (part8_run c Vw Vd Vp arg0 harg0 arg1 harg1 arg2 harg2 arg3 harg3 arg4 harg4 arg5 harg5 arg6 harg6 arg7 harg7 arg11 harg11 arg13 harg13 t hhi hlo hw hF (q6 := q6) (X6 := X6)) $$ [HR HT H6 HW]
  · isplitl [HR]; · iexact HR
    isplitl [HT]; · iexact HT
    isplitl [H6]; · iexact H6
    iexact HW
  iintro ⟨HR, HL0, HT, H6, HW⟩
  iapply (bind_rule c)
  iapply (part9_run c Vw Vd Vp arg0 harg0 arg1 harg1 arg2 harg2 arg3 harg3 arg4 harg4 arg5 harg5 arg6 harg6 arg7 harg7 arg11 harg11 arg13 harg13 t hhi hlo hw hF) $$ [HR HT HW]
  · isplitl [HR]; · iexact HR
    isplitl [HT]; · iexact HT
    iexact HW
  iintro ⟨HR, HL1, HL2, HT, HW⟩
  iapply (bind_rule c)
  iapply (part10_run c Vw Vd Vp arg0 harg0 arg1 harg1 arg2 harg2 arg3 harg3 arg4 harg4 arg5 harg5 arg6 harg6 arg7 harg7 arg11 harg11 arg13 harg13 VO VD t hhi hlo hw hF (q5 := q5) (X5 := X5) (X6 := X6) (PK := PK) (QK := QK) hPK (PA := PA) (SC := SC) hPA) $$ [HR HL0 HL1 HL2 HT H5 HC HA HB HW]
  · isplitl [HR]; · iexact HR
    isplitl [HL0]; · iexact HL0
    isplitl [HL1]; · iexact HL1
    isplitl [HL2]; · iexact HL2
    isplitl [HT]; · iexact HT
    isplitl [H5]; · iexact H5
    isplitl [HC]; · iexact HC
    isplitl [HA]; · iexact HA
    isplitl [HB]; · iexact HB
    iexact HW
  iintro %v ⟨HR, HT, H5, HC, HA, HB, HS, HW⟩
  iapply (bind_rule c)
  iapply (part11_run c Vw Vd Vp arg0 harg0 arg1 harg1 arg2 harg2 arg3 harg3 arg4 harg4 arg5 harg5 arg6 harg6 arg7 harg7 arg11 harg11 arg13 harg13 VO VD t (q7 := q7) (X7 := X7) hO hD) $$ [HR HT HH H7 HB HS]
  · isplitl [HR]; · iexact HR
    isplitl [HT]; · iexact HT
    isplitl [HH]; · iexact HH
    isplitl [H7]; · iexact H7
    isplitl [HB]; · iexact HB
    iexact HS
  iintro %w ⟨HR, HT, HH, H7, HB⟩
  iapply (loop_rule c (t16_trips ⟨t.val, ht⟩) (fun n => iprop(emp)) (fun n => absurd (lt_of_lt_of_eq n.isLt (t16_trips ⟨t.val, ht⟩)) (Nat.not_lt_zero _))) $$ []
  · itrivial
  iintro -
  iapply (finish c)
  isplitl [HR]; · iexact HR
  isplitl [HT]; · iexact HT
  isplitl [HH]; · iexact HH
  isplitl [H5]; · iexact H5
  isplitl [H6]; · iexact H6
  isplitl [H7]; · iexact H7
  isplitl [HC]; · iexact HC
  isplitl [HA]; · iexact HA
  isplitl [HB]; · iexact HB
  iexact HW

end Cert.KernelIdeal.Hand

end
-- ==== Proof.Body.lean ====
/-
  Hand-written, untrusted. The kernel's body: the first items are started, and each of the 28 steps computes 256 columns of
  the product; then its rows are quantised, and the codes are copied out while the 16 steps of the down projection run.
-/
module

public import proofs.«01_k».proof.Proof.Down
public import Idealize.ShloMosaic.Lib.ValueLayout

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (Vw : Buf (Elt F) (wguM.view.loc (c : Thread nD τ))) (Vd : Buf (Elt F) (wdM.view.loc (c : Thread nD τ))) (Vp : Buf (Elt F) (poolM.view.loc (c : Thread nD τ)))
variable (arg0 : Memref sig .tc .smem S704 .i32) (harg0 : arg0.IsWhole) (arg1 : Memref sig .tc .smem S45 .i32) (harg1 : arg1.IsWhole) (arg2 : Memref sig .tc .vmem S1x14336 .f32) (harg2 : arg2.IsWhole) (arg3 : Memref sig .tc .vmem S128x8192 .fp8e4m3) (harg3 : arg3.IsWhole) (arg4 : Memref sig .tc .vmem S128x128 .f32) (harg4 : arg4.IsWhole) (arg5 : Memref sig .tc .vmem S3x128x2176 .bf16) (harg5 : arg5.IsWhole) (arg6 : Memref sig .tc .vmem S1x8192 .f32) (harg6 : arg6.IsWhole) (arg7 : Memref sig .tc .vmem S120x8192 .f32) (harg7 : arg7.IsWhole)
  (arg11 : Memref sig .tc .vmem S120x7168 .f32) (harg11 : arg11.IsWhole) (arg13 : Memref sig .tc .vmem S1x120 .f32) (harg13 : arg13.IsWhole)
variable (q2 q3 q4 q5 q6 q7 : PosShare TreeShare) (X2 : S1x14336.Idx → Elt F .f32) (X3 : S128x8192.Idx → Elt F .fp8e4m3)
  (X4 : S128x128.Idx → Elt F .f32) (X5 : S3x128x2176.Idx → Elt F .bf16) (X6 : S1x8192.Idx → Elt F .f32) (X7 : S120x8192.Idx → Elt F .f32) (G : S120x7168.Idx → Elt F .f32)

/-- What holds before step `j`: its tiles are in flight, the first `256 * j` columns of the result are there. -/
def Inv (j : ℕ) : sProp 𝕄 := iprop(Ring c Vw Vd Vp (4 * j) (4 * j) (hiOf j) ∗ Tab (F := F) c arg0 ∗ HiTab (F := F) c arg1
  ∗ owns (c : Thread nD τ) arg2 q2 X2 ∗ owns (c : Thread nD τ) arg3 q3 X3 ∗ owns (c : Thread nD τ) arg4 q4 X4 ∗ owns (c : Thread nD τ) arg5 q5 X5
  ∗ Done (F := F) c arg11 G (256 * j) ∗ (∃ W, owes (c : Thread nD τ) 0 W))

/-- One step. -/
theorem t3_trip (t : Fin k0_t3_loop.trips)
    (hG : ∀ x, G ((Rect.unit (s := S120x7168) (k0_off43 t) S120x256.size (k0_off43_inb t)).emb x) = tileOf c Vw Vp X2 X3 X4 X5 t x) :
    Inv c Vw Vd Vp arg0 arg1 arg2 arg3 arg4 arg5 arg11 q2 q3 q4 q5 X2 X3 X4 X5 G t.val ⊢ wp frame (wpE (defs₀ (F := F)) Variants.none c none) Set.univ
      (k0_t3_body (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 t ())
      (fun _ => Inv c Vw Vd Vp arg0 arg1 arg2 arg3 arg4 arg5 arg11 q2 q3 q4 q5 X2 X3 X4 X5 G (t.val + 1)) := by
  have ht := t3_lt t
  have hhi : hiOf t.val ≤ 176 := hiOf_le _
  have hlo : 4 * t.val + 4 ≤ hiOf t.val := le_hiOf (by omega)
  have hw : hiOf t.val ≤ 4 * t.val + 22 := hiOf_near _
  have hF : Far (4 * t.val) (hiOf t.val) := far_step (s := t.val) (by omega) le_rfl le_rfl
  unfold k0_t3_body Inv
  iintro ⟨HR, HT, HH, H2, H3, H4, H5, HD, HW⟩
  iapply (bind_rule c)
  iapply (part1_run c Vw Vd Vp arg0 harg0 arg1 harg1 arg2 harg2 arg3 harg3 arg4 harg4 arg5 harg5 arg6 harg6 arg7 harg7 arg11 harg11 arg13 harg13 t hhi hlo hw hF) $$ [HR HT H2 HW]
  · isplitl [HR]; · iexact HR
    isplitl [HT]; · iexact HT
    isplitl [H2]; · iexact H2
    iexact HW
  iintro ⟨HR, HL0, HT, H2, HW⟩
  iapply (bind_rule c)
  iapply (part2_run c Vw Vd Vp arg0 harg0 arg1 harg1 arg2 harg2 arg3 harg3 arg4 harg4 arg5 harg5 arg6 harg6 arg7 harg7 arg11 harg11 arg13 harg13 t hhi hlo hw hF) $$ [HR HT HW]
  · isplitl [HR]; · iexact HR
    isplitl [HT]; · iexact HT
    iexact HW
  iintro ⟨HR, HL1, HL2, HT, HW⟩
  iapply (bind_rule c)
  iapply (part3_run c Vw Vd Vp arg0 harg0 arg1 harg1 arg2 harg2 arg3 harg3 arg4 harg4 arg5 harg5 arg6 harg6 arg7 harg7 arg11 harg11 arg13 harg13 t hhi hlo hw hF) $$ [HR HL0 HL1 HL2 HT H3 H4 H5 HW]
  · isplitl [HR]; · iexact HR
    isplitl [HL0]; · iexact HL0
    isplitl [HL1]; · iexact HL1
    isplitl [HL2]; · iexact HL2
    isplitl [HT]; · iexact HT
    isplitl [H3]; · iexact H3
    isplitl [H4]; · iexact H4
    isplitl [H5]; · iexact H5
    iexact HW
  iintro ⟨HR, HT, H3, H4, H5, HW⟩
  iapply (done_load c (M := arg11) (r := Rect.unit (s := S120x7168) (k0_off43 t) S120x256.size (k0_off43_inb t))) $$ HD
  iintro %v HD
  iapply (done_store c (M := arg11) (n := 256 * t.val) (o := k0_off43 t) (off43_eq t) (w := tileOf c Vw Vp X2 X3 X4 X5 t) hG) $$ HD
  iintro HD
  iapply (hi_load c (h1 := numel1_S1) (hp := rfl) (n := t.val) (by omega) (off44_eq t)) $$ HH
  iintro HH
  iapply (hi_load c (h1 := numel1_S1) (hp := rfl) (n := t.val + 1) (by omega) (off45_eq t)) $$ HH
  iintro HH
  iapply (wp_assume Variants.none (c : Thread nD τ) none Set.univ (chk18 ⟨t.val, ht⟩))
  iapply (loop_rule c (t4_trips ⟨t.val, ht⟩)
    (fun n => iprop(Ring c Vw Vd Vp (4 * t.val + 4) (4 * t.val + 4) (hiOf t.val + n) ∗ Tab (F := F) c arg0))
    (fun n => t4_trip c Vw Vd Vp ⟨t.val, ht⟩ arg0 harg0 arg1 harg1 arg2 harg2 arg3 harg3 arg4 harg4 arg5 harg5 arg6 harg6 arg7 harg7 arg11 harg11 arg13 harg13 (chk18 ⟨t.val, ht⟩) n)) $$ [HR HT]
  · isplitl [HR]; · iexact HR
    iexact HT
  iintro ⟨HR, HT⟩
  iapply (loop_rule c (t5_trips ⟨t.val, ht⟩) (fun n => iprop(emp)) (fun n => absurd (lt_of_lt_of_eq n.isLt (t5_trips ⟨t.val, ht⟩)) (Nat.not_lt_zero _))) $$ []
  · itrivial
  iintro -
  iapply (finish c)
  have e : hiOf t.val + (hiOf (t.val + 1) - hiOf t.val) = hiOf (t.val + 1) := by have := hiOf_mono t.val; omega
  isplitl [HR]
  · iapply (ring_congr c Vw Vd Vp (show 4 * t.val + 4 = 4 * (t.val + 1) by omega) e); iexact HR
  isplitl [HT]; · iexact HT
  isplitl [HH]; · iexact HH
  isplitl [H2]; · iexact H2
  isplitl [H3]; · iexact H3
  isplitl [H4]; · iexact H4
  isplitl [H5]; · iexact H5
  isplitl [HD]; · iexact HD
  iexact HW

/-- The product's buffer after the last step. -/
theorem done_out {M : Memref sig .tc .vmem S120x7168 .f32} {G : S120x7168.Idx → Elt F .f32} :
    Done (F := F) c M G 7168 ⊢ (owns (c : Thread nD τ) M fullShare G : sProp 𝕄) := by
  unfold owns Done
  iintro ⟨%f, H, %hf⟩; iexists f; isplitr
  · ipureintro; funext y; exact hf y (y 1).isLt
  iexact H

/-- A buffer read whole as `X`. -/
theorem owns_of_part {s : Shape} {e : EltTy} {M : Memref sig .tc .vmem s e} {X : s.Idx → Elt F e} :
    Part c M (fun _ => True) X ⊢ (owns (c : Thread nD τ) M fullShare X : sProp 𝕄) := by
  unfold owns Part
  iintro ⟨%f, H, %hf⟩; iexists f; isplitr
  · ipureintro; funext y; exact hf y trivial
  iexact H
theorem some_of_owns {s : Shape} {e : EltTy} {M : Memref sig .tc .vmem s e} {X : s.Idx → Elt F e} :
    (owns (c : Thread nD τ) M fullShare X : sProp 𝕄) ⊢ Some' (F := F) c M := by
  unfold owns Some'
  iintro ⟨%f, -, H⟩; iexists f; iexact H

/-- What the kernel keeps throughout: its tables and its staged inputs. -/
def Kept : sProp 𝕄 := iprop(Tab (F := F) c arg0 ∗ HiTab (F := F) c arg1 ∗ owns (c : Thread nD τ) arg2 q2 X2 ∗ owns (c : Thread nD τ) arg3 q3 X3 ∗ owns (c : Thread nD τ) arg4 q4 X4 ∗ owns (c : Thread nD τ) arg5 q5 X5
  ∗ owns (c : Thread nD τ) arg6 q6 X6 ∗ owns (c : Thread nD τ) arg7 q7 X7)

/-- The scales as one row. -/
def gsOf (G : S120x7168.Idx → Elt F .f32) : S1x120.Idx → Elt F .f32 := k0_pay80 (scOf G)
/-- The codes of the product's columns. -/
def gcOf (G : S120x7168.Idx → Elt F .f32) : S120x7168.Idx → Elt F .fp8e4m3 :=
  fun y => qcOf G ((Rect.unit (s := S120x8192) ![0, 0] S120x7168.size inb_S120x8192_S120x7168_0_0).emb y)

/-- The scales' row is the first column of the scales' buffer. -/
theorem pay80_apply (v : Vec F S128x128 .f32) (x : S1x120.Idx) :
    k0_pay80 v x = v (ValueIdx.ix2 (⟨(x 1).val, lt_of_lt_of_le (x 1).isLt (by decide)⟩ : Fin 128) (0 : Fin 128)) := by
  have h0 : (x 0).val < 1 := (x 0).isLt
  unfold k0_pay80
  refine (transpose_apply [1, 0] v transposes_S128x128_p1_0_S128x128 _ _ ?_)
  intro b
  fin_cases b
  · show 0 = 0 + (x 0).val
    omega
  · show (x 1).val = 0 + (x 1).val
    omega

/-- What is known of a buffer, said another way. -/
theorem part_conv {s : Shape} {e : EltTy} {M : Memref sig .tc .vmem s e} {P P' : s.Idx → Prop} {T T' : s.Idx → Elt F e} (h : ∀ y, P' y → P y ∧ T y = T' y) :
    Part c M P T ⊢ (Part c M P' T' : sProp 𝕄) := by
  unfold Part
  iintro ⟨%f, H, %hf⟩
  iexists f
  isplitl [H]; · iexact H
  ipureintro; exact fun y hy => (hf y (h y hy).1).trans (h y hy).2

/-- The whole rectangle. -/
theorem emb_all {n0 n1 : ℕ} {h : ∀ a, (![0, 0] : Fin 2 → ℕ) a + (Shape.mk 2 ![n0, n1]).size a ≤ (Shape.mk 2 ![n0, n1]).size a}
    (x : (Shape.mk 2 ![n0, n1]).Idx) : (Rect.unit (s := Shape.mk 2 ![n0, n1]) ![0, 0] (Shape.mk 2 ![n0, n1]).size h).emb x = x := by
  funext a; apply Fin.ext
  match a with
  | ⟨0, _⟩ => show 0 + 1 * (x 0).val = (x 0).val; omega
  | ⟨1, _⟩ => show 0 + 1 * (x 1).val = (x 1).val; omega
theorem mem_all {n0 n1 : ℕ} {h : ∀ a, (![0, 0] : Fin 2 → ℕ) a + (Shape.mk 2 ![n0, n1]).size a ≤ (Shape.mk 2 ![n0, n1]).size a}
    (y : (Shape.mk 2 ![n0, n1]).Idx) : y ∈ (Rect.unit (s := Shape.mk 2 ![n0, n1]) ![0, 0] (Shape.mk 2 ![n0, n1]).size h).set := by
  rw [Rect.mem_set_unit]
  intro a
  have h0 : (y 0).val < n0 := (y 0).isLt
  have h1 : (y 1).val < n1 := (y 1).isLt
  match a with
  | ⟨0, _⟩ => exact ⟨Nat.zero_le _, by show (y 0).val < 0 + n0; omega⟩
  | ⟨1, _⟩ => exact ⟨Nat.zero_le _, by show (y 1).val < 0 + n1; omega⟩

/-- The first part of the body: the product, and the greatest absolute values of its first block of rows. -/
theorem part12_run
    (hG : ∀ (t : Fin k0_t3_loop.trips) x, G ((Rect.unit (s := S120x7168) (k0_off43 t) S120x256.size (k0_off43_inb t)).emb x) = tileOf c Vw Vp X2 X3 X4 X5 t x) {Q : _ → sProp 𝕄} :
    iprop(Ring c Vw Vd Vp 0 0 0 ∗ Kept c arg0 arg1 arg2 arg3 arg4 arg5 arg6 arg7 q2 q3 q4 q5 q6 q7 X2 X3 X4 X5 X6 X7
      ∗ Done (F := F) c arg11 G 0 ∗ Some' (F := F) c hbM ∗ Some' (F := F) c ascM ∗ Some' (F := F) c codesM ∗ Some' (F := F) c coM ∗ (∃ W, owes (c : Thread nD τ) 0 W))
    ⊢ iprop((iprop(Ring c Vw Vd Vp 112 112 (hiOf 28) ∗ Kept c arg0 arg1 arg2 arg3 arg4 arg5 arg6 arg7 q2 q3 q4 q5 q6 q7 X2 X3 X4 X5 X6 X7 ∗ Rows c arg11 G 0 ∗ (∃ W, owes (c : Thread nD τ) 0 W))
        -∗ Q (k0_pay49 (acc32 G 0 7)))
      -∗ wp frame (wpE (defs₀ (F := F)) Variants.none c none) Set.univ (k0_part12 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10) Q) := by
  rw [k0_part12_eq_skeleton]
  unfold k0_part12_skel Kept
  iintro ⟨HR, ⟨HT, HH, H2, H3, H4, H5, H6, H7⟩, HD, Hb, HA, HC, HO, HW⟩ Hk
  iapply (hi_load c (h1 := numel1_S1) (hp := rfl) (n := 0) (by omega) rfl) $$ HH
  iintro HH
  iapply (wp_assume Variants.none (c : Thread nD τ) none Set.univ chk1)
  iapply (loop_rule c t1_trips (fun n => iprop(Ring c Vw Vd Vp 0 0 n ∗ Tab (F := F) c arg0))
    (fun n => t1_trip c Vw Vd Vp arg0 harg0 arg1 harg1 arg2 harg2 arg3 harg3 arg4 harg4 arg5 harg5 arg6 harg6 arg7 harg7 arg11 harg11 arg13 harg13 chk1 n)) $$ [HR HT]
  · isplitl [HR]; · iexact HR
    iexact HT
  iintro ⟨HR, HT⟩
  iapply (loop_rule c t2_trips (fun n => iprop(emp)) (fun n => absurd (lt_of_lt_of_eq n.isLt t2_trips) (Nat.not_lt_zero _))) $$ []
  · itrivial
  iintro -
  iapply (some_load c) $$ HC
  iintro %v7 HC
  ihave HC := (part_of_some c (P := fun _ => False) (T := k0_pay42 (F := F)) (fun _ h => h)) $$ HC
  iapply (part_store c (P' := fun _ => True) (fun x => rfl) (fun y _ => .inr (mem_all y))) $$ HC
  iintro HC
  iapply (some_load c) $$ HA
  iintro %v11 HA
  ihave HA := (part_of_some c (P := fun _ => False) (T := k0_pay43 (F := F)) (fun _ h => h)) $$ HA
  iapply (part_store c (P' := fun _ => True) (fun x => rfl) (fun y _ => .inr (mem_all y))) $$ HA
  iintro HA
  iapply (loop_rule c t3_trips (Inv c Vw Vd Vp arg0 arg1 arg2 arg3 arg4 arg5 arg11 q2 q3 q4 q5 X2 X3 X4 X5 G)
    (fun t => t3_trip c Vw Vd Vp arg0 harg0 arg1 harg1 arg2 harg2 arg3 harg3 arg4 harg4 arg5 harg5 arg6 harg6 arg7 harg7 arg11 harg11 arg13 harg13 q2 q3 q4 q5 X2 X3 X4 X5 G t (hG t))) $$ [HR HT HH H2 H3 H4 H5 HD HW]
  · unfold Inv
    isplitl [HR]; · iexact HR
    isplitl [HT]; · iexact HT
    isplitl [HH]; · iexact HH
    isplitl [H2]; · iexact H2
    isplitl [H3]; · iexact H3
    isplitl [H4]; · iexact H4
    isplitl [H5]; · iexact H5
    isplitl [HD]; · iexact HD
    iexact HW
  unfold Inv
  iintro ⟨HR, HT, HH, H2, H3, H4, H5, HD, HW⟩
  ihave HD := (done_out c) $$ HD
  iapply (half_a c arg11 G (r := 0) t6_trips (acc32 G 0) (fun t => t6_trip c arg0 harg0 arg1 harg1 arg2 harg2 arg3 harg3 arg4 harg4 arg5 harg5 arg6 harg6 arg7 harg7 arg11 harg11 arg13 harg13 G t)) $$ [HD Hb HA HC HO]
  · unfold Rows
    isplitl [HD]; · iexact HD
    isplitl [Hb]; · iexact Hb
    isplitl [HA]; · iapply (part_conv c (fun y h => ⟨trivial, (scOf_pad G y (h.resolve_left (Nat.not_lt_zero _))).symm⟩)) $$ HA
    isplitl [HC]
    · iapply (part_conv c (fun y h => ⟨trivial, ?_⟩)) $$ HC
      have h := h.resolve_left (fun h => Nat.not_lt_zero _ h.1)
      unfold qkOf
      rw [dif_neg (Nat.not_lt.mpr h)]
    iapply (part_of_some c (fun y h => Nat.not_lt_zero _ h.1)) $$ HO
  iintro HM
  iapply (finish c)
  iapply Hk
  isplitl [HR]; · iexact HR
  isplitl [HT HH H2 H3 H4 H5 H6 H7]
  · isplitl [HT]; · iexact HT
    isplitl [HH]; · iexact HH
    isplitl [H2]; · iexact H2
    isplitl [H3]; · iexact H3
    isplitl [H4]; · iexact H4
    isplitl [H5]; · iexact H5
    isplitl [H6]; · iexact H6
    iexact H7
  isplitl [HM]; · iexact HM
  iexact HW

/-- The second part: the first two blocks of rows, and the greatest absolute values of the third. -/
theorem part13_run {Q : _ → sProp 𝕄} :
    Rows c arg11 G 0
    ⊢ iprop((Rows c arg11 G 64 -∗ Q ⟨k0_pay66 (acc32 G 64 7), k0_pay67 (acc32 G 64 7), Scalar.ofBits .f32 0x43E00000#32⟩)
      -∗ wp frame (wpE (defs₀ (F := F)) Variants.none c none) Set.univ (k0_part13 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 (k0_pay49 (acc32 G 0 7))) Q) := by
  rw [k0_part13_eq_skeleton]
  unfold k0_part13_skel
  iintro HM Hk
  iapply (half_s c arg11 G (r := 0) (nr := 32) (fun x => (scOf_32 G (k := 0) (by omega) _ x (by rw [Rect.emb_apply]; show 0 + 1 * (x 0).val = _; omega) (by rw [Rect.emb_apply]; show 0 + 1 * (x 1).val = _; omega)).symm)) $$ HM
  iintro HM
  iapply (half_b c arg11 G (by omega) t7_trips (fun t => t7_trip c arg0 harg0 arg1 harg1 arg2 harg2 arg3 harg3 arg4 harg4 arg5 harg5 arg6 harg6 arg7 harg7 arg11 harg11 arg13 harg13 G _ t)) $$ HM
  iintro HM
  iapply (half_a c arg11 G (r := 32) t8_trips (acc32 G 32) (fun t => t8_trip c arg0 harg0 arg1 harg1 arg2 harg2 arg3 harg3 arg4 harg4 arg5 harg5 arg6 harg6 arg7 harg7 arg11 harg11 arg13 harg13 G _ t)) $$ HM
  iintro HM
  iapply (half_s c arg11 G (r := 32) (nr := 32) (fun x => (scOf_32 G (k := 1) (by omega) _ x (by rw [Rect.emb_apply]; show 32 + 1 * (x 0).val = _; omega) (by rw [Rect.emb_apply]; show 0 + 1 * (x 1).val = _; omega)).symm)) $$ HM
  iintro HM
  iapply (half_b c arg11 G (by omega) t9_trips (fun t => t9_trip c arg0 harg0 arg1 harg1 arg2 harg2 arg3 harg3 arg4 harg4 arg5 harg5 arg6 harg6 arg7 harg7 arg11 harg11 arg13 harg13 G _ t)) $$ HM
  iintro HM
  iapply (half_a c arg11 G (r := 64) t10_trips (acc32 G 64) (fun t => t10_trip c arg0 harg0 arg1 harg1 arg2 harg2 arg3 harg3 arg4 harg4 arg5 harg5 arg6 harg6 arg7 harg7 arg11 harg11 arg13 harg13 G _ t)) $$ HM
  iintro HM
  iapply (finish c)
  iapply Hk
  iexact HM

/-- The third part: the last two blocks of rows, and the scales as one row. -/
theorem part14_run {Q : _ → sProp 𝕄} :
    Rows c arg11 G 64
    ⊢ iprop((Rows c arg11 G 120 -∗ Q (gsOf G))
      -∗ wp frame (wpE (defs₀ (F := F)) Variants.none c none) Set.univ (k0_part14 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 (k0_pay66 (acc32 G 64 7)) (k0_pay67 (acc32 G 64 7)) (Scalar.ofBits .f32 0x43E00000#32)) Q) := by
  rw [k0_part14_eq_skeleton]
  unfold k0_part14_skel
  have hX : ∀ X, X = gsOf G → (Q (gsOf G) : sProp 𝕄) ⊢ Q X := fun X h => by rw [h]
  iintro HM Hk
  iapply (half_s c arg11 G (r := 64) (nr := 32) (fun x => (scOf_32 G (k := 2) (by omega) _ x (by rw [Rect.emb_apply]; show 64 + 1 * (x 0).val = _; omega) (by rw [Rect.emb_apply]; show 0 + 1 * (x 1).val = _; omega)).symm)) $$ HM
  iintro HM
  iapply (half_b c arg11 G (by omega) t11_trips (fun t => t11_trip c arg0 harg0 arg1 harg1 arg2 harg2 arg3 harg3 arg4 harg4 arg5 harg5 arg6 harg6 arg7 harg7 arg11 harg11 arg13 harg13 G _ _ _ t)) $$ HM
  iintro HM
  iapply (half_a c arg11 G (r := 96) t12_trips (acc24 G 96) (fun t => t12_trip c arg0 harg0 arg1 harg1 arg2 harg2 arg3 harg3 arg4 harg4 arg5 harg5 arg6 harg6 arg7 harg7 arg11 harg11 arg13 harg13 G _ _ _ t)) $$ HM
  iintro HM
  iapply (half_s c arg11 G (r := 96) (nr := 24) (fun x => (scOf_24 G _ x (by rw [Rect.emb_apply]; show 96 + 1 * (x 0).val = _; omega) (by rw [Rect.emb_apply]; show 0 + 1 * (x 1).val = _; omega)).symm)) $$ HM
  iintro HM
  iapply (half_b c arg11 G (by omega) t13_trips (fun t => t13_trip c arg0 harg0 arg1 harg1 arg2 harg2 arg3 harg3 arg4 harg4 arg5 harg5 arg6 harg6 arg7 harg7 arg11 harg11 arg13 harg13 G _ _ _ t)) $$ HM
  unfold Rows
  iintro ⟨H8, Hb, HA, HC, HO⟩
  iapply (part_load_all c (fun x => lt_or_ge _ _)) $$ HA
  iintro HA
  iapply (finish c)
  iapply (hX _ ?_)
  · exact congrArg k0_pay80 (funext fun x => congrArg (scOf G) (emb_all x))
  iapply Hk
  isplitl [H8]; · iexact H8
  isplitl [Hb]; · iexact Hb
  isplitl [HA]; · iexact HA
  isplitl [HC]; · iexact HC
  iexact HO

/-- What the copy leaves is the codes. -/
theorem gc_eq (f : Buf (Elt F) (coM.view.loc (c : Thread nD τ)))
    (hf : ∀ y, ((y 0).val < 120 ∧ (y 1).val < 7168) → coM.view.read (Elt F) f y = qcOf G y) (g : Buf (Elt F) (gcM.view.loc (c : Thread nD τ))) :
    (gcOf G : Buf (Elt F) (gcM.view.loc (c : Thread nD τ))) = gcM.view.write (Elt F) g
      ((coM.slice (Rect.unit (s := S120x8192) ![0, 0] S120x7168.size inb_S120x8192_S120x7168_0_0) (fun _ => rfl)).view.read (Elt F) f) Finset.univ := by
  refine Eq.trans ?_ (View.write_whole_univ main_v2_1 g _).symm
  funext y
  have h0 : (y 0).val < 120 := (y 0).isLt
  have h1 : (y 1).val < 7168 := (y 1).isLt
  have ha := hf ((Rect.unit (s := S120x8192) ![0, 0] S120x7168.size inb_S120x8192_S120x7168_0_0).emb y)
    ⟨by rw [Rect.emb_apply]; show 0 + 1 * (y 0).val < 120; omega, by rw [Rect.emb_apply]; show 0 + 1 * (y 1).val < 7168; omega⟩
  exact ha.symm

/-- The copy of the codes, on its way. -/
def CopyFl : sProp 𝕄 := iprop(∃ D : sProp 𝕄, Transfers.Flight (countersEmb (U := Pipeline.UD sig nD τ)) (c : Thread nD τ) (.dma cc0_scratch9.sem) () gcM.view.dmaCredit D
  ∗ (D -∗ (Some' (F := F) c coM ∗ (gcM.view.loc (c : Thread nD τ) ↦[gcM.view.set]{fullShare} gcOf G))))

/-- It is started, -/
theorem copy_start {hsrc hdst hsem} {α : Type} {k : PUnit → Prog (TpuEff nD τ sig (Elt F) Λ₀ .tc) α} {Q : α → sProp 𝕄} :
    iprop(Part c coM (fun y => InRows 120 (y 0).val (y 1).val) (qcOf G) ∗ (∃ f, gcM.view.loc (c : Thread nD τ) ↦[gcM.view.set]{fullShare} f)
        ∗ semVal ((c : Thread nD τ), .dma cc0_scratch9.sem) 0)
    ⊢ iprop((CopyFl c G -∗ wp frame (wpE (defs₀ (F := F)) Variants.none c none) Set.univ (k ⟨⟩) Q)
      -∗ wp frame (wpE (defs₀ (F := F)) Variants.none c none) Set.univ
        (.op (.enqueueDma (coM.slice (Rect.unit (s := S120x8192) ![0, 0] S120x7168.size inb_S120x8192_S120x7168_0_0) (fun _ => rfl)) (.here gcM) (.dma cc0_scratch9.sem)
            hsrc hdst hsem) k) Q) := by
  unfold Part CopyFl Some'
  iintro ⟨⟨%f, HO, %hf⟩, ⟨%g, HG⟩, Hs⟩ Hk
  ihave HO := (pointsTo_split_subset (View.set_slice_subset coM.view (Rect.unit (s := S120x8192) ![0, 0] S120x7168.size inb_S120x8192_S120x7168_0_0))).1 $$ HO
  icases HO with ⟨HO, HO'⟩
  iapply (Transfers.wp_dmaLocal (countersEmb (U := Pipeline.UD sig nD τ)) Variants.none (c : Thread nD τ) none () gcM.view.dmaCredit
    (Sd := gcM.view.set) rfl (View.dmaCredit_pos _ (by decide +kernel)) subset_rfl) $$ [HO HG Hs]
  · isplitl [HO]; · iexact HO
    isplitl [HG]; · iexact HG
    iexact Hs
  iintro Hfl
  iapply Hk
  iexists _
  isplitl [Hfl]; · iexact Hfl
  iintro ⟨HG, HO⟩
  isplitl [HO HO']
  · iexists f
    iapply (pointsTo_split_subset (View.set_slice_subset coM.view (Rect.unit (s := S120x8192) ![0, 0] S120x7168.size inb_S120x8192_S120x7168_0_0))).2
    isplitl [HO]; · iexact HO
    iexact HO'
  rw [gc_eq c G f hf g]
  iexact HG

/-- and waited for. -/
theorem copy_wait {hsrc' hdst'} {α : Type} {k : PUnit → Prog (TpuEff nD τ sig (Elt F) Λ₀ .tc) α} {Q : α → sProp 𝕄} :
    iprop(CopyFl c G ∗ (∃ W, owes (c : Thread nD τ) 0 W))
    ⊢ iprop((iprop(Some' (F := F) c coM ∗ (gcM.view.loc (c : Thread nD τ) ↦[gcM.view.set]{fullShare} gcOf G)
        ∗ semVal ((c : Thread nD τ), .dma cc0_scratch9.sem) 0 ∗ (∃ W, owes (c : Thread nD τ) 0 W))
        -∗ wp frame (wpE (defs₀ (F := F)) Variants.none c none) Set.univ (k ⟨⟩) Q)
      -∗ wp frame (wpE (defs₀ (F := F)) Variants.none c none) Set.univ
        (.op (.waitDma2 cc0_scratch9.sem (coM.slice (Rect.unit (s := S120x8192) ![0, 0] S120x7168.size inb_S120x8192_S120x7168_0_0) (fun _ => rfl)) gcM hsrc' hdst') k) Q) := by
  unfold CopyFl
  iintro ⟨⟨%D, Hfl, HD⟩, ⟨%W, HW⟩⟩ Hk
  iapply (Transfers.wp_waitLocal (countersEmb (U := Pipeline.UD sig nD τ)) Variants.none (c : Thread nD τ) none () (N := gcM.view.dmaCredit) rfl) $$ [Hfl HW]
  · isplitl [Hfl]; · iexact Hfl
    iexact HW
  iintro ⟨Hd, Hs, HW⟩
  iapply Hk
  ihave HD := HD $$ Hd
  icases HD with ⟨HO, HG⟩
  isplitl [HO]; · iexact HO
  isplitl [HG]; · iexact HG
  isplitl [Hs]; · iexact Hs
  iexists _; iexact HW

variable (VO : Buf (Elt F) (outM.view.loc (c : Thread nD τ))) (VD : Buf (Elt F) (ddM.view.loc (c : Thread nD τ)))

/-- The fourth part: the scales are stored, the codes go out, and the down projection runs. -/
theorem part15_run
    (hO : ∀ t : Fin k0_t14_loop.trips, shapeCast S120x512 (k0_pay41 (loraD c Vp X5 t) (mainD c Vd X6 (qkOf G) (scOf G) t) (resD X7 t)) (by decide) = (blkO outM t.val).view.read (Elt F) VO)
    (hD : ∀ t : Fin k0_t14_loop.trips, shapeCast S120x512 (k0_pay40 (deltaD c Vp X5 t)) (by decide) = (blkO ddM t.val).view.read (Elt F) VD) {Q : _ → sProp 𝕄} :
    iprop(Ring c Vw Vd Vp 112 112 (hiOf 28) ∗ Kept c arg0 arg1 arg2 arg3 arg4 arg5 arg6 arg7 q2 q3 q4 q5 q6 q7 X2 X3 X4 X5 X6 X7 ∗ Rows c arg11 G 120 ∗ Some' (F := F) c arg13
      ∗ (∃ f, gcM.view.loc (c : Thread nD τ) ↦[gcM.view.set]{fullShare} f) ∗ semVal ((c : Thread nD τ), .dma cc0_scratch9.sem) 0
      ∗ Outs c ostM outM 0 VO 0 0 0 ∗ Outs c dstM ddM 1 VD 0 0 0 ∗ (∃ W, owes (c : Thread nD τ) 0 W))
    ⊢ iprop((iprop(Ring c Vw Vd Vp 176 176 (hiOf 44) ∗ Kept c arg0 arg1 arg2 arg3 arg4 arg5 arg6 arg7 q2 q3 q4 q5 q6 q7 X2 X3 X4 X5 X6 X7 ∗ owns (c : Thread nD τ) arg11 fullShare G ∗ Some' (F := F) c hbM ∗ Some' (F := F) c ascM ∗ Some' (F := F) c codesM
        ∗ owns (c : Thread nD τ) arg13 fullShare (gsOf G) ∗ CopyFl c G ∗ Outs c ostM outM 0 VO 16 16 16 ∗ Outs c dstM ddM 1 VD 15 16 16 ∗ (∃ W, owes (c : Thread nD τ) 0 W)) -∗ Q ⟨⟩)
      -∗ wp frame (wpE (defs₀ (F := F)) Variants.none c none) Set.univ (k0_part15 (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10 (gsOf G)) Q) := by
  rw [k0_part15_eq_skeleton]
  unfold k0_part15_skel Rows Kept
  iintro ⟨HR, ⟨HT, HH, H2, H3, H4, H5, H6, H7⟩, ⟨H8, Hb, HA, HC, HO⟩, HS, HG, Hs, HB, HD, HW⟩ Hk
  iapply (some_load c) $$ HS
  iintro %v HS
  ihave HS := (part_of_some c (P := fun _ => False) (T := gsOf G) (fun _ h => h)) $$ HS
  iapply (part_store c (P' := fun _ => True) (fun x => congrArg (gsOf G) (emb_all x).symm) (fun y _ => .inr (mem_all y))) $$ HS
  iintro HS
  iapply (copy_start c G) $$ [HO HG Hs]
  · isplitl [HO]; · iexact HO
    isplitl [HG]; · iexact HG
    iexact Hs
  iintro HF
  iapply (loop_rule c t14_trips (DInv c Vw Vd Vp arg0 arg1 arg5 arg6 arg7 VO VD q5 q6 q7 X5 X6 X7 (fun y => InRows 120 (y 0).val (y 1).val ∨ 120 ≤ (y 0).val) (qkOf G) (fun y => (y 0).val < 120 ∨ 120 ≤ (y 0).val) (scOf G))
    (fun t => t14_trip c Vw Vd Vp arg0 harg0 arg1 harg1 arg2 harg2 arg3 harg3 arg4 harg4 arg5 harg5 arg6 harg6 arg7 harg7 arg11 harg11 arg13 harg13 VO VD q5 q6 q7 X5 X6 X7 _ _ _ _ (gsOf G) t
      (fun y h => (lt_or_ge (y 0).val 120).imp (fun h0 => ⟨h0, h⟩) id) (fun y => lt_or_ge _ _) (hO t) (hD t))) $$ [HR HT HH H5 H6 H7 HC HA HB HD HW]
  · unfold DInv Both
    isplitl [HR]; · iexact HR
    isplitl [HT]; · iexact HT
    isplitl [HH]; · iexact HH
    isplitl [H5]; · iexact H5
    isplitl [H6]; · iexact H6
    isplitl [H7]; · iexact H7
    isplitl [HC]; · iexact HC
    isplitl [HA]; · iexact HA
    isplitl [HB HD]
    · isplitl [HB]; · iexact HB
      iexact HD
    iexact HW
  unfold DInv Both
  iintro ⟨HR, HT, HH, H5, H6, H7, HC, HA, ⟨HB, HD⟩, HW⟩
  icases HW with ⟨%W, HW⟩
  iapply (outs_wait c ostM outM 0 VO (lo := 14) (hi := 16) (by omega) (by omega) (by omega) (off139_at14)) $$ [HB HW]
  · isplitl [HB]; · iexact HB
    iexact HW
  iintro ⟨HB, HW⟩
  icases HW with ⟨%W, HW⟩
  iapply (outs_wait c dstM ddM 1 VD (lo := 14) (hi := 16) (by omega) (by omega) (by omega) (off141_at14)) $$ [HD HW]
  · isplitl [HD]; · iexact HD
    iexact HW
  iintro ⟨HD, HW⟩
  icases HW with ⟨%W, HW⟩
  iapply (outs_wait c ostM outM 0 VO (lo := 15) (hi := 16) (by omega) (by omega) (by omega) (off139_at15)) $$ [HB HW]
  · isplitl [HB]; · iexact HB
    iexact HW
  iintro ⟨HB, HW⟩
  iapply (finish c)
  iapply Hk
  isplitl [HR]; · iexact HR
  isplitl [HT HH H2 H3 H4 H5 H6 H7]
  · isplitl [HT]; · iexact HT
    isplitl [HH]; · iexact HH
    isplitl [H2]; · iexact H2
    isplitl [H3]; · iexact H3
    isplitl [H4]; · iexact H4
    isplitl [H5]; · iexact H5
    isplitl [H6]; · iexact H6
    iexact H7
  isplitl [H8]; · iexact H8
  isplitl [Hb]; · iexact Hb
  isplitl [HA]; · iapply (some_of_part c) $$ HA
  isplitl [HC]; · iapply (some_of_part c) $$ HC
  isplitl [HS]; · iapply (owns_of_part c) $$ HS
  isplitl [HF]; · iexact HF
  isplitl [HB]; · iexact HB
  isplitl [HD]; · iexact HD
  iexact HW

/-- The whole body. -/
theorem body_run
    (hG : ∀ (t : Fin k0_t3_loop.trips) x, G ((Rect.unit (s := S120x7168) (k0_off43 t) S120x256.size (k0_off43_inb t)).emb x) = tileOf c Vw Vp X2 X3 X4 X5 t x)
    (hO : ∀ t : Fin k0_t14_loop.trips, shapeCast S120x512 (k0_pay41 (loraD c Vp X5 t) (mainD c Vd X6 (qkOf G) (scOf G) t) (resD X7 t)) (by decide) = (blkO outM t.val).view.read (Elt F) VO)
    (hD : ∀ t : Fin k0_t14_loop.trips, shapeCast S120x512 (k0_pay40 (deltaD c Vp X5 t)) (by decide) = (blkO ddM t.val).view.read (Elt F) VD) :
    iprop(Ring c Vw Vd Vp 0 0 0 ∗ Kept c arg0 arg1 arg2 arg3 arg4 arg5 arg6 arg7 q2 q3 q4 q5 q6 q7 X2 X3 X4 X5 X6 X7
      ∗ Done (F := F) c arg11 G 0 ∗ Some' (F := F) c hbM ∗ Some' (F := F) c ascM ∗ Some' (F := F) c codesM ∗ Some' (F := F) c coM ∗ Some' (F := F) c arg13
      ∗ (∃ f, gcM.view.loc (c : Thread nD τ) ↦[gcM.view.set]{fullShare} f) ∗ semVal ((c : Thread nD τ), .dma cc0_scratch9.sem) 0
      ∗ ((∃ f, ostM.view.loc (c : Thread nD τ) ↦[ostM.view.set]{fullShare} f) ∗ (∃ f, outM.view.loc (c : Thread nD τ) ↦[outM.view.set]{fullShare} f) ∗ bigSep (Finset.range 2) (fun n => (semVal ((c : Thread nD τ), .dma (osemOf 0 n)) 0 : sProp 𝕄))) ∗ ((∃ f, dstM.view.loc (c : Thread nD τ) ↦[dstM.view.set]{fullShare} f) ∗ (∃ f, ddM.view.loc (c : Thread nD τ) ↦[ddM.view.set]{fullShare} f) ∗ bigSep (Finset.range 2) (fun n => (semVal ((c : Thread nD τ), .dma (osemOf 1 n)) 0 : sProp 𝕄))) ∗ (∃ W, owes (c : Thread nD τ) 0 W))
    ⊢ wp frame (wpE (defs₀ (F := F)) Variants.none c none) Set.univ
      (cc0_decode_layer (F := F) arg0 harg0 arg1 harg1 arg2 harg2 arg3 harg3 arg4 harg4 arg5 harg5 arg6 harg6 arg7 harg7 wguM (Memref.isWhole_whole _) wdM (Memref.isWhole_whole _) poolM (Memref.isWhole_whole _)
        arg11 harg11 gcM (Memref.isWhole_whole _) arg13 harg13 outM (Memref.isWhole_whole _) ddM (Memref.isWhole_whole _) hbM (Memref.isWhole_whole _) codesM (Memref.isWhole_whole _) coM (Memref.isWhole_whole _) ostM (Memref.isWhole_whole _) dstM (Memref.isWhole_whole _)
        ascM (Memref.isWhole_whole _) arenaM (Memref.isWhole_whole _) arena8M (Memref.isWhole_whole _) cc0_scratch8 cc0_scratch9 cc0_scratch10)
      (fun _ => iprop(Ring c Vw Vd Vp 176 176 (hiOf 44) ∗ Kept c arg0 arg1 arg2 arg3 arg4 arg5 arg6 arg7 q2 q3 q4 q5 q6 q7 X2 X3 X4 X5 X6 X7
        ∗ owns (c : Thread nD τ) arg11 fullShare G ∗ Some' (F := F) c hbM ∗ Some' (F := F) c ascM ∗ Some' (F := F) c codesM ∗ Some' (F := F) c coM
        ∗ owns (c : Thread nD τ) arg13 fullShare (gsOf G) ∗ (gcM.view.loc (c : Thread nD τ) ↦[gcM.view.set]{fullShare} gcOf G)
        ∗ semVal ((c : Thread nD τ), .dma cc0_scratch9.sem) 0
        ∗ ((∃ f, ostM.view.loc (c : Thread nD τ) ↦[ostM.view.set]{fullShare} f) ∗ (outM.view.loc (c : Thread nD τ) ↦[outM.view.set]{fullShare} VO) ∗ bigSep (Finset.range 2) (fun n => (semVal ((c : Thread nD τ), .dma (osemOf 0 n)) 0 : sProp 𝕄))) ∗ ((∃ f, dstM.view.loc (c : Thread nD τ) ↦[dstM.view.set]{fullShare} f) ∗ (ddM.view.loc (c : Thread nD τ) ↦[ddM.view.set]{fullShare} VD) ∗ bigSep (Finset.range 2) (fun n => (semVal ((c : Thread nD τ), .dma (osemOf 1 n)) 0 : sProp 𝕄))) ∗ (∃ W, owes (c : Thread nD τ) 0 W))) := by
  rw [cc0_decode_layer_eq_skeleton]
  unfold cc0_decode_layer_skel
  iintro ⟨HR, HK, HD, Hb, HA, HC, HO, HS, HG, Hs, HX, HY, HW⟩
  ihave HX := (outs_init c ostM outM 0 VO) $$ HX
  ihave HY := (outs_init c dstM ddM 1 VD) $$ HY
  iapply (bind_rule c)
  iapply (part12_run c Vw Vd Vp arg0 harg0 arg1 harg1 arg2 harg2 arg3 harg3 arg4 harg4 arg5 harg5 arg6 harg6 arg7 harg7 arg11 harg11 arg13 harg13 q2 q3 q4 q5 q6 q7 X2 X3 X4 X5 X6 X7 G hG) $$ [HR HK HD Hb HA HC HO HW]
  · isplitl [HR]; · iexact HR
    isplitl [HK]; · iexact HK
    isplitl [HD]; · iexact HD
    isplitl [Hb]; · iexact Hb
    isplitl [HA]; · iexact HA
    isplitl [HC]; · iexact HC
    isplitl [HO]; · iexact HO
    iexact HW
  iintro ⟨HR, HK, HM, HW⟩
  iapply (bind_rule c)
  iapply (part13_run c arg0 harg0 arg1 harg1 arg2 harg2 arg3 harg3 arg4 harg4 arg5 harg5 arg6 harg6 arg7 harg7 arg11 harg11 arg13 harg13 G) $$ HM
  iintro HM
  iapply (bind_rule c)
  iapply (part14_run c arg0 harg0 arg1 harg1 arg2 harg2 arg3 harg3 arg4 harg4 arg5 harg5 arg6 harg6 arg7 harg7 arg11 harg11 arg13 harg13 G) $$ HM
  iintro HM
  iapply (bind_rule c)
  iapply (part15_run c Vw Vd Vp arg0 harg0 arg1 harg1 arg2 harg2 arg3 harg3 arg4 harg4 arg5 harg5 arg6 harg6 arg7 harg7 arg11 harg11 arg13 harg13 q2 q3 q4 q5 q6 q7 X2 X3 X4 X5 X6 X7 G VO VD hO hD) $$ [HR HK HM HS HG Hs HX HY HW]
  · isplitl [HR]; · iexact HR
    isplitl [HK]; · iexact HK
    isplitl [HM]; · iexact HM
    isplitl [HS]; · iexact HS
    isplitl [HG]; · iexact HG
    isplitl [Hs]; · iexact Hs
    isplitl [HX]; · iexact HX
    isplitl [HY]; · iexact HY
    iexact HW
  iintro ⟨HR, HK, H8, Hb, HA, HC, HS, HF, HX, HY, HW⟩
  icases HW with ⟨%W, HW⟩
  iapply (outs_wait c dstM ddM 1 VD (lo := 15) (hi := 16) (by omega) (by omega) (by omega) (off141_at15)) $$ [HY HW]
  · isplitl [HY]; · iexact HY
    iexact HW
  iintro ⟨HY, HW⟩
  iapply (copy_wait c G) $$ [HF HW]
  · isplitl [HF]; · iexact HF
    iexact HW
  iintro ⟨HO, HG, Hs, HW⟩
  ihave HX := (outs_done c ostM outM 0 VO) $$ HX
  ihave HY := (outs_done c dstM ddM 1 VD) $$ HY
  iapply (finish c)
  isplitl [HR]; · iexact HR
  isplitl [HK]; · iexact HK
  isplitl [H8]; · iexact H8
  isplitl [Hb]; · iexact Hb
  isplitl [HA]; · iexact HA
  isplitl [HC]; · iexact HC
  isplitl [HO]; · iexact HO
  isplitl [HS]; · iexact HS
  isplitl [HG]; · iexact HG
  isplitl [Hs]; · iexact Hs
  isplitl [HX]; · iexact HX
  isplitl [HY]; · iexact HY
  iexact HW

end Cert.KernelIdeal.Hand

end
-- ==== Proof.Run.lean ====
/-
  Hand-written, untrusted. The whole program: what its windows hold, that the body keeps what the pipeline asks of it, and
  so that the program runs, gives its arguments back, leaves every semaphore at zero, and ends with the product `res`, its
  codes, its scales and the two results of the down projection.
-/
module

public import proofs.«01_k».proof.Proof.Body
public import proofs.«01_k».proof.Proof.Gen.KernelIdeal.Frame
public import Idealize.ShloMosaic.Lib.Pipeline.ValueKit
public import Idealize.ShloMosaic.Lib.Pipeline.FrameValue

@[expose] public section

noncomputable section

namespace Cert.KernelIdeal.Hand

open Cert.KernelIdeal Cert.KernelIdeal.Gen Cert.Sets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region finds -/

/-- The table of items is written before the kernel starts. -/
theorem V_items (c : Dev nD) : V m c main_c = fun i => lit0 (S704.rowMajor i) := rfl

/-- So is the table of how many items are started before each step. -/
theorem V_hi (c : Dev nD) : V m c main_c_0 = fun i => lit1 (S45.rowMajor i) := rfl

/-- Every window is its whole array. -/
theorem idx_zero : ∀ t : Fin cfg0.N, (win0_0.index t = ![0] ∧ win0_1.index t = ![0]) ∧ win0_2.index t = ![0, 0] ∧ win0_3.index t = ![0, 0]
    ∧ win0_4.index t = ![0, 0] ∧ win0_5.index t = ![0, 0, 0] ∧ win0_6.index t = ![0, 0] ∧ win0_7.index t = ![0, 0]
    ∧ win0_8.index t = ![0, 0] ∧ win0_9.index t = ![0, 0] :=
  (by decide +kernel : ∀ t : Fin grid0.N, _)

theorem emb0 (t : Fin cfg0.N) (j : S704.Idx) : ((cfg0.win 0).blk t).view.emb j = j := by
  have e : win0_0.index t (0 : Fin 1) = 0 := by rw [(idx_zero t).1.1]; rfl
  funext a; apply Fin.ext
  match a with
  | ⟨0, _⟩ => show win0_0.index t (0 : Fin 1) * 704 + 1 * (j 0).val = (j 0).val; omega
theorem emb1 (t : Fin cfg0.N) (j : S45.Idx) : ((cfg0.win 1).blk t).view.emb j = j := by
  have e : win0_1.index t (0 : Fin 1) = 0 := by rw [(idx_zero t).1.2]; rfl
  funext a; apply Fin.ext
  match a with
  | ⟨0, _⟩ => show win0_1.index t (0 : Fin 1) * 45 + 1 * (j 0).val = (j 0).val; omega
theorem emb2 (t : Fin cfg0.N) (j : S1x14336.Idx) : ((cfg0.win 2).blk t).view.emb j = j := by
  have e0 : win0_2.index t (0 : Fin 2) = 0 := by rw [(idx_zero t).2.1]; rfl
  have e1 : win0_2.index t (1 : Fin 2) = 0 := by rw [(idx_zero t).2.1]; rfl
  funext a; apply Fin.ext
  match a with
  | ⟨0, _⟩ => show win0_2.index t (0 : Fin 2) * 1 + 1 * (j 0).val = (j 0).val; omega
  | ⟨1, _⟩ => show win0_2.index t (1 : Fin 2) * 14336 + 1 * (j 1).val = (j 1).val; omega
theorem emb3 (t : Fin cfg0.N) (j : S128x8192.Idx) : ((cfg0.win 3).blk t).view.emb j = j := by
  have e0 : win0_3.index t (0 : Fin 2) = 0 := by rw [(idx_zero t).2.2.1]; rfl
  have e1 : win0_3.index t (1 : Fin 2) = 0 := by rw [(idx_zero t).2.2.1]; rfl
  funext a; apply Fin.ext
  match a with
  | ⟨0, _⟩ => show win0_3.index t (0 : Fin 2) * 128 + 1 * (j 0).val = (j 0).val; omega
  | ⟨1, _⟩ => show win0_3.index t (1 : Fin 2) * 8192 + 1 * (j 1).val = (j 1).val; omega
theorem emb4 (t : Fin cfg0.N) (j : S128x128.Idx) : ((cfg0.win 4).blk t).view.emb j = j := by
  have e0 : win0_4.index t (0 : Fin 2) = 0 := by rw [(idx_zero t).2.2.2.1]; rfl
  have e1 : win0_4.index t (1 : Fin 2) = 0 := by rw [(idx_zero t).2.2.2.1]; rfl
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega
theorem emb5 (t : Fin cfg0.N) (j : S3x128x2176.Idx) : ((cfg0.win 5).blk t).view.emb j = j := by
  have e0 : win0_5.index t (0 : Fin 3) = 0 := by rw [(idx_zero t).2.2.2.2.1]; rfl
  have e1 : win0_5.index t (1 : Fin 3) = 0 := by rw [(idx_zero t).2.2.2.2.1]; rfl
  have e2 : win0_5.index t (2 : Fin 3) = 0 := by rw [(idx_zero t).2.2.2.2.1]; rfl
  funext a; apply Fin.ext
  match a with
  | ⟨0, _⟩ => show win0_5.index t (0 : Fin 3) * 3 + 1 * (j 0).val = (j 0).val; omega
  | ⟨1, _⟩ => show win0_5.index t (1 : Fin 3) * 128 + 1 * (j 1).val = (j 1).val; omega
  | ⟨2, _⟩ => show win0_5.index t (2 : Fin 3) * 2176 + 1 * (j 2).val = (j 2).val; omega
theorem emb6 (t : Fin cfg0.N) (j : S1x8192.Idx) : ((cfg0.win 6).blk t).view.emb j = j := by
  have e0 : win0_6.index t (0 : Fin 2) = 0 := by rw [(idx_zero t).2.2.2.2.2.1]; rfl
  have e1 : win0_6.index t (1 : Fin 2) = 0 := by rw [(idx_zero t).2.2.2.2.2.1]; rfl
  funext a; apply Fin.ext
  match a with
  | ⟨0, _⟩ => show win0_6.index t (0 : Fin 2) * 1 + 1 * (j 0).val = (j 0).val; omega
  | ⟨1, _⟩ => show win0_6.index t (1 : Fin 2) * 8192 + 1 * (j 1).val = (j 1).val; omega
theorem emb7 (t : Fin cfg0.N) (j : S120x8192.Idx) : ((cfg0.win 7).blk t).view.emb j = j := by
  have e0 : win0_7.index t (0 : Fin 2) = 0 := by rw [(idx_zero t).2.2.2.2.2.2.1]; rfl
  have e1 : win0_7.index t (1 : Fin 2) = 0 := by rw [(idx_zero t).2.2.2.2.2.2.1]; rfl
  funext a; apply Fin.ext
  match a with
  | ⟨0, _⟩ => show win0_7.index t (0 : Fin 2) * 120 + 1 * (j 0).val = (j 0).val; omega
  | ⟨1, _⟩ => show win0_7.index t (1 : Fin 2) * 8192 + 1 * (j 1).val = (j 1).val; omega
theorem emb8 (t : Fin cfg0.N) (j : S120x7168.Idx) : ((cfg0.win 8).blk t).view.emb j = j := by
  have e0 : win0_8.index t (0 : Fin 2) = 0 := by rw [(idx_zero t).2.2.2.2.2.2.2.1]; rfl
  have e1 : win0_8.index t (1 : Fin 2) = 0 := by rw [(idx_zero t).2.2.2.2.2.2.2.1]; rfl
  funext a; apply Fin.ext
  match a with
  | ⟨0, _⟩ => show win0_8.index t (0 : Fin 2) * 120 + 1 * (j 0).val = (j 0).val; omega
  | ⟨1, _⟩ => show win0_8.index t (1 : Fin 2) * 7168 + 1 * (j 1).val = (j 1).val; omega
theorem emb9 (t : Fin cfg0.N) (j : S1x120.Idx) : ((cfg0.win 9).blk t).view.emb j = j := by
  have e0 : win0_9.index t (0 : Fin 2) = 0 := by rw [(idx_zero t).2.2.2.2.2.2.2.2]; rfl
  have e1 : win0_9.index t (1 : Fin 2) = 0 := by rw [(idx_zero t).2.2.2.2.2.2.2.2]; rfl
  funext a; apply Fin.ext
  match a with
  | ⟨0, _⟩ => show win0_9.index t (0 : Fin 2) * 1 + 1 * (j 0).val = (j 0).val; omega
  | ⟨1, _⟩ => show win0_9.index t (1 : Fin 2) * 120 + 1 * (j 1).val = (j 1).val; omega

/-- So an input window's block is its array as the region finds it. -/
theorem blk0 (c : Dev nD) (t : Fin cfg0.N) : iblk m c 0 t = V m c main_c := by
  funext j; show V m c main_c (((cfg0.win 0).blk t).view.emb j) = V m c main_c j; rw [emb0]
theorem blk1 (c : Dev nD) (t : Fin cfg0.N) : iblk m c 1 t = V m c main_c_0 := by
  funext j; show V m c main_c_0 (((cfg0.win 1).blk t).view.emb j) = V m c main_c_0 j; rw [emb1]
theorem blk2 (c : Dev nD) (t : Fin cfg0.N) : iblk m c 2 t = V m c main_v0 := by
  funext j; show V m c main_v0 (((cfg0.win 2).blk t).view.emb j) = V m c main_v0 j; rw [emb2]
theorem blk3 (c : Dev nD) (t : Fin cfg0.N) : iblk m c 3 t = V m c main_arg0 := by
  funext j; show V m c main_arg0 (((cfg0.win 3).blk t).view.emb j) = V m c main_arg0 j; rw [emb3]
theorem blk4 (c : Dev nD) (t : Fin cfg0.N) : iblk m c 4 t = V m c main_arg1 := by
  funext j; show V m c main_arg1 (((cfg0.win 4).blk t).view.emb j) = V m c main_arg1 j; rw [emb4]
theorem blk5 (c : Dev nD) (t : Fin cfg0.N) : iblk m c 5 t = V m c main_arg2 := by
  funext j; show V m c main_arg2 (((cfg0.win 5).blk t).view.emb j) = V m c main_arg2 j; rw [emb5]
theorem blk6 (c : Dev nD) (t : Fin cfg0.N) : iblk m c 6 t = V m c main_v1 := by
  funext j; show V m c main_v1 (((cfg0.win 6).blk t).view.emb j) = V m c main_v1 j; rw [emb6]
theorem blk7 (c : Dev nD) (t : Fin cfg0.N) : iblk m c 7 t = V m c main_arg6 := by
  funext j; show V m c main_arg6 (((cfg0.win 7).blk t).view.emb j) = V m c main_arg6 j; rw [emb7]

/-! ## The result -/

/-- The step that writes column `y`. -/
def stepOf (y : S120x7168.Idx) : Fin k0_t3_loop.trips :=
  ⟨(y 1).val / 256, by have h : (y 1).val < 7168 := (y 1).isLt; rw [t3_trips]; omega⟩
/-- Its place in the step's tile. -/
def placeOf (y : S120x7168.Idx) : S120x256.Idx := fun a => match a with
  | ⟨0, _⟩ => ⟨(y 0).val, (y 0).isLt⟩
  | ⟨1, _⟩ => ⟨(y 1).val % 256, Nat.mod_lt _ (by omega)⟩

/-- The result: every step's tile in its place. -/
def resOf (c : Dev nD) (Vw : Buf (Elt F) (wguM.view.loc (c : Thread nD τ))) (Vp : Buf (Elt F) (poolM.view.loc (c : Thread nD τ)))
    (X2 : S1x14336.Idx → Elt F .f32) (X3 : S128x8192.Idx → Elt F .fp8e4m3) (X4 : S128x128.Idx → Elt F .f32)
    (X5 : S3x128x2176.Idx → Elt F .bf16) : S120x7168.Idx → Elt F .f32 :=
  fun y => tileOf c Vw Vp X2 X3 X4 X5 (stepOf y) (placeOf y)

/-- Tile `t` of the result is step `t`'s. -/
theorem resOf_tile (c : Dev nD) (Vw Vp) (X2 : S1x14336.Idx → Elt F .f32) (X3 : S128x8192.Idx → Elt F .fp8e4m3) (X4 : S128x128.Idx → Elt F .f32)
    (X5 : S3x128x2176.Idx → Elt F .bf16) (t : Fin k0_t3_loop.trips) (x) :
    resOf c Vw Vp X2 X3 X4 X5 ((Rect.unit (s := S120x7168) (k0_off43 t) S120x256.size (k0_off43_inb t)).emb x) = tileOf c Vw Vp X2 X3 X4 X5 t x := by
  have h0 : k0_off43 t 0 = 0 := by rw [off43_eq]; rfl
  have h1 : k0_off43 t 1 = 256 * t.val := by rw [off43_eq]; rfl
  have hx : (x 1).val < 256 := (x 1).isLt
  have e1 : stepOf ((Rect.unit (s := S120x7168) (k0_off43 t) S120x256.size (k0_off43_inb t)).emb x) = t := by
    apply Fin.ext; show (k0_off43 t 1 + 1 * (x 1).val) / 256 = t.val; omega
  have e2 : placeOf ((Rect.unit (s := S120x7168) (k0_off43 t) S120x256.size (k0_off43_inb t)).emb x) = x := by
    funext a; apply Fin.ext
    match a with
    | ⟨0, _⟩ => show k0_off43 t 0 + 1 * (x 0).val = (x 0).val; omega
    | ⟨1, _⟩ => show (k0_off43 t 1 + 1 * (x 1).val) % 256 = (x 1).val; omega
  unfold resOf; rw [e1, e2]

/-- The result of the run from the memory `m`. -/
def res (c : Dev nD) : S120x7168.Idx → Elt F .f32 :=
  resOf c (V m c main_arg3) (V m c main_arg5) (V m c main_v0) (V m c main_arg0) (V m c main_arg1) (V m c main_arg2)

/-- The step of the down projection that writes column `y`, and its place in the step's tile. -/
def stepD (y : S120x8192.Idx) : Fin k0_t14_loop.trips :=
  ⟨(y 1).val / 512, by have h : (y 1).val < 8192 := (y 1).isLt; rw [t14_trips]; omega⟩
def placeD (y : S120x8192.Idx) : S120x512.Idx := fun a => match a with
  | ⟨0, _⟩ => ⟨(y 0).val, (y 0).isLt⟩
  | ⟨1, _⟩ => ⟨(y 1).val % 512, Nat.mod_lt _ (by omega)⟩

/-- An array of 8192 columns from the tiles of the steps. -/
def tilesD {e : EltTy} (T : Fin k0_t14_loop.trips → S120x512.Idx → Elt F e) : S120x8192.Idx → Elt F e := fun y => T (stepD y) (placeD y)

/-- Its tile `t` is step `t`'s. -/
theorem tilesD_tile {e : EltTy} (c : Dev nD) (T : Fin k0_t14_loop.trips → S120x512.Idx → Elt F e) (t : Fin k0_t14_loop.trips) (h) (x : S120x512.Idx) :
    tilesD T ((Rect.unit (s := S120x8192) ![0, 512 * (t.val % 16)] S120x512.size h).emb x) = T t x := by
  have ht := t14_lt t
  have hx : (x 1).val < 512 := (x 1).isLt
  have e1 : stepD ((Rect.unit (s := S120x8192) ![0, 512 * (t.val % 16)] S120x512.size h).emb x) = t := by
    apply Fin.ext; show (512 * (t.val % 16) + 1 * (x 1).val) / 512 = t.val; omega
  have e2 : placeD ((Rect.unit (s := S120x8192) ![0, 512 * (t.val % 16)] S120x512.size h).emb x) = x := by
    funext a; apply Fin.ext
    match a with
    | ⟨0, _⟩ => show 0 + 1 * (x 0).val = (x 0).val; omega
    | ⟨1, _⟩ => show (512 * (t.val % 16) + 1 * (x 1).val) % 512 = (x 1).val; omega
  unfold tilesD; rw [e1, e2]

/-- A step's tiles of the two results of the down projection. -/
def outTile (c : Dev nD) (t : Fin k0_t14_loop.trips) : S120x512.Idx → Elt F .bf16 := shapeCast S120x512
  (k0_pay41 (loraD c (V m c main_arg5) (V m c main_arg2) t) (mainD c (V m c main_arg7) (V m c main_v1) (qkOf (res m c)) (scOf (res m c)) t) (resD (V m c main_arg6) t)) (by decide)
def deltaTile (c : Dev nD) (t : Fin k0_t14_loop.trips) : S120x512.Idx → Elt F .f32 :=
  shapeCast S120x512 (k0_pay40 (deltaD c (V m c main_arg5) (V m c main_arg2) t)) (by decide)

/-- The two results of the down projection of the run from the memory `m`. -/
def resOut (c : Dev nD) : S120x8192.Idx → Elt F .bf16 := tilesD (outTile m c)
def resDelta (c : Dev nD) : S120x8192.Idx → Elt F .f32 := tilesD (deltaTile m c)

theorem resOut_tile (c : Dev nD) (t : Fin k0_t14_loop.trips) :
    outTile m c t = (blkO outM t.val).view.read (Elt F) (resOut m c : Buf (Elt F) (outM.view.loc (c : Thread nD τ))) :=
  funext fun x => (tilesD_tile c (outTile m c) t (blk_inb t.val) x).symm
theorem resDelta_tile (c : Dev nD) (t : Fin k0_t14_loop.trips) :
    deltaTile m c t = (blkO ddM t.val).view.read (Elt F) (resDelta m c : Buf (Elt F) (ddM.view.loc (c : Thread nD τ))) :=
  funext fun x => (tilesD_tile c (deltaTile m c) t (blk_inb t.val) x).symm

/-! ## The pipeline's data -/

/-- The semaphores the body uses: the ring's 64, the one of the codes' copy, and the four of the copies out. -/
def osemN (n : ℕ) : SemLoc sig := if n < 64 then .dma (cellOf n) else if n = 64 then .dma cc0_scratch9.sem
  else .dma (osemOf (if n < 67 then 0 else 1) (n - 65))
abbrev osem0 : Fin 69 → SemLoc sig := fun j => osemN j.val
theorem ownSemFacts0 : Pipeline.OwnSemFacts spec0 osem0 := by decide

/-- The two of one array. -/
theorem two_sems (c : Dev nD) (k : Fin 2) : bigSep (Finset.range 2) (fun n => (semVal ((c : Thread nD τ), .dma (osemOf k n)) 0 : sProp 𝕄))
    = iprop(semVal ((c : Thread nD τ), .dma (osemOf k 0)) 0 ∗ semVal ((c : Thread nD τ), .dma (osemOf k 1)) 0) := by
  rw [show Finset.range 2 = insert 0 {1} from rfl, BI.bigSep_insert (by decide), BI.bigSep_singleton]; rfl

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma cc0_scratch9.sem) 0 ∗ semVal ((c : Thread nD τ), .dma (osemOf 0 0)) 0 ∗ semVal ((c : Thread nD τ), .dma (osemOf 0 1)) 0
          ∗ semVal ((c : Thread nD τ), .dma (osemOf 1 0)) 0 ∗ semVal ((c : Thread nD τ), .dma (osemOf 1 1)) 0 ∗ bigSep (Finset.range 64) (fun n => (semVal ((c : Thread nD τ), .dma (cellOf n)) 0 : sProp 𝕄))) := by
  have e : (Finset.univ : Finset (Fin 69)).map Fin.valEmbedding = insert 64 (insert 65 (insert 66 (insert 67 (insert 68 (Finset.range 64))))) := by decide
  have e1 : (Pipeline.ownSems0 (Ix := Unit) (Name := ℕ) (U := Pipeline.UD sig nD τ) (Lvl := ℕ) (Val := Elt F) (τ := τ) osem0 c : sProp 𝕄)
      = bigSep ((Finset.univ : Finset (Fin 69)).map Fin.valEmbedding) (fun n => (semVal ((c : Thread nD τ), osemN n) 0 : sProp 𝕄)) := by
    rw [BI.bigSep_map]; rfl
  rw [e1, e, BI.bigSep_insert (by decide), BI.bigSep_insert (by decide), BI.bigSep_insert (by decide), BI.bigSep_insert (by decide), BI.bigSep_insert (by decide),
    show osemN 65 = .dma (osemOf 0 0) from rfl, show osemN 66 = .dma (osemOf 0 1) from rfl, show osemN 67 = .dma (osemOf 1 0) from rfl, show osemN 68 = .dma (osemOf 1 1) from rfl]
  refine congrArg₂ _ rfl (congrArg₂ _ rfl (congrArg₂ _ rfl (congrArg₂ _ rfl (congrArg₂ _ rfl (BI.bigSep_congr fun n hn => ?_)))))
  rw [show osemN n = .dma (cellOf n) from if_pos (Finset.mem_range.mp hn)]

/-- The arrays the body's transfers read: the weights and the pool. -/
def H0 : Finset (Ref sig .tc) := {main_arg3, main_arg5, main_arg7}
theorem H0_sub : H0 ⊆ Pipeline.restRefs sig spec0 := by decide
theorem hbmPts0_eq (c : Dev nD) :
    (bigSep H0 (fun b => ((c : Thread nD τ).loc b) ↦{fullShare} V m c b) : sProp 𝕄)
      = iprop((wguM.view.loc (c : Thread nD τ) ↦{fullShare} V m c main_arg3) ∗ (wdM.view.loc (c : Thread nD τ) ↦{fullShare} V m c main_arg7) ∗ (poolM.view.loc (c : Thread nD τ) ↦{fullShare} V m c main_arg5)) := by
  rw [BI.bigSep_eq_bigSepL_of_eq [main_arg3, main_arg7, main_arg5] (by decide) (by decide)]; rfl

/-- The arrays the body's own copies write: the codes, and the two results of the down projection. -/
def R0 : Finset (Ref sig .tc) := {main_v2_1, main_v2_3, main_v2_4}
theorem R0_sub : R0 ⊆ Pipeline.restRefs sig spec0 \ H0 := by decide
theorem routed0_eq (c : Dev nD) (W : (b : Ref sig .tc) → Buf (Elt F) ((c : Thread nD τ).loc b)) :
    (Pipeline.routed R0 c W : sProp 𝕄) = iprop((gcM.view.loc (c : Thread nD τ) ↦{fullShare} W main_v2_1)
      ∗ (outM.view.loc (c : Thread nD τ) ↦{fullShare} W main_v2_3) ∗ (ddM.view.loc (c : Thread nD τ) ↦{fullShare} W main_v2_4)) := by
  unfold Pipeline.routed
  rw [BI.bigSep_eq_bigSepL_of_eq [main_v2_1, main_v2_3, main_v2_4] (by decide) (by decide)]; rfl

/-- The arrays after the run, where the body's own copies wrote them. -/
def Gfin (c : Dev nD) (b : Ref sig .tc) : Buf (Elt F) ((c : Thread nD τ).loc b) :=
  Function.update (Function.update (Function.update (V m c) main_v2_1 (gcOf (res m c))) main_v2_3 (resOut m c)) main_v2_4 (resDelta m c) b
theorem Gfin_eq (c : Dev nD) : Gfin m c main_v2_1 = gcOf (res m c) :=
  (Function.update_of_ne (by decide) _ _).trans ((Function.update_of_ne (by decide) _ _).trans (Function.update_self _ _ _))
theorem Gfin_out (c : Dev nD) : Gfin m c main_v2_3 = resOut m c := (Function.update_of_ne (by decide) _ _).trans (Function.update_self _ _ _)
theorem Gfin_delta (c : Dev nD) : Gfin m c main_v2_4 = resDelta m c := Function.update_self _ _ _

theorem PhiD0_eq (c : Dev nD) (G : (c : Dev nD) → (b : Ref sig .tc) → Buf (Elt F) ((c : Thread nD τ).loc b)) :
    (Pipeline.ΦDRG osem0 spec0 H0 R0 (V m) G c : sProp 𝕄)
      = iprop(iprop((∃ f, hbM.view.loc (c : Thread nD τ) ↦{fullShare} f) ∗ (∃ f, codesM.view.loc (c : Thread nD τ) ↦{fullShare} f)
            ∗ (∃ f, coM.view.loc (c : Thread nD τ) ↦{fullShare} f) ∗ (∃ f, ostM.view.loc (c : Thread nD τ) ↦{fullShare} f) ∗ (∃ f, dstM.view.loc (c : Thread nD τ) ↦{fullShare} f) ∗ (∃ f, ascM.view.loc (c : Thread nD τ) ↦{fullShare} f)
            ∗ (∃ f, arenaM.view.loc (c : Thread nD τ) ↦{fullShare} f) ∗ (∃ f, arena8M.view.loc (c : Thread nD τ) ↦{fullShare} f))
          ∗ (∃ r, prngReg c r)
          ∗ iprop(semVal ((c : Thread nD τ), .dma cc0_scratch9.sem) 0 ∗ semVal ((c : Thread nD τ), .dma (osemOf 0 0)) 0 ∗ semVal ((c : Thread nD τ), .dma (osemOf 0 1)) 0
          ∗ semVal ((c : Thread nD τ), .dma (osemOf 1 0)) 0 ∗ semVal ((c : Thread nD τ), .dma (osemOf 1 1)) 0 ∗ bigSep (Finset.range 64) (fun n => (semVal ((c : Thread nD τ), .dma (cellOf n)) 0 : sProp 𝕄)))
          ∗ iprop((wguM.view.loc (c : Thread nD τ) ↦{fullShare} V m c main_arg3) ∗ (wdM.view.loc (c : Thread nD τ) ↦{fullShare} V m c main_arg7) ∗ (poolM.view.loc (c : Thread nD τ) ↦{fullShare} V m c main_arg5))
          ∗ iprop((gcM.view.loc (c : Thread nD τ) ↦{fullShare} G c main_v2_1)
            ∗ (outM.view.loc (c : Thread nD τ) ↦{fullShare} G c main_v2_3) ∗ (ddM.view.loc (c : Thread nD τ) ↦{fullShare} G c main_v2_4))) := by
  rw [Pipeline.ΦDRG_eq, scopedRest0_eq, ownSems00_eq, hbmPts0_eq, routed0_eq]; try rfl

/-- The proof data: every staged input stays as it is, the result's buffer ends with the result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => res m c
    | ⟨9, _⟩ => gsOf (res m c)
  Φ t := Pipeline.ΦDRG osem0 spec0 H0 R0 (V m) (if t.val = 0 then V m else Gfin m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = res m c := by dsimp only [dats]
theorem after0_9 (c : Dev nD) (t : Fin cfg0.N) : (dats m 0 c).after 9 t = gsOf (res m c) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-! ## The body keeps what the pipeline asks -/

/-- A staged table of items. -/
theorem tab_in (c : Dev nD) {M : Memref sig .tc .smem S704 .i32} {X : S704.Idx → Elt F .i32} (e : X = fun x => lit0 (S704.rowMajor x)) :
    (owns (c : Thread nD τ) M fullShare X : sProp 𝕄) ⊢ Tab (F := F) c M := by
  subst e; unfold owns Tab
  iintro ⟨%f, %hf, H⟩; iexists f; isplitl [H]; · iexact H
  ipureintro; exact hf
theorem tab_out (c : Dev nD) {M : Memref sig .tc .smem S704 .i32} {X : S704.Idx → Elt F .i32} (e : X = fun x => lit0 (S704.rowMajor x)) :
    Tab (F := F) c M ⊢ (owns (c : Thread nD τ) M fullShare X : sProp 𝕄) := by
  subst e; unfold owns Tab
  iintro ⟨%f, H, %hf⟩; iexists f; isplitr; · ipureintro; exact hf
  iexact H
theorem hi_in (c : Dev nD) {M : Memref sig .tc .smem S45 .i32} {X : S45.Idx → Elt F .i32} (e : X = fun x => lit1 (S45.rowMajor x)) :
    (owns (c : Thread nD τ) M fullShare X : sProp 𝕄) ⊢ HiTab (F := F) c M := by
  subst e; unfold owns HiTab
  iintro ⟨%f, %hf, H⟩; iexists f; isplitl [H]; · iexact H
  ipureintro; exact hf
theorem hi_out (c : Dev nD) {M : Memref sig .tc .smem S45 .i32} {X : S45.Idx → Elt F .i32} (e : X = fun x => lit1 (S45.rowMajor x)) :
    HiTab (F := F) c M ⊢ (owns (c : Thread nD τ) M fullShare X : sProp 𝕄) := by
  subst e; unfold owns HiTab
  iintro ⟨%f, H, %hf⟩; iexists f; isplitr; · ipureintro; exact hf
  iexact H
/-- The result's buffer before the first step, and after the last. -/
theorem done_in (c : Dev nD) {M : Memref sig .tc .vmem S120x7168 .f32} {X G : S120x7168.Idx → Elt F .f32} :
    (owns (c : Thread nD τ) M fullShare X : sProp 𝕄) ⊢ Done (F := F) c M G 0 := by
  unfold owns Done
  iintro ⟨%f, %hf, H⟩; iexists f; isplitl [H]; · iexact H
  ipureintro; exact fun y h => absurd h (Nat.not_lt_zero _)

/-- A scratch buffer held whole is one of which nothing is known. -/
theorem some_eq (c : Dev nD) {s : Shape} {e : EltTy} {M : Memref sig .tc .vmem s e} (h : M.view.set = Finset.univ) :
    Some' (F := F) c M = iprop(∃ f, M.view.loc (c : Thread nD τ) ↦{fullShare} f) := by
  unfold Some'; rw [h]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  have ht : t.val = 0 := Nat.lt_one_iff.mp t.isLt
  unfold bodyPre bodyPost bodyAt0
  simp only [before0_0, before0_1, before0_2, before0_3, before0_4, before0_5, before0_6, before0_7]
  rw [after0_0, after0_1, after0_2, after0_3, after0_4, after0_5, after0_6, after0_7, after0_8, after0_9]
  rw [show (dats m 0 c).Φ t.castSucc = Pipeline.ΦDRG osem0 spec0 H0 R0 (V m) (V m) c from congrArg (fun G => Pipeline.ΦDRG osem0 spec0 H0 R0 (V m) G c) (if_pos ht),
    show (dats m 0 c).Φ t.succ = Pipeline.ΦDRG osem0 spec0 H0 R0 (V m) (Gfin m) c from congrArg (fun G => Pipeline.ΦDRG osem0 spec0 H0 R0 (V m) G c) (if_neg (Nat.succ_ne_zero _)),
    PhiD0_eq, PhiD0_eq, Gfin_eq, Gfin_out, Gfin_delta]
  unfold Dat.owesAt Pipeline.owesWithin
  rw [show (dats m 0 c).owed t.castSucc = 0 from rfl, show (dats m 0 c).owed t.succ = 0 from rfl]
  rw [blk0, blk1, blk2, blk3, blk4, blk5, blk6, blk7]
  refine BI.BIBase.Entails.trans (Q := iprop((∃ r, prngReg c r) ∗ (Ring c (V m c main_arg3) (V m c main_arg7) (V m c main_arg5) 0 0 0
      ∗ Kept c (st0_0 t) (st0_1 t) (st0_2 t) (st0_3 t) (st0_4 t) (st0_5 t) (st0_6 t) (st0_7 t) fullShare fullShare fullShare fullShare fullShare fullShare (V m c main_v0) (V m c main_arg0) (V m c main_arg1) (V m c main_arg2) (V m c main_v1) (V m c main_arg6)
      ∗ Done (F := F) c (st0_8 t) (res m c) 0 ∗ Some' (F := F) c hbM ∗ Some' (F := F) c ascM ∗ Some' (F := F) c codesM ∗ Some' (F := F) c coM ∗ Some' (F := F) c (st0_9 t)
      ∗ (∃ f, gcM.view.loc (c : Thread nD τ) ↦[gcM.view.set]{fullShare} f) ∗ semVal ((c : Thread nD τ), .dma cc0_scratch9.sem) 0
      ∗ ((∃ f, ostM.view.loc (c : Thread nD τ) ↦[ostM.view.set]{fullShare} f) ∗ (∃ f, outM.view.loc (c : Thread nD τ) ↦[outM.view.set]{fullShare} f) ∗ bigSep (Finset.range 2) (fun n => (semVal ((c : Thread nD τ), .dma (osemOf 0 n)) 0 : sProp 𝕄))) ∗ ((∃ f, dstM.view.loc (c : Thread nD τ) ↦[dstM.view.set]{fullShare} f) ∗ (∃ f, ddM.view.loc (c : Thread nD τ) ↦[ddM.view.set]{fullShare} f) ∗ bigSep (Finset.range 2) (fun n => (semVal ((c : Thread nD τ), .dma (osemOf 1 n)) 0 : sProp 𝕄)))
      ∗ (∃ W, owes (c : Thread nD τ) 0 W)))) ?_ ?_
  · rw [ring_rest]
    rw [some_eq c (M := hbM) (View.set_whole _), some_eq c (M := ascM) (View.set_whole _), some_eq c (M := codesM) (View.set_whole _), some_eq c (M := coM) (View.set_whole _),
      show gcM.view.set = Finset.univ from View.set_whole _,
      show outM.view.set = Finset.univ from View.set_whole _,
      show ddM.view.set = Finset.univ from View.set_whole _,
      show ostM.view.set = Finset.univ from View.set_whole _,
      show dstM.view.set = Finset.univ from View.set_whole _, two_sems, two_sems]
    unfold Kept
    iintro ⟨⟨⟨Hhb, Hcd, Hco, Hos, Hds, Has, Ha, Hb⟩, Hg, ⟨Hcs, Hq0, Hq1, Hq2, Hq3, Hs⟩, ⟨Hw, Hd, Hp⟩, ⟨Hgc, Hou, Hdd⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    isplitl [Hg]; · iexact Hg
    isplitl [Ha Hb Hs Hw Hd Hp]
    · isplitl [Hw]; · iexact Hw
      isplitl [Hd]; · iexact Hd
      isplitl [Hp]; · iexact Hp
      isplitl [Ha]; · iexact Ha
      isplitl [Hb]; · iexact Hb
      isplitl [Hs]; · iexact Hs
      itrivial
    isplitl [H0 H1 H2 H3 H4 H5 H6 H7]
    · isplitl [H0]; · iapply (tab_in c (V_items m c)) $$ H0
      isplitl [H1]; · iapply (hi_in c (V_hi m c)) $$ H1
      isplitl [H2]; · iexact H2
      isplitl [H3]; · iexact H3
      isplitl [H4]; · iexact H4
      isplitl [H5]; · iexact H5
      isplitl [H6]; · iexact H6
      iexact H7
    isplitl [H8]; · iapply (done_in c) $$ H8
    isplitl [Hhb]; · iexact Hhb
    isplitl [Has]; · iexact Has
    isplitl [Hcd]; · iexact Hcd
    isplitl [Hco]; · iexact Hco
    isplitl [H9]; · iapply (some_of_owns c) $$ H9
    isplitl [Hgc]; · iexists _; iexact Hgc
    isplitl [Hcs]; · iexact Hcs
    isplitl [Hos Hou Hq0 Hq1]
    · isplitl [Hos]; · iexact Hos
      isplitl [Hou]; · iexists _; iexact Hou
      isplitl [Hq0]; · iexact Hq0
      iexact Hq1
    isplitl [Hds Hdd Hq2 Hq3]
    · isplitl [Hds]; · iexact Hds
      isplitl [Hdd]; · iexists _; iexact Hdd
      isplitl [Hq2]; · iexact Hq2
      iexact Hq3
    iexists W; iexact HW
  · refine BI.BIBase.Entails.trans (BI.sep_mono_r (body_run c (V m c main_arg3) (V m c main_arg7) (V m c main_arg5) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0)
      fullShare fullShare fullShare fullShare fullShare fullShare (V m c main_v0) (V m c main_arg0) (V m c main_arg1) (V m c main_arg2) (V m c main_v1) (V m c main_arg6) (res m c) (resOut m c) (resDelta m c)
      (fun t x => resOf_tile c _ _ _ _ _ _ t x) (resOut_tile m c) (resDelta_tile m c))) ?_
    refine BI.BIBase.Entails.trans (wp_frame_l _ _ _) (wp_mono _ _ _ fun _ => ?_)
    rw [show hiOf 44 = 176 from rfl, ring_rest]
    rw [some_eq c (M := hbM) (View.set_whole _), some_eq c (M := ascM) (View.set_whole _), some_eq c (M := codesM) (View.set_whole _), some_eq c (M := coM) (View.set_whole _),
      show gcM.view.set = Finset.univ from View.set_whole _,
      show outM.view.set = Finset.univ from View.set_whole _,
      show ddM.view.set = Finset.univ from View.set_whole _,
      show ostM.view.set = Finset.univ from View.set_whole _,
      show dstM.view.set = Finset.univ from View.set_whole _, two_sems, two_sems]
    unfold Kept
    iintro ⟨Hg, ⟨Hw, Hd, Hp, Ha, Hb, Hs, -⟩, ⟨H0, H1, H2, H3, H4, H5, H6, H7⟩, H8, Hhb, Has, Hcd, Hco, H9, Hgc, Hcs, ⟨Hos, Hou, Hq0, Hq1⟩, ⟨Hds, Hdd, Hq2, Hq3⟩, ⟨%W', HW'⟩⟩
    isplitl [Hg Hw Hd Hp Ha Hb Hs Hhb Has Hcd Hco Hgc Hcs Hos Hou Hq0 Hq1 Hds Hdd Hq2 Hq3]
    · isplitl [Ha Hb Hhb Has Hcd Hco Hos Hds]
      · isplitl [Hhb]; · iexact Hhb
        isplitl [Hcd]; · iexact Hcd
        isplitl [Hco]; · iexact Hco
        isplitl [Hos]; · iexact Hos
        isplitl [Hds]; · iexact Hds
        isplitl [Has]; · iexact Has
        isplitl [Ha]; · iexact Ha
        iexact Hb
      isplitl [Hg]; · iexact Hg
      isplitl [Hcs Hq0 Hq1 Hq2 Hq3 Hs]
      · isplitl [Hcs]; · iexact Hcs
        isplitl [Hq0]; · iexact Hq0
        isplitl [Hq1]; · iexact Hq1
        isplitl [Hq2]; · iexact Hq2
        isplitl [Hq3]; · iexact Hq3
        iexact Hs
      isplitl [Hw Hd Hp]
      · isplitl [Hw]; · iexact Hw
        isplitl [Hd]; · iexact Hd
        iexact Hp
      isplitl [Hgc]; · iexact Hgc
      isplitl [Hou]; · iexact Hou
      iexact Hdd
    isplitl [HW']
    · iexists W'; isplitr; · ipureintro; exact fun _ _ => Or.inl trivial
      iexact HW'
    isplitl [H0]; · iapply (tab_out c (V_items m c)) $$ H0
    isplitl [H1]; · iapply (hi_out c (V_hi m c)) $$ H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (Gfin m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := Gfin m)
    (hin := fun _ => .rfl) (hout := fun _ => .rfl)

/-- Cutting the point's block out of `X` and reading `X` through the block's view give the same. -/
theorem cut8_eq (t : Fin cfg0.N) (X : Vec F S120x7168 .f32) :
    (cfg0.win 8).cut (grid0.coords t) X = ((cfg0.win 8).blk t).view.read (Elt F) X := by
  funext j
  show X j = X (((cfg0.win 8).blk t).view.emb j)
  rw [emb8]

theorem flushed8 (c : Dev nD) (t : Fin cfg0.N) :
    (dats m 0 c).flushed 8 t = ((cfg0.win 8).blk t).view.read (Elt F) (res m c) := by
  show (cfg0.win 8).cut (grid0.coords t) ((dats m 0 c).after 8 t) = _
  rw [after0_8]
  exact cut8_eq t _

/-- Every index of the result array is in the point's block. -/
theorem covered8 (i : S120x7168.Idx) :
    ∃ t : Fin cfg0.N, (cfg0.win 8).flush t = true ∧ i ∈ ((cfg0.win 8).blk t).view.set :=
  ⟨t0_0, flush0_8 _, by have h := ((cfg0.win 8).blk t0_0).view.emb_mem_set i; rwa [emb8] at h⟩

/-- The result array after the run. -/
theorem final (c : Dev nD) : (dats m 0 c).arrAt 8 cfg0.N = res m c :=
  (dats m 0 c).arrAt_eq_of_cover 8 (res m c) (fun t _ => flushed8 m c t) covered8

/-- The same for the scales. -/
theorem cut9_eq (t : Fin cfg0.N) (X : Vec F S1x120 .f32) :
    (cfg0.win 9).cut (grid0.coords t) X = ((cfg0.win 9).blk t).view.read (Elt F) X := by
  funext j
  show X j = X (((cfg0.win 9).blk t).view.emb j)
  rw [emb9]

theorem flushed9 (c : Dev nD) (t : Fin cfg0.N) :
    (dats m 0 c).flushed 9 t = ((cfg0.win 9).blk t).view.read (Elt F) (gsOf (res m c)) := by
  show (cfg0.win 9).cut (grid0.coords t) ((dats m 0 c).after 9 t) = _
  rw [after0_9]
  exact cut9_eq t _

theorem covered9 (i : S1x120.Idx) :
    ∃ t : Fin cfg0.N, (cfg0.win 9).flush t = true ∧ i ∈ ((cfg0.win 9).blk t).view.set :=
  ⟨t0_0, flush0_9 _, by have h := ((cfg0.win 9).blk t0_0).view.emb_mem_set i; rwa [emb9] at h⟩

/-- The scales' array after the run. -/
theorem finalS (c : Dev nD) : (dats m 0 c).arrAt 9 cfg0.N = gsOf (res m c) :=
  (dats m 0 c).arrAt_eq_of_cover 9 (gsOf (res m c)) (fun t _ => flushed9 m c t) covered9

/-- The program runs, ends with the product `res`, its codes, its scales and the two results of the down projection, with its
    arguments as they were and every semaphore at zero. -/
theorem run : θ_run defs (onTc (τ := τ) (main (F := F))) ⟨m, fun _ => 0, ρ⟩ (fun r => (∀ c : Dev nD,
      r.2.mem ((c.tc : Thread nD τ).loc main_v2_0) = res m c
      ∧ r.2.mem ((c.tc : Thread nD τ).loc main_v2_1) = gcOf (res m c)
      ∧ r.2.mem ((c.tc : Thread nD τ).loc main_v2_2) = gsOf (res m c)
      ∧ r.2.mem ((c.tc : Thread nD τ).loc main_v2_3) = resOut m c
      ∧ r.2.mem ((c.tc : Thread nD τ).loc main_v2_4) = resDelta m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1.toR c).1 8).trans (final m c), (h.1.written c (show main_v2_1 ∈ R0 by decide)).trans (Gfin_eq m c), ((h.1.toR c).1 9).trans (finalS m c),
      (h.1.written c (show main_v2_3 ∈ R0 by decide)).trans (Gfin_out m c), (h.1.written c (show main_v2_4 ∈ R0 by decide)).trans (Gfin_delta m c),
      ((h.1.toR c).1 3).trans (((dats m 0 c).arrAt_in 3 rfl _).trans ((A_eq m c 3).trans (V_main_arg0 m c))),
      ((h.1.toR c).1 4).trans (((dats m 0 c).arrAt_in 4 rfl _).trans ((A_eq m c 4).trans (V_main_arg1 m c))),
      ((h.1.toR c).1 5).trans (((dats m 0 c).arrAt_in 5 rfl _).trans ((A_eq m c 5).trans (V_main_arg2 m c))),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).1 7).trans (((dats m 0 c).arrAt_in 7 rfl _).trans ((A_eq m c 7).trans (V_main_arg6 m c))),
      ((h.1.toR c).2 main_arg7 (Finset.mem_sdiff.mpr ⟨Pipeline.mem_restRefs_of main_arg7 (by decide) (by decide), by decide⟩)).trans (V_main_arg7 m c),
      ((h.1.toR c).2 main_arg8 (Finset.mem_sdiff.mpr ⟨Pipeline.mem_restRefs_of main_arg8 (by decide) (by decide), by decide⟩)).trans (V_main_arg8 m c)⟩, h.2⟩) (run_main m ρ)

end Cert.KernelIdeal.Hand

end
-- ==== Proof.KernelValue.lean ====
/-
  Hand-written, untrusted. The kernel's result over the real numbers: each entry of a step's tile is the formula's.
-/
module

public import proofs.«01_k».proof.Proof.Spec
public import proofs.«01_k».proof.Proof.Run
public import Idealize.ShloMosaic.Lib.Pipeline.Value

@[expose] public section

noncomputable section

namespace Cert.KernelIdeal.Hand

open Cert.KernelIdeal Cert.KernelIdeal.Gen Cert.Sets
open Idealize.ShloMosaic hiding ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

/-- Column `n` of the gate half and of the up half of a step's 512 columns. -/
def colL (n : Fin 256) : Fin 512 := ⟨n.val, by omega⟩
def colR (n : Fin 256) : Fin 512 := ⟨256 + n.val, by omega⟩
/-- A row of the result among the 128 rows computed. -/
def row (r : Fin 120) : Fin 128 := ⟨r.val, by omega⟩

/-! ## The arithmetic at an entry -/

theorem pay70_left (a b : Vec Ideal S1x256 .f32) (n : Fin 256) : k0_pay1 a b (ix2 0 (colL n)) = a (ix2 0 n) := by
  refine (concatenate_pair_apply_left (t := S1x512) 1 _ _ concatenates_S1x256_S1x256_S1x512_d1 (ix2 0 (colL n)) rfl (ix2 0 n) ?_).trans ?_
  · intro d; match d with
    | ⟨0, _⟩ => rfl
    | ⟨1, _⟩ => rfl
  · rw [shapeCast_self]
theorem pay70_right (a b : Vec Ideal S1x256 .f32) (n : Fin 256) : k0_pay1 a b (ix2 0 (colR n)) = b (ix2 0 n) := by
  refine (concatenate_pair_apply_right (t := S1x512) 1 _ _ concatenates_S1x256_S1x256_S1x512_d1 (ix2 0 (colR n)) rfl rfl (ix2 0 n) ?_ ?_).trans ?_
  · intro d hd; match d with
    | ⟨0, _⟩ => rfl
    | ⟨1, _⟩ => exact absurd rfl hd
  · show n.val + 256 = 256 + n.val; omega
  · rw [shapeCast_self]

theorem pay71_left (a b : Vec Ideal S8192x256 .fp8e4m3) (x : Vec Ideal S128x8192 .fp8e4m3) (r : Fin 128) (n : Fin 256) :
    k0_pay2 a b x (ix2 r (colL n)) = Cert.Spec.zero + ∑ k : Fin 8192, x (ix2 r k) * a (ix2 k n) := by
  refine (Ideal.matmul_plain_apply (M := 128) (K := 8192) (N := 512) none _ _ _ r (colL n)).trans ?_
  refine congrArg (Cert.Spec.zero + ·) (Finset.sum_congr rfl fun k _ => congrArg (x (ix2 r k) * ·) ?_)
  refine concatenate_pair_apply_left (t := S8192x512) 1 _ _ concatenates_S8192x256_S8192x256_S8192x512_d1 (ix2 k (colL n)) rfl (ix2 k n) ?_
  intro d; match d with
    | ⟨0, _⟩ => rfl
    | ⟨1, _⟩ => rfl
theorem pay71_right (a b : Vec Ideal S8192x256 .fp8e4m3) (x : Vec Ideal S128x8192 .fp8e4m3) (r : Fin 128) (n : Fin 256) :
    k0_pay2 a b x (ix2 r (colR n)) = Cert.Spec.zero + ∑ k : Fin 8192, x (ix2 r k) * b (ix2 k n) := by
  refine (Ideal.matmul_plain_apply (M := 128) (K := 8192) (N := 512) none _ _ _ r (colR n)).trans ?_
  refine congrArg (Cert.Spec.zero + ·) (Finset.sum_congr rfl fun k _ => congrArg (x (ix2 r k) * ·) ?_)
  refine concatenate_pair_apply_right (t := S8192x512) 1 _ _ concatenates_S8192x256_S8192x256_S8192x512_d1 (ix2 k (colR n)) rfl rfl (ix2 k n) ?_ ?_
  · intro d hd; match d with
    | ⟨0, _⟩ => rfl
    | ⟨1, _⟩ => exact absurd rfl hd
  · show n.val + 256 = 256 + n.val; omega

/-- One adapter product. -/
theorem lora_apply (a : Vec Ideal S2176x256 .i8) (x : Vec Ideal S1x128x2176 .bf16) (r : Fin 128) (n : Fin 256) :
    (matmul dot_S128x2176_S2176x256_S128x256_1_0_0_1_n_n none (shapeCast S128x2176 x shapeCasts_S1x128x2176_S128x2176 : FVec Ideal S128x2176 .bf16)
        (sitofp .bf16 a : FVec Ideal S2176x256 .bf16) (constant S128x256 .f32 0x00000000#32 : FVec Ideal S128x256 .f32)) (ix2 r n)
      = Cert.Spec.zero + ∑ k : Fin 2176, x (ix3 0 r k) * (FloatOps.sitofp .bf16 (a (ix2 k n)) : Ideal .bf16) := by
  refine (Ideal.matmul_plain_apply (M := 128) (K := 2176) (N := 256) none _ _ _ r n).trans ?_
  refine congrArg (Cert.Spec.zero + ·) (Finset.sum_congr rfl fun k _ => congrArg (· * _) ?_)
  refine (shapeCast_dropUnit_apply ![128, 2176] x shapeCasts_S1x128x2176_S128x2176 (ix2 r k)).trans (congrArg x ?_)
  funext d; match d with
    | ⟨0, _⟩ => rfl
    | ⟨1, _⟩ => rfl
    | ⟨2, _⟩ => rfl

theorem pay72_left (a b : Vec Ideal S2176x256 .i8) (x y : Vec Ideal S1x128x2176 .bf16) (r : Fin 128) (n : Fin 256) :
    k0_pay3 a b x y (ix2 r (colL n)) = Cert.Spec.zero + ∑ k : Fin 2176, x (ix3 0 r k) * (FloatOps.sitofp .bf16 (a (ix2 k n)) : Ideal .bf16) := by
  refine (concatenate_pair_apply_left (t := S128x512) 1 _ _ concatenates_S128x256_S128x256_S128x512_d1 (ix2 r (colL n)) rfl (ix2 r n) ?_).trans (lora_apply a x r n)
  intro d; match d with
    | ⟨0, _⟩ => rfl
    | ⟨1, _⟩ => rfl
theorem pay72_right (a b : Vec Ideal S2176x256 .i8) (x y : Vec Ideal S1x128x2176 .bf16) (r : Fin 128) (n : Fin 256) :
    k0_pay3 a b x y (ix2 r (colR n)) = Cert.Spec.zero + ∑ k : Fin 2176, y (ix3 0 r k) * (FloatOps.sitofp .bf16 (b (ix2 k n)) : Ideal .bf16) := by
  refine (concatenate_pair_apply_right (t := S128x512) 1 _ _ concatenates_S128x256_S128x256_S128x512_d1 (ix2 r (colR n)) rfl rfl (ix2 r n) ?_ ?_).trans (lora_apply b y r n)
  · intro d hd; match d with
    | ⟨0, _⟩ => rfl
    | ⟨1, _⟩ => exact absurd rfl hd
  · show n.val + 256 = 256 + n.val; omega

/-- One of the 512 columns before the gate is applied. -/
def pre (s : FVec Ideal S1x512 .f32) (p l : FVec Ideal S128x512 .f32) (a : Vec Ideal S128x1 .f32) (r : Fin 128) (q : Fin 512) : Ideal .f32 :=
  p (ix2 r q) * (a (ix2 r 0) * s (ix2 0 q)) + l (ix2 r q)

theorem pre_eq (s : FVec Ideal S1x512 .f32) (p l : FVec Ideal S128x512 .f32) (a : Vec Ideal S128x1 .f32) (r : Fin 128) (q : Fin 512) :
    (addf (mulf p (mulf (broadcastTo S128x512 a broadcasts_S128x1_S128x512 : FVec Ideal S128x512 .f32) (broadcastTo S128x512 s broadcasts_S1x512_S128x512))) l)
      (ix2 r q) = pre s p l a r q := by
  have e1 : (broadcastTo S128x512 a broadcasts_S128x1_S128x512 : FVec Ideal S128x512 .f32) (ix2 r q) = a (ix2 r 0) :=
    broadcastTo_apply _ _ _ _ (fun d => by match d with
      | ⟨0, _⟩ => rfl
      | ⟨1, _⟩ => rfl)
  have e2 : (broadcastTo S128x512 s broadcasts_S1x512_S128x512 : FVec Ideal S128x512 .f32) (ix2 r q) = s (ix2 0 q) :=
    broadcastTo_apply _ _ _ _ (fun d => by match d with
      | ⟨0, _⟩ => rfl
      | ⟨1, _⟩ => rfl)
  show p (ix2 r q) * ((broadcastTo S128x512 a broadcasts_S128x1_S128x512 : FVec Ideal S128x512 .f32) (ix2 r q)
    * (broadcastTo S128x512 s broadcasts_S1x512_S128x512 : FVec Ideal S128x512 .f32) (ix2 r q)) + l (ix2 r q) = _
  rw [e1, e2]; rfl

theorem pay1_apply (s : FVec Ideal S1x512 .f32) (p l : FVec Ideal S128x512 .f32) (a : Vec Ideal S128x1 .f32) (r : Fin 120) (n : Fin 256) :
    k0_pay44 s p l a (ix2 r n)
      = (pre s p l a (row r) (colL n) * FloatOps.logistic (pre s p l a (row r) (colL n))) * pre s p l a (row r) (colR n) := by
  unfold k0_pay44
  refine (extractStridedSlice_apply (s := S128x256) _ _ slices_S128x256_o0_0_S120x256 (ix2 r n) (ix2 (row r) n) (fun d => by match d with
    | ⟨0, _⟩ => show r.val = 0 + r.val; omega
    | ⟨1, _⟩ => show n.val = 0 + n.val; omega)).trans ?_
  have e1 (x : FVec Ideal S128x512 .f32) : (extractStridedSlice S128x256 ![0, 0] x slices_S128x512_o0_0_S128x256 : FVec Ideal S128x256 .f32) (ix2 (row r) n) = x (ix2 (row r) (colL n)) :=
    extractStridedSlice_apply _ _ _ _ _ (fun d => by match d with
      | ⟨0, _⟩ => show (row r).val = 0 + (row r).val; omega
      | ⟨1, _⟩ => show n.val = 0 + n.val; omega)
  have e2 (x : FVec Ideal S128x512 .f32) : (extractStridedSlice S128x256 ![0, 256] x slices_S128x512_o0_256_S128x256 : FVec Ideal S128x256 .f32) (ix2 (row r) n) = x (ix2 (row r) (colR n)) :=
    extractStridedSlice_apply _ _ _ _ _ (fun d => by match d with
      | ⟨0, _⟩ => show (row r).val = 0 + (row r).val; omega
      | ⟨1, _⟩ => show 256 + n.val = 256 + n.val; omega)
  rw [← pre_eq, ← pre_eq]
  generalize (addf (mulf p (mulf (broadcastTo S128x512 a broadcasts_S128x1_S128x512 : FVec Ideal S128x512 .f32) (broadcastTo S128x512 s broadcasts_S1x512_S128x512))) l) = X
  rw [← e1 X, ← e2 X]; rfl

/-! ## A step's tile -/

variable (c : Dev nD) (Vw : Buf (Elt Ideal) (wguM.view.loc (c : Thread nD τ))) (Vp : Buf (Elt Ideal) (poolM.view.loc (c : Thread nD τ)))
variable (X2 : S1x14336.Idx → Elt Ideal .f32) (X3 : S128x8192.Idx → Elt Ideal .fp8e4m3) (X4 : S128x128.Idx → Elt Ideal .f32)
  (X5 : S3x128x2176.Idx → Elt Ideal .bf16)

/-- The result's column that a step's column is. -/
def col (t : Fin k0_t3_loop.trips) (n : Fin 256) : Fin 7168 := ⟨256 * t.val + n.val, by have := t3_lt t; omega⟩

theorem scale_left (t : Fin k0_t3_loop.trips) (n : Fin 256) :
    scaleOf (F := Ideal) X2 t (ix2 0 (colL n)) = X2 (ix2 0 ⟨(col t n).val, by have := (col t n).isLt; omega⟩) := by
  refine (pay70_left _ _ n).trans (congrArg X2 ?_)
  have h0 : k0_off21 t 0 = 0 := by rw [off21_eq]; rfl
  have h1 : k0_off21 t 1 = 256 * t.val := by rw [off21_eq]; rfl
  funext d; apply Fin.ext
  match d with
  | ⟨0, _⟩ => show k0_off21 t 0 + 1 * 0 = 0; omega
  | ⟨1, _⟩ => show k0_off21 t 1 + 1 * n.val = 256 * t.val + n.val; omega
theorem scale_right (t : Fin k0_t3_loop.trips) (n : Fin 256) :
    scaleOf (F := Ideal) X2 t (ix2 0 (colR n)) = X2 (ix2 0 ⟨7168 + (col t n).val, by have := (col t n).isLt; omega⟩) := by
  refine (pay70_right _ _ n).trans (congrArg X2 ?_)
  have h0 : k0_off22 t 0 = 0 := by rw [off22_eq]; rfl
  have h1 : k0_off22 t 1 = 7168 + 256 * t.val := by rw [off22_eq]; rfl
  funext d; apply Fin.ext
  match d with
  | ⟨0, _⟩ => show k0_off22 t 0 + 1 * 0 = 0; omega
  | ⟨1, _⟩ => show k0_off22 t 1 + 1 * n.val = 7168 + (256 * t.val + n.val); omega

theorem asc_eq (r : Fin 128) : ascOf (F := Ideal) X4 (ix2 r 0) = X4 (ix2 r 0) := by
  refine congrArg X4 ?_
  funext d; apply Fin.ext
  match d with
  | ⟨0, _⟩ => show 0 + 1 * r.val = r.val; omega
  | ⟨1, _⟩ => rfl

theorem srcG_left (t : Fin k0_t3_loop.trips) (k : Fin 8192) (n : Fin 256) :
    (srcG (4 * t.val)).view.read (Elt Ideal) Vw (ix2 k n) = Vw (ix2 k (⟨(col t n).val, by have := (col t n).isLt; omega⟩ : Fin 14336)) := by
  have ht := t3_lt t
  refine congrArg Vw ?_
  funext d; apply Fin.ext
  match d with
  | ⟨0, _⟩ => show 0 + 1 * k.val = k.val; omega
  | ⟨1, _⟩ => show (4 * t.val / 4 % 28) * 256 + 7168 * ((4 * t.val / 2) % 2) + 1 * n.val = 256 * t.val + n.val; omega
theorem srcG_right (t : Fin k0_t3_loop.trips) (k : Fin 8192) (n : Fin 256) :
    (srcG (4 * t.val + 2)).view.read (Elt Ideal) Vw (ix2 k n) = Vw (ix2 k (⟨7168 + (col t n).val, by have := (col t n).isLt; omega⟩ : Fin 14336)) := by
  have ht := t3_lt t
  refine congrArg Vw ?_
  funext d; apply Fin.ext
  match d with
  | ⟨0, _⟩ => show 0 + 1 * k.val = k.val; omega
  | ⟨1, _⟩ => show ((4 * t.val + 2) / 4 % 28) * 256 + 7168 * (((4 * t.val + 2) / 2) % 2) + 1 * n.val = 7168 + (256 * t.val + n.val); omega
/-- An odd item's tile of the pool at an entry. -/
theorem tileP_apply (i : ℕ) (k : Fin 2176) (n : Fin 256) (K : Fin 30240) (N : Fin 8192) (hK : K.val = rowP i + k.val) (hN : N.val = colP i + n.val) :
    tileP c Vp i (ix2 k n) = Vp (ix2 K N) := by
  refine congrArg Vp ?_
  funext d; apply Fin.ext
  match d with
  | ⟨0, _⟩ => show rowP i + 1 * k.val = K.val; omega
  | ⟨1, _⟩ => show colP i + 1 * n.val = N.val; omega
theorem tileP_left (t : Fin k0_t3_loop.trips) (k : Fin 2176) (n : Fin 256) :
    tileP c Vp (4 * t.val + 1) (ix2 k n) = Vp (ix2 (⟨19424 + k.val, by omega⟩ : Fin 30240) (⟨(col t n).val, by have := (col t n).isLt; omega⟩ : Fin 8192)) := by
  have ht := t3_lt t
  refine tileP_apply c Vp _ k n _ _ ?_ ?_
  · show 19424 + k.val = _; unfold rowP; rw [if_pos (by omega)]; omega
  · show 256 * t.val + n.val = _; unfold colP; rw [if_pos (by omega)]; omega
theorem tileP_right (t : Fin k0_t3_loop.trips) (k : Fin 2176) (n : Fin 256) :
    tileP c Vp (4 * t.val + 3) (ix2 k n) = Vp (ix2 (⟨23744 + k.val, by omega⟩ : Fin 30240) (⟨(col t n).val, by have := (col t n).isLt; omega⟩ : Fin 8192)) := by
  have ht := t3_lt t
  refine tileP_apply c Vp _ k n _ _ ?_ ?_
  · show 23744 + k.val = _; unfold rowP; rw [if_pos (by omega)]; omega
  · show 256 * t.val + n.val = _; unfold colP; rw [if_pos (by omega)]; omega

theorem tbuf_eq (b : Fin 3) {h} (r : Fin 128) (k : Fin 2176) :
    X5 ((Rect.unit (s := S3x128x2176) ![b.val, 0, 0] S1x128x2176.size h).emb (ix3 0 r k)) = X5 (ix3 b r k) := by
  refine congrArg X5 ?_
  funext d; apply Fin.ext
  match d with
  | ⟨0, _⟩ => show b.val + 1 * 0 = b.val; omega
  | ⟨1, _⟩ => show 0 + 1 * r.val = r.val; omega
  | ⟨2, _⟩ => show 0 + 1 * k.val = k.val; omega

theorem main_left (t : Fin k0_t3_loop.trips) (r : Fin 128) (n : Fin 256) :
    mainOf c Vw X3 t (ix2 r (colL n)) = Cert.Spec.zero + ∑ k : Fin 8192, X3 (ix2 r k) * Vw (ix2 k (⟨(col t n).val, by have := (col t n).isLt; omega⟩ : Fin 14336)) := by
  refine (pay71_left _ _ _ r n).trans (congrArg (Cert.Spec.zero + ·) (Finset.sum_congr rfl fun k _ => ?_))
  rw [srcG_left]
  refine congrArg (· * _) (congrArg X3 ?_)
  funext d; apply Fin.ext
  match d with
  | ⟨0, _⟩ => show 0 + 1 * r.val = r.val; omega
  | ⟨1, _⟩ => show 0 + 1 * k.val = k.val; omega
theorem main_right (t : Fin k0_t3_loop.trips) (r : Fin 128) (n : Fin 256) :
    mainOf c Vw X3 t (ix2 r (colR n)) = Cert.Spec.zero + ∑ k : Fin 8192, X3 (ix2 r k) * Vw (ix2 k (⟨7168 + (col t n).val, by have := (col t n).isLt; omega⟩ : Fin 14336)) := by
  refine (pay71_right _ _ _ r n).trans (congrArg (Cert.Spec.zero + ·) (Finset.sum_congr rfl fun k _ => ?_))
  rw [srcG_right]
  refine congrArg (· * _) (congrArg X3 ?_)
  funext d; apply Fin.ext
  match d with
  | ⟨0, _⟩ => show 0 + 1 * r.val = r.val; omega
  | ⟨1, _⟩ => show 0 + 1 * k.val = k.val; omega

theorem lora_left (t : Fin k0_t3_loop.trips) (r : Fin 128) (n : Fin 256) :
    loraOf c Vp X5 t (ix2 r (colL n)) = Cert.Spec.low X5 Vp 0 19424 (by omega) r ⟨(col t n).val, by have := (col t n).isLt; omega⟩ := by
  refine (pay72_left _ _ _ _ r n).trans (congrArg (Cert.Spec.zero + ·) (Finset.sum_congr rfl fun k _ => ?_))
  rw [tileP_left]
  exact congrArg (· * _) (tbuf_eq X5 0 r k)
theorem lora_right (t : Fin k0_t3_loop.trips) (r : Fin 128) (n : Fin 256) :
    loraOf c Vp X5 t (ix2 r (colR n)) = Cert.Spec.low X5 Vp 1 23744 (by omega) r ⟨(col t n).val, by have := (col t n).isLt; omega⟩ := by
  refine (pay72_right _ _ _ _ r n).trans (congrArg (Cert.Spec.zero + ·) (Finset.sum_congr rfl fun k _ => ?_))
  rw [tileP_right]
  exact congrArg (· * _) (tbuf_eq X5 1 r k)

theorem pre_left (t : Fin k0_t3_loop.trips) (r : Fin 128) (n : Fin 256) :
    pre (scaleOf X2 t) (mainOf c Vw X3 t) (loraOf c Vp X5 t) (ascOf X4) r (colL n) = Cert.Spec.gate X3 X4 X5 Vw X2 Vp r (col t n) := by
  unfold pre
  rw [main_left, lora_left, scale_left, asc_eq]; rfl
theorem pre_right (t : Fin k0_t3_loop.trips) (r : Fin 128) (n : Fin 256) :
    pre (scaleOf X2 t) (mainOf c Vw X3 t) (loraOf c Vp X5 t) (ascOf X4) r (colR n) = Cert.Spec.up X3 X4 X5 Vw X2 Vp r (col t n) := by
  unfold pre
  rw [main_right, lora_right, scale_right, asc_eq]; rfl

/-- A step's tile is the formula. -/
theorem tile_eq (t : Fin k0_t3_loop.trips) (r : Fin 120) (n : Fin 256) :
    tileOf c Vw Vp X2 X3 X4 X5 t (ix2 r n) = Cert.Spec.out X3 X4 X5 Vw X2 Vp (row r) (col t n) := by
  refine (pay1_apply _ _ _ _ r n).trans ?_
  rw [pre_left, pre_right]; rfl

/-- The kernel's result is the formula. -/
theorem resOf_eq (r : Fin 120) (n : Fin 7168) :
    resOf c Vw Vp X2 X3 X4 X5 (ix2 r n) = Cert.Spec.out X3 X4 X5 Vw X2 Vp (row r) n := by
  have hp : placeOf (ix2 r n) = ix2 r (⟨n.val % 256, Nat.mod_lt _ (by omega)⟩ : Fin 256) := by
    funext d; match d with
    | ⟨0, _⟩ => rfl
    | ⟨1, _⟩ => rfl
  have hc : col (stepOf (ix2 r n)) (⟨n.val % 256, Nat.mod_lt _ (by omega)⟩ : Fin 256) = n := by
    apply Fin.ext; show 256 * (n.val / 256) + n.val % 256 = n.val; omega
  unfold resOf
  rw [hp, tile_eq, hc]

end Cert.KernelIdeal.Hand

end
-- ==== Proof.Layout.lean ====
/-
  Hand-written, untrusted. The layout steps that the rowwise quantiser and the reference's have in common, read at an entry:
  a row's maximum, a lane block of a window, and eight lane blocks side by side.
-/
module

public import proofs.«01_k».proof.Proof.Spec
public import Idealize.ShloMosaic.Lib.Pipeline.Value
public import Idealize.ShloMosaic.Lib.Pointwise.SelectCore

@[expose] public section

noncomputable section

namespace Cert.Spec

open Idealize.ShloMosaic hiding ix1 ix2 ix3
open Idealize.ShloMosaic.ValueIdx
open scoped BigOperators

/-- The maximum over a row, kept as a column. -/
theorem rowMax_apply {nr nc : ℕ} (v : FVec Ideal ⟨2, ![nr, nc]⟩ .f32) (hr : Shape.Reduces ⟨2, ![nr, nc]⟩ [1] ⟨1, ![nr]⟩)
    (hφ : FKind.Formats .f32) (hacc : (0xFF800000#32 : BitVec 32) = FKind.maximumf.neutral .f32 hφ)
    (hs : Shape.ShapeCasts ⟨1, ![nr]⟩ ⟨2, ![nr, 1]⟩) (r : Fin nr) :
    (shapeCast ⟨2, ![nr, 1]⟩ (multiReduction .maximumf [1] ⟨1, ![nr]⟩ v 0xFF800000#32 hr hφ hacc) hs : FVec Ideal ⟨2, ![nr, 1]⟩ .f32) (ix2 r 0)
      = (Finset.univ : Finset (Fin nc)).fold max (Ideal.ofBits .f32 0xFF800000#32) (fun k => v (ix2 r k)) := by
  refine (shapeCast_apply _ hs _ (ix1 r) ?_).trans ?_
  · rw [Shape.rowMajor_val_two, Shape.rowMajor_val_one]
    show r.val = r.val * 1 + 0
    omega
  · refine (Ideal.multiReduction_maximumf_single v _ hr hφ hacc (ix1 r)).trans ?_
    refine Finset.fold_congr fun k _ => congrArg v ?_
    funext d
    fin_cases d
    · exact Fin.ext rfl
    · exact Fin.ext rfl

/-- A lane block of a window of rows. -/
theorem lane_apply {nr o : ℕ} (x : FVec Ideal ⟨2, ![nr, 1024]⟩ .f32) (h : Shape.Slices ⟨2, ![nr, 1024]⟩ ![0, o] ⟨2, ![nr, 128]⟩)
    (r : Fin nr) (l : Fin 128) (k : Fin 1024) (hk : k.val = o + l.val) :
    (extractStridedSlice ⟨2, ![nr, 128]⟩ ![0, o] x h : FVec Ideal ⟨2, ![nr, 128]⟩ .f32) (ix2 r l) = x (ix2 r k) :=
  extractStridedSlice_apply _ _ _ _ _ (fun d => by match d with
    | ⟨0, _⟩ => show r.val = 0 + r.val; omega
    | ⟨1, _⟩ => exact hk)

/-- A column repeated along the rows. -/
theorem col_apply {nr nc : ℕ} (x : FVec Ideal ⟨2, ![nr, 1]⟩ .f32) (h : Shape.Broadcasts ⟨2, ![nr, 1]⟩ ⟨2, ![nr, nc]⟩) (r : Fin nr) (n : Fin nc) (hr : nr ≠ 1) :
    (broadcastTo ⟨2, ![nr, nc]⟩ x h : FVec Ideal ⟨2, ![nr, nc]⟩ .f32) (ix2 r n) = x (ix2 r 0) :=
  broadcastTo_apply _ _ _ _ (fun d => by match d with
    | ⟨0, _⟩ => exact (if_neg hr).symm
    | ⟨1, _⟩ => rfl)

/-- Column `128 j + l` of a window. -/
def lane (j : Fin 8) (l : Fin 128) : Fin 1024 := ⟨128 * j.val + l.val, by omega⟩

/-- Lane blocks side by side, read at column `c`: the first block's, if `c` is one of its columns; else the others', 128 columns on. -/
theorem blocks_first {nr : ℕ} (r : Fin nr) (J : Fin 1024) (x : FVec Ideal ⟨2, ![nr, 128]⟩ .f32) (xs : List ((s : Shape) × (s.Idx → Ideal .f32)))
    (hs : ∀ s' ∈ (⟨⟨2, ![nr, 128]⟩, x⟩ :: xs : List ((s : Shape) × (s.Idx → Ideal .f32))).map (·.1), s'.FitsOff ⟨2, ![nr, 1024]⟩ 1) (c : ℕ)
    (hc : c < (axisSizes ⟨2, ![nr, 1024]⟩ 1 (⟨⟨2, ![nr, 128]⟩, x⟩ :: xs)).sum) (l : Fin 128) (hl : c = l.val) :
    concatenateAt ⟨2, ![nr, 1024]⟩ 1 (ix2 r J) (⟨⟨2, ![nr, 128]⟩, x⟩ :: xs) hs c hc = x (ix2 r l) := by
  subst hl
  cases xs with
  | nil =>
    rw [concatenateAt_singleton]
    refine congrArg x (funext fun d => ?_)
    fin_cases d
    · exact Fin.ext rfl
    · exact Fin.ext rfl
  | cons q xs =>
    rw [concatenateAt_cons]
    refine (dif_pos (show l.val < 128 from l.isLt)).trans ?_
    refine congrArg x (funext fun d => ?_)
    fin_cases d
    · exact Fin.ext rfl
    · exact Fin.ext rfl

theorem blocks_rest {nr : ℕ} (r : Fin nr) (J : Fin 1024) (x : FVec Ideal ⟨2, ![nr, 128]⟩ .f32) (q : (s : Shape) × (s.Idx → Ideal .f32)) (xs : List ((s : Shape) × (s.Idx → Ideal .f32)))
    (hs : ∀ s' ∈ (⟨⟨2, ![nr, 128]⟩, x⟩ :: q :: xs : List ((s : Shape) × (s.Idx → Ideal .f32))).map (·.1), s'.FitsOff ⟨2, ![nr, 1024]⟩ 1) (c : ℕ)
    (hc : c < (axisSizes ⟨2, ![nr, 1024]⟩ 1 (⟨⟨2, ![nr, 128]⟩, x⟩ :: q :: xs)).sum) (h : 128 ≤ c) :
    ∃ hs' hc', concatenateAt ⟨2, ![nr, 1024]⟩ 1 (ix2 r J) (⟨⟨2, ![nr, 128]⟩, x⟩ :: q :: xs) hs c hc = concatenateAt ⟨2, ![nr, 1024]⟩ 1 (ix2 r J) (q :: xs) hs' (c - 128) hc' := by
  rw [concatenateAt_cons]
  exact ⟨_, _, dif_neg (show ¬ c < 128 by omega)⟩

/-- Lane blocks side by side: at column `128 j + l`, block `j` at its column `l`. -/
theorem blocks_apply {nr : ℕ} (r : Fin nr) (J : Fin 1024) : ∀ (vs : List (FVec Ideal ⟨2, ![nr, 128]⟩ .f32))
    (hs : ∀ s' ∈ ((vs.map fun v => ⟨⟨2, ![nr, 128]⟩, v⟩) : List ((s : Shape) × (s.Idx → Ideal .f32))).map (·.1), s'.FitsOff ⟨2, ![nr, 1024]⟩ 1)
    (c : ℕ) (hc : c < (axisSizes ⟨2, ![nr, 1024]⟩ 1 ((vs.map fun v => ⟨⟨2, ![nr, 128]⟩, v⟩) : List ((s : Shape) × (s.Idx → Ideal .f32)))).sum)
    (j : ℕ) (hj : j < vs.length) (l : Fin 128) (_ : c = 128 * j + l.val),
    concatenateAt ⟨2, ![nr, 1024]⟩ 1 (ix2 r J) (vs.map fun v => ⟨⟨2, ![nr, 128]⟩, v⟩) hs c hc = (vs[j]'hj) (ix2 r l)
  | [], _, _, _, j, hj, _, _ => absurd hj (Nat.not_lt_zero j)
  | v :: vs, hs, c, hc, 0, hj, l, e => blocks_first r J v _ hs c hc l (e.trans (Nat.zero_add _))
  | [v], _, _, _, j + 1, hj, _, _ => absurd hj (by simp)
  | v :: w :: vs, hs, c, hc, j + 1, hj, l, e => by
    obtain ⟨hs', hc', e'⟩ := blocks_rest r J v ⟨⟨2, ![nr, 128]⟩, w⟩ (vs.map fun v => ⟨⟨2, ![nr, 128]⟩, v⟩) hs c hc (by omega)
    exact e'.trans (blocks_apply r J (w :: vs) hs' (c - 128) hc' j (Nat.lt_of_succ_lt_succ hj) l (by omega))

/-- Eight of them. -/
theorem eight_apply {nr : ℕ} (v0 v1 v2 v3 v4 v5 v6 v7 : FVec Ideal ⟨2, ![nr, 128]⟩ .f32)
    (h : Shape.Concatenates (([⟨⟨2, ![nr, 128]⟩, v0⟩, ⟨⟨2, ![nr, 128]⟩, v1⟩, ⟨⟨2, ![nr, 128]⟩, v2⟩, ⟨⟨2, ![nr, 128]⟩, v3⟩, ⟨⟨2, ![nr, 128]⟩, v4⟩,
      ⟨⟨2, ![nr, 128]⟩, v5⟩, ⟨⟨2, ![nr, 128]⟩, v6⟩, ⟨⟨2, ![nr, 128]⟩, v7⟩] : List ((s : Shape) × (s.Idx → Ideal .f32))).map (·.1)) ⟨2, ![nr, 1024]⟩ 1)
    (r : Fin nr) (j : Fin 8) (l : Fin 128) :
    concatenate ⟨2, ![nr, 1024]⟩ 1 [⟨⟨2, ![nr, 128]⟩, v0⟩, ⟨⟨2, ![nr, 128]⟩, v1⟩, ⟨⟨2, ![nr, 128]⟩, v2⟩, ⟨⟨2, ![nr, 128]⟩, v3⟩, ⟨⟨2, ![nr, 128]⟩, v4⟩,
      ⟨⟨2, ![nr, 128]⟩, v5⟩, ⟨⟨2, ![nr, 128]⟩, v6⟩, ⟨⟨2, ![nr, 128]⟩, v7⟩] h (ix2 r (lane j l))
      = (![v0, v1, v2, v3, v4, v5, v6, v7] j) (ix2 r l) := by
  rw [concatenate_cons_apply]
  refine (blocks_apply r (lane j l) [v0, v1, v2, v3, v4, v5, v6, v7] _ _ _ j.val j.isLt l rfl).trans ?_
  fin_cases j <;> rfl

end Cert.Spec

end
-- ==== Proof.QuantValue.lean ====
/-
  Hand-written, untrusted. The rowwise quantiser over the real numbers: a row's scale is a 448th of the row's greatest absolute
  value, and a code is the entry over its row's scale, clipped.
-/
module

public import proofs.«01_k».proof.Proof.Layout
public import proofs.«01_k».proof.Proof.Body

@[expose] public section

noncomputable section

namespace Cert.KernelIdeal.Hand

open Cert.KernelIdeal Cert.KernelIdeal.Gen Cert.Spec
open Idealize.ShloMosaic hiding ix1 ix2 ix3
open Idealize.ShloMosaic.ValueIdx

/-! ## The greatest absolute values -/

theorem maxs_le {s : Shape} (a b : FVec Ideal s .f32) (i : s.Idx) (c : Ideal .f32) : maximumf a b i ≤ c ↔ a i ≤ c ∧ b i ≤ c := max_le_iff

/-- A step that takes a window's absolute values into the greatest so far, lane by lane. -/
def Takes (nr : ℕ) (p : FVec Ideal ⟨2, ![nr, 128]⟩ .f32 → Vec Ideal ⟨2, ![nr, 1024]⟩ .f32 → FVec Ideal ⟨2, ![nr, 128]⟩ .f32) : Prop :=
  ∀ a v r l b, p a v (ix2 r l) ≤ b ↔ a (ix2 r l) ≤ b ∧ ∀ j : Fin 8, mag (v (ix2 r (lane j l))) ≤ b

/-- The eight lane blocks of a window, taken in one after another. -/
theorem takes_of {nr : ℕ} (h0 : Shape.Slices ⟨2, ![nr, 1024]⟩ ![0, 0] ⟨2, ![nr, 128]⟩) (h1 : Shape.Slices ⟨2, ![nr, 1024]⟩ ![0, 128] ⟨2, ![nr, 128]⟩)
    (h2 : Shape.Slices ⟨2, ![nr, 1024]⟩ ![0, 256] ⟨2, ![nr, 128]⟩) (h3 : Shape.Slices ⟨2, ![nr, 1024]⟩ ![0, 384] ⟨2, ![nr, 128]⟩)
    (h4 : Shape.Slices ⟨2, ![nr, 1024]⟩ ![0, 512] ⟨2, ![nr, 128]⟩) (h5 : Shape.Slices ⟨2, ![nr, 1024]⟩ ![0, 640] ⟨2, ![nr, 128]⟩)
    (h6 : Shape.Slices ⟨2, ![nr, 1024]⟩ ![0, 768] ⟨2, ![nr, 128]⟩) (h7 : Shape.Slices ⟨2, ![nr, 1024]⟩ ![0, 896] ⟨2, ![nr, 128]⟩) :
    Takes nr (fun a v => maximumf (maximumf (maximumf (maximumf (maximumf (maximumf (maximumf (maximumf a
      (extractStridedSlice ⟨2, ![nr, 128]⟩ ![0, 0] (absf v) h0 : FVec Ideal ⟨2, ![nr, 128]⟩ .f32))
      (extractStridedSlice ⟨2, ![nr, 128]⟩ ![0, 128] (absf v) h1 : FVec Ideal ⟨2, ![nr, 128]⟩ .f32))
      (extractStridedSlice ⟨2, ![nr, 128]⟩ ![0, 256] (absf v) h2 : FVec Ideal ⟨2, ![nr, 128]⟩ .f32))
      (extractStridedSlice ⟨2, ![nr, 128]⟩ ![0, 384] (absf v) h3 : FVec Ideal ⟨2, ![nr, 128]⟩ .f32))
      (extractStridedSlice ⟨2, ![nr, 128]⟩ ![0, 512] (absf v) h4 : FVec Ideal ⟨2, ![nr, 128]⟩ .f32))
      (extractStridedSlice ⟨2, ![nr, 128]⟩ ![0, 640] (absf v) h5 : FVec Ideal ⟨2, ![nr, 128]⟩ .f32))
      (extractStridedSlice ⟨2, ![nr, 128]⟩ ![0, 768] (absf v) h6 : FVec Ideal ⟨2, ![nr, 128]⟩ .f32))
      (extractStridedSlice ⟨2, ![nr, 128]⟩ ![0, 896] (absf v) h7 : FVec Ideal ⟨2, ![nr, 128]⟩ .f32)) := by
  intro a v r l b
  simp only [maxs_le]
  rw [lane_apply (absf v) h0 r l (lane 0 l) rfl, lane_apply (absf v) h1 r l (lane 1 l) rfl, lane_apply (absf v) h2 r l (lane 2 l) rfl,
    lane_apply (absf v) h3 r l (lane 3 l) rfl, lane_apply (absf v) h4 r l (lane 4 l) rfl, lane_apply (absf v) h5 r l (lane 5 l) rfl,
    lane_apply (absf v) h6 r l (lane 6 l) rfl, lane_apply (absf v) h7 r l (lane 7 l) rfl]
  constructor
  · rintro ⟨⟨⟨⟨⟨⟨⟨⟨ha, e0⟩, e1⟩, e2⟩, e3⟩, e4⟩, e5⟩, e6⟩, e7⟩
    refine ⟨ha, fun j => ?_⟩
    fin_cases j
    exacts [e0, e1, e2, e3, e4, e5, e6, e7]
  · rintro ⟨ha, e⟩
    exact ⟨⟨⟨⟨⟨⟨⟨⟨ha, e 0⟩, e 1⟩, e 2⟩, e 3⟩, e 4⟩, e 5⟩, e 6⟩, e 7⟩

theorem takes32 : Takes 32 (k0_pay48 (F := Ideal)) := fun a v => by
  unfold k0_pay48 k0_pay46
  rw [shapeCast_self]
  exact takes_of _ _ _ _ _ _ _ _ a v
theorem takes24 : Takes 24 (k0_pay75 (F := Ideal)) := fun a v => by
  unfold k0_pay75 k0_pay73
  rw [shapeCast_self]
  exact takes_of _ _ _ _ _ _ _ _ a v

theorem acc_le {nr r0 : ℕ} {z : FVec Ideal ⟨2, ![nr, 128]⟩ .f32} {p : FVec Ideal ⟨2, ![nr, 128]⟩ .f32 → Vec Ideal ⟨2, ![nr, 1024]⟩ .f32 → FVec Ideal ⟨2, ![nr, 128]⟩ .f32}
    (hp : Takes nr p) (hz : ∀ x, z x = zero) (G : S120x7168.Idx → Elt Ideal .f32) (r : Fin nr) (l : Fin 128) (b : Ideal .f32) (n : ℕ) :
    accOf nr r0 z p G n (ix2 r l) ≤ b ↔ zero ≤ b ∧ ∀ i < n, ∀ j : Fin 8, mag (winOf nr r0 G i (ix2 r (lane j l))) ≤ b := by
  induction n with
  | zero =>
    show z (ix2 r l) ≤ b ↔ _
    rw [hz]
    exact ⟨fun h => ⟨h, fun i hi => absurd hi (Nat.not_lt_zero i)⟩, fun h => h.1⟩
  | succ n ih =>
    show p (accOf nr r0 z p G n) (winOf nr r0 G n) (ix2 r l) ≤ b ↔ _
    rw [hp, ih]
    constructor
    · rintro ⟨⟨h0, h⟩, h'⟩
      refine ⟨h0, fun i hi => ?_⟩
      rcases Nat.lt_succ_iff_lt_or_eq.mp hi with hi | rfl
      · exact h i hi
      · exact h'
    · rintro ⟨h0, h⟩
      exact ⟨⟨h0, fun i hi => h i (Nat.lt_succ_of_lt hi)⟩, h n (Nat.lt_succ_self n)⟩

/-- The greatest absolute value of row `r0 + r`: by lanes first, then over the lanes, or at once. -/
theorem row_peak {nr r0 : ℕ} {z : FVec Ideal ⟨2, ![nr, 128]⟩ .f32} {p : FVec Ideal ⟨2, ![nr, 128]⟩ .f32 → Vec Ideal ⟨2, ![nr, 1024]⟩ .f32 → FVec Ideal ⟨2, ![nr, 128]⟩ .f32}
    (hp : Takes nr p) (hz : ∀ x, z x = zero) (G : S120x7168.Idx → Elt Ideal .f32) (r : Fin nr) (R : Fin 120) (hR : R.val = r0 + r.val) :
    (Finset.univ : Finset (Fin 128)).fold max (Ideal.ofBits .f32 0xFF800000#32) (fun l => accOf nr r0 z p G 7 (ix2 r l))
      = peak (fun n : Fin 7168 => G (ix2 R n)) := by
  unfold peak
  refine eq_of_forall_ge_iff fun b => ?_
  rw [Finset.fold_max_le, Finset.fold_max_le]
  refine and_congr_right fun _ => ?_
  simp only [acc_le hp hz]
  have hw (i : ℕ) (j : Fin 8) (l : Fin 128) (n : Fin 7168) (hn : n.val = 1024 * i + (128 * j.val + l.val)) :
      winOf nr r0 G i (ix2 r (lane j l)) = G (ix2 R n) :=
    congrArg G (at2_eq (ix2 R n) hR hn).symm
  constructor
  · intro h n _
    have hn := n.isLt
    have h' := (h ⟨n.val % 128, Nat.mod_lt _ (by decide)⟩ (Finset.mem_univ _)).2 (n.val / 1024) (by omega) ⟨n.val % 1024 / 128, by omega⟩
    rwa [hw _ _ _ n (by show n.val = 1024 * (n.val / 1024) + (128 * (n.val % 1024 / 128) + n.val % 128); omega)] at h'
  · intro h l _
    refine ⟨(mag_nonneg _).trans (h 0 (Finset.mem_univ _)), fun i hi j => ?_⟩
    have hj := j.isLt
    have hl := l.isLt
    rw [hw i j l ⟨1024 * i + (128 * j.val + l.val), by omega⟩ rfl]
    exact h _ (Finset.mem_univ _)

/-! ## The scales -/

theorem pay58_apply (v : FVec Ideal S32x128 .f32) (r : Fin 32) (l : Fin 128) :
    k0_pay58 v (ix2 r l) = scale ((Finset.univ : Finset (Fin 128)).fold max (Ideal.ofBits .f32 0xFF800000#32) (fun k => v (ix2 r k))) := by
  unfold k0_pay58
  simp only [shapeCast_self]
  refine (col_apply _ _ r l (by decide)).trans ?_
  exact congrArg scale (rowMax_apply v _ _ _ _ r)
theorem pay76_apply (v : FVec Ideal S24x128 .f32) (r : Fin 24) (l : Fin 128) :
    k0_pay76 v (ix2 r l) = scale ((Finset.univ : Finset (Fin 128)).fold max (Ideal.ofBits .f32 0xFF800000#32) (fun k => v (ix2 r k))) := by
  unfold k0_pay76
  simp only [shapeCast_self]
  refine (col_apply _ _ r l (by decide)).trans ?_
  exact congrArg scale (rowMax_apply v _ _ _ _ r)

variable (G : S120x7168.Idx → Elt Ideal .f32)

/-- A row's scale. -/
def rowScale (r : Fin 120) : Ideal .f32 := scale (peak (fun n : Fin 7168 => G (ix2 r n)))

theorem scOf_apply (r : Fin 128) (l : Fin 128) (R : Fin 120) (hR : R.val = r.val) : scOf G (ix2 r l) = rowScale G R := by
  have hr := R.isLt
  by_cases h : r.val < 96
  · refine (scOf_32 G (k := r.val / 32) (by omega) _ (ix2 (⟨r.val % 32, Nat.mod_lt _ (by decide)⟩ : Fin 32) l) ?_ rfl).trans ?_
    · show r.val = 32 * (r.val / 32) + r.val % 32; omega
    · refine (pay58_apply _ _ l).trans (congrArg scale (row_peak takes32 (fun _ => rfl) G _ R ?_))
      show R.val = 32 * (r.val / 32) + r.val % 32; omega
  · refine (scOf_24 G _ (ix2 (⟨r.val - 96, by omega⟩ : Fin 24) l) ?_ rfl).trans ?_
    · show r.val = 96 + (r.val - 96); omega
    · refine (pay76_apply _ _ l).trans (congrArg scale (row_peak takes24 (fun _ => rfl) G _ R ?_))
      show R.val = 96 + (r.val - 96); omega

/-- The scales' row. -/
theorem gsOf_apply (r : Fin 120) : gsOf G (ix2 0 r) = rowScale G r :=
  (pay80_apply _ _).trans (scOf_apply G _ _ r rfl)

/-! ## The codes -/

/-- A lane block of codes, before it is narrowed. -/
abbrev piece {nr : ℕ} (o : ℕ) (s : FVec Ideal ⟨2, ![nr, 128]⟩ .f32) (x : FVec Ideal ⟨2, ![nr, 1024]⟩ .f32)
    (h : Shape.Slices ⟨2, ![nr, 1024]⟩ ![0, o] ⟨2, ![nr, 128]⟩) : FVec Ideal ⟨2, ![nr, 128]⟩ .f32 :=
  minimumf (broadcast ⟨2, ![nr, 128]⟩ (Scalar.ofBits .f32 0x43E00000#32 : Ideal .f32)) (maximumf (broadcast ⟨2, ![nr, 128]⟩ (Scalar.ofBits .f32 0xC3E00000#32 : Ideal .f32))
    (divf (extractStridedSlice ⟨2, ![nr, 128]⟩ ![0, o] x h : FVec Ideal ⟨2, ![nr, 128]⟩ .f32) s))

theorem piece_apply {nr : ℕ} (o : ℕ) (s : FVec Ideal ⟨2, ![nr, 128]⟩ .f32) (x : FVec Ideal ⟨2, ![nr, 1024]⟩ .f32)
    (h : Shape.Slices ⟨2, ![nr, 1024]⟩ ![0, o] ⟨2, ![nr, 128]⟩) (r : Fin nr) (l : Fin 128) (k : Fin 1024) (hk : k.val = o + l.val) :
    piece o s x h (ix2 r l) = code (x (ix2 r k)) (s (ix2 r l)) :=
  congrArg (fun t => code t (s (ix2 r l))) (lane_apply x h r l k hk)

theorem narrow_apply {s : Shape} (x : FVec Ideal s .f32) (h : FTy.fp8e4m3.bits < FTy.f32.bits) (i : s.Idx) : (truncf .fp8e4m3 x h : FVec Ideal s .fp8e4m3) i = x i := rfl

theorem q32_apply (s : Vec Ideal S32x128 .f32) (v : Vec Ideal S32x1024 .f32) (r : Fin 32) (j : Fin 8) (l : Fin 128) :
    q32 s v (ix2 r (lane j l)) = code (v (ix2 r (lane j l))) (s (ix2 r l)) := by
  unfold q32 k0_pay53 k0_pay51 k0_pay4 k0_pay5 k0_pay6 k0_pay7 k0_pay8 k0_pay9 k0_pay10 k0_pay11 k0_pay4
  rw [shapeCast_self]
  refine (narrow_apply _ _ _).trans ((eight_apply _ _ _ _ _ _ _ _ _ r j l).trans ?_)
  have e : shapeCast S32x1024 v shapeCasts_S32x1024_S32x1024 = v := shapeCast_self v _
  rw [← congrFun e (ix2 r (lane j l))]
  fin_cases j <;> exact piece_apply _ s _ _ r l _ rfl
theorem q24_apply (s : Vec Ideal S24x128 .f32) (v : Vec Ideal S24x1024 .f32) (r : Fin 24) (j : Fin 8) (l : Fin 128) :
    q24 s v (ix2 r (lane j l)) = code (v (ix2 r (lane j l))) (s (ix2 r l)) := by
  unfold q24 k0_pay79 k0_pay77 k0_pay28 k0_pay29 k0_pay30 k0_pay31 k0_pay32 k0_pay33 k0_pay34 k0_pay35 k0_pay28
  rw [shapeCast_self]
  refine (narrow_apply _ _ _).trans ((eight_apply _ _ _ _ _ _ _ _ _ r j l).trans ?_)
  have e : shapeCast S24x1024 v shapeCasts_S24x1024_S24x1024 = v := shapeCast_self v _
  rw [← congrFun e (ix2 r (lane j l))]
  fin_cases j <;> exact piece_apply _ s _ _ r l _ rfl

/-- A row of scales, at the quantiser's reading of it. -/
theorem scRows_apply {nr r0 : ℕ} (r : Fin nr) (l : Fin 128) (R : Fin 120) (hR : R.val = r0 + r.val) :
    scRows nr r0 G (ix2 r l) = rowScale G R :=
  scOf_apply G _ l R (by have := R.isLt; show R.val = (r0 + r.val) % 128; rw [Nat.mod_eq_of_lt (by omega)]; exact hR)

theorem qcOf_apply (y : S120x8192.Idx) (R : Fin 120) (N : Fin 7168) (h0 : (y 0).val = R.val) (h1 : (y 1).val = N.val) :
    qcOf G y = code (G (ix2 R N)) (rowScale G R) := by
  have hR := R.isLt
  have hN := N.isLt
  have hc : N.val % 1024 = 128 * (N.val % 1024 / 128) + N.val % 128 := by omega
  by_cases h : R.val < 96
  · refine (qcOf_32 G (k := R.val / 32) (n := N.val / 1024) (by omega) y
      (ix2 (⟨R.val % 32, Nat.mod_lt _ (by decide)⟩ : Fin 32) (lane ⟨N.val % 1024 / 128, by omega⟩ ⟨N.val % 128, Nat.mod_lt _ (by decide)⟩)) ?_ ?_).trans ?_
    · show (y 0).val = 32 * (R.val / 32) + R.val % 32; omega
    · show (y 1).val = 1024 * (N.val / 1024) + (128 * (N.val % 1024 / 128) + N.val % 128); omega
    · refine (q32_apply _ _ _ _ _).trans (congrArg₂ code ?_ (scRows_apply G _ _ R ?_))
      · refine congrArg G (at2_eq (ix2 R N) ?_ ?_).symm
        · show R.val = 32 * (R.val / 32) + R.val % 32; omega
        · show N.val = 1024 * (N.val / 1024) + (128 * (N.val % 1024 / 128) + N.val % 128); omega
      · show R.val = 32 * (R.val / 32) + R.val % 32; omega
  · refine (qcOf_24 G (n := N.val / 1024) y
      (ix2 (⟨R.val - 96, by omega⟩ : Fin 24) (lane ⟨N.val % 1024 / 128, by omega⟩ ⟨N.val % 128, Nat.mod_lt _ (by decide)⟩)) ?_ ?_).trans ?_
    · show (y 0).val = 96 + (R.val - 96); omega
    · show (y 1).val = 1024 * (N.val / 1024) + (128 * (N.val % 1024 / 128) + N.val % 128); omega
    · refine (q24_apply _ _ _ _ _).trans (congrArg₂ code ?_ (scRows_apply G _ _ R ?_))
      · refine congrArg G (at2_eq (ix2 R N) ?_ ?_).symm
        · show R.val = 96 + (R.val - 96); omega
        · show N.val = 1024 * (N.val / 1024) + (128 * (N.val % 1024 / 128) + N.val % 128); omega
      · show R.val = 96 + (R.val - 96); omega

/-- The codes. -/
theorem gcOf_apply (r : Fin 120) (n : Fin 7168) : gcOf G (ix2 r n) = code (G (ix2 r n)) (rowScale G r) := by
  unfold gcOf
  refine qcOf_apply G _ r n ?_ ?_
  · show 0 + 1 * r.val = r.val; omega
  · show 0 + 1 * n.val = n.val; omega

end Cert.KernelIdeal.Hand

end
-- ==== Proof.DownValue.lean ====
/-
  Hand-written, untrusted. The down projection over the real numbers: each entry of a step's tiles is the formula's.
-/
module

public import proofs.«01_k».proof.Proof.KernelValue
public import proofs.«01_k».proof.Proof.QuantValue

@[expose] public section

noncomputable section

namespace Cert.KernelIdeal.Hand

open Cert.KernelIdeal Cert.KernelIdeal.Gen Cert.Sets
open Idealize.ShloMosaic hiding ix1 ix2 ix3
open Idealize.ShloMosaic.TcCoe Idealize.ShloMosaic.Tactic
open Idealize.ShloMosaic.ValueIdx

/-! ## The arithmetic at an entry -/

/-- Two blocks of columns side by side, at a column of the one and of the other. -/
theorem pair_left {K : ℕ} {α : Type} (a b : (⟨2, ![K, 256]⟩ : Shape).Idx → α)
    (h : Shape.Concatenates (([⟨⟨2, ![K, 256]⟩, a⟩, ⟨⟨2, ![K, 256]⟩, b⟩] : List ((s : Shape) × (s.Idx → α))).map (·.1)) ⟨2, ![K, 512]⟩ 1) (k : Fin K) (n : Fin 256) :
    concatenate ⟨2, ![K, 512]⟩ 1 [⟨⟨2, ![K, 256]⟩, a⟩, ⟨⟨2, ![K, 256]⟩, b⟩] h (ix2 k (colL n)) = a (ix2 k n) := by
  refine concatenate_pair_apply_left (t := ⟨2, ![K, 512]⟩) 1 _ _ h (ix2 k (colL n)) rfl (ix2 k n) ?_
  intro d; match d with
    | ⟨0, _⟩ => rfl
    | ⟨1, _⟩ => rfl
theorem pair_right {K : ℕ} {α : Type} (a b : (⟨2, ![K, 256]⟩ : Shape).Idx → α)
    (h : Shape.Concatenates (([⟨⟨2, ![K, 256]⟩, a⟩, ⟨⟨2, ![K, 256]⟩, b⟩] : List ((s : Shape) × (s.Idx → α))).map (·.1)) ⟨2, ![K, 512]⟩ 1) (k : Fin K) (n : Fin 256) :
    concatenate ⟨2, ![K, 512]⟩ 1 [⟨⟨2, ![K, 256]⟩, a⟩, ⟨⟨2, ![K, 256]⟩, b⟩] h (ix2 k (colR n)) = b (ix2 k n) := by
  refine concatenate_pair_apply_right (t := ⟨2, ![K, 512]⟩) 1 _ _ h (ix2 k (colR n)) rfl rfl (ix2 k n) ?_ ?_
  · intro d hd; match d with
    | ⟨0, _⟩ => rfl
    | ⟨1, _⟩ => exact absurd rfl hd
  · show n.val + 256 = 256 + n.val; omega

/-- The tile's column `q` of the two blocks. -/
def side {K : ℕ} {α : Type} (a b : (⟨2, ![K, 256]⟩ : Shape).Idx → α) (k : Fin K) (q : Fin 512) : α :=
  if h : q.val < 256 then a (ix2 k ⟨q.val, h⟩) else b (ix2 k ⟨q.val - 256, by omega⟩)

theorem pair_side {K : ℕ} {α : Type} (a b : (⟨2, ![K, 256]⟩ : Shape).Idx → α)
    (h : Shape.Concatenates (([⟨⟨2, ![K, 256]⟩, a⟩, ⟨⟨2, ![K, 256]⟩, b⟩] : List ((s : Shape) × (s.Idx → α))).map (·.1)) ⟨2, ![K, 512]⟩ 1) (k : Fin K) (q : Fin 512) :
    concatenate ⟨2, ![K, 512]⟩ 1 [⟨⟨2, ![K, 256]⟩, a⟩, ⟨⟨2, ![K, 256]⟩, b⟩] h (ix2 k q) = side a b k q := by
  unfold side
  split_ifs with hq
  · exact pair_left a b h k ⟨q.val, hq⟩
  · have e : q = colR ⟨q.val - 256, by omega⟩ := Fin.ext (by show q.val = 256 + (q.val - 256); omega)
    exact (congrArg (fun q => concatenate ⟨2, ![K, 512]⟩ 1 [⟨⟨2, ![K, 256]⟩, a⟩, ⟨⟨2, ![K, 256]⟩, b⟩] h (ix2 k q)) e).trans (pair_right a b h k _)

theorem pay37_apply (a b : Vec Ideal S2176x256 .i8) (x : Vec Ideal S1x128x2176 .bf16) (r : Fin 128) (q : Fin 512) :
    k0_pay37 a b x (ix2 r q) = Cert.Spec.zero + ∑ k : Fin 2176, x (ix3 0 r k) * (FloatOps.sitofp .bf16 (side a b k q) : Ideal .bf16) := by
  refine (Ideal.matmul_plain_apply (M := 128) (K := 2176) (N := 512) none _ _ _ r q).trans ?_
  refine congrArg (Cert.Spec.zero + ·) (Finset.sum_congr rfl fun k _ => congrArg₂ (fun x y : Ideal .bf16 => x * y) ?_ ?_)
  · refine (shapeCast_dropUnit_apply ![128, 2176] x shapeCasts_S1x128x2176_S128x2176 (ix2 r k)).trans (congrArg x ?_)
    funext d; match d with
      | ⟨0, _⟩ => rfl
      | ⟨1, _⟩ => rfl
      | ⟨2, _⟩ => rfl
  · refine (pair_side _ _ concatenates_S2176x256_S2176x256_S2176x512_d1 k q).trans ?_
    unfold side
    split_ifs <;> rfl

theorem pay38_apply (s : FVec Ideal S1x512 .f32) (a b : Vec Ideal S7168x256 .fp8e4m3) (x : Vec Ideal S128x7168 .fp8e4m3) (v : Vec Ideal S128x1 .f32) (r : Fin 128) (q : Fin 512) :
    k0_pay38 s a b x v (ix2 r q) = (Cert.Spec.zero + ∑ k : Fin 7168, x (ix2 r k) * side a b k q) * (v (ix2 r 0) * s (ix2 0 q)) := by
  have e0 : (matmul (φ₁ := .fp8e4m3) (φ₂ := .fp8e4m3) dot_S128x7168_S7168x512_S128x512_1_0_0_1_n_n none x
      (concatenate S7168x512 1 [⟨S7168x256, a⟩, ⟨S7168x256, b⟩] concatenates_S7168x256_S7168x256_S7168x512_d1) (constant S128x512 .f32 0x00000000#32 : FVec Ideal S128x512 .f32)) (ix2 r q)
      = Cert.Spec.zero + ∑ k : Fin 7168, x (ix2 r k) * side a b k q := by
    refine (Ideal.matmul_plain_apply (M := 128) (K := 7168) (N := 512) none _ _ _ r q).trans ?_
    exact congrArg (Cert.Spec.zero + ·) (Finset.sum_congr rfl fun k _ => congrArg (x (ix2 r k) * ·) (pair_side a b concatenates_S7168x256_S7168x256_S7168x512_d1 k q))
  have e1 : (broadcastTo S128x512 v broadcasts_S128x1_S128x512 : FVec Ideal S128x512 .f32) (ix2 r q) = v (ix2 r 0) :=
    broadcastTo_apply _ _ _ _ (fun d => by match d with
      | ⟨0, _⟩ => rfl
      | ⟨1, _⟩ => rfl)
  have e2 : (broadcastTo S128x512 s broadcasts_S1x512_S128x512 : FVec Ideal S128x512 .f32) (ix2 r q) = s (ix2 0 q) :=
    broadcastTo_apply _ _ _ _ (fun d => by match d with
      | ⟨0, _⟩ => rfl
      | ⟨1, _⟩ => rfl)
  rw [← e0, ← e1, ← e2]; rfl

theorem top_apply (x : FVec Ideal S128x512 .f32) (r : Fin 120) (q : Fin 512) :
    (extractStridedSlice S120x512 ![0, 0] x slices_S128x512_o0_0_S120x512 : FVec Ideal S120x512 .f32) (ix2 r q) = x (ix2 (row r) q) :=
  extractStridedSlice_apply _ _ _ _ _ (fun d => by match d with
    | ⟨0, _⟩ => show r.val = 0 + r.val; omega
    | ⟨1, _⟩ => show q.val = 0 + q.val; omega)

/-! ## A step's tiles -/

/-- The result's column that a step's column is. -/
def colN (t : Fin k0_t14_loop.trips) (q : Fin 512) : Fin 8192 := ⟨512 * t.val + q.val, by have := t14_lt t; omega⟩

variable (c : Dev nD) (Vd : Buf (Elt Ideal) (wdM.view.loc (c : Thread nD τ))) (Vp : Buf (Elt Ideal) (poolM.view.loc (c : Thread nD τ)))
variable (X5 : S3x128x2176.Idx → Elt Ideal .bf16) (X6 : S1x8192.Idx → Elt Ideal .f32) (X7 : S120x8192.Idx → Elt Ideal .f32) (G : S120x7168.Idx → Elt Ideal .f32)

theorem scaleD_apply (t : Fin k0_t14_loop.trips) (q : Fin 512) : scaleD (F := Ideal) X6 t (ix2 0 q) = X6 (ix2 0 (colN t q)) := by
  have e (v : Vec Ideal S1x512 .f32) : k0_pay36 v = v := shapeCast_self v _
  refine (congrFun (e _) (ix2 0 q)).trans ?_
  refine congrArg X6 ?_
  have h0 : k0_off86 t 0 = 0 := by rw [off86_eq]; rfl
  have h1 : k0_off86 t 1 = 512 * t.val := by rw [off86_eq]; rfl
  funext d; apply Fin.ext
  match d with
  | ⟨0, _⟩ => show k0_off86 t 0 + 1 * 0 = 0; omega
  | ⟨1, _⟩ => show k0_off86 t 1 + 1 * q.val = 512 * t.val + q.val; omega

theorem resD_apply (t : Fin k0_t14_loop.trips) (r : Fin 120) (q : Fin 512) : resD (F := Ideal) X7 t (ix2 r q) = X7 (ix2 r (colN t q)) := by
  refine congrArg X7 ?_
  have h0 : k0_off112 t 0 = 0 := by rw [off112_eq]; rfl
  have h1 : k0_off112 t 1 = 512 * t.val := by rw [off112_eq]; rfl
  funext d; apply Fin.ext
  match d with
  | ⟨0, _⟩ => show k0_off112 t 0 + 1 * r.val = r.val; omega
  | ⟨1, _⟩ => show k0_off112 t 1 + 1 * q.val = 512 * t.val + q.val; omega

/-- An item's tile of the down weights and of the pool at an entry. -/
theorem tileD_apply (i : ℕ) (k : Fin 7168) (n : Fin 256) (N : Fin 8192) (hN : N.val = colD i + n.val) : tileD c Vd i (ix2 k n) = Vd (ix2 k N) := by
  refine congrArg Vd ?_
  funext d; apply Fin.ext
  match d with
  | ⟨0, _⟩ => show 0 + 1 * k.val = k.val; omega
  | ⟨1, _⟩ => show colD i + 1 * n.val = N.val; omega
theorem tileP_down (i : ℕ) (hi : ¬ i < 112) (k : Fin 2176) (n : Fin 256) (N : Fin 8192) (hN : N.val = colD i + n.val) :
    tileP c Vp i (ix2 k n) = Vp (ix2 (⟨28064 + k.val, by omega⟩ : Fin 30240) N) := by
  refine tileP_apply c Vp i k n _ _ ?_ ?_
  · show 28064 + k.val = _; unfold rowP; rw [if_neg hi]
  · unfold colP; rw [if_neg hi]; exact hN

theorem sideD (t : Fin k0_t14_loop.trips) (k : Fin 7168) (q : Fin 512) :
    side (tileD c Vd (4 * (28 + t.val))) (tileD c Vd (4 * (28 + t.val) + 2)) k q = Vd (ix2 k (colN t q)) := by
  have ht := t14_lt t
  unfold side
  split_ifs with hq
  · refine tileD_apply c Vd _ k _ (colN t q) ?_
    show 512 * t.val + q.val = ((4 * (28 + t.val)) / 2 + 8) % 32 * 256 + q.val; omega
  · refine tileD_apply c Vd _ k _ (colN t q) ?_
    show 512 * t.val + q.val = ((4 * (28 + t.val) + 2) / 2 + 8) % 32 * 256 + (q.val - 256); omega
theorem sideP (t : Fin k0_t14_loop.trips) (k : Fin 2176) (q : Fin 512) :
    side (tileP c Vp (4 * (28 + t.val) + 1)) (tileP c Vp (4 * (28 + t.val) + 3)) k q = Vp (ix2 (⟨28064 + k.val, by omega⟩ : Fin 30240) (colN t q)) := by
  have ht := t14_lt t
  unfold side
  split_ifs with hq
  · refine tileP_down c Vp _ (by omega) k _ (colN t q) ?_
    show 512 * t.val + q.val = ((4 * (28 + t.val) + 1) / 2 + 8) % 32 * 256 + q.val; omega
  · refine tileP_down c Vp _ (by omega) k _ (colN t q) ?_
    show 512 * t.val + q.val = ((4 * (28 + t.val) + 3) / 2 + 8) % 32 * 256 + (q.val - 256); omega

theorem loraD_apply (t : Fin k0_t14_loop.trips) (r : Fin 120) (q : Fin 512) : loraD c Vp X5 t (ix2 (row r) q) = Cert.Spec.delta X5 Vp r (colN t q) := by
  refine (pay37_apply _ _ _ (row r) q).trans (congrArg (Cert.Spec.zero + ·) (Finset.sum_congr rfl fun k _ => ?_))
  rw [sideP]
  exact congrArg (· * _) (tbuf_eq X5 2 (row r) k)

theorem mainD_apply (t : Fin k0_t14_loop.trips) (r : Fin 120) (q : Fin 512) :
    mainD c Vd X6 (qkOf G) (scOf G) t (ix2 (row r) q) = Cert.Spec.down Vd X6 (fun k => Cert.Spec.code (G (ix2 r k)) (rowScale G r)) (rowScale G r) (colN t q) := by
  refine (pay38_apply _ _ _ _ _ (row r) q).trans ?_
  unfold Cert.Spec.down
  have es : ascOf (F := Ideal) (scOf G) (ix2 (row r) 0) = rowScale G r := (asc_eq (scOf G) (row r)).trans (scOf_apply G _ _ r rfl)
  rw [es, scaleD_apply]
  refine congrArg (fun x : Ideal .f32 => (Cert.Spec.zero + x) * (rowScale G r * X6 (ix2 0 (colN t q)))) (Finset.sum_congr rfl fun k _ => ?_)
  rw [sideD]
  refine congrArg (fun x : Elt Ideal .fp8e4m3 => x * Vd (ix2 k (colN t q))) ?_
  have hr : ((Rect.unit (s := S128x8192) ![0, 0] S128x7168.size inb_S128x8192_S128x7168_0_0).emb (ix2 (row r) k) 0).val < 120 := by
    show 0 + 1 * r.val < 120; omega
  show qkOf G ((Rect.unit (s := S128x8192) ![0, 0] S128x7168.size inb_S128x8192_S128x7168_0_0).emb (ix2 (row r) k)) = _
  unfold qkOf
  rw [dif_pos hr]
  refine qcOf_apply G _ r k ?_ ?_
  · show 0 + 1 * r.val = r.val; omega
  · show 0 + 1 * k.val = k.val; omega

/-! ## The results -/

variable (m : (ℓ : Loc nD τ sig) → Buf (Elt Ideal) ℓ)

theorem deltaTile_apply (t : Fin k0_t14_loop.trips) (r : Fin 120) (q : Fin 512) :
    deltaTile m c t (ix2 r q) = Cert.Spec.delta (V m c main_arg2) (V m c main_arg5) r (colN t q) := by
  unfold deltaTile k0_pay40
  refine (congrFun (shapeCast_shapeCast _ _ _) (ix2 r q)).trans ?_
  exact (top_apply _ r q).trans (loraD_apply c _ _ t r q)

theorem outTile_apply (t : Fin k0_t14_loop.trips) (r : Fin 120) (q : Fin 512) :
    outTile m c t (ix2 r q) = Cert.Spec.layer (V m c main_arg2) (V m c main_arg5) (V m c main_arg7) (V m c main_v1) (V m c main_arg6)
      (fun k => Cert.Spec.code (res m c (ix2 r k)) (rowScale (res m c) r)) (rowScale (res m c) r) r (colN t q) := by
  unfold outTile k0_pay41
  refine (congrFun (shapeCast_shapeCast _ _ _) (ix2 r q)).trans ?_
  unfold Cert.Spec.layer
  refine congrArg₂ (fun x y : Ideal .f32 => x + y) (resD_apply (V m c main_arg6) t r q) ((top_apply _ r q).trans ?_)
  exact congrArg₂ (fun x y : Ideal .f32 => x + y) (mainD_apply c _ _ _ t r q) (loraD_apply c _ _ t r q)

/-- A column is its step's column at its place. -/
theorem colN_eq (r : Fin 120) (n : Fin 8192) : colN (stepD (ix2 r n)) (⟨n.val % 512, Nat.mod_lt _ (by omega)⟩ : Fin 512) = n := by
  apply Fin.ext; show 512 * (n.val / 512) + n.val % 512 = n.val; omega
theorem placeD_eq (r : Fin 120) (n : Fin 8192) : placeD (ix2 r n) = ix2 r (⟨n.val % 512, Nat.mod_lt _ (by omega)⟩ : Fin 512) := by
  funext d; match d with
  | ⟨0, _⟩ => rfl
  | ⟨1, _⟩ => rfl

theorem resDelta_apply (r : Fin 120) (n : Fin 8192) : resDelta m c (ix2 r n) = Cert.Spec.delta (V m c main_arg2) (V m c main_arg5) r n := by
  unfold resDelta tilesD
  rw [placeD_eq, deltaTile_apply, colN_eq]
theorem resOut_apply (r : Fin 120) (n : Fin 8192) :
    resOut m c (ix2 r n) = Cert.Spec.layer (V m c main_arg2) (V m c main_arg5) (V m c main_arg7) (V m c main_v1) (V m c main_arg6)
      (fun k => Cert.Spec.code (res m c (ix2 r k)) (rowScale (res m c) r)) (rowScale (res m c) r) r n := by
  unfold resOut tilesD
  rw [placeD_eq, outTile_apply, colN_eq]

end Cert.KernelIdeal.Hand

end
-- ==== Proof.Quiet.lean ====
/-
  Hand-written, untrusted. The kernel as printed and its idealized form are one program, so the one run serves both.
-/
module

public import proofs.«01_k».proof.Defs
public import proofs.«01_k».proof.Proof.Gen.Kernel
public import proofs.«01_k».proof.Proof.Run

@[expose] public section

noncomputable section

namespace Cert.Kernel.Hand

open Idealize.ShloMosaic Idealize.SL.Sem

/-- The kernel's run at machine floats, in the idealized form's names. -/
theorem quiet (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0) :=
  (θ_run _ _ _).mono (fun _ h => ⟨fun c => (h.1 c).2.2.2.2.2, h.2⟩) (Cert.KernelIdeal.Hand.run m g)

set_option maxHeartbeats 3000000 in
theorem defs0_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l x
  match l, x with
  | 0, (t, s) => dsimp only; rfl
  | ⟨n + 1, h⟩, _ => exact absurd h (Nat.not_lt.2 (Nat.le_add_left _ _))

theorem defs_eq : @Cert.Kernel.defs Bits _ Cert.Kernel.Gen.facts = @Cert.KernelIdeal.defs Bits _ Cert.KernelIdeal.Gen.facts := by
  unfold Cert.Kernel.defs Cert.KernelIdeal.defs
  rw [defs0_eq]; rfl
theorem main_eq : @Cert.Kernel.main Bits _ = @Cert.KernelIdeal.main Bits _ := rfl

theorem quiescent : Cert.quiescent_Kernel := fun m g _ => by
  rw [defs_eq, main_eq]
  exact quiet m g

end Cert.Kernel.Hand

end
-- ==== Proof.RefValue.lean ====
/-
  Hand-written, untrusted. The reference's result over the real numbers: each entry is the formula's.
-/
module

public import proofs.«01_k».proof.Proof.Spec
public import proofs.«01_k».proof.Proof.Gen.ReferenceIdeal.Value
public import Idealize.ShloMosaic.Lib.Pipeline.ValueKit.Tiles

@[expose] public section

noncomputable section

namespace Cert.ReferenceIdeal.Hand

open Cert.ReferenceIdeal Cert.ReferenceIdeal.Gen
open Cert.ReferenceIdeal.Value
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

/-- A row of the result among the 128 rows computed. -/
def row (r : Fin 120) : Fin 128 := ⟨r.val, by omega⟩

/-! ## The arithmetic at an entry -/

/-- The scaled product. -/
theorem lin_apply (v0 : Vec Ideal S128x8192 .fp8e4m3) (v1 : Vec Ideal S8192x14336 .fp8e4m3) (v3 : Vec Ideal S128x1 .f32)
    (v4 : Vec Ideal S1x14336 .f32) (r : Fin 128) (n : Fin 14336) :
    (mulf (matmul (φ₁ := .fp8e4m3) (φ₂ := .fp8e4m3) dot_S128x8192_S8192x14336_S128x14336_1_0_0_1_n_n none v0 v1 (constant S128x14336 .f32 0x00000000#32 : FVec Ideal S128x14336 .f32))
        (mulf (broadcastTo S128x14336 v3 broadcasts_S128x1_S128x14336 : FVec Ideal S128x14336 .f32)
          (broadcastTo S128x14336 (shapeCast S1x14336 v4 shapeCasts_S1x14336_S1x14336 : FVec Ideal S1x14336 .f32) broadcasts_S1x14336_S128x14336))) (ix2 r n)
      = (Cert.Spec.zero + ∑ k : Fin 8192, v0 (ix2 r k) * v1 (ix2 k n)) * (v3 (ix2 r 0) * v4 (ix2 0 n)) := by
  have e0 : (matmul (φ₁ := .fp8e4m3) (φ₂ := .fp8e4m3) dot_S128x8192_S8192x14336_S128x14336_1_0_0_1_n_n none v0 v1 (constant S128x14336 .f32 0x00000000#32 : FVec Ideal S128x14336 .f32)) (ix2 r n)
      = Cert.Spec.zero + ∑ k : Fin 8192, v0 (ix2 r k) * v1 (ix2 k n) :=
    Ideal.matmul_plain_apply (M := 128) (K := 8192) (N := 14336) none _ _ _ r n
  have e1 : (broadcastTo S128x14336 v3 broadcasts_S128x1_S128x14336 : FVec Ideal S128x14336 .f32) (ix2 r n) = v3 (ix2 r 0) :=
    broadcastTo_apply _ _ _ _ (fun d => by match d with
      | ⟨0, _⟩ => rfl
      | ⟨1, _⟩ => rfl)
  have e2 : (broadcastTo S128x14336 (shapeCast S1x14336 v4 shapeCasts_S1x14336_S1x14336 : FVec Ideal S1x14336 .f32) broadcasts_S1x14336_S128x14336 : FVec Ideal S128x14336 .f32) (ix2 r n)
      = v4 (ix2 0 n) := by
    rw [shapeCast_self]
    exact broadcastTo_apply _ _ _ _ (fun d => by match d with
      | ⟨0, _⟩ => rfl
      | ⟨1, _⟩ => rfl)
  rw [← e0, ← e1, ← e2]; rfl

/-- One adapter product. -/
theorem low_apply (a : Vec Ideal S2176x7168 .i8) (x : Vec Ideal S1x128x2176 .bf16) (r : Fin 128) (n : Fin 7168) :
    (matmul dot_S128x2176_S2176x7168_S128x7168_1_0_0_1_n_n none (shapeCast S128x2176 x shapeCasts_S1x128x2176_S128x2176 : FVec Ideal S128x2176 .bf16)
        (sitofp .bf16 (shapeCast S2176x7168 a shapeCasts_S2176x7168_S2176x7168 : IVec S2176x7168 8) : FVec Ideal S2176x7168 .bf16)
        (constant S128x7168 .f32 0x00000000#32 : FVec Ideal S128x7168 .f32)) (ix2 r n)
      = Cert.Spec.zero + ∑ k : Fin 2176, x (ix3 0 r k) * (FloatOps.sitofp .bf16 (a (ix2 k n)) : Ideal .bf16) := by
  rw [shapeCast_self]
  refine (Ideal.matmul_plain_apply (M := 128) (K := 2176) (N := 7168) none _ _ _ r n).trans ?_
  refine congrArg (Cert.Spec.zero + ·) (Finset.sum_congr rfl fun k _ => congrArg (· * _) ?_)
  refine (shapeCast_dropUnit_apply ![128, 2176] x shapeCasts_S1x128x2176_S128x2176 (ix2 r k)).trans (congrArg x ?_)
  funext d; match d with
    | ⟨0, _⟩ => rfl
    | ⟨1, _⟩ => rfl
    | ⟨2, _⟩ => rfl

/-- The three layout steps of the payload at an entry. -/
theorem top_apply (x : FVec Ideal S128x7168 .f32) (r : Fin 120) (n : Fin 7168) :
    (extractStridedSlice S120x7168 ![0, 0] x slices_S128x7168_o0_0_S120x7168 : FVec Ideal S120x7168 .f32) (ix2 r n) = x (ix2 (row r) n) :=
  extractStridedSlice_apply _ _ _ _ _ (fun d => by match d with
    | ⟨0, _⟩ => show r.val = 0 + r.val; omega
    | ⟨1, _⟩ => show n.val = 0 + n.val; omega)
theorem gate_apply (x : FVec Ideal S128x14336 .f32) (r : Fin 128) (n : Fin 7168) :
    (extractStridedSlice S128x7168 ![0, 0] x slices_S128x14336_o0_0_S128x7168 : FVec Ideal S128x7168 .f32) (ix2 r n) = x (ix2 r ⟨n.val, by omega⟩) :=
  extractStridedSlice_apply _ _ _ _ _ (fun d => by match d with
    | ⟨0, _⟩ => show r.val = 0 + r.val; omega
    | ⟨1, _⟩ => show n.val = 0 + n.val; omega)
theorem up_apply (x : FVec Ideal S128x14336 .f32) (r : Fin 128) (n : Fin 7168) :
    (extractStridedSlice S128x7168 ![0, 7168] x slices_S128x14336_o0_7168_S128x7168 : FVec Ideal S128x7168 .f32) (ix2 r n) = x (ix2 r ⟨7168 + n.val, by omega⟩) :=
  extractStridedSlice_apply _ _ _ _ _ (fun d => by match d with
    | ⟨0, _⟩ => show r.val = 0 + r.val; omega
    | ⟨1, _⟩ => show 7168 + n.val = 7168 + n.val; omega)

theorem logi_congr {a a' : Ideal .f32} {b b' : Ideal .f32} (ha : a = a') (hb : b = b') :
    (a * FloatOps.logistic a) * b = (a' * FloatOps.logistic a') * b' := by rw [ha, hb]

theorem pay_apply (v0 : Vec Ideal S128x8192 .fp8e4m3) (v1 : Vec Ideal S8192x14336 .fp8e4m3) (v3 : Vec Ideal S128x1 .f32)
    (v4 : Vec Ideal S1x14336 .f32) (v10 v16 : Vec Ideal S1x128x2176 .bf16) (v12 v18 : Vec Ideal S2176x7168 .i8) (r : Fin 120) (n : Fin 7168)
    {g u : Ideal .f32}
    (hg : g = (Cert.Spec.zero + ∑ k : Fin 8192, v0 (ix2 (row r) k) * v1 (ix2 k ⟨n.val, by omega⟩)) * (v3 (ix2 (row r) 0) * v4 (ix2 0 ⟨n.val, by omega⟩))
      + (Cert.Spec.zero + ∑ k : Fin 2176, v10 (ix3 0 (row r) k) * (FloatOps.sitofp .bf16 (v12 (ix2 k n)) : Ideal .bf16)))
    (hu : u = (Cert.Spec.zero + ∑ k : Fin 8192, v0 (ix2 (row r) k) * v1 (ix2 k ⟨7168 + n.val, by omega⟩)) * (v3 (ix2 (row r) 0) * v4 (ix2 0 ⟨7168 + n.val, by omega⟩))
      + (Cert.Spec.zero + ∑ k : Fin 2176, v16 (ix3 0 (row r) k) * (FloatOps.sitofp .bf16 (v18 (ix2 k n)) : Ideal .bf16))) :
    k0_pay2 v0 v1 v3 v4 v10 v12 v16 v18 (ix2 r n) = (g * FloatOps.logistic g) * u := by
  unfold k0_pay2
  refine (top_apply _ r n).trans (logi_congr ?_ ?_)
  · exact (congrArg₂ (fun a b : Ideal .f32 => a + b) ((gate_apply _ _ _).trans (lin_apply v0 v1 v3 v4 _ _)) (low_apply v12 v10 _ _)).trans hg.symm
  · exact (congrArg₂ (fun a b : Ideal .f32 => a + b) ((up_apply _ _ _).trans (lin_apply v0 v1 v3 v4 _ _)) (low_apply v18 v16 _ _)).trans hu.symm

/-! ## The windows -/

variable {F : FTy → Type} [FloatOps F]
variable (m : (ℓ : Loc nD τ sig) → Buf (Elt F) ℓ)

/-- Every window is its whole array: its block is at the origin, so a place in the block is that place of the array. -/
theorem whole2 {n0 n1 : ℕ} {i : Fin 2 → ℕ} (hi : i = ![0, 0]) (x j : (Shape.mk 2 ![n0, n1]).Idx)
    (h : ∀ a, (x a).val = i a * ![n0, n1] a + 1 * (j a).val) : x = j := by
  subst hi
  funext a; apply Fin.ext
  refine (h a).trans ?_
  match a with
  | ⟨0, _⟩ => show 0 * n0 + 1 * (j 0).val = (j 0).val; omega
  | ⟨1, _⟩ => show 0 * n1 + 1 * (j 1).val = (j 1).val; omega
theorem idx_zero : ∀ t : Fin cfg0.N, win0_0.index t = ![0, 0] ∧ win0_1.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)
theorem idx2_zero : ∀ t : Fin cfg0.N, win0_2.index t = ![0, 0, 0] := (by decide +kernel : ∀ t : Fin grid0.N, _)

theorem emb0 (t : Fin cfg0.N) (j : S128x8192.Idx) : ((cfg0.win 0).blk t).view.emb j = j := whole2 (idx_zero t).1 _ j fun _ => rfl
theorem emb1 (t : Fin cfg0.N) (j : S128x128.Idx) : ((cfg0.win 1).blk t).view.emb j = j := whole2 (idx_zero t).2.1 _ j fun _ => rfl
theorem emb2 (t : Fin cfg0.N) (j : S3x128x2176.Idx) : ((cfg0.win 2).blk t).view.emb j = j := by
  have e0 : win0_2.index t (0 : Fin 3) = 0 := by rw [idx2_zero t]; rfl
  have e1 : win0_2.index t (1 : Fin 3) = 0 := by rw [idx2_zero t]; rfl
  have e2 : win0_2.index t (2 : Fin 3) = 0 := by rw [idx2_zero t]; rfl
  funext a; apply Fin.ext
  match a with
  | ⟨0, _⟩ => show win0_2.index t (0 : Fin 3) * 3 + 1 * (j 0).val = (j 0).val; omega
  | ⟨1, _⟩ => show win0_2.index t (1 : Fin 3) * 128 + 1 * (j 1).val = (j 1).val; omega
  | ⟨2, _⟩ => show win0_2.index t (2 : Fin 3) * 2176 + 1 * (j 2).val = (j 2).val; omega
theorem emb3 (t : Fin cfg0.N) (j : S8192x14336.Idx) : ((cfg0.win 3).blk t).view.emb j = j := whole2 (idx_zero t).2.2.1 _ j fun _ => rfl
theorem emb4 (t : Fin cfg0.N) (j : S1x14336.Idx) : ((cfg0.win 4).blk t).view.emb j = j := whole2 (idx_zero t).2.2.2.1 _ j fun _ => rfl
theorem emb5 (t : Fin cfg0.N) (j : S2176x7168.Idx) : ((cfg0.win 5).blk t).view.emb j = j := whole2 (idx_zero t).2.2.2.2.1 _ j fun _ => rfl
theorem emb6 (t : Fin cfg0.N) (j : S2176x7168.Idx) : ((cfg0.win 6).blk t).view.emb j = j := whole2 (idx_zero t).2.2.2.2.2.1 _ j fun _ => rfl
theorem emb7 (t : Fin cfg0.N) (j : S120x8192.Idx) : ((cfg0.win 7).blk t).view.emb j = j := whole2 (idx_zero t).2.2.2.2.2.2.1 _ j fun _ => rfl
theorem emb8 (t : Fin cfg0.N) (j : S7168x8192.Idx) : ((cfg0.win 8).blk t).view.emb j = j := whole2 (idx_zero t).2.2.2.2.2.2.2.1 _ j fun _ => rfl
theorem emb9 (t : Fin cfg0.N) (j : S1x8192.Idx) : ((cfg0.win 9).blk t).view.emb j = j := whole2 (idx_zero t).2.2.2.2.2.2.2.2.1 _ j fun _ => rfl
theorem emb10 (t : Fin cfg0.N) (j : S2176x8192.Idx) : ((cfg0.win 10).blk t).view.emb j = j := whole2 (idx_zero t).2.2.2.2.2.2.2.2.2.1 _ j fun _ => rfl
theorem emb11 (t : Fin cfg0.N) (j : S120x7168.Idx) : ((cfg0.win 11).blk t).view.emb j = j := whole2 (idx_zero t).2.2.2.2.2.2.2.2.2.2.1 _ j fun _ => rfl
theorem emb12 (t : Fin cfg0.N) (j : S120x7168.Idx) : ((cfg0.win 12).blk t).view.emb j = j := whole2 (idx_zero t).2.2.2.2.2.2.2.2.2.2.2.1 _ j fun _ => rfl
theorem emb13 (t : Fin cfg0.N) (j : S1x120.Idx) : ((cfg0.win 13).blk t).view.emb j = j := whole2 (idx_zero t).2.2.2.2.2.2.2.2.2.2.2.2.1 _ j fun _ => rfl
theorem emb14 (t : Fin cfg0.N) (j : S120x8192.Idx) : ((cfg0.win 14).blk t).view.emb j = j := whole2 (idx_zero t).2.2.2.2.2.2.2.2.2.2.2.2.2.1 _ j fun _ => rfl
theorem emb15 (t : Fin cfg0.N) (j : S120x8192.Idx) : ((cfg0.win 15).blk t).view.emb j = j := whole2 (idx_zero t).2.2.2.2.2.2.2.2.2.2.2.2.2.2 _ j fun _ => rfl

/-- So an input window's block is its array as the region finds it. -/
theorem blk0 (c : Dev nD) (t : Fin cfg0.N) : iblk m c 0 t = V m c main_arg0 := by
  funext j; show V m c main_arg0 (((cfg0.win 0).blk t).view.emb j) = V m c main_arg0 j; rw [emb0]
theorem blk1 (c : Dev nD) (t : Fin cfg0.N) : iblk m c 1 t = V m c main_arg1 := by
  funext j; show V m c main_arg1 (((cfg0.win 1).blk t).view.emb j) = V m c main_arg1 j; rw [emb1]
theorem blk2 (c : Dev nD) (t : Fin cfg0.N) : iblk m c 2 t = V m c main_arg2 := by
  funext j; show V m c main_arg2 (((cfg0.win 2).blk t).view.emb j) = V m c main_arg2 j; rw [emb2]
theorem blk3 (c : Dev nD) (t : Fin cfg0.N) : iblk m c 3 t = V m c main_arg3 := by
  funext j; show V m c main_arg3 (((cfg0.win 3).blk t).view.emb j) = V m c main_arg3 j; rw [emb3]
theorem blk4 (c : Dev nD) (t : Fin cfg0.N) : iblk m c 4 t = V m c main_v0 := by
  funext j; show V m c main_v0 (((cfg0.win 4).blk t).view.emb j) = V m c main_v0 j; rw [emb4]
theorem blk5 (c : Dev nD) (t : Fin cfg0.N) : iblk m c 5 t = V m c main_v1 := by
  funext j; show V m c main_v1 (((cfg0.win 5).blk t).view.emb j) = V m c main_v1 j; rw [emb5]
theorem blk6 (c : Dev nD) (t : Fin cfg0.N) : iblk m c 6 t = V m c main_v2 := by
  funext j; show V m c main_v2 (((cfg0.win 6).blk t).view.emb j) = V m c main_v2 j; rw [emb6]
theorem blk7 (c : Dev nD) (t : Fin cfg0.N) : iblk m c 7 t = V m c main_arg6 := by
  funext j; show V m c main_arg6 (((cfg0.win 7).blk t).view.emb j) = V m c main_arg6 j; rw [emb7]
theorem blk8 (c : Dev nD) (t : Fin cfg0.N) : iblk m c 8 t = V m c main_arg7 := by
  funext j; show V m c main_arg7 (((cfg0.win 8).blk t).view.emb j) = V m c main_arg7 j; rw [emb8]
theorem blk9 (c : Dev nD) (t : Fin cfg0.N) : iblk m c 9 t = V m c main_v3 := by
  funext j; show V m c main_v3 (((cfg0.win 9).blk t).view.emb j) = V m c main_v3 j; rw [emb9]
theorem blk10 (c : Dev nD) (t : Fin cfg0.N) : iblk m c 10 t = V m c main_v4 := by
  funext j; show V m c main_v4 (((cfg0.win 10).blk t).view.emb j) = V m c main_v4 j; rw [emb10]

/-- The slices of the pool, and the scales as one row. -/
theorem V_v0 (c : Dev nD) : V m c main_v0 = (shapeCast S1x14336 (m ((c : Thread nD τ).loc main_arg4)) shapeCasts_S14336_S1x14336) := rfl
theorem V_v1 (c : Dev nD) : V m c main_v1 = (extractStridedSlice S2176x7168 ![19424, 0] (m ((c : Thread nD τ).loc main_arg5)) slices_S30240x8192_S2176x7168_19424_0) := rfl
theorem V_v2 (c : Dev nD) : V m c main_v2 = (extractStridedSlice S2176x7168 ![23744, 0] (m ((c : Thread nD τ).loc main_arg5)) slices_S30240x8192_S2176x7168_23744_0) := rfl
theorem V_v3 (c : Dev nD) : V m c main_v3 = (shapeCast S1x8192 (m ((c : Thread nD τ).loc main_arg8)) shapeCasts_S8192_S1x8192) := rfl
theorem V_v4 (c : Dev nD) : V m c main_v4 = (extractStridedSlice S2176x8192 ![28064, 0] (m ((c : Thread nD τ).loc main_arg5)) slices_S30240x8192_S2176x8192_28064_0) := rfl

/-! ## The result -/

/-- The block's payload. -/
theorem out_eq (x0 : Vec F S128x8192 .fp8e4m3) (x1 : Vec F S128x128 .f32) (x2 : Vec F S3x128x2176 .bf16) (x3 : Vec F S8192x14336 .fp8e4m3)
    (x4 : Vec F S1x14336 .f32) (x5 x6 : Vec F S2176x7168 .i8) (x7 : Vec F S120x8192 .f32) (x8 : Vec F S7168x8192 .fp8e4m3) (x9 : Vec F S1x8192 .f32) (x10 : Vec F S2176x8192 .i8) :
    out0_11 x0 x1 x2 x3 x4 x5 x6 x7 x8 x9 x10 = k0_pay2 x0 x3 (View.ld x1 r0_2) x4 (View.ld x2 r0_4) x5 (View.ld x2 r0_6) x6 := by
  unfold out0_11
  refine (View.canon_cons_unit_lit _ _ [] (by decide)).trans ?_
  have e0 : View.ld x0 r0_0 = x0 := View.ld_unit_lit _ _ (by decide)
  have e1 : View.ld x3 r0_1 = x3 := View.ld_unit_lit _ _ (by decide)
  have e3 : View.ld x4 r0_3 = x4 := View.ld_unit_lit _ _ (by decide)
  have e5 : View.ld x5 r0_5 = x5 := View.ld_unit_lit _ _ (by decide)
  have e6 : View.ld x6 r0_5 = x6 := View.ld_unit_lit _ _ (by decide)
  rw [e0, e1, e3, e5, e6]

theorem asc_eq (X : Vec F S128x128 .f32) (r : Fin 128) : View.ld X r0_2 (ix2 r 0) = X (ix2 r 0) := by
  refine congrArg X ?_
  funext d; apply Fin.ext
  match d with
  | ⟨0, _⟩ => show 0 + 1 * r.val = r.val; omega
  | ⟨1, _⟩ => rfl
theorem tb0_eq (X : Vec F S3x128x2176 .bf16) (r : Fin 128) (k : Fin 2176) : View.ld X r0_4 (ix3 0 r k) = X (ix3 0 r k) := by
  refine congrArg X ?_
  funext d; apply Fin.ext
  match d with
  | ⟨0, _⟩ => rfl
  | ⟨1, _⟩ => show 0 + 1 * r.val = r.val; omega
  | ⟨2, _⟩ => show 0 + 1 * k.val = k.val; omega
theorem tb1_eq (X : Vec F S3x128x2176 .bf16) (r : Fin 128) (k : Fin 2176) : View.ld X r0_6 (ix3 0 r k) = X (ix3 1 r k) := by
  refine congrArg X ?_
  funext d; apply Fin.ext
  match d with
  | ⟨0, _⟩ => rfl
  | ⟨1, _⟩ => show 0 + 1 * r.val = r.val; omega
  | ⟨2, _⟩ => show 0 + 1 * k.val = k.val; omega

theorem pool0_eq (P : Vec F S30240x8192 .i8) (k : Fin 2176) (n : Fin 7168) :
    (extractStridedSlice S2176x7168 ![19424, 0] P slices_S30240x8192_S2176x7168_19424_0) (ix2 k n)
      = P (ix2 (⟨19424 + k.val, by omega⟩ : Fin 30240) (⟨n.val, by omega⟩ : Fin 8192)) :=
  extractStridedSlice_apply _ _ _ _ _ (fun d => by match d with
    | ⟨0, _⟩ => rfl
    | ⟨1, _⟩ => show n.val = 0 + n.val; omega)
theorem pool1_eq (P : Vec F S30240x8192 .i8) (k : Fin 2176) (n : Fin 7168) :
    (extractStridedSlice S2176x7168 ![23744, 0] P slices_S30240x8192_S2176x7168_23744_0) (ix2 k n)
      = P (ix2 (⟨23744 + k.val, by omega⟩ : Fin 30240) (⟨n.val, by omega⟩ : Fin 8192)) :=
  extractStridedSlice_apply _ _ _ _ _ (fun d => by match d with
    | ⟨0, _⟩ => rfl
    | ⟨1, _⟩ => show n.val = 0 + n.val; omega)

/-- The block at an entry. -/
theorem out_apply (A : Vec Ideal S128x8192 .fp8e4m3) (S : Vec Ideal S128x128 .f32) (T : Vec Ideal S3x128x2176 .bf16) (W : Vec Ideal S8192x14336 .fp8e4m3)
    (R : Vec Ideal S1x14336 .f32) (P : Vec Ideal S30240x8192 .i8)
    (x7 : Vec Ideal S120x8192 .f32) (x8 : Vec Ideal S7168x8192 .fp8e4m3) (x9 : Vec Ideal S1x8192 .f32) (x10 : Vec Ideal S2176x8192 .i8) (r : Fin 120) (n : Fin 7168) :
    out0_11 A S T W R (extractStridedSlice S2176x7168 ![19424, 0] P slices_S30240x8192_S2176x7168_19424_0)
        (extractStridedSlice S2176x7168 ![23744, 0] P slices_S30240x8192_S2176x7168_23744_0) x7 x8 x9 x10 (ix2 r n)
      = Cert.Spec.out A S T W R P (row r) n := by
  rw [out_eq]
  refine pay_apply (g := Cert.Spec.gate A S T W R P (row r) n) (u := Cert.Spec.up A S T W R P (row r) n) _ _ _ _ _ _ _ _ r n ?_ ?_
  · unfold Cert.Spec.gate Cert.Spec.lin Cert.Spec.low
    exact congrArg₂ (fun a b : Ideal .f32 => a + b)
      (congrArg (fun x : Ideal .f32 => (Cert.Spec.zero + ∑ k : Fin 8192, A (ix2 (row r) k) * W (ix2 k ⟨n.val, by omega⟩)) * (x * R (ix2 0 ⟨n.val, by omega⟩))) (asc_eq S (row r)).symm)
      (congrArg (fun x : Ideal .f32 => Cert.Spec.zero + x) (Finset.sum_congr rfl fun k _ =>
        congrArg₂ (fun x y : Ideal .bf16 => x * y) (tb0_eq T (row r) k).symm (congrArg (fun x => (FloatOps.sitofp .bf16 x : Ideal .bf16)) (pool0_eq P k n).symm)))
  · unfold Cert.Spec.up Cert.Spec.lin Cert.Spec.low
    exact congrArg₂ (fun a b : Ideal .f32 => a + b)
      (congrArg (fun x : Ideal .f32 => (Cert.Spec.zero + ∑ k : Fin 8192, A (ix2 (row r) k) * W (ix2 k ⟨7168 + n.val, by omega⟩)) * (x * R (ix2 0 ⟨7168 + n.val, by omega⟩))) (asc_eq S (row r)).symm)
      (congrArg (fun x : Ideal .f32 => Cert.Spec.zero + x) (Finset.sum_congr rfl fun k _ =>
        congrArg₂ (fun x y : Ideal .bf16 => x * y) (tb1_eq T (row r) k).symm (congrArg (fun x => (FloatOps.sitofp .bf16 x : Ideal .bf16)) (pool1_eq P k n).symm)))

/-! ## The output windows -/

/-- Cutting the point's block out of `X` and reading `X` through the block's view give the same. -/
theorem cut11 (t : Fin cfg0.N) (X : Vec F S120x7168 .f32) : (cfg0.win 11).cut (grid0.coords t) X = ((cfg0.win 11).blk t).view.read (Elt F) X := by
  funext j; show X j = X (((cfg0.win 11).blk t).view.emb j); rw [emb11]
theorem cut12 (t : Fin cfg0.N) (X : Vec F S120x7168 .fp8e4m3) : (cfg0.win 12).cut (grid0.coords t) X = ((cfg0.win 12).blk t).view.read (Elt F) X := by
  funext j; show X j = X (((cfg0.win 12).blk t).view.emb j); rw [emb12]
theorem cut13 (t : Fin cfg0.N) (X : Vec F S1x120 .f32) : (cfg0.win 13).cut (grid0.coords t) X = ((cfg0.win 13).blk t).view.read (Elt F) X := by
  funext j; show X j = X (((cfg0.win 13).blk t).view.emb j); rw [emb13]
theorem cut14 (t : Fin cfg0.N) (X : Vec F S120x8192 .bf16) : (cfg0.win 14).cut (grid0.coords t) X = ((cfg0.win 14).blk t).view.read (Elt F) X := by
  funext j; show X j = X (((cfg0.win 14).blk t).view.emb j); rw [emb14]
theorem cut15 (t : Fin cfg0.N) (X : Vec F S120x8192 .f32) : (cfg0.win 15).cut (grid0.coords t) X = ((cfg0.win 15).blk t).view.read (Elt F) X := by
  funext j; show X j = X (((cfg0.win 15).blk t).view.emb j); rw [emb15]

/-- The results, of the arrays as the region finds them. -/
def res (c : Dev nD) : Vec F S120x7168 .f32 :=
  out0_11 (V m c main_arg0) (V m c main_arg1) (V m c main_arg2) (V m c main_arg3) (V m c main_v0) (V m c main_v1) (V m c main_v2) (V m c main_arg6) (V m c main_arg7) (V m c main_v3) (V m c main_v4)
def codes (c : Dev nD) : Vec F S120x7168 .fp8e4m3 :=
  out0_12 (V m c main_arg0) (V m c main_arg1) (V m c main_arg2) (V m c main_arg3) (V m c main_v0) (V m c main_v1) (V m c main_v2) (V m c main_arg6) (V m c main_arg7) (V m c main_v3) (V m c main_v4)
def scales (c : Dev nD) : Vec F S1x120 .f32 :=
  out0_13 (V m c main_arg0) (V m c main_arg1) (V m c main_arg2) (V m c main_arg3) (V m c main_v0) (V m c main_v1) (V m c main_v2) (V m c main_arg6) (V m c main_arg7) (V m c main_v3) (V m c main_v4)
def layer (c : Dev nD) : Vec F S120x8192 .bf16 :=
  out0_14 (V m c main_arg0) (V m c main_arg1) (V m c main_arg2) (V m c main_arg3) (V m c main_v0) (V m c main_v1) (V m c main_v2) (V m c main_arg6) (V m c main_arg7) (V m c main_v3) (V m c main_v4)
def delta (c : Dev nD) : Vec F S120x8192 .f32 :=
  out0_15 (V m c main_arg0) (V m c main_arg1) (V m c main_arg2) (V m c main_arg3) (V m c main_v0) (V m c main_v1) (V m c main_v2) (V m c main_arg6) (V m c main_arg7) (V m c main_v3) (V m c main_v4)

/-- Every result's one block is written back whole. -/
theorem final11 (c : Dev nD) : (dats m 0 c).arrAt 11 cfg0.N = res m c :=
  (dats m 0 c).arrAt_eq_of_cover 11 (res m c)
    (fun t _ => by
      rw [flushed11, blk0, blk1, blk2, blk3, blk4, blk5, blk6, blk7, blk8, blk9, blk10]
      exact cut11 t _)
    (fun i => ⟨t0_0, flush0_11 _, by have h := ((cfg0.win 11).blk t0_0).view.emb_mem_set i; rwa [emb11] at h⟩)
theorem final12 (c : Dev nD) : (dats m 0 c).arrAt 12 cfg0.N = codes m c :=
  (dats m 0 c).arrAt_eq_of_cover 12 (codes m c)
    (fun t _ => by
      rw [flushed12, blk0, blk1, blk2, blk3, blk4, blk5, blk6, blk7, blk8, blk9, blk10]
      exact cut12 t _)
    (fun i => ⟨t0_0, flush0_12 _, by have h := ((cfg0.win 12).blk t0_0).view.emb_mem_set i; rwa [emb12] at h⟩)
theorem final13 (c : Dev nD) : (dats m 0 c).arrAt 13 cfg0.N = scales m c :=
  (dats m 0 c).arrAt_eq_of_cover 13 (scales m c)
    (fun t _ => by
      rw [flushed13, blk0, blk1, blk2, blk3, blk4, blk5, blk6, blk7, blk8, blk9, blk10]
      exact cut13 t _)
    (fun i => ⟨t0_0, flush0_13 _, by have h := ((cfg0.win 13).blk t0_0).view.emb_mem_set i; rwa [emb13] at h⟩)
theorem final14 (c : Dev nD) : (dats m 0 c).arrAt 14 cfg0.N = layer m c :=
  (dats m 0 c).arrAt_eq_of_cover 14 (layer m c)
    (fun t _ => by
      rw [flushed14, blk0, blk1, blk2, blk3, blk4, blk5, blk6, blk7, blk8, blk9, blk10]
      exact cut14 t _)
    (fun i => ⟨t0_0, flush0_14 _, by have h := ((cfg0.win 14).blk t0_0).view.emb_mem_set i; rwa [emb14] at h⟩)
theorem final15 (c : Dev nD) : (dats m 0 c).arrAt 15 cfg0.N = delta m c :=
  (dats m 0 c).arrAt_eq_of_cover 15 (delta m c)
    (fun t _ => by
      rw [flushed15, blk0, blk1, blk2, blk3, blk4, blk5, blk6, blk7, blk8, blk9, blk10]
      exact cut15 t _)
    (fun i => ⟨t0_0, flush0_15 _, by have h := ((cfg0.win 15).blk t0_0).view.emb_mem_set i; rwa [emb15] at h⟩)

end Cert.ReferenceIdeal.Hand

end
-- ==== Proof.RefQuant.lean ====
/-
  Hand-written, untrusted. The reference's quantiser over the real numbers: the scales and the codes of its first result,
  and the down projection of those codes.
-/
module

public import proofs.«01_k».proof.Proof.Layout
public import proofs.«01_k».proof.Proof.RefValue

@[expose] public section

noncomputable section

namespace Cert.ReferenceIdeal.Hand

open Cert.ReferenceIdeal Cert.ReferenceIdeal.Gen Cert.Spec
open Cert.ReferenceIdeal.Value
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

/-! ## At an entry -/

/-- A row's scale. -/
def rowScale (G : S120x7168.Idx → Elt Ideal .f32) (r : Fin 120) : Ideal .f32 := scale (peak (fun n : Fin 7168 => G (ix2 r n)))

section
variable (x0 : Vec Ideal S128x8192 .fp8e4m3) (x1 : Vec Ideal S128x128 .f32) (x2 : Vec Ideal S3x128x2176 .bf16) (x3 : Vec Ideal S8192x14336 .fp8e4m3)
    (x4 : Vec Ideal S1x14336 .f32) (x5 x6 : Vec Ideal S2176x7168 .i8) (x7 : Vec Ideal S120x8192 .f32) (x8 : Vec Ideal S7168x8192 .fp8e4m3)
    (x9 : Vec Ideal S1x8192 .f32) (x10 : Vec Ideal S2176x8192 .i8)

/-- The product the quantiser reads is the first result. -/
theorem product_eq : k0_pay9 x0 x1 x2 x3 x4 x5 x6 x7 x8 x9 x10 = out0_11 x0 x1 x2 x3 x4 x5 x6 x7 x8 x9 x10 := by
  unfold out0_11 k0_pay9
  symm
  exact View.canon_cons_unit_lit _ _ [] (by decide)

/-- The greatest absolute value of a row of the product. -/
theorem peak_apply (r : Fin 120) :
    k0_pay10 x0 x1 x2 x3 x4 x5 x6 x7 x8 x9 x10 (ix2 r 0) = peak (fun n : Fin 7168 => out0_11 x0 x1 x2 x3 x4 x5 x6 x7 x8 x9 x10 (ix2 r n)) := by
  rw [← product_eq]
  unfold k0_pay10 k0_pay3 k0_pay9
  exact rowMax_apply _ _ _ _ _ r

theorem scale_apply (v : FVec Ideal S120x1 .f32) (r : Fin 120) :
    k0_pay4 v (Scalar.ofBits .f32 0x00000000#32) (ix2 r 0) = scale (v (ix2 r 0)) := rfl

/-- The codes and the scales, before they are stored. -/
theorem code_apply (r : Fin 120) (n : Fin 7168) :
    k0_pay5 (k0_pay9 x0 x1 x2 x3 x4 x5 x6 x7 x8 x9 x10) (k0_pay10 x0 x1 x2 x3 x4 x5 x6 x7 x8 x9 x10) (Scalar.ofBits .f32 0x00000000#32) (ix2 r n)
      = code (out0_11 x0 x1 x2 x3 x4 x5 x6 x7 x8 x9 x10 (ix2 r n)) (rowScale (out0_11 x0 x1 x2 x3 x4 x5 x6 x7 x8 x9 x10) r) := by
  unfold rowScale
  rw [← peak_apply, ← product_eq]
  unfold k0_pay5
  exact congrArg (code _) ((col_apply _ _ r n (by decide)).trans (scale_apply _ r))
theorem rowScale_apply (r : Fin 120) :
    k0_pay4 (k0_pay10 x0 x1 x2 x3 x4 x5 x6 x7 x8 x9 x10) (Scalar.ofBits .f32 0x00000000#32) (ix2 r 0) = rowScale (out0_11 x0 x1 x2 x3 x4 x5 x6 x7 x8 x9 x10) r := by
  unfold rowScale
  rw [← peak_apply]
  exact scale_apply _ r

/-- The codes' block. -/
theorem codes_apply (r : Fin 120) (n : Fin 7168) :
    out0_12 x0 x1 x2 x3 x4 x5 x6 x7 x8 x9 x10 (ix2 r n) = code (out0_11 x0 x1 x2 x3 x4 x5 x6 x7 x8 x9 x10 (ix2 r n)) (rowScale (out0_11 x0 x1 x2 x3 x4 x5 x6 x7 x8 x9 x10) r) := by
  rw [← code_apply]
  unfold out0_12
  exact congrFun (View.canon_cons_unit_lit _ _ [] (by decide)) _

/-- The scales' block. -/
theorem scales_apply (r : Fin 120) :
    out0_13 x0 x1 x2 x3 x4 x5 x6 x7 x8 x9 x10 (ix2 0 r) = rowScale (out0_11 x0 x1 x2 x3 x4 x5 x6 x7 x8 x9 x10) r := by
  rw [← rowScale_apply]
  unfold out0_13
  refine (congrFun (View.canon_cons_unit_lit _ _ [] (by decide)) _).trans ?_
  unfold k0_pay6
  refine shapeCast_apply _ _ (ix2 0 r) (ix2 r 0) ?_
  rw [Shape.rowMajor_val_two, Shape.rowMajor_val_two]
  show r.val * 1 + 0 = 0 * 120 + r.val
  omega

/-! ## The down projection -/

theorem pool2_eq (P : Vec Ideal S30240x8192 .i8) (k : Fin 2176) (n : Fin 8192) :
    (extractStridedSlice S2176x8192 ![28064, 0] P slices_S30240x8192_S2176x8192_28064_0) (ix2 k n) = P (ix2 (⟨28064 + k.val, by omega⟩ : Fin 30240) n) :=
  extractStridedSlice_apply _ _ _ _ _ (fun d => by match d with
    | ⟨0, _⟩ => rfl
    | ⟨1, _⟩ => show n.val = 0 + n.val; omega)
theorem tb2_eq (X : Vec Ideal S3x128x2176 .bf16) (r : Fin 128) (k : Fin 2176) : View.ld X r0_9 (ix3 0 r k) = X (ix3 2 r k) := by
  refine congrArg X ?_
  funext d; apply Fin.ext
  match d with
  | ⟨0, _⟩ => rfl
  | ⟨1, _⟩ => show 0 + 1 * r.val = r.val; omega
  | ⟨2, _⟩ => show 0 + 1 * k.val = k.val; omega

/-- The adapter's share at an entry. -/
theorem pay7_apply (a : Vec Ideal S2176x8192 .i8) (x : Vec Ideal S1x128x2176 .bf16) (r : Fin 120) (n : Fin 8192) :
    k0_pay7 x a (ix2 r n) = zero + ∑ k : Fin 2176, x (ix3 0 (row r) k) * (FloatOps.sitofp .bf16 (a (ix2 k n)) : Ideal .bf16) := by
  unfold k0_pay7
  refine (extractStridedSlice_apply (s := S128x8192) _ _ slices_S128x8192_o0_0_S120x8192 (ix2 r n) (ix2 (row r) n) (fun d => by match d with
    | ⟨0, _⟩ => show r.val = 0 + r.val; omega
    | ⟨1, _⟩ => show n.val = 0 + n.val; omega)).trans ?_
  rw [shapeCast_self]
  refine (Ideal.matmul_plain_apply (M := 128) (K := 2176) (N := 8192) none _ _ _ (row r) n).trans ?_
  refine congrArg (zero + ·) (Finset.sum_congr rfl fun k _ => congrArg (· * _) ?_)
  refine (shapeCast_dropUnit_apply ![128, 2176] x shapeCasts_S1x128x2176_S128x2176 (ix2 (row r) k)).trans (congrArg x ?_)
  funext d; match d with
    | ⟨0, _⟩ => rfl
    | ⟨1, _⟩ => rfl
    | ⟨2, _⟩ => rfl

/-- The down projection at an entry, from the codes, the scales and the adapter's share there. -/
theorem pay8_apply (v29 : FVec Ideal S120x7168 .f32) (v33 : FVec Ideal S120x1 .f32) (z : Ideal .f32) (x : Vec Ideal S1x128x2176 .bf16) (a : Vec Ideal S2176x8192 .i8)
    (D : Vec Ideal S7168x8192 .fp8e4m3) (Q : Vec Ideal S1x8192 .f32) (r : Fin 120) (n : Fin 8192) :
    k0_pay8 v29 v33 z x a D Q (ix2 r n) = down D Q (fun k => k0_pay5 v29 v33 z (ix2 r k)) (k0_pay4 v33 z (ix2 r 0)) n + k0_pay7 x a (ix2 r n) := by
  have e0 : (matmul (φ₁ := .fp8e4m3) (φ₂ := .fp8e4m3) dot_S120x7168_S7168x8192_S120x8192_1_0_0_1_n_n none (k0_pay5 v29 v33 z) D (constant S120x8192 .f32 0x00000000#32 : FVec Ideal S120x8192 .f32)) (ix2 r n)
      = zero + ∑ k : Fin 7168, k0_pay5 v29 v33 z (ix2 r k) * D (ix2 k n) :=
    Ideal.matmul_plain_apply (M := 120) (K := 7168) (N := 8192) none _ _ _ r n
  have e1 : (broadcastTo S120x8192 (k0_pay4 v33 z) broadcasts_S120x1_S120x8192 : FVec Ideal S120x8192 .f32) (ix2 r n) = k0_pay4 v33 z (ix2 r 0) :=
    col_apply _ _ r n (by decide)
  have e2 : (broadcastTo S120x8192 (shapeCast S1x8192 Q shapeCasts_S1x8192_S1x8192 : FVec Ideal S1x8192 .f32) broadcasts_S1x8192_S120x8192 : FVec Ideal S120x8192 .f32) (ix2 r n)
      = Q (ix2 0 n) := by
    rw [shapeCast_self]
    exact broadcastTo_apply _ _ _ _ (fun d => by match d with
      | ⟨0, _⟩ => rfl
      | ⟨1, _⟩ => rfl)
  unfold down
  rw [← e0, ← e1, ← e2]; rfl

theorem share_apply (T : Vec Ideal S3x128x2176 .bf16) (P : Vec Ideal S30240x8192 .i8) (r : Fin 120) (n : Fin 8192) :
    k0_pay7 (View.ld T r0_9) (View.ld (extractStridedSlice S2176x8192 ![28064, 0] P slices_S30240x8192_S2176x8192_28064_0 : Vec Ideal S2176x8192 .i8) r0_10) (ix2 r n)
      = Cert.Spec.delta T P r n := by
  rw [show View.ld (extractStridedSlice S2176x8192 ![28064, 0] P slices_S30240x8192_S2176x8192_28064_0 : Vec Ideal S2176x8192 .i8) r0_10 = _ from View.ld_unit_lit _ _ (by decide)]
  refine (pay7_apply _ _ r n).trans ?_
  unfold Cert.Spec.delta low
  exact congrArg (fun x : Ideal .f32 => zero + x) (Finset.sum_congr rfl fun k _ =>
    congrArg₂ (fun x y : Ideal .bf16 => x * y) (tb2_eq T (row r) k) (congrArg (fun x => (FloatOps.sitofp .bf16 x : Ideal .bf16)) (pool2_eq P k n)))

/-- The adapter's share's block. -/
theorem delta_apply (P : Vec Ideal S30240x8192 .i8) (r : Fin 120) (n : Fin 8192) :
    out0_15 x0 x1 x2 x3 x4 x5 x6 x7 x8 x9 (extractStridedSlice S2176x8192 ![28064, 0] P slices_S30240x8192_S2176x8192_28064_0) (ix2 r n) = Cert.Spec.delta x2 P r n := by
  unfold out0_15
  exact (congrFun (View.canon_cons_unit_lit _ _ [] (by decide)) _).trans (share_apply x2 P r n)

/-- The layer's block, of the codes and the scales of the product. -/
theorem layer_apply (P : Vec Ideal S30240x8192 .i8) (G : S120x7168.Idx → Elt Ideal .f32)
    (hG : out0_11 x0 x1 x2 x3 x4 x5 x6 x7 x8 x9 (extractStridedSlice S2176x8192 ![28064, 0] P slices_S30240x8192_S2176x8192_28064_0) = G) (r : Fin 120) (n : Fin 8192) :
    out0_14 x0 x1 x2 x3 x4 x5 x6 x7 x8 x9 (extractStridedSlice S2176x8192 ![28064, 0] P slices_S30240x8192_S2176x8192_28064_0) (ix2 r n)
      = Cert.Spec.layer x2 P x8 x9 x7 (fun k => code (G (ix2 r k)) (rowScale G r)) (rowScale G r) r n := by
  subst hG
  unfold out0_14
  refine (congrFun (View.canon_cons_unit_lit _ _ [] (by decide)) _).trans ?_
  have e8 : View.ld x8 r0_12 = x8 := View.ld_unit_lit _ _ (by decide)
  have e9 : View.ld x9 r0_13 = x9 := View.ld_unit_lit _ _ (by decide)
  have e7 : View.ld x7 r0_11 = x7 := View.ld_unit_lit _ _ (by decide)
  rw [e7, e8, e9]
  unfold Cert.Spec.layer
  refine congrArg (fun x : Ideal .f32 => x7 (ix2 r n) + x) ((pay8_apply _ _ _ _ _ _ _ r n).trans (congrArg₂ (fun x y : Ideal .f32 => x + y) ?_ (share_apply x2 P r n)))
  exact congrArg₂ (fun q s => down x8 x9 q s n) (funext fun k => code_apply _ _ _ _ _ _ _ _ _ _ _ r k) (rowScale_apply _ _ _ _ _ _ _ _ _ _ _ r)
end

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.DownValue
public import proofs.«01_k».proof.Proof.KernelValue
public import proofs.«01_k».proof.Proof.QuantValue
public import proofs.«01_k».proof.Proof.Quiet
public import proofs.«01_k».proof.Proof.RefQuant
public import proofs.«01_k».proof.Proof.RefValue

@[expose] public section

noncomputable section

namespace Cert.Proof

open Idealize.ShloMosaic Idealize.SL.Sem

/-- The kernel's first result is the reference's, from equal arguments. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.res m' c = Cert.KernelIdeal.Hand.res m c := by
  funext y
  rw [Idealize.ShloMosaic.ValueIdx.eq_ix2 y]
  unfold Cert.ReferenceIdeal.Hand.res Cert.KernelIdeal.Hand.res
  rw [Cert.ReferenceIdeal.Hand.V_v1, Cert.ReferenceIdeal.Hand.V_v2]
  refine (Cert.ReferenceIdeal.Hand.out_apply _ _ _ _ _ _ _ _ _ _ (y 0) (y 1)).trans ((Cert.KernelIdeal.Hand.resOf_eq c _ _ _ _ _ _ (y 0) (y 1)).trans ?_).symm
  rw [Cert.KernelIdeal.Gen.V_main_arg0, Cert.KernelIdeal.Gen.V_main_arg1, Cert.KernelIdeal.Gen.V_main_arg2, Cert.KernelIdeal.Gen.V_main_arg3,
    Cert.KernelIdeal.Gen.V_main_arg5, Cert.ReferenceIdeal.Gen.V_main_arg0, Cert.ReferenceIdeal.Gen.V_main_arg1, Cert.ReferenceIdeal.Gen.V_main_arg2,
    Cert.ReferenceIdeal.Gen.V_main_arg3, Cert.ReferenceIdeal.Hand.V_v0, h0, h1, h2, h3, h4, h5]
  rfl

/-- So are its codes and its scales, both programs quantising that result alike. -/
theorem codes_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Hand.res m' c = Cert.KernelIdeal.Hand.res m c) :
    Cert.ReferenceIdeal.Hand.codes m' c = Cert.KernelIdeal.Hand.gcOf (Cert.KernelIdeal.Hand.res m c) := by
  rw [← h]
  funext y
  rw [Idealize.ShloMosaic.ValueIdx.eq_ix2 y]
  exact (Cert.ReferenceIdeal.Hand.codes_apply _ _ _ _ _ _ _ _ _ _ _ (y 0) (y 1)).trans (Cert.KernelIdeal.Hand.gcOf_apply _ (y 0) (y 1)).symm
theorem scales_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Hand.res m' c = Cert.KernelIdeal.Hand.res m c) :
    Cert.ReferenceIdeal.Hand.scales m' c = Cert.KernelIdeal.Hand.gsOf (Cert.KernelIdeal.Hand.res m c) := by
  rw [← h]
  funext y
  have h0 : y 0 = (0 : Fin 1) := Subsingleton.elim (α := Fin 1) _ _
  rw [Idealize.ShloMosaic.ValueIdx.eq_ix2 y, h0]
  exact (Cert.ReferenceIdeal.Hand.scales_apply _ _ _ _ _ _ _ _ _ _ _ (y 1)).trans (Cert.KernelIdeal.Hand.gsOf_apply _ (y 1)).symm

/-- So are the adapter's share of the down projection, and the layer's result from the codes and the scales. -/
theorem delta_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.delta m' c = Cert.KernelIdeal.Hand.resDelta m c := by
  funext y
  rw [Idealize.ShloMosaic.ValueIdx.eq_ix2 y]
  unfold Cert.ReferenceIdeal.Hand.delta
  rw [Cert.ReferenceIdeal.Hand.V_v4]
  refine (Cert.ReferenceIdeal.Hand.delta_apply _ _ _ _ _ _ _ _ _ _ _ (y 0) (y 1)).trans ((Cert.KernelIdeal.Hand.resDelta_apply c m (y 0) (y 1)).trans ?_).symm
  rw [Cert.KernelIdeal.Gen.V_main_arg2, Cert.KernelIdeal.Gen.V_main_arg5, Cert.ReferenceIdeal.Gen.V_main_arg2, h2, h5]
theorem layer_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Hand.res m' c = Cert.KernelIdeal.Hand.res m c)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Hand.layer m' c = Cert.KernelIdeal.Hand.resOut m c := by
  funext y
  rw [Idealize.ShloMosaic.ValueIdx.eq_ix2 y]
  unfold Cert.ReferenceIdeal.Hand.layer
  rw [Cert.ReferenceIdeal.Hand.V_v4]
  refine (Cert.ReferenceIdeal.Hand.layer_apply _ _ _ _ _ _ _ _ _ _ _ (Cert.KernelIdeal.Hand.res m c) h (y 0) (y 1)).trans
    ((Cert.KernelIdeal.Hand.resOut_apply c m (y 0) (y 1)).trans ?_).symm
  rw [Cert.KernelIdeal.Gen.V_main_arg2, Cert.KernelIdeal.Gen.V_main_arg5, Cert.KernelIdeal.Gen.V_main_arg6, Cert.KernelIdeal.Gen.V_main_arg7,
    Cert.ReferenceIdeal.Gen.V_main_arg2, Cert.ReferenceIdeal.Gen.V_main_arg6, Cert.ReferenceIdeal.Gen.V_main_arg7, Cert.ReferenceIdeal.Hand.V_v3, h2, h5, h6, h7, h8]
  rfl

/-- The kernel runs and gives everything back, at any float values. -/
theorem quiescent_KernelIdeal : Cert.quiescent_KernelIdeal := fun m g _ =>
  (θ_run _ _ _).mono (fun _ h => ⟨fun c => (h.1 c).2.2.2.2.2, h.2⟩) (Cert.KernelIdeal.Hand.run m g)

theorem quiescent_ReferenceIdeal : Cert.quiescent_ReferenceIdeal := fun m g _ => Cert.ReferenceIdeal.Gen.frame m g

theorem algebraic : Cert.algebraic_KernelIdeal_ReferenceIdeal := fun m g m' g' _ e =>
  have s (c : Dev Cert.KernelIdeal.nD) := same m m' c (e c).1 (e c).2.1 (e c).2.2.1 (e c).2.2.2.1 (e c).2.2.2.2.1 (e c).2.2.2.2.2.1
  ⟨fun c => Cert.KernelIdeal.Hand.res m c, fun c => Cert.KernelIdeal.Hand.gcOf (Cert.KernelIdeal.Hand.res m c),
    fun c => Cert.KernelIdeal.Hand.gsOf (Cert.KernelIdeal.Hand.res m c), fun c => Cert.KernelIdeal.Hand.resOut m c, fun c => Cert.KernelIdeal.Hand.resDelta m c,
    (θ_run _ _ _).mono (fun _ h c => h.1 c) (Cert.KernelIdeal.Hand.run m g),
    (θ_run _ _ _).mono (fun _ h c => ⟨((h c).1.trans (Cert.ReferenceIdeal.Hand.final11 m' c)).trans (s c),
      ((h c).2.1.trans (Cert.ReferenceIdeal.Hand.final12 m' c)).trans (codes_same m m' c (s c)),
      ((h c).2.2.1.trans (Cert.ReferenceIdeal.Hand.final13 m' c)).trans (scales_same m m' c (s c)),
      ((h c).2.2.2.1.trans (Cert.ReferenceIdeal.Hand.final14 m' c)).trans (layer_same m m' c (s c) (e c).2.2.1 (e c).2.2.2.2.2.1 (e c).2.2.2.2.2.2.1 (e c).2.2.2.2.2.2.2.1 (e c).2.2.2.2.2.2.2.2),
      ((h c).2.2.2.2.1.trans (Cert.ReferenceIdeal.Hand.final15 m' c)).trans (delta_same m m' c (e c).2.2.1 (e c).2.2.2.2.2.1), (h c).2.2.2.2.2⟩)
      (Cert.ReferenceIdeal.Value.run_blocks m' g')⟩

theorem claim : Cert.Claim := ⟨Cert.Kernel.Gen.facts, Cert.KernelIdeal.Gen.facts, Cert.ReferenceIdeal.Gen.facts,
  Cert.Kernel.Hand.quiescent, quiescent_KernelIdeal, quiescent_ReferenceIdeal, trivial, algebraic⟩

end Cert.Proof

end
